-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S12x1x4096 : Shape := ⟨3, ![12, 1, 4096]⟩
abbrev S14336x2048 : Shape := ⟨2, ![14336, 2048]⟩
abbrev S14336x128 : Shape := ⟨2, ![14336, 128]⟩
abbrev S4096x7168 : Shape := ⟨2, ![4096, 7168]⟩
abbrev S4096x448 : Shape := ⟨2, ![4096, 448]⟩
abbrev S_ : Shape := ⟨0, ![]⟩

class Facts : Prop where
  bcast_S_S14336x128 : S_.BroadcastsInDim S14336x128 (![] : Fin 0 → Fin S14336x128.rank)

variable [Facts]

def fn {F : FTy → Type} [FloatOps F] (main_arg0 : FVec F S12x1x4096 .bf16) (main_arg1 : IVec S14336x2048 8) (main_arg2 : FVec F S14336x128 .f32) (main_arg3 : IVec S14336x2048 8) (main_arg4 : FVec F S14336x128 .f32) (main_arg5 : IVec S4096x7168 8) (main_arg6 : FVec F S4096x448 .f32) : IVec S14336x128 1 × IVec S14336x128 1 :=
  let main_v0 : FVec F S14336x128 .f32 := Host.absf main_arg2
  let main_cst : FVec F S_ .f32 := constant S_ .f32 0x7F800000#32
  let main_v1 : FVec F S14336x128 .f32 := broadcastInDim S14336x128 ![] bcast_S_S14336x128 main_cst
  let main_v2 : IVec S14336x128 1 := cmpf .olt main_v0 main_v1
  let main_v3 : FVec F S14336x128 .f32 := Host.absf main_arg4
  let main_cst_0 : FVec F S_ .f32 := constant S_ .f32 0x7F800000#32
  let main_v4 : FVec F S14336x128 .f32 := broadcastInDim S14336x128 ![] bcast_S_S14336x128 main_cst_0
  let main_v5 : IVec S14336x128 1 := cmpf .olt main_v3 main_v4
  (main_v2, main_v5)
-- ==== Kernel.lean ====
abbrev S12x1x4096 : Shape := ⟨3, ![12, 1, 4096]⟩
abbrev S14336x2048 : Shape := ⟨2, ![14336, 2048]⟩
abbrev S14336x128 : Shape := ⟨2, ![14336, 128]⟩
abbrev S4096x7168 : Shape := ⟨2, ![4096, 7168]⟩
abbrev S4096x448 : Shape := ⟨2, ![4096, 448]⟩
abbrev S12x4096 : Shape := ⟨2, ![12, 4096]⟩
abbrev S448x4096 : Shape := ⟨2, ![448, 4096]⟩
abbrev S12x14336 : Shape := ⟨2, ![12, 14336]⟩
abbrev S1024x2048 : Shape := ⟨2, ![1024, 2048]⟩
abbrev S4096x256 : Shape := ⟨2, ![4096, 256]⟩
abbrev S1024x128 : Shape := ⟨2, ![1024, 128]⟩
abbrev S16x4096 : Shape := ⟨2, ![16, 4096]⟩
abbrev S64x16384 : Shape := ⟨2, ![64, 16384]⟩
abbrev S64x2048 : Shape := ⟨2, ![64, 2048]⟩
abbrev S2048x128 : Shape := ⟨2, ![2048, 128]⟩
abbrev S4x64x256 : Shape := ⟨3, ![4, 64, 256]⟩
abbrev S16x128 : Shape := ⟨2, ![16, 128]⟩
abbrev S16x128x1 : Shape := ⟨3, ![16, 128, 1]⟩
abbrev S512x128 : Shape := ⟨2, ![512, 128]⟩
abbrev S128x128 : Shape := ⟨2, ![128, 128]⟩
abbrev S8x128 : Shape := ⟨2, ![8, 128]⟩
abbrev S8x128x1 : Shape := ⟨3, ![8, 128, 1]⟩
abbrev S32x128 : Shape := ⟨2, ![32, 128]⟩
abbrev S128x1x128 : Shape := ⟨3, ![128, 1, 128]⟩
abbrev S128x2x128 : Shape := ⟨3, ![128, 2, 128]⟩
abbrev S256x128 : Shape := ⟨2, ![256, 128]⟩
abbrev S8x1x128 : Shape := ⟨3, ![8, 1, 128]⟩
abbrev S8x2x128 : Shape := ⟨3, ![8, 2, 128]⟩
abbrev S8x16x128 : Shape := ⟨3, ![8, 16, 128]⟩
abbrev S1x16x128 : Shape := ⟨3, ![1, 16, 128]⟩
abbrev S64x256 : Shape := ⟨2, ![64, 256]⟩
abbrev S256x256 : Shape := ⟨2, ![256, 256]⟩
abbrev S1x64x256 : Shape := ⟨3, ![1, 64, 256]⟩
abbrev S12x128 : Shape := ⟨2, ![12, 128]⟩

abbrev nBuf : Space → Nat
  | .hbm => 12
  | .vmem => 42
  | .smem => 0
  | _ => 0

abbrev bufTy : (tb : Table) → Fin (tcTables nBuf tb) → BufTy
  | .hbm, ⟨0, _⟩ => ⟨S12x1x4096, .bf16⟩
  | .hbm, ⟨1, _⟩ => ⟨S14336x2048, .i8⟩
  | .hbm, ⟨2, _⟩ => ⟨S14336x128, .f32⟩
  | .hbm, ⟨3, _⟩ => ⟨S14336x2048, .i8⟩
  | .hbm, ⟨4, _⟩ => ⟨S14336x128, .f32⟩
  | .hbm, ⟨5, _⟩ => ⟨S4096x7168, .i8⟩
  | .hbm, ⟨6, _⟩ => ⟨S4096x448, .f32⟩
  | .hbm, ⟨7, _⟩ => ⟨S12x4096, .bf16⟩
  | .hbm, ⟨8, _⟩ => ⟨S448x4096, .f32⟩
  | .hbm, ⟨9, _⟩ => ⟨S448x4096, .f32⟩
  | .hbm, ⟨10, _⟩ => ⟨S12x4096, .bf16⟩
  | .hbm, ⟨11, _⟩ => ⟨S12x14336, .bf16⟩
  | .local _ .vmem, ⟨0, _⟩ => ⟨S12x4096, .bf16⟩
  | .local _ .vmem, ⟨1, _⟩ => ⟨S1024x2048, .i8⟩
  | .local _ .vmem, ⟨2, _⟩ => ⟨S1024x2048, .i8⟩
  | .local _ .vmem, ⟨3, _⟩ => ⟨S1024x2048, .i8⟩
  | .local _ .vmem, ⟨4, _⟩ => ⟨S1024x2048, .i8⟩
  | .local _ .vmem, ⟨5, _⟩ => ⟨S4096x256, .i8⟩
  | .local _ .vmem, ⟨6, _⟩ => ⟨S4096x256, .i8⟩
  | .local _ .vmem, ⟨7, _⟩ => ⟨S4096x256, .i8⟩
  | .local _ .vmem, ⟨8, _⟩ => ⟨S4096x256, .i8⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S16x4096, .f32⟩
  | .local _ .vmem, ⟨14, _⟩ => ⟨S16x4096, .f32⟩
  | .local _ .vmem, ⟨15, _⟩ => ⟨S16x4096, .f32⟩
  | .local _ .vmem, ⟨16, _⟩ => ⟨S16x4096, .f32⟩
  | .local _ .vmem, ⟨17, _⟩ => ⟨S12x4096, .bf16⟩
  | .local _ .vmem, ⟨18, _⟩ => ⟨S12x14336, .bf16⟩
  | .local _ .vmem, ⟨19, _⟩ => ⟨S16x4096, .bf16⟩
  | .local _ .vmem, ⟨20, _⟩ => ⟨S64x16384, .bf16⟩
  | .local _ .vmem, ⟨21, _⟩ => ⟨S64x2048, .bf16⟩
  | .local _ .vmem, ⟨22, _⟩ => ⟨S64x2048, .bf16⟩
  | .local _ .vmem, ⟨23, _⟩ => ⟨S2048x128, .i32⟩
  | .local _ .vmem, ⟨24, _⟩ => ⟨S2048x128, .i32⟩
  | .local _ .vmem, ⟨25, _⟩ => ⟨S2048x128, .i32⟩
  | .local _ .vmem, ⟨26, _⟩ => ⟨S2048x128, .i32⟩
  | .local _ .vmem, ⟨27, _⟩ => ⟨S2048x128, .i32⟩
  | .local _ .vmem, ⟨28, _⟩ => ⟨S2048x128, .i32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S4x64x256, .f32⟩
  | _, _ => ⟨S12x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_scratch11 : Ref sig .tc := ⟨.vmem, 30, rfl⟩
abbrev cc0_scratch12 : Ref sig .tc := ⟨.vmem, 31, rfl⟩
abbrev cc0_scratch13 : Ref sig .tc := ⟨.vmem, 32, rfl⟩
abbrev cc0_scratch14 : Ref sig .tc := ⟨.vmem, 33, rfl⟩
abbrev cc0_scratch15 : Ref sig .tc := ⟨.vmem, 34, rfl⟩
abbrev cc0_scratch16 : Ref sig .tc := ⟨.vmem, 35, rfl⟩
abbrev cc0_scratch17 : Ref sig .tc := ⟨.vmem, 36, rfl⟩
abbrev cc0_scratch18 : Ref sig .tc := ⟨.vmem, 37, rfl⟩
abbrev cc0_scratch19 : Ref sig .tc := ⟨.vmem, 38, rfl⟩
abbrev cc0_scratch20 : Ref sig .tc := ⟨.vmem, 39, rfl⟩
abbrev cc0_scratch21 : Ref sig .tc := ⟨.vmem, 40, rfl⟩
abbrev cc0_scratch22 : Ref sig .tc := ⟨.vmem, 41, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![15], ![false]⟩

def k0_cond1 (i : grid0.Coords) : BitVec 1 :=
  let arg0 : BitVec 32 := BitVec.ofNat 32 (i 0).val
  let c0_i32_r0 : BitVec 32 := 0#32
  let v0_r0 : BitVec 1 := Scalar.cmpi .eq arg0 c0_i32_r0
  let v1_r0 : BitVec 32 := Scalar.extui v0_r0
  let c0_i32_0_r0 : BitVec 32 := 0#32
  let v2_r0 : BitVec 1 := Scalar.cmpi .ne v1_r0 c0_i32_0_r0
  v2_r0

@[reducible] def k0_t1_loop : Scf.Loop 32 :=
  let c0_i32_19_r0 : BitVec 32 := 0#32
  let c32_i32_r0 : BitVec 32 := 32#32
  let v30_r0 : BitVec 32 := Scalar.addi c0_i32_19_r0 c32_i32_r0
  let c1_i32_r0 : BitVec 32 := 1#32
  ⟨c0_i32_19_r0, v30_r0, c1_i32_r0⟩
def k0_mult1 (k0_t1 : Fin k0_t1_loop.trips) : BitVec 32 :=
  let c0_i32_19_r0 : BitVec 32 := 0#32
  let c1_i32_r0 : BitVec 32 := 1#32
  let arg35_r0 : BitVec 32 := Scf.iv c0_i32_19_r0 c1_i32_r0 k0_t1
  let c512_i32_r0 : BitVec 32 := 512#32
  let v32_r0 : BitVec 32 := Scalar.muli arg35_r0 c512_i32_r0
  v32_r0
def k0_mult2 (k0_t1 : Fin k0_t1_loop.trips) : BitVec 32 :=
  let c0_i32_19_r0 : BitVec 32 := 0#32
  let c1_i32_r0 : BitVec 32 := 1#32
  let arg35_r0 : BitVec 32 := Scf.iv c0_i32_19_r0 c1_i32_r0 k0_t1
  let c128_i32_r0 : BitVec 32 := 128#32
  let v34_r0 : BitVec 32 := Scalar.muli arg35_r0 c128_i32_r0
  v34_r0
def k0_off1 (k0_t1 : Fin k0_t1_loop.trips) : Fin 2 → Nat :=
  let c0_25_r0 : Index := 0#32
  let c0_i32_19_r0 : BitVec 32 := 0#32
  let c1_i32_r0 : BitVec 32 := 1#32
  let arg35_r0 : BitVec 32 := Scf.iv c0_i32_19_r0 c1_i32_r0 k0_t1
  let c128_i32_r0 : BitVec 32 := 128#32
  let v34_r0 : BitVec 32 := Scalar.muli arg35_r0 c128_i32_r0
  let v35_r0 : BitVec 32 := v34_r0
  let v36_r0 : Index := Scalar.indexCast v35_r0
  ![0, v36_r0.toNat]
@[reducible] def k0_t2_loop : Scf.Loop 32 :=
  let c0_i32_39_r0 : BitVec 32 := 0#32
  let c4_i32_40_r0 : BitVec 32 := 4#32
  let v80_r0 : BitVec 32 := Scalar.addi c0_i32_39_r0 c4_i32_40_r0
  let c1_i32_41_r0 : BitVec 32 := 1#32
  ⟨c0_i32_39_r0, v80_r0, c1_i32_41_r0⟩
def k0_mult3 (k0_t1 : Fin k0_t1_loop.trips) (k0_t2 : Fin k0_t2_loop.trips) : BitVec 32 :=
  let c0_i32_19_r0 : BitVec 32 := 0#32
  let c1_i32_r0 : BitVec 32 := 1#32
  let arg35_r0 : BitVec 32 := Scf.iv c0_i32_19_r0 c1_i32_r0 k0_t1
  let c512_i32_r0 : BitVec 32 := 512#32
  let v32_r0 : BitVec 32 := Scalar.muli arg35_r0 c512_i32_r0
  let v33_r0 : BitVec 32 := v32_r0
  let c0_i32_39_r0 : BitVec 32 := 0#32
  let c1_i32_41_r0 : BitVec 32 := 1#32
  let arg36_r0 : BitVec 32 := Scf.iv c0_i32_39_r0 c1_i32_41_r0 k0_t2
  let c128_i32_60_r0 : BitVec 32 := 128#32
  let v140_r0 : BitVec 32 := Scalar.muli arg36_r0 c128_i32_60_r0
  let v141_r0 : BitVec 32 := Scalar.addi v33_r0 v140_r0
  v141_r0
def k0_off2 (k0_t1 : Fin k0_t1_loop.trips) (k0_t2 : Fin k0_t2_loop.trips) : Fin 2 → Nat :=
  let c0_61_r0 : Index := 0#32
  let c0_i32_19_r0 : BitVec 32 := 0#32
  let c1_i32_r0 : BitVec 32 := 1#32
  let arg35_r0 : BitVec 32 := Scf.iv c0_i32_19_r0 c1_i32_r0 k0_t1
  let c512_i32_r0 : BitVec 32 := 512#32
  let v32_r0 : BitVec 32 := Scalar.muli arg35_r0 c512_i32_r0
  let v33_r0 : BitVec 32 := v32_r0
  let c0_i32_39_r0 : BitVec 32 := 0#32
  let c1_i32_41_r0 : BitVec 32 := 1#32
  let arg36_r0 : BitVec 32 := Scf.iv c0_i32_39_r0 c1_i32_41_r0 k0_t2
  let c128_i32_60_r0 : BitVec 32 := 128#32
  let v140_r0 : BitVec 32 := Scalar.muli arg36_r0 c128_i32_60_r0
  let v141_r0 : BitVec 32 := Scalar.addi v33_r0 v140_r0
  let v142_r0 : BitVec 32 := v141_r0
  let v143_r0 : Index := Scalar.indexCast v142_r0
  ![0, v143_r0.toNat]
def k0_mult4 (k0_t1 : Fin k0_t1_loop.trips) (k0_t2 : Fin k0_t2_loop.trips) : BitVec 32 :=
  let c0_i32_19_r0 : BitVec 32 := 0#32
  let c1_i32_r0 : BitVec 32 := 1#32
  let arg35_r0 : BitVec 32 := Scf.iv c0_i32_19_r0 c1_i32_r0 k0_t1
  let c512_i32_r0 : BitVec 32 := 512#32
  let v32_r0 : BitVec 32 := Scalar.muli arg35_r0 c512_i32_r0
  let v33_r0 : BitVec 32 := v32_r0
  let c0_i32_39_r0 : BitVec 32 := 0#32
  let c1_i32_41_r0 : BitVec 32 := 1#32
  let arg36_r0 : BitVec 32 := Scf.iv c0_i32_39_r0 c1_i32_41_r0 k0_t2
  let c128_i32_64_r0 : BitVec 32 := 128#32
  let v152_r0 : BitVec 32 := Scalar.muli arg36_r0 c128_i32_64_r0
  let v153_r0 : BitVec 32 := Scalar.addi v33_r0 v152_r0
  v153_r0
def k0_off3 (k0_t1 : Fin k0_t1_loop.trips) (k0_t2 : Fin k0_t2_loop.trips) : Fin 2 → Nat :=
  let c16_r0 : Index := 16#32
  let c0_i32_19_r0 : BitVec 32 := 0#32
  let c1_i32_r0 : BitVec 32 := 1#32
  let arg35_r0 : BitVec 32 := Scf.iv c0_i32_19_r0 c1_i32_r0 k0_t1
  let c512_i32_r0 : BitVec 32 := 512#32
  let v32_r0 : BitVec 32 := Scalar.muli arg35_r0 c512_i32_r0
  let v33_r0 : BitVec 32 := v32_r0
  let c0_i32_39_r0 : BitVec 32 := 0#32
  let c1_i32_41_r0 : BitVec 32 := 1#32
  let arg36_r0 : BitVec 32 := Scf.iv c0_i32_39_r0 c1_i32_41_r0 k0_t2
  let c128_i32_64_r0 : BitVec 32 := 128#32
  let v152_r0 : BitVec 32 := Scalar.muli arg36_r0 c128_i32_64_r0
  let v153_r0 : BitVec 32 := Scalar.addi v33_r0 v152_r0
  let v154_r0 : BitVec 32 := v153_r0
  let v155_r0 : Index := Scalar.indexCast v154_r0
  ![16, v155_r0.toNat]
def k0_mult5 (k0_t1 : Fin k0_t1_loop.trips) (k0_t2 : Fin k0_t2_loop.trips) : BitVec 32 :=
  let c0_i32_19_r0 : BitVec 32 := 0#32
  let c1_i32_r0 : BitVec 32 := 1#32
  let arg35_r0 : BitVec 32 := Scf.iv c0_i32_19_r0 c1_i32_r0 k0_t1
  let c512_i32_r0 : BitVec 32 := 512#32
  let v32_r0 : BitVec 32 := Scalar.muli arg35_r0 c512_i32_r0
  let v33_r0 : BitVec 32 := v32_r0
  let c0_i32_39_r0 : BitVec 32 := 0#32
  let c1_i32_41_r0 : BitVec 32 := 1#32
  let arg36_r0 : BitVec 32 := Scf.iv c0_i32_39_r0 c1_i32_41_r0 k0_t2
  let c128_i32_67_r0 : BitVec 32 := 128#32
  let v164_r0 : BitVec 32 := Scalar.muli arg36_r0 c128_i32_67_r0
  let v165_r0 : BitVec 32 := Scalar.addi v33_r0 v164_r0
  v165_r0
def k0_off4 (k0_t1 : Fin k0_t1_loop.trips) (k0_t2 : Fin k0_t2_loop.trips) : Fin 2 → Nat :=
  let c32_r0 : Index := 32#32
  let c0_i32_19_r0 : BitVec 32 := 0#32
  let c1_i32_r0 : BitVec 32 := 1#32
  let arg35_r0 : BitVec 32 := Scf.iv c0_i32_19_r0 c1_i32_r0 k0_t1
  let c512_i32_r0 : BitVec 32 := 512#32
  let v32_r0 : BitVec 32 := Scalar.muli arg35_r0 c512_i32_r0
  let v33_r0 : BitVec 32 := v32_r0
  let c0_i32_39_r0 : BitVec 32 := 0#32
  let c1_i32_41_r0 : BitVec 32 := 1#32
  let arg36_r0 : BitVec 32 := Scf.iv c0_i32_39_r0 c1_i32_41_r0 k0_t2
  let c128_i32_67_r0 : BitVec 32 := 128#32
  let v164_r0 : BitVec 32 := Scalar.muli arg36_r0 c128_i32_67_r0
  let v165_r0 : BitVec 32 := Scalar.addi v33_r0 v164_r0
  let v166_r0 : BitVec 32 := v165_r0
  let v167_r0 : Index := Scalar.indexCast v166_r0
  ![32, v167_r0.toNat]
def k0_mult6 (k0_t1 : Fin k0_t1_loop.trips) (k0_t2 : Fin k0_t2_loop.trips) : BitVec 32 :=
  let c0_i32_19_r0 : BitVec 32 := 0#32
  let c1_i32_r0 : BitVec 32 := 1#32
  let arg35_r0 : BitVec 32 := Scf.iv c0_i32_19_r0 c1_i32_r0 k0_t1
  let c512_i32_r0 : BitVec 32 := 512#32
  let v32_r0 : BitVec 32 := Scalar.muli arg35_r0 c512_i32_r0
  let v33_r0 : BitVec 32 := v32_r0
  let c0_i32_39_r0 : BitVec 32 := 0#32
  let c1_i32_41_r0 : BitVec 32 := 1#32
  let arg36_r0 : BitVec 32 := Scf.iv c0_i32_39_r0 c1_i32_41_r0 k0_t2
  let c128_i32_69_r0 : BitVec 32 := 128#32
  let v176_r0 : BitVec 32 := Scalar.muli arg36_r0 c128_i32_69_r0
  let v177_r0 : BitVec 32 := Scalar.addi v33_r0 v176_r0
  v177_r0
def k0_off5 (k0_t1 : Fin k0_t1_loop.trips) (k0_t2 : Fin k0_t2_loop.trips) : Fin 2 → Nat :=
  let c48_r0 : Index := 48#32
  let c0_i32_19_r0 : BitVec 32 := 0#32
  let c1_i32_r0 : BitVec 32 := 1#32
  let arg35_r0 : BitVec 32 := Scf.iv c0_i32_19_r0 c1_i32_r0 k0_t1
  let c512_i32_r0 : BitVec 32 := 512#32
  let v32_r0 : BitVec 32 := Scalar.muli arg35_r0 c512_i32_r0
  let v33_r0 : BitVec 32 := v32_r0
  let c0_i32_39_r0 : BitVec 32 := 0#32
  let c1_i32_41_r0 : BitVec 32 := 1#32
  let arg36_r0 : BitVec 32 := Scf.iv c0_i32_39_r0 c1_i32_41_r0 k0_t2
  let c128_i32_69_r0 : BitVec 32 := 128#32
  let v176_r0 : BitVec 32 := Scalar.muli arg36_r0 c128_i32_69_r0
  let v177_r0 : BitVec 32 := Scalar.addi v33_r0 v176_r0
  let v178_r0 : BitVec 32 := v177_r0
  let v179_r0 : Index := Scalar.indexCast v178_r0
  ![48, v179_r0.toNat]
@[reducible] def k0_t3_loop : Scf.Loop 32 :=
  let c0_i32_22_r0 : BitVec 32 := 0#32
  let c2_i32_r0 : BitVec 32 := 2#32
  let v31_r0 : BitVec 32 := Scalar.addi c0_i32_22_r0 c2_i32_r0
  let c1_i32_23_r0 : BitVec 32 := 1#32
  ⟨c0_i32_22_r0, v31_r0, c1_i32_23_r0⟩
@[reducible] def k0_t4_loop : Scf.Loop 32 :=
  let c0_i32_26_r0 : BitVec 32 := 0#32
  let c8_i32_r0 : BitVec 32 := 8#32
  let v32_r0 : BitVec 32 := Scalar.addi c0_i32_26_r0 c8_i32_r0
  let c1_i32_27_r0 : BitVec 32 := 1#32
  ⟨c0_i32_26_r0, v32_r0, c1_i32_27_r0⟩
def k0_mult7 (k0_t3 : Fin k0_t3_loop.trips) (k0_t4 : Fin k0_t4_loop.trips) : BitVec 32 :=
  let c0_i32_22_r0 : BitVec 32 := 0#32
  let c1_i32_23_r0 : BitVec 32 := 1#32
  let arg35_r0 : BitVec 32 := Scf.iv c0_i32_22_r0 c1_i32_23_r0 k0_t3
  let c8_i32_29_r0 : BitVec 32 := 8#32
  let v33_r0 : BitVec 32 := Scalar.muli arg35_r0 c8_i32_29_r0
  let c0_i32_26_r0 : BitVec 32 := 0#32
  let c1_i32_27_r0 : BitVec 32 := 1#32
  let arg36_r0 : BitVec 32 := Scf.iv c0_i32_26_r0 c1_i32_27_r0 k0_t4
  let v34_r0 : BitVec 32 := Scalar.addi v33_r0 arg36_r0
  let c128_i32_r0 : BitVec 32 := 128#32
  let v35_r0 : BitVec 32 := Scalar.muli v34_r0 c128_i32_r0
  v35_r0
def k0_off6 (k0_t3 : Fin k0_t3_loop.trips) (k0_t4 : Fin k0_t4_loop.trips) : Fin 2 → Nat :=
  let c0_30_r0 : Index := 0#32
  let c0_i32_22_r0 : BitVec 32 := 0#32
  let c1_i32_23_r0 : BitVec 32 := 1#32
  let arg35_r0 : BitVec 32 := Scf.iv c0_i32_22_r0 c1_i32_23_r0 k0_t3
  let c8_i32_29_r0 : BitVec 32 := 8#32
  let v33_r0 : BitVec 32 := Scalar.muli arg35_r0 c8_i32_29_r0
  let c0_i32_26_r0 : BitVec 32 := 0#32
  let c1_i32_27_r0 : BitVec 32 := 1#32
  let arg36_r0 : BitVec 32 := Scf.iv c0_i32_26_r0 c1_i32_27_r0 k0_t4
  let v34_r0 : BitVec 32 := Scalar.addi v33_r0 arg36_r0
  let c128_i32_r0 : BitVec 32 := 128#32
  let v35_r0 : BitVec 32 := Scalar.muli v34_r0 c128_i32_r0
  let v36_r0 : BitVec 32 := v35_r0
  let v37_r0 : Index := Scalar.indexCast v36_r0
  ![0, v37_r0.toNat]
def k0_mult8 (k0_t3 : Fin k0_t3_loop.trips) (k0_t4 : Fin k0_t4_loop.trips) : BitVec 32 :=
  let c0_i32_22_r0 : BitVec 32 := 0#32
  let c1_i32_23_r0 : BitVec 32 := 1#32
  let arg35_r0 : BitVec 32 := Scf.iv c0_i32_22_r0 c1_i32_23_r0 k0_t3
  let c8_i32_29_r0 : BitVec 32 := 8#32
  let v33_r0 : BitVec 32 := Scalar.muli arg35_r0 c8_i32_29_r0
  let c0_i32_26_r0 : BitVec 32 := 0#32
  let c1_i32_27_r0 : BitVec 32 := 1#32
  let arg36_r0 : BitVec 32 := Scf.iv c0_i32_26_r0 c1_i32_27_r0 k0_t4
  let v34_r0 : BitVec 32 := Scalar.addi v33_r0 arg36_r0
  let c128_i32_31_r0 : BitVec 32 := 128#32
  let v43_r0 : BitVec 32 := Scalar.muli v34_r0 c128_i32_31_r0
  v43_r0
def k0_off7 (k0_t3 : Fin k0_t3_loop.trips) (k0_t4 : Fin k0_t4_loop.trips) : Fin 2 → Nat :=
  let c0_i32_22_r0 : BitVec 32 := 0#32
  let c1_i32_23_r0 : BitVec 32 := 1#32
  let arg35_r0 : BitVec 32 := Scf.iv c0_i32_22_r0 c1_i32_23_r0 k0_t3
  let c8_i32_29_r0 : BitVec 32 := 8#32
  let v33_r0 : BitVec 32 := Scalar.muli arg35_r0 c8_i32_29_r0
  let c0_i32_26_r0 : BitVec 32 := 0#32
  let c1_i32_27_r0 : BitVec 32 := 1#32
  let arg36_r0 : BitVec 32 := Scf.iv c0_i32_26_r0 c1_i32_27_r0 k0_t4
  let v34_r0 : BitVec 32 := Scalar.addi v33_r0 arg36_r0
  let c128_i32_31_r0 : BitVec 32 := 128#32
  let v43_r0 : BitVec 32 := Scalar.muli v34_r0 c128_i32_31_r0
  let v44_r0 : BitVec 32 := v43_r0
  let v45_r0 : Index := Scalar.indexCast v44_r0
  let c0_32_r0 : Index := 0#32
  ![v45_r0.toNat, 0]
def k0_mult9 (k0_t3 : Fin k0_t3_loop.trips) (k0_t4 : Fin k0_t4_loop.trips) : BitVec 32 :=
  let c0_i32_22_r0 : BitVec 32 := 0#32
  let c1_i32_23_r0 : BitVec 32 := 1#32
  let arg35_r0 : BitVec 32 := Scf.iv c0_i32_22_r0 c1_i32_23_r0 k0_t3
  let c8_i32_29_r0 : BitVec 32 := 8#32
  let v33_r0 : BitVec 32 := Scalar.muli arg35_r0 c8_i32_29_r0
  let c0_i32_26_r0 : BitVec 32 := 0#32
  let c1_i32_27_r0 : BitVec 32 := 1#32
  let arg36_r0 : BitVec 32 := Scf.iv c0_i32_26_r0 c1_i32_27_r0 k0_t4
  let v34_r0 : BitVec 32 := Scalar.addi v33_r0 arg36_r0
  let c128_i32_33_r0 : BitVec 32 := 128#32
  let v49_r0 : BitVec 32 := Scalar.muli v34_r0 c128_i32_33_r0
  v49_r0
def k0_mult10 (k0_t3 : Fin k0_t3_loop.trips) (k0_t4 : Fin k0_t4_loop.trips) : BitVec 32 :=
  let c0_i32_22_r0 : BitVec 32 := 0#32
  let c1_i32_23_r0 : BitVec 32 := 1#32
  let arg35_r0 : BitVec 32 := Scf.iv c0_i32_22_r0 c1_i32_23_r0 k0_t3
  let c8_i32_29_r0 : BitVec 32 := 8#32
  let v33_r0 : BitVec 32 := Scalar.muli arg35_r0 c8_i32_29_r0
  let c0_i32_26_r0 : BitVec 32 := 0#32
  let c1_i32_27_r0 : BitVec 32 := 1#32
  let arg36_r0 : BitVec 32 := Scf.iv c0_i32_26_r0 c1_i32_27_r0 k0_t4
  let v34_r0 : BitVec 32 := Scalar.addi v33_r0 arg36_r0
  let c128_i32_36_r0 : BitVec 32 := 128#32
  let v57_r0 : BitVec 32 := Scalar.muli v34_r0 c128_i32_36_r0
  v57_r0
def k0_cond2 (k0_t3 : Fin k0_t3_loop.trips) (k0_t4 : Fin k0_t4_loop.trips) : BitVec 1 :=
  let c0_i32_26_r0 : BitVec 32 := 0#32
  let c1_i32_27_r0 : BitVec 32 := 1#32
  let arg36_r0 : BitVec 32 := Scf.iv c0_i32_26_r0 c1_i32_27_r0 k0_t4
  let c1_i32_38_r0 : BitVec 32 := 1#32
  let v63_r0 : BitVec 32 := Scalar.andi arg36_r0 c1_i32_38_r0
  let c2_i32_39_r0 : BitVec 32 := 2#32
  let c0_i32_22_r0 : BitVec 32 := 0#32
  let c1_i32_23_r0 : BitVec 32 := 1#32
  let arg35_r0 : BitVec 32 := Scf.iv c0_i32_22_r0 c1_i32_23_r0 k0_t3
  let v64_r0 : BitVec 32 := Scalar.muli c2_i32_39_r0 arg35_r0
  let v65_r0 : BitVec 32 := Scalar.addi v63_r0 v64_r0
  let c0_i32_40_r0 : BitVec 32 := 0#32
  let v66_r0 : BitVec 1 := Scalar.cmpi .eq v65_r0 c0_i32_40_r0
  let v67_r0 : BitVec 32 := Scalar.extui v66_r0
  let c0_i32_41_r0 : BitVec 32 := 0#32
  let v68_r0 : BitVec 1 := Scalar.cmpi .ne v67_r0 c0_i32_41_r0
  v68_r0

def k0_off8 (k0_t4 : Fin k0_t4_loop.trips) : Fin 2 → Nat :=
  let c0_i32_47_r0 : BitVec 32 := 0#32
  let c0_i32_26_r0 : BitVec 32 := 0#32
  let c1_i32_27_r0 : BitVec 32 := 1#32
  let arg36_r0 : BitVec 32 := Scf.iv c0_i32_26_r0 c1_i32_27_r0 k0_t4
  let c1_i32_46_r0 : BitVec 32 := 1#32
  let v75_r0 : BitVec 32 := Scalar.shrsi arg36_r0 c1_i32_46_r0
  let v76_r0 : BitVec 32 := Scalar.addi c0_i32_47_r0 v75_r0
  let v77_r0 : Index := Scalar.indexCast v76_r0
  let c0_48_r0 : Index := 0#32
  ![v77_r0.toNat, 0]
def k0_off9 (k0_t4 : Fin k0_t4_loop.trips) (c0_i32_52_r0 : BitVec 32) : Fin 2 → Nat :=
  let c0_i32_51_r0 : BitVec 32 := 0#32
  let c0_i32_26_r0 : BitVec 32 := 0#32
  let c1_i32_27_r0 : BitVec 32 := 1#32
  let arg36_r0 : BitVec 32 := Scf.iv c0_i32_26_r0 c1_i32_27_r0 k0_t4
  let c1_i32_46_r0 : BitVec 32 := 1#32
  let v75_r0 : BitVec 32 := Scalar.shrsi arg36_r0 c1_i32_46_r0
  let v91_r0 : BitVec 32 := Scalar.addi c0_i32_51_r0 v75_r0
  let v92_r0 : BitVec 32 := Scalar.addi v91_r0 c0_i32_52_r0
  let v93_r0 : Index := Scalar.indexCast v92_r0
  let c0_53_r0 : Index := 0#32
  ![v93_r0.toNat, 0]
def k0_cond3 (k0_t3 : Fin k0_t3_loop.trips) (k0_t4 : Fin k0_t4_loop.trips) : BitVec 1 :=
  let c0_i32_26_r0 : BitVec 32 := 0#32
  let c1_i32_27_r0 : BitVec 32 := 1#32
  let arg36_r0 : BitVec 32 := Scf.iv c0_i32_26_r0 c1_i32_27_r0 k0_t4
  let c1_i32_42_r0 : BitVec 32 := 1#32
  let v69_r0 : BitVec 32 := Scalar.andi arg36_r0 c1_i32_42_r0
  let c2_i32_43_r0 : BitVec 32 := 2#32
  let c0_i32_22_r0 : BitVec 32 := 0#32
  let c1_i32_23_r0 : BitVec 32 := 1#32
  let arg35_r0 : BitVec 32 := Scf.iv c0_i32_22_r0 c1_i32_23_r0 k0_t3
  let v70_r0 : BitVec 32 := Scalar.muli c2_i32_43_r0 arg35_r0
  let v71_r0 : BitVec 32 := Scalar.addi v69_r0 v70_r0
  let c2_i32_44_r0 : BitVec 32 := 2#32
  let v72_r0 : BitVec 1 := Scalar.cmpi .eq v71_r0 c2_i32_44_r0
  let v73_r0 : BitVec 32 := Scalar.extui v72_r0
  let c0_i32_45_r0 : BitVec 32 := 0#32
  let v74_r0 : BitVec 1 := Scalar.cmpi .ne v73_r0 c0_i32_45_r0
  v74_r0

def k0_off10 (k0_t4 : Fin k0_t4_loop.trips) : Fin 2 → Nat :=
  let c0_i32_47_r0 : BitVec 32 := 0#32
  let c0_i32_26_r0 : BitVec 32 := 0#32
  let c1_i32_27_r0 : BitVec 32 := 1#32
  let arg36_r0 : BitVec 32 := Scf.iv c0_i32_26_r0 c1_i32_27_r0 k0_t4
  let c1_i32_46_r0 : BitVec 32 := 1#32
  let v75_r0 : BitVec 32 := Scalar.shrsi arg36_r0 c1_i32_46_r0
  let v76_r0 : BitVec 32 := Scalar.addi c0_i32_47_r0 v75_r0
  let v77_r0 : Index := Scalar.indexCast v76_r0
  let c0_48_r0 : Index := 0#32
  ![v77_r0.toNat, 0]
def k0_off11 (k0_t4 : Fin k0_t4_loop.trips) (c0_i32_52_r0 : BitVec 32) : Fin 2 → Nat :=
  let c0_i32_51_r0 : BitVec 32 := 0#32
  let c0_i32_26_r0 : BitVec 32 := 0#32
  let c1_i32_27_r0 : BitVec 32 := 1#32
  let arg36_r0 : BitVec 32 := Scf.iv c0_i32_26_r0 c1_i32_27_r0 k0_t4
  let c1_i32_46_r0 : BitVec 32 := 1#32
  let v75_r0 : BitVec 32 := Scalar.shrsi arg36_r0 c1_i32_46_r0
  let v91_r0 : BitVec 32 := Scalar.addi c0_i32_51_r0 v75_r0
  let v92_r0 : BitVec 32 := Scalar.addi v91_r0 c0_i32_52_r0
  let v93_r0 : Index := Scalar.indexCast v92_r0
  let c0_53_r0 : Index := 0#32
  ![v93_r0.toNat, 0]
def k0_cond4 (i : grid0.Coords) : BitVec 1 :=
  let arg0 : BitVec 32 := BitVec.ofNat 32 (i 0).val
  let c0_i32_1_r0 : BitVec 32 := 0#32
  let v3_r0 : BitVec 1 := Scalar.cmpi .sgt arg0 c0_i32_1_r0
  let v4_r0 : BitVec 32 := Scalar.extui v3_r0
  let c0_i32_2_r0 : BitVec 32 := 0#32
  let v5_r0 : BitVec 1 := Scalar.cmpi .ne v4_r0 c0_i32_2_r0
  v5_r0

@[reducible] def k0_t5_loop : Scf.Loop 32 :=
  let c0_i32_10_r0 : BitVec 32 := 0#32
  let c2_i32_11_r0 : BitVec 32 := 2#32
  let v19_r0 : BitVec 32 := Scalar.addi c0_i32_10_r0 c2_i32_11_r0
  let c1_i32_12_r0 : BitVec 32 := 1#32
  ⟨c0_i32_10_r0, v19_r0, c1_i32_12_r0⟩
@[reducible] def k0_t6_loop : Scf.Loop 32 :=
  let c0_i32_19_r0 : BitVec 32 := 0#32
  let c8_i32_r0 : BitVec 32 := 8#32
  let v52_r0 : BitVec 32 := Scalar.addi c0_i32_19_r0 c8_i32_r0
  let c1_i32_20_r0 : BitVec 32 := 1#32
  ⟨c0_i32_19_r0, v52_r0, c1_i32_20_r0⟩
def k0_mult11 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c128_i32_r0 : BitVec 32 := 128#32
  let v77_r0 : BitVec 32 := Scalar.muli v76_r0 c128_i32_r0
  v77_r0
def k0_off12 (k0_t5 : Fin k0_t5_loop.trips) (k0_t6 : Fin k0_t6_loop.trips) : Fin 2 → Nat :=
  let c0_34_r0 : Index := 0#32
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c128_i32_r0 : BitVec 32 := 128#32
  let v77_r0 : BitVec 32 := Scalar.muli v76_r0 c128_i32_r0
  let v78_r0 : BitVec 32 := v77_r0
  let v79_r0 : Index := Scalar.indexCast v78_r0
  ![0, v79_r0.toNat]
def k0_mult12 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c128_i32_35_r0 : BitVec 32 := 128#32
  let v85_r0 : BitVec 32 := Scalar.muli v76_r0 c128_i32_35_r0
  v85_r0
def k0_off13 (k0_t5 : Fin k0_t5_loop.trips) (k0_t6 : Fin k0_t6_loop.trips) : Fin 2 → Nat :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c128_i32_35_r0 : BitVec 32 := 128#32
  let v85_r0 : BitVec 32 := Scalar.muli v76_r0 c128_i32_35_r0
  let v86_r0 : BitVec 32 := v85_r0
  let v87_r0 : Index := Scalar.indexCast v86_r0
  let c0_36_r0 : Index := 0#32
  ![v87_r0.toNat, 0]
def k0_mult13 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c128_i32_37_r0 : BitVec 32 := 128#32
  let v91_r0 : BitVec 32 := Scalar.muli v76_r0 c128_i32_37_r0
  v91_r0
def k0_mult14 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c128_i32_40_r0 : BitVec 32 := 128#32
  let v99_r0 : BitVec 32 := Scalar.muli v76_r0 c128_i32_40_r0
  v99_r0
def k0_cond5 (k0_t5 : Fin k0_t5_loop.trips) (k0_t6 : Fin k0_t6_loop.trips) : BitVec 1 :=
  let c0_i32_19_r0 : BitVec 32 := 0#32
  let c1_i32_20_r0 : BitVec 32 := 1#32
  let arg36_r0 : BitVec 32 := Scf.iv c0_i32_19_r0 c1_i32_20_r0 k0_t6
  let c1_i32_42_r0 : BitVec 32 := 1#32
  let v105_r0 : BitVec 32 := Scalar.andi arg36_r0 c1_i32_42_r0
  let c2_i32_43_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let v106_r0 : BitVec 32 := Scalar.muli c2_i32_43_r0 arg35_r0
  let v107_r0 : BitVec 32 := Scalar.addi v105_r0 v106_r0
  let c0_i32_44_r0 : BitVec 32 := 0#32
  let v108_r0 : BitVec 1 := Scalar.cmpi .eq v107_r0 c0_i32_44_r0
  let v109_r0 : BitVec 32 := Scalar.extui v108_r0
  let c0_i32_45_r0 : BitVec 32 := 0#32
  let v110_r0 : BitVec 1 := Scalar.cmpi .ne v109_r0 c0_i32_45_r0
  v110_r0

def k0_off14 (k0_t6 : Fin k0_t6_loop.trips) : Fin 2 → Nat :=
  let c0_i32_261_r0 : BitVec 32 := 0#32
  let c0_i32_19_r0 : BitVec 32 := 0#32
  let c1_i32_20_r0 : BitVec 32 := 1#32
  let arg36_r0 : BitVec 32 := Scf.iv c0_i32_19_r0 c1_i32_20_r0 k0_t6
  let c1_i32_260_r0 : BitVec 32 := 1#32
  let v1068_r0 : BitVec 32 := Scalar.shrsi arg36_r0 c1_i32_260_r0
  let v1069_r0 : BitVec 32 := Scalar.addi c0_i32_261_r0 v1068_r0
  let v1070_r0 : Index := Scalar.indexCast v1069_r0
  let c0_262_r0 : Index := 0#32
  ![v1070_r0.toNat, 0]
def k0_off15 (k0_t6 : Fin k0_t6_loop.trips) (c0_i32_265_r0 : BitVec 32) : Fin 2 → Nat :=
  let c0_i32_264_r0 : BitVec 32 := 0#32
  let c0_i32_19_r0 : BitVec 32 := 0#32
  let c1_i32_20_r0 : BitVec 32 := 1#32
  let arg36_r0 : BitVec 32 := Scf.iv c0_i32_19_r0 c1_i32_20_r0 k0_t6
  let c1_i32_260_r0 : BitVec 32 := 1#32
  let v1068_r0 : BitVec 32 := Scalar.shrsi arg36_r0 c1_i32_260_r0
  let v1084_r0 : BitVec 32 := Scalar.addi c0_i32_264_r0 v1068_r0
  let v1085_r0 : BitVec 32 := Scalar.addi v1084_r0 c0_i32_265_r0
  let v1086_r0 : Index := Scalar.indexCast v1085_r0
  let c0_266_r0 : Index := 0#32
  ![v1086_r0.toNat, 0]
def k0_cond6 (k0_t5 : Fin k0_t5_loop.trips) (k0_t6 : Fin k0_t6_loop.trips) : BitVec 1 :=
  let c0_i32_19_r0 : BitVec 32 := 0#32
  let c1_i32_20_r0 : BitVec 32 := 1#32
  let arg36_r0 : BitVec 32 := Scf.iv c0_i32_19_r0 c1_i32_20_r0 k0_t6
  let c1_i32_46_r0 : BitVec 32 := 1#32
  let v111_r0 : BitVec 32 := Scalar.andi arg36_r0 c1_i32_46_r0
  let c2_i32_47_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let v112_r0 : BitVec 32 := Scalar.muli c2_i32_47_r0 arg35_r0
  let v113_r0 : BitVec 32 := Scalar.addi v111_r0 v112_r0
  let c2_i32_48_r0 : BitVec 32 := 2#32
  let v114_r0 : BitVec 1 := Scalar.cmpi .eq v113_r0 c2_i32_48_r0
  let v115_r0 : BitVec 32 := Scalar.extui v114_r0
  let c0_i32_49_r0 : BitVec 32 := 0#32
  let v116_r0 : BitVec 1 := Scalar.cmpi .ne v115_r0 c0_i32_49_r0
  v116_r0

def k0_off16 (k0_t6 : Fin k0_t6_loop.trips) : Fin 2 → Nat :=
  let c0_i32_261_r0 : BitVec 32 := 0#32
  let c0_i32_19_r0 : BitVec 32 := 0#32
  let c1_i32_20_r0 : BitVec 32 := 1#32
  let arg36_r0 : BitVec 32 := Scf.iv c0_i32_19_r0 c1_i32_20_r0 k0_t6
  let c1_i32_260_r0 : BitVec 32 := 1#32
  let v1068_r0 : BitVec 32 := Scalar.shrsi arg36_r0 c1_i32_260_r0
  let v1069_r0 : BitVec 32 := Scalar.addi c0_i32_261_r0 v1068_r0
  let v1070_r0 : Index := Scalar.indexCast v1069_r0
  let c0_262_r0 : Index := 0#32
  ![v1070_r0.toNat, 0]
def k0_off17 (k0_t6 : Fin k0_t6_loop.trips) (c0_i32_265_r0 : BitVec 32) : Fin 2 → Nat :=
  let c0_i32_264_r0 : BitVec 32 := 0#32
  let c0_i32_19_r0 : BitVec 32 := 0#32
  let c1_i32_20_r0 : BitVec 32 := 1#32
  let arg36_r0 : BitVec 32 := Scf.iv c0_i32_19_r0 c1_i32_20_r0 k0_t6
  let c1_i32_260_r0 : BitVec 32 := 1#32
  let v1068_r0 : BitVec 32 := Scalar.shrsi arg36_r0 c1_i32_260_r0
  let v1084_r0 : BitVec 32 := Scalar.addi c0_i32_264_r0 v1068_r0
  let v1085_r0 : BitVec 32 := Scalar.addi v1084_r0 c0_i32_265_r0
  let v1086_r0 : Index := Scalar.indexCast v1085_r0
  let c0_266_r0 : Index := 0#32
  ![v1086_r0.toNat, 0]
def k0_mult15 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c1_i32_50_r0 : BitVec 32 := 1#32
  let v117_r0 : BitVec 32 := Scalar.shrsi v76_r0 c1_i32_50_r0
  let c512_i32_r0 : BitVec 32 := 512#32
  let v119_r0 : BitVec 32 := Scalar.muli v117_r0 c512_i32_r0
  v119_r0
def k0_mult16 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c1_i32_51_r0 : BitVec 32 := 1#32
  let v118_r0 : BitVec 32 := Scalar.andi v76_r0 c1_i32_51_r0
  let c128_i32_52_r0 : BitVec 32 := 128#32
  let v121_r0 : BitVec 32 := Scalar.muli v118_r0 c128_i32_52_r0
  v121_r0
def k0_off18 (k0_t5 : Fin k0_t5_loop.trips) (k0_t6 : Fin k0_t6_loop.trips) : Fin 2 → Nat :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c1_i32_50_r0 : BitVec 32 := 1#32
  let v117_r0 : BitVec 32 := Scalar.shrsi v76_r0 c1_i32_50_r0
  let c512_i32_r0 : BitVec 32 := 512#32
  let v119_r0 : BitVec 32 := Scalar.muli v117_r0 c512_i32_r0
  let v120_r0 : BitVec 32 := v119_r0
  let v123_r0 : Index := Scalar.indexCast v120_r0
  let c1_i32_51_r0 : BitVec 32 := 1#32
  let v118_r0 : BitVec 32 := Scalar.andi v76_r0 c1_i32_51_r0
  let c128_i32_52_r0 : BitVec 32 := 128#32
  let v121_r0 : BitVec 32 := Scalar.muli v118_r0 c128_i32_52_r0
  let v122_r0 : BitVec 32 := v121_r0
  let v124_r0 : Index := Scalar.indexCast v122_r0
  ![v123_r0.toNat, v124_r0.toNat]
def k0_mult17 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c128_i32_54_r0 : BitVec 32 := 128#32
  let v130_r0 : BitVec 32 := Scalar.muli v76_r0 c128_i32_54_r0
  v130_r0
def k0_cond7 (k0_t6 : Fin k0_t6_loop.trips) : BitVec 1 :=
  let c0_i32_19_r0 : BitVec 32 := 0#32
  let c1_i32_20_r0 : BitVec 32 := 1#32
  let arg36_r0 : BitVec 32 := Scf.iv c0_i32_19_r0 c1_i32_20_r0 k0_t6
  let c1_i32_56_r0 : BitVec 32 := 1#32
  let v136_r0 : BitVec 32 := Scalar.andi arg36_r0 c1_i32_56_r0
  let c1_i32_57_r0 : BitVec 32 := 1#32
  let v137_r0 : BitVec 1 := Scalar.cmpi .eq v136_r0 c1_i32_57_r0
  let v138_r0 : BitVec 32 := Scalar.extui v137_r0
  let c0_i32_58_r0 : BitVec 32 := 0#32
  let v139_r0 : BitVec 1 := Scalar.cmpi .ne v138_r0 c0_i32_58_r0
  v139_r0

@[reducible] def k0_t7_loop : Scf.Loop 32 :=
  let c0_i32_269_r0 : BitVec 32 := 0#32
  let c8_i32_270_r0 : BitVec 32 := 8#32
  let v1094_r0 : BitVec 32 := Scalar.addi c0_i32_269_r0 c8_i32_270_r0
  let c1_i32_271_r0 : BitVec 32 := 1#32
  ⟨c0_i32_269_r0, v1094_r0, c1_i32_271_r0⟩
def k0_mult18 (k0_t7 : Fin k0_t7_loop.trips) : BitVec 32 :=
  let c0_i32_269_r0 : BitVec 32 := 0#32
  let c1_i32_271_r0 : BitVec 32 := 1#32
  let arg37_r0 : BitVec 32 := Scf.iv c0_i32_269_r0 c1_i32_271_r0 k0_t7
  let c2_i32_273_r0 : BitVec 32 := 2#32
  let v1095_r0 : BitVec 32 := Scalar.shrsi arg37_r0 c2_i32_273_r0
  let c8_i32_275_r0 : BitVec 32 := 8#32
  let v1097_r0 : BitVec 32 := Scalar.muli v1095_r0 c8_i32_275_r0
  v1097_r0
def k0_mult19 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c1_i32_260_r0 : BitVec 32 := 1#32
  let v1068_r0 : BitVec 32 := Scalar.shrsi v76_r0 c1_i32_260_r0
  let c4_i32_276_r0 : BitVec 32 := 4#32
  let v1099_r0 : BitVec 32 := Scalar.muli v1068_r0 c4_i32_276_r0
  let c0_i32_277_r0 : BitVec 32 := 0#32
  let v1100_r0 : BitVec 32 := Scalar.addi v1099_r0 c0_i32_277_r0
  let c128_i32_278_r0 : BitVec 32 := 128#32
  let v1101_r0 : BitVec 32 := Scalar.muli v1100_r0 c128_i32_278_r0
  v1101_r0
def k0_off19 (k0_t5 : Fin k0_t5_loop.trips) (k0_t6 : Fin k0_t6_loop.trips) (k0_t7 : Fin k0_t7_loop.trips) (c0_i32_277_r0 : BitVec 32) : Fin 2 → Nat :=
  let c0_i32_269_r0 : BitVec 32 := 0#32
  let c1_i32_271_r0 : BitVec 32 := 1#32
  let arg37_r0 : BitVec 32 := Scf.iv c0_i32_269_r0 c1_i32_271_r0 k0_t7
  let c2_i32_273_r0 : BitVec 32 := 2#32
  let v1095_r0 : BitVec 32 := Scalar.shrsi arg37_r0 c2_i32_273_r0
  let c8_i32_275_r0 : BitVec 32 := 8#32
  let v1097_r0 : BitVec 32 := Scalar.muli v1095_r0 c8_i32_275_r0
  let v1098_r0 : BitVec 32 := v1097_r0
  let v1103_r0 : Index := Scalar.indexCast v1098_r0
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c1_i32_260_r0 : BitVec 32 := 1#32
  let v1068_r0 : BitVec 32 := Scalar.shrsi v76_r0 c1_i32_260_r0
  let c4_i32_276_r0 : BitVec 32 := 4#32
  let v1099_r0 : BitVec 32 := Scalar.muli v1068_r0 c4_i32_276_r0
  let v1100_r0 : BitVec 32 := Scalar.addi v1099_r0 c0_i32_277_r0
  let c128_i32_278_r0 : BitVec 32 := 128#32
  let v1101_r0 : BitVec 32 := Scalar.muli v1100_r0 c128_i32_278_r0
  let v1102_r0 : BitVec 32 := v1101_r0
  let v1104_r0 : Index := Scalar.indexCast v1102_r0
  ![v1103_r0.toNat, v1104_r0.toNat]
def k0_mult20 (k0_t7 : Fin k0_t7_loop.trips) : BitVec 32 :=
  let c0_i32_269_r0 : BitVec 32 := 0#32
  let c1_i32_271_r0 : BitVec 32 := 1#32
  let arg37_r0 : BitVec 32 := Scf.iv c0_i32_269_r0 c1_i32_271_r0 k0_t7
  let c2_i32_273_r0 : BitVec 32 := 2#32
  let v1095_r0 : BitVec 32 := Scalar.shrsi arg37_r0 c2_i32_273_r0
  let c8_i32_279_r0 : BitVec 32 := 8#32
  let v1107_r0 : BitVec 32 := Scalar.muli v1095_r0 c8_i32_279_r0
  v1107_r0
def k0_mult21 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c1_i32_260_r0 : BitVec 32 := 1#32
  let v1068_r0 : BitVec 32 := Scalar.shrsi v76_r0 c1_i32_260_r0
  let c4_i32_280_r0 : BitVec 32 := 4#32
  let v1109_r0 : BitVec 32 := Scalar.muli v1068_r0 c4_i32_280_r0
  let c1_i32_281_r0 : BitVec 32 := 1#32
  let v1110_r0 : BitVec 32 := Scalar.addi v1109_r0 c1_i32_281_r0
  let c128_i32_282_r0 : BitVec 32 := 128#32
  let v1111_r0 : BitVec 32 := Scalar.muli v1110_r0 c128_i32_282_r0
  v1111_r0
def k0_mult22 (k0_t7 : Fin k0_t7_loop.trips) : BitVec 32 :=
  let c0_i32_269_r0 : BitVec 32 := 0#32
  let c1_i32_271_r0 : BitVec 32 := 1#32
  let arg37_r0 : BitVec 32 := Scf.iv c0_i32_269_r0 c1_i32_271_r0 k0_t7
  let c2_i32_273_r0 : BitVec 32 := 2#32
  let v1095_r0 : BitVec 32 := Scalar.shrsi arg37_r0 c2_i32_273_r0
  let c8_i32_283_r0 : BitVec 32 := 8#32
  let v1117_r0 : BitVec 32 := Scalar.muli v1095_r0 c8_i32_283_r0
  v1117_r0
def k0_mult23 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c1_i32_260_r0 : BitVec 32 := 1#32
  let v1068_r0 : BitVec 32 := Scalar.shrsi v76_r0 c1_i32_260_r0
  let c4_i32_284_r0 : BitVec 32 := 4#32
  let v1119_r0 : BitVec 32 := Scalar.muli v1068_r0 c4_i32_284_r0
  let c2_i32_285_r0 : BitVec 32 := 2#32
  let v1120_r0 : BitVec 32 := Scalar.addi v1119_r0 c2_i32_285_r0
  let c128_i32_286_r0 : BitVec 32 := 128#32
  let v1121_r0 : BitVec 32 := Scalar.muli v1120_r0 c128_i32_286_r0
  v1121_r0
def k0_mult24 (k0_t7 : Fin k0_t7_loop.trips) : BitVec 32 :=
  let c0_i32_269_r0 : BitVec 32 := 0#32
  let c1_i32_271_r0 : BitVec 32 := 1#32
  let arg37_r0 : BitVec 32 := Scf.iv c0_i32_269_r0 c1_i32_271_r0 k0_t7
  let c2_i32_273_r0 : BitVec 32 := 2#32
  let v1095_r0 : BitVec 32 := Scalar.shrsi arg37_r0 c2_i32_273_r0
  let c8_i32_287_r0 : BitVec 32 := 8#32
  let v1127_r0 : BitVec 32 := Scalar.muli v1095_r0 c8_i32_287_r0
  v1127_r0
def k0_mult25 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c1_i32_260_r0 : BitVec 32 := 1#32
  let v1068_r0 : BitVec 32 := Scalar.shrsi v76_r0 c1_i32_260_r0
  let c4_i32_288_r0 : BitVec 32 := 4#32
  let v1129_r0 : BitVec 32 := Scalar.muli v1068_r0 c4_i32_288_r0
  let c3_i32_289_r0 : BitVec 32 := 3#32
  let v1130_r0 : BitVec 32 := Scalar.addi v1129_r0 c3_i32_289_r0
  let c128_i32_290_r0 : BitVec 32 := 128#32
  let v1131_r0 : BitVec 32 := Scalar.muli v1130_r0 c128_i32_290_r0
  v1131_r0
def k0_off20 (k0_t5 : Fin k0_t5_loop.trips) (k0_t6 : Fin k0_t6_loop.trips) (k0_t7 : Fin k0_t7_loop.trips) (c0_i32_313_r0 : BitVec 32) : Fin 2 → Nat :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c1_i32_260_r0 : BitVec 32 := 1#32
  let v1068_r0 : BitVec 32 := Scalar.shrsi v76_r0 c1_i32_260_r0
  let c16_i32_309_r0 : BitVec 32 := 16#32
  let v1198_r0 : BitVec 32 := Scalar.muli v1068_r0 c16_i32_309_r0
  let c0_i32_269_r0 : BitVec 32 := 0#32
  let c1_i32_271_r0 : BitVec 32 := 1#32
  let arg37_r0 : BitVec 32 := Scf.iv c0_i32_269_r0 c1_i32_271_r0 k0_t7
  let c2_i32_273_r0 : BitVec 32 := 2#32
  let v1095_r0 : BitVec 32 := Scalar.shrsi arg37_r0 c2_i32_273_r0
  let c8_i32_310_r0 : BitVec 32 := 8#32
  let v1199_r0 : BitVec 32 := Scalar.muli v1095_r0 c8_i32_310_r0
  let v1200_r0 : BitVec 32 := Scalar.addi v1198_r0 v1199_r0
  let c8_i32_311_r0 : BitVec 32 := 8#32
  let v1201_r0 : BitVec 32 := Scalar.muli v1200_r0 c8_i32_311_r0
  let c3_i32_274_r0 : BitVec 32 := 3#32
  let v1096_r0 : BitVec 32 := Scalar.andi arg37_r0 c3_i32_274_r0
  let v1213_r0 : BitVec 32 := Scalar.addi v1201_r0 v1096_r0
  let v1214_r0 : BitVec 32 := Scalar.addi v1213_r0 c0_i32_313_r0
  let v1215_r0 : Index := Scalar.indexCast v1214_r0
  let c0_314_r0 : Index := 0#32
  ![v1215_r0.toNat, 0]
def k0_mult26 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_59_r0 : BitVec 32 := 4#32
  let v140_r0 : BitVec 32 := Scalar.muli v76_r0 c4_i32_59_r0
  let c0_i32_60_r0 : BitVec 32 := 0#32
  let v141_r0 : BitVec 32 := Scalar.addi v140_r0 c0_i32_60_r0
  let c32_i32_r0 : BitVec 32 := 32#32
  let v142_r0 : BitVec 32 := Scalar.muli v141_r0 c32_i32_r0
  v142_r0
def k0_mult27 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_59_r0 : BitVec 32 := 4#32
  let v140_r0 : BitVec 32 := Scalar.muli v76_r0 c4_i32_59_r0
  let c0_i32_60_r0 : BitVec 32 := 0#32
  let v141_r0 : BitVec 32 := Scalar.addi v140_r0 c0_i32_60_r0
  let c16_i32_r0 : BitVec 32 := 16#32
  let v144_r0 : BitVec 32 := Scalar.muli v141_r0 c16_i32_r0
  v144_r0
def k0_off21 (k0_t5 : Fin k0_t5_loop.trips) (k0_t6 : Fin k0_t6_loop.trips) (c0_i32_60_r0 : BitVec 32) : Fin 2 → Nat :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_59_r0 : BitVec 32 := 4#32
  let v140_r0 : BitVec 32 := Scalar.muli v76_r0 c4_i32_59_r0
  let v141_r0 : BitVec 32 := Scalar.addi v140_r0 c0_i32_60_r0
  let c32_i32_r0 : BitVec 32 := 32#32
  let v142_r0 : BitVec 32 := Scalar.muli v141_r0 c32_i32_r0
  let v143_r0 : BitVec 32 := v142_r0
  let v146_r0 : Index := Scalar.indexCast v143_r0
  let c0_61_r0 : Index := 0#32
  ![v146_r0.toNat, 0]
def k0_off22 (k0_t5 : Fin k0_t5_loop.trips) (k0_t6 : Fin k0_t6_loop.trips) (c0_i32_60_r0 : BitVec 32) (c0_i32_64_r0 : BitVec 32) : Fin 2 → Nat :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_59_r0 : BitVec 32 := 4#32
  let v140_r0 : BitVec 32 := Scalar.muli v76_r0 c4_i32_59_r0
  let v141_r0 : BitVec 32 := Scalar.addi v140_r0 c0_i32_60_r0
  let c16_i32_r0 : BitVec 32 := 16#32
  let v144_r0 : BitVec 32 := Scalar.muli v141_r0 c16_i32_r0
  let v145_r0 : BitVec 32 := v144_r0
  let v161_r0 : BitVec 32 := Scalar.addi v145_r0 c0_i32_64_r0
  let v162_r0 : Index := Scalar.indexCast v161_r0
  let c0_65_r0 : Index := 0#32
  ![v162_r0.toNat, 0]
def k0_mult28 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_59_r0 : BitVec 32 := 4#32
  let v140_r0 : BitVec 32 := Scalar.muli v76_r0 c4_i32_59_r0
  let c0_i32_60_r0 : BitVec 32 := 0#32
  let v141_r0 : BitVec 32 := Scalar.addi v140_r0 c0_i32_60_r0
  let c32_i32_72_r0 : BitVec 32 := 32#32
  let v214_r0 : BitVec 32 := Scalar.muli v141_r0 c32_i32_72_r0
  v214_r0
def k0_mult29 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_59_r0 : BitVec 32 := 4#32
  let v140_r0 : BitVec 32 := Scalar.muli v76_r0 c4_i32_59_r0
  let c0_i32_60_r0 : BitVec 32 := 0#32
  let v141_r0 : BitVec 32 := Scalar.addi v140_r0 c0_i32_60_r0
  let c16_i32_73_r0 : BitVec 32 := 16#32
  let v216_r0 : BitVec 32 := Scalar.muli v141_r0 c16_i32_73_r0
  v216_r0
def k0_mult30 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_59_r0 : BitVec 32 := 4#32
  let v140_r0 : BitVec 32 := Scalar.muli v76_r0 c4_i32_59_r0
  let c0_i32_60_r0 : BitVec 32 := 0#32
  let v141_r0 : BitVec 32 := Scalar.addi v140_r0 c0_i32_60_r0
  let c256_i32_r0 : BitVec 32 := 256#32
  let v286_r0 : BitVec 32 := Scalar.muli v141_r0 c256_i32_r0
  v286_r0
def k0_off23 (k0_t5 : Fin k0_t5_loop.trips) (k0_t6 : Fin k0_t6_loop.trips) (c0_i32_60_r0 : BitVec 32) : Fin 2 → Nat :=
  let c0_86_r0 : Index := 0#32
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_59_r0 : BitVec 32 := 4#32
  let v140_r0 : BitVec 32 := Scalar.muli v76_r0 c4_i32_59_r0
  let v141_r0 : BitVec 32 := Scalar.addi v140_r0 c0_i32_60_r0
  let c256_i32_r0 : BitVec 32 := 256#32
  let v286_r0 : BitVec 32 := Scalar.muli v141_r0 c256_i32_r0
  let v287_r0 : BitVec 32 := v286_r0
  let v288_r0 : Index := Scalar.indexCast v287_r0
  ![0, v288_r0.toNat]
def k0_mult31 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_87_r0 : BitVec 32 := 4#32
  let v291_r0 : BitVec 32 := Scalar.muli v76_r0 c4_i32_87_r0
  let c1_i32_88_r0 : BitVec 32 := 1#32
  let v292_r0 : BitVec 32 := Scalar.addi v291_r0 c1_i32_88_r0
  let c32_i32_89_r0 : BitVec 32 := 32#32
  let v293_r0 : BitVec 32 := Scalar.muli v292_r0 c32_i32_89_r0
  v293_r0
def k0_mult32 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_87_r0 : BitVec 32 := 4#32
  let v291_r0 : BitVec 32 := Scalar.muli v76_r0 c4_i32_87_r0
  let c1_i32_88_r0 : BitVec 32 := 1#32
  let v292_r0 : BitVec 32 := Scalar.addi v291_r0 c1_i32_88_r0
  let c16_i32_90_r0 : BitVec 32 := 16#32
  let v295_r0 : BitVec 32 := Scalar.muli v292_r0 c16_i32_90_r0
  v295_r0
def k0_mult33 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_87_r0 : BitVec 32 := 4#32
  let v291_r0 : BitVec 32 := Scalar.muli v76_r0 c4_i32_87_r0
  let c1_i32_88_r0 : BitVec 32 := 1#32
  let v292_r0 : BitVec 32 := Scalar.addi v291_r0 c1_i32_88_r0
  let c32_i32_103_r0 : BitVec 32 := 32#32
  let v365_r0 : BitVec 32 := Scalar.muli v292_r0 c32_i32_103_r0
  v365_r0
def k0_mult34 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_87_r0 : BitVec 32 := 4#32
  let v291_r0 : BitVec 32 := Scalar.muli v76_r0 c4_i32_87_r0
  let c1_i32_88_r0 : BitVec 32 := 1#32
  let v292_r0 : BitVec 32 := Scalar.addi v291_r0 c1_i32_88_r0
  let c16_i32_104_r0 : BitVec 32 := 16#32
  let v367_r0 : BitVec 32 := Scalar.muli v292_r0 c16_i32_104_r0
  v367_r0
def k0_mult35 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_87_r0 : BitVec 32 := 4#32
  let v291_r0 : BitVec 32 := Scalar.muli v76_r0 c4_i32_87_r0
  let c1_i32_88_r0 : BitVec 32 := 1#32
  let v292_r0 : BitVec 32 := Scalar.addi v291_r0 c1_i32_88_r0
  let c256_i32_117_r0 : BitVec 32 := 256#32
  let v437_r0 : BitVec 32 := Scalar.muli v292_r0 c256_i32_117_r0
  v437_r0
def k0_mult36 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_119_r0 : BitVec 32 := 4#32
  let v442_r0 : BitVec 32 := Scalar.muli v76_r0 c4_i32_119_r0
  let c2_i32_120_r0 : BitVec 32 := 2#32
  let v443_r0 : BitVec 32 := Scalar.addi v442_r0 c2_i32_120_r0
  let c32_i32_121_r0 : BitVec 32 := 32#32
  let v444_r0 : BitVec 32 := Scalar.muli v443_r0 c32_i32_121_r0
  v444_r0
def k0_mult37 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_119_r0 : BitVec 32 := 4#32
  let v442_r0 : BitVec 32 := Scalar.muli v76_r0 c4_i32_119_r0
  let c2_i32_120_r0 : BitVec 32 := 2#32
  let v443_r0 : BitVec 32 := Scalar.addi v442_r0 c2_i32_120_r0
  let c16_i32_122_r0 : BitVec 32 := 16#32
  let v446_r0 : BitVec 32 := Scalar.muli v443_r0 c16_i32_122_r0
  v446_r0
def k0_mult38 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_119_r0 : BitVec 32 := 4#32
  let v442_r0 : BitVec 32 := Scalar.muli v76_r0 c4_i32_119_r0
  let c2_i32_120_r0 : BitVec 32 := 2#32
  let v443_r0 : BitVec 32 := Scalar.addi v442_r0 c2_i32_120_r0
  let c32_i32_135_r0 : BitVec 32 := 32#32
  let v516_r0 : BitVec 32 := Scalar.muli v443_r0 c32_i32_135_r0
  v516_r0
def k0_mult39 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_119_r0 : BitVec 32 := 4#32
  let v442_r0 : BitVec 32 := Scalar.muli v76_r0 c4_i32_119_r0
  let c2_i32_120_r0 : BitVec 32 := 2#32
  let v443_r0 : BitVec 32 := Scalar.addi v442_r0 c2_i32_120_r0
  let c16_i32_136_r0 : BitVec 32 := 16#32
  let v518_r0 : BitVec 32 := Scalar.muli v443_r0 c16_i32_136_r0
  v518_r0
def k0_mult40 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_119_r0 : BitVec 32 := 4#32
  let v442_r0 : BitVec 32 := Scalar.muli v76_r0 c4_i32_119_r0
  let c2_i32_120_r0 : BitVec 32 := 2#32
  let v443_r0 : BitVec 32 := Scalar.addi v442_r0 c2_i32_120_r0
  let c256_i32_149_r0 : BitVec 32 := 256#32
  let v588_r0 : BitVec 32 := Scalar.muli v443_r0 c256_i32_149_r0
  v588_r0
def k0_mult41 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_151_r0 : BitVec 32 := 4#32
  let v593_r0 : BitVec 32 := Scalar.muli v76_r0 c4_i32_151_r0
  let c3_i32_r0 : BitVec 32 := 3#32
  let v594_r0 : BitVec 32 := Scalar.addi v593_r0 c3_i32_r0
  let c32_i32_152_r0 : BitVec 32 := 32#32
  let v595_r0 : BitVec 32 := Scalar.muli v594_r0 c32_i32_152_r0
  v595_r0
def k0_mult42 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_151_r0 : BitVec 32 := 4#32
  let v593_r0 : BitVec 32 := Scalar.muli v76_r0 c4_i32_151_r0
  let c3_i32_r0 : BitVec 32 := 3#32
  let v594_r0 : BitVec 32 := Scalar.addi v593_r0 c3_i32_r0
  let c16_i32_153_r0 : BitVec 32 := 16#32
  let v597_r0 : BitVec 32 := Scalar.muli v594_r0 c16_i32_153_r0
  v597_r0
def k0_mult43 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_151_r0 : BitVec 32 := 4#32
  let v593_r0 : BitVec 32 := Scalar.muli v76_r0 c4_i32_151_r0
  let c3_i32_r0 : BitVec 32 := 3#32
  let v594_r0 : BitVec 32 := Scalar.addi v593_r0 c3_i32_r0
  let c32_i32_166_r0 : BitVec 32 := 32#32
  let v667_r0 : BitVec 32 := Scalar.muli v594_r0 c32_i32_166_r0
  v667_r0
def k0_mult44 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_151_r0 : BitVec 32 := 4#32
  let v593_r0 : BitVec 32 := Scalar.muli v76_r0 c4_i32_151_r0
  let c3_i32_r0 : BitVec 32 := 3#32
  let v594_r0 : BitVec 32 := Scalar.addi v593_r0 c3_i32_r0
  let c16_i32_167_r0 : BitVec 32 := 16#32
  let v669_r0 : BitVec 32 := Scalar.muli v594_r0 c16_i32_167_r0
  v669_r0
def k0_mult45 (k0_t5 : Fin k0_t5_loop.trips) (k0_t6 : Fin k0_t6_loop.trips) : BitVec 32 :=
  let c0_i32_10_r0 : BitVec 32 := 0#32
  let c1_i32_12_r0 : BitVec 32 := 1#32
  let arg35_r0 : BitVec 32 := Scf.iv c0_i32_10_r0 c1_i32_12_r0 k0_t5
  let c8_i32_33_r0 : BitVec 32 := 8#32
  let v75_r0 : BitVec 32 := Scalar.muli arg35_r0 c8_i32_33_r0
  let c0_i32_19_r0 : BitVec 32 := 0#32
  let c1_i32_20_r0 : BitVec 32 := 1#32
  let arg36_r0 : BitVec 32 := Scf.iv c0_i32_19_r0 c1_i32_20_r0 k0_t6
  let v76_r0 : BitVec 32 := Scalar.addi v75_r0 arg36_r0
  let c4_i32_151_r0 : BitVec 32 := 4#32
  let v593_r0 : BitVec 32 := Scalar.muli v76_r0 c4_i32_151_r0
  let c3_i32_r0 : BitVec 32 := 3#32
  let v594_r0 : BitVec 32 := Scalar.addi v593_r0 c3_i32_r0
  let c256_i32_180_r0 : BitVec 32 := 256#32
  let v739_r0 : BitVec 32 := Scalar.muli v594_r0 c256_i32_180_r0
  v739_r0
def k0_mult46 (k0_t5 : Fin k0_t5_loop.trips) (k0_t6 : Fin k0_t6_loop.trips) : BitVec 32 :=
  let c2_i32_184_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_182_r0 : BitVec 32 := 2#32
  let v744_r0 : BitVec 32 := Scalar.muli arg35_r0 c2_i32_182_r0
  let c0_i32_183_r0 : BitVec 32 := 0#32
  let v745_r0 : BitVec 32 := Scalar.addi v744_r0 c0_i32_183_r0
  let v746_r0 : BitVec 32 := Scalar.muli c2_i32_184_r0 v745_r0
  let c8_i32_187_r0 : BitVec 32 := 8#32
  let v749_r0 : BitVec 32 := Scalar.muli v746_r0 c8_i32_187_r0
  let c0_i32_19_r0 : BitVec 32 := 0#32
  let c1_i32_20_r0 : BitVec 32 := 1#32
  let arg36_r0 : BitVec 32 := Scf.iv c0_i32_19_r0 c1_i32_20_r0 k0_t6
  let v750_r0 : BitVec 32 := Scalar.addi v749_r0 arg36_r0
  let c32_i32_188_r0 : BitVec 32 := 32#32
  let v751_r0 : BitVec 32 := Scalar.muli v750_r0 c32_i32_188_r0
  v751_r0
def k0_mult47 (k0_t5 : Fin k0_t5_loop.trips) (k0_t6 : Fin k0_t6_loop.trips) : BitVec 32 :=
  let c2_i32_184_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_182_r0 : BitVec 32 := 2#32
  let v744_r0 : BitVec 32 := Scalar.muli arg35_r0 c2_i32_182_r0
  let c0_i32_183_r0 : BitVec 32 := 0#32
  let v745_r0 : BitVec 32 := Scalar.addi v744_r0 c0_i32_183_r0
  let v746_r0 : BitVec 32 := Scalar.muli c2_i32_184_r0 v745_r0
  let c8_i32_189_r0 : BitVec 32 := 8#32
  let v753_r0 : BitVec 32 := Scalar.muli v746_r0 c8_i32_189_r0
  let c0_i32_19_r0 : BitVec 32 := 0#32
  let c1_i32_20_r0 : BitVec 32 := 1#32
  let arg36_r0 : BitVec 32 := Scf.iv c0_i32_19_r0 c1_i32_20_r0 k0_t6
  let v754_r0 : BitVec 32 := Scalar.addi v753_r0 arg36_r0
  let c16_i32_190_r0 : BitVec 32 := 16#32
  let v755_r0 : BitVec 32 := Scalar.muli v754_r0 c16_i32_190_r0
  v755_r0
def k0_off24 (k0_t5 : Fin k0_t5_loop.trips) (k0_t6 : Fin k0_t6_loop.trips) (c0_i32_183_r0 : BitVec 32) : Fin 2 → Nat :=
  let c2_i32_184_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_182_r0 : BitVec 32 := 2#32
  let v744_r0 : BitVec 32 := Scalar.muli arg35_r0 c2_i32_182_r0
  let v745_r0 : BitVec 32 := Scalar.addi v744_r0 c0_i32_183_r0
  let v746_r0 : BitVec 32 := Scalar.muli c2_i32_184_r0 v745_r0
  let c8_i32_187_r0 : BitVec 32 := 8#32
  let v749_r0 : BitVec 32 := Scalar.muli v746_r0 c8_i32_187_r0
  let c0_i32_19_r0 : BitVec 32 := 0#32
  let c1_i32_20_r0 : BitVec 32 := 1#32
  let arg36_r0 : BitVec 32 := Scf.iv c0_i32_19_r0 c1_i32_20_r0 k0_t6
  let v750_r0 : BitVec 32 := Scalar.addi v749_r0 arg36_r0
  let c32_i32_188_r0 : BitVec 32 := 32#32
  let v751_r0 : BitVec 32 := Scalar.muli v750_r0 c32_i32_188_r0
  let v752_r0 : BitVec 32 := v751_r0
  let v757_r0 : Index := Scalar.indexCast v752_r0
  let c0_191_r0 : Index := 0#32
  ![v757_r0.toNat, 0]
def k0_off25 (k0_t5 : Fin k0_t5_loop.trips) (k0_t6 : Fin k0_t6_loop.trips) (c0_i32_183_r0 : BitVec 32) (c0_i32_195_r0 : BitVec 32) : Fin 2 → Nat :=
  let c2_i32_184_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_182_r0 : BitVec 32 := 2#32
  let v744_r0 : BitVec 32 := Scalar.muli arg35_r0 c2_i32_182_r0
  let v745_r0 : BitVec 32 := Scalar.addi v744_r0 c0_i32_183_r0
  let v746_r0 : BitVec 32 := Scalar.muli c2_i32_184_r0 v745_r0
  let c8_i32_189_r0 : BitVec 32 := 8#32
  let v753_r0 : BitVec 32 := Scalar.muli v746_r0 c8_i32_189_r0
  let c0_i32_19_r0 : BitVec 32 := 0#32
  let c1_i32_20_r0 : BitVec 32 := 1#32
  let arg36_r0 : BitVec 32 := Scf.iv c0_i32_19_r0 c1_i32_20_r0 k0_t6
  let v754_r0 : BitVec 32 := Scalar.addi v753_r0 arg36_r0
  let c16_i32_190_r0 : BitVec 32 := 16#32
  let v755_r0 : BitVec 32 := Scalar.muli v754_r0 c16_i32_190_r0
  let v756_r0 : BitVec 32 := v755_r0
  let v772_r0 : BitVec 32 := Scalar.addi v756_r0 c0_i32_195_r0
  let v773_r0 : Index := Scalar.indexCast v772_r0
  let c0_196_r0 : Index := 0#32
  ![v773_r0.toNat, 0]
def k0_mult48 (k0_t5 : Fin k0_t5_loop.trips) (k0_t6 : Fin k0_t6_loop.trips) : BitVec 32 :=
  let c2_i32_185_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_182_r0 : BitVec 32 := 2#32
  let v744_r0 : BitVec 32 := Scalar.muli arg35_r0 c2_i32_182_r0
  let c0_i32_183_r0 : BitVec 32 := 0#32
  let v745_r0 : BitVec 32 := Scalar.addi v744_r0 c0_i32_183_r0
  let v747_r0 : BitVec 32 := Scalar.muli c2_i32_185_r0 v745_r0
  let c1_i32_186_r0 : BitVec 32 := 1#32
  let v748_r0 : BitVec 32 := Scalar.addi v747_r0 c1_i32_186_r0
  let c8_i32_203_r0 : BitVec 32 := 8#32
  let v825_r0 : BitVec 32 := Scalar.muli v748_r0 c8_i32_203_r0
  let c0_i32_19_r0 : BitVec 32 := 0#32
  let c1_i32_20_r0 : BitVec 32 := 1#32
  let arg36_r0 : BitVec 32 := Scf.iv c0_i32_19_r0 c1_i32_20_r0 k0_t6
  let v826_r0 : BitVec 32 := Scalar.addi v825_r0 arg36_r0
  let c32_i32_204_r0 : BitVec 32 := 32#32
  let v827_r0 : BitVec 32 := Scalar.muli v826_r0 c32_i32_204_r0
  v827_r0
def k0_mult49 (k0_t5 : Fin k0_t5_loop.trips) (k0_t6 : Fin k0_t6_loop.trips) : BitVec 32 :=
  let c2_i32_185_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_182_r0 : BitVec 32 := 2#32
  let v744_r0 : BitVec 32 := Scalar.muli arg35_r0 c2_i32_182_r0
  let c0_i32_183_r0 : BitVec 32 := 0#32
  let v745_r0 : BitVec 32 := Scalar.addi v744_r0 c0_i32_183_r0
  let v747_r0 : BitVec 32 := Scalar.muli c2_i32_185_r0 v745_r0
  let c1_i32_186_r0 : BitVec 32 := 1#32
  let v748_r0 : BitVec 32 := Scalar.addi v747_r0 c1_i32_186_r0
  let c8_i32_205_r0 : BitVec 32 := 8#32
  let v829_r0 : BitVec 32 := Scalar.muli v748_r0 c8_i32_205_r0
  let c0_i32_19_r0 : BitVec 32 := 0#32
  let c1_i32_20_r0 : BitVec 32 := 1#32
  let arg36_r0 : BitVec 32 := Scf.iv c0_i32_19_r0 c1_i32_20_r0 k0_t6
  let v830_r0 : BitVec 32 := Scalar.addi v829_r0 arg36_r0
  let c16_i32_206_r0 : BitVec 32 := 16#32
  let v831_r0 : BitVec 32 := Scalar.muli v830_r0 c16_i32_206_r0
  v831_r0
def k0_off26 (k0_t5 : Fin k0_t5_loop.trips) (k0_t6 : Fin k0_t6_loop.trips) (c0_i32_183_r0 : BitVec 32) : Fin 2 → Nat :=
  let c2_i32_185_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_182_r0 : BitVec 32 := 2#32
  let v744_r0 : BitVec 32 := Scalar.muli arg35_r0 c2_i32_182_r0
  let v745_r0 : BitVec 32 := Scalar.addi v744_r0 c0_i32_183_r0
  let v747_r0 : BitVec 32 := Scalar.muli c2_i32_185_r0 v745_r0
  let c1_i32_186_r0 : BitVec 32 := 1#32
  let v748_r0 : BitVec 32 := Scalar.addi v747_r0 c1_i32_186_r0
  let c8_i32_203_r0 : BitVec 32 := 8#32
  let v825_r0 : BitVec 32 := Scalar.muli v748_r0 c8_i32_203_r0
  let c0_i32_19_r0 : BitVec 32 := 0#32
  let c1_i32_20_r0 : BitVec 32 := 1#32
  let arg36_r0 : BitVec 32 := Scf.iv c0_i32_19_r0 c1_i32_20_r0 k0_t6
  let v826_r0 : BitVec 32 := Scalar.addi v825_r0 arg36_r0
  let c32_i32_204_r0 : BitVec 32 := 32#32
  let v827_r0 : BitVec 32 := Scalar.muli v826_r0 c32_i32_204_r0
  let v828_r0 : BitVec 32 := v827_r0
  let v833_r0 : Index := Scalar.indexCast v828_r0
  let c0_207_r0 : Index := 0#32
  ![v833_r0.toNat, 0]
def k0_off27 (k0_t5 : Fin k0_t5_loop.trips) (k0_t6 : Fin k0_t6_loop.trips) (c0_i32_183_r0 : BitVec 32) (c0_i32_211_r0 : BitVec 32) : Fin 2 → Nat :=
  let c2_i32_185_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_182_r0 : BitVec 32 := 2#32
  let v744_r0 : BitVec 32 := Scalar.muli arg35_r0 c2_i32_182_r0
  let v745_r0 : BitVec 32 := Scalar.addi v744_r0 c0_i32_183_r0
  let v747_r0 : BitVec 32 := Scalar.muli c2_i32_185_r0 v745_r0
  let c1_i32_186_r0 : BitVec 32 := 1#32
  let v748_r0 : BitVec 32 := Scalar.addi v747_r0 c1_i32_186_r0
  let c8_i32_205_r0 : BitVec 32 := 8#32
  let v829_r0 : BitVec 32 := Scalar.muli v748_r0 c8_i32_205_r0
  let c0_i32_19_r0 : BitVec 32 := 0#32
  let c1_i32_20_r0 : BitVec 32 := 1#32
  let arg36_r0 : BitVec 32 := Scf.iv c0_i32_19_r0 c1_i32_20_r0 k0_t6
  let v830_r0 : BitVec 32 := Scalar.addi v829_r0 arg36_r0
  let c16_i32_206_r0 : BitVec 32 := 16#32
  let v831_r0 : BitVec 32 := Scalar.muli v830_r0 c16_i32_206_r0
  let v832_r0 : BitVec 32 := v831_r0
  let v848_r0 : BitVec 32 := Scalar.addi v832_r0 c0_i32_211_r0
  let v849_r0 : Index := Scalar.indexCast v848_r0
  let c0_212_r0 : Index := 0#32
  ![v849_r0.toNat, 0]
def k0_mult50 (k0_t6 : Fin k0_t6_loop.trips) : BitVec 32 :=
  let c0_i32_19_r0 : BitVec 32 := 0#32
  let c1_i32_20_r0 : BitVec 32 := 1#32
  let arg36_r0 : BitVec 32 := Scf.iv c0_i32_19_r0 c1_i32_20_r0 k0_t6
  let c256_i32_219_r0 : BitVec 32 := 256#32
  let v901_r0 : BitVec 32 := Scalar.muli arg36_r0 c256_i32_219_r0
  v901_r0
def k0_off28 (k0_t6 : Fin k0_t6_loop.trips) : Fin 2 → Nat :=
  let c0_220_r0 : Index := 0#32
  let c0_i32_19_r0 : BitVec 32 := 0#32
  let c1_i32_20_r0 : BitVec 32 := 1#32
  let arg36_r0 : BitVec 32 := Scf.iv c0_i32_19_r0 c1_i32_20_r0 k0_t6
  let c256_i32_219_r0 : BitVec 32 := 256#32
  let v901_r0 : BitVec 32 := Scalar.muli arg36_r0 c256_i32_219_r0
  let v902_r0 : BitVec 32 := v901_r0
  let v903_r0 : Index := Scalar.indexCast v902_r0
  ![0, v903_r0.toNat]
def k0_mult51 (k0_t5 : Fin k0_t5_loop.trips) (k0_t6 : Fin k0_t6_loop.trips) : BitVec 32 :=
  let c2_i32_223_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_221_r0 : BitVec 32 := 2#32
  let v906_r0 : BitVec 32 := Scalar.muli arg35_r0 c2_i32_221_r0
  let c1_i32_222_r0 : BitVec 32 := 1#32
  let v907_r0 : BitVec 32 := Scalar.addi v906_r0 c1_i32_222_r0
  let v908_r0 : BitVec 32 := Scalar.muli c2_i32_223_r0 v907_r0
  let c8_i32_226_r0 : BitVec 32 := 8#32
  let v911_r0 : BitVec 32 := Scalar.muli v908_r0 c8_i32_226_r0
  let c0_i32_19_r0 : BitVec 32 := 0#32
  let c1_i32_20_r0 : BitVec 32 := 1#32
  let arg36_r0 : BitVec 32 := Scf.iv c0_i32_19_r0 c1_i32_20_r0 k0_t6
  let v912_r0 : BitVec 32 := Scalar.addi v911_r0 arg36_r0
  let c32_i32_227_r0 : BitVec 32 := 32#32
  let v913_r0 : BitVec 32 := Scalar.muli v912_r0 c32_i32_227_r0
  v913_r0
def k0_mult52 (k0_t5 : Fin k0_t5_loop.trips) (k0_t6 : Fin k0_t6_loop.trips) : BitVec 32 :=
  let c2_i32_223_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_221_r0 : BitVec 32 := 2#32
  let v906_r0 : BitVec 32 := Scalar.muli arg35_r0 c2_i32_221_r0
  let c1_i32_222_r0 : BitVec 32 := 1#32
  let v907_r0 : BitVec 32 := Scalar.addi v906_r0 c1_i32_222_r0
  let v908_r0 : BitVec 32 := Scalar.muli c2_i32_223_r0 v907_r0
  let c8_i32_228_r0 : BitVec 32 := 8#32
  let v915_r0 : BitVec 32 := Scalar.muli v908_r0 c8_i32_228_r0
  let c0_i32_19_r0 : BitVec 32 := 0#32
  let c1_i32_20_r0 : BitVec 32 := 1#32
  let arg36_r0 : BitVec 32 := Scf.iv c0_i32_19_r0 c1_i32_20_r0 k0_t6
  let v916_r0 : BitVec 32 := Scalar.addi v915_r0 arg36_r0
  let c16_i32_229_r0 : BitVec 32 := 16#32
  let v917_r0 : BitVec 32 := Scalar.muli v916_r0 c16_i32_229_r0
  v917_r0
def k0_mult53 (k0_t5 : Fin k0_t5_loop.trips) (k0_t6 : Fin k0_t6_loop.trips) : BitVec 32 :=
  let c2_i32_224_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_221_r0 : BitVec 32 := 2#32
  let v906_r0 : BitVec 32 := Scalar.muli arg35_r0 c2_i32_221_r0
  let c1_i32_222_r0 : BitVec 32 := 1#32
  let v907_r0 : BitVec 32 := Scalar.addi v906_r0 c1_i32_222_r0
  let v909_r0 : BitVec 32 := Scalar.muli c2_i32_224_r0 v907_r0
  let c1_i32_225_r0 : BitVec 32 := 1#32
  let v910_r0 : BitVec 32 := Scalar.addi v909_r0 c1_i32_225_r0
  let c8_i32_242_r0 : BitVec 32 := 8#32
  let v987_r0 : BitVec 32 := Scalar.muli v910_r0 c8_i32_242_r0
  let c0_i32_19_r0 : BitVec 32 := 0#32
  let c1_i32_20_r0 : BitVec 32 := 1#32
  let arg36_r0 : BitVec 32 := Scf.iv c0_i32_19_r0 c1_i32_20_r0 k0_t6
  let v988_r0 : BitVec 32 := Scalar.addi v987_r0 arg36_r0
  let c32_i32_243_r0 : BitVec 32 := 32#32
  let v989_r0 : BitVec 32 := Scalar.muli v988_r0 c32_i32_243_r0
  v989_r0
def k0_mult54 (k0_t5 : Fin k0_t5_loop.trips) (k0_t6 : Fin k0_t6_loop.trips) : BitVec 32 :=
  let c2_i32_224_r0 : BitVec 32 := 2#32
  let c0_i32_10_r0 : BitVec 32 := 0#32
  let c1_i32_12_r0 : BitVec 32 := 1#32
  let arg35_r0 : BitVec 32 := Scf.iv c0_i32_10_r0 c1_i32_12_r0 k0_t5
  let c2_i32_221_r0 : BitVec 32 := 2#32
  let v906_r0 : BitVec 32 := Scalar.muli arg35_r0 c2_i32_221_r0
  let c1_i32_222_r0 : BitVec 32 := 1#32
  let v907_r0 : BitVec 32 := Scalar.addi v906_r0 c1_i32_222_r0
  let v909_r0 : BitVec 32 := Scalar.muli c2_i32_224_r0 v907_r0
  let c1_i32_225_r0 : BitVec 32 := 1#32
  let v910_r0 : BitVec 32 := Scalar.addi v909_r0 c1_i32_225_r0
  let c8_i32_244_r0 : BitVec 32 := 8#32
  let v991_r0 : BitVec 32 := Scalar.muli v910_r0 c8_i32_244_r0
  let c0_i32_19_r0 : BitVec 32 := 0#32
  let c1_i32_20_r0 : BitVec 32 := 1#32
  let arg36_r0 : BitVec 32 := Scf.iv c0_i32_19_r0 c1_i32_20_r0 k0_t6
  let v992_r0 : BitVec 32 := Scalar.addi v991_r0 arg36_r0
  let c16_i32_245_r0 : BitVec 32 := 16#32
  let v993_r0 : BitVec 32 := Scalar.muli v992_r0 c16_i32_245_r0
  v993_r0
def k0_mult55 (k0_t6 : Fin k0_t6_loop.trips) : BitVec 32 :=
  let c0_i32_19_r0 : BitVec 32 := 0#32
  let c1_i32_20_r0 : BitVec 32 := 1#32
  let arg36_r0 : BitVec 32 := Scf.iv c0_i32_19_r0 c1_i32_20_r0 k0_t6
  let c256_i32_258_r0 : BitVec 32 := 256#32
  let v1063_r0 : BitVec 32 := Scalar.muli arg36_r0 c256_i32_258_r0
  v1063_r0
def k0_off29 (k0_t5 : Fin k0_t5_loop.trips) (c0_i32_23_r0 : BitVec 32) : Fin 3 → Nat :=
  let c0_i32_10_r0 : BitVec 32 := 0#32
  let c1_i32_12_r0 : BitVec 32 := 1#32
  let arg35_r0 : BitVec 32 := Scf.iv c0_i32_10_r0 c1_i32_12_r0 k0_t5
  let c2_i32_22_r0 : BitVec 32 := 2#32
  let v53_r0 : BitVec 32 := Scalar.muli arg35_r0 c2_i32_22_r0
  let v54_r0 : BitVec 32 := Scalar.addi v53_r0 c0_i32_23_r0
  let v55_r0 : Index := Scalar.indexCast v54_r0
  let c0_r0 : Index := 0#32
  let c0_24_r0 : Index := 0#32
  ![v55_r0.toNat, 0, 0]
@[reducible] def k0_t8_loop : Scf.Loop 32 :=
  let c0_i32_15_r0 : BitVec 32 := 0#32
  let c4_i32_r0 : BitVec 32 := 4#32
  let v51_r0 : BitVec 32 := Scalar.addi c0_i32_15_r0 c4_i32_r0
  let c1_i32_16_r0 : BitVec 32 := 1#32
  ⟨c0_i32_15_r0, v51_r0, c1_i32_16_r0⟩
def k0_mult56 (i : grid0.Coords) (k0_t8 : Fin k0_t8_loop.trips) : BitVec 32 :=
  let c2_i32_r0 : BitVec 32 := 2#32
  let arg0 : BitVec 32 := BitVec.ofNat 32 (i 0).val
  let v17_r0 : BitVec 32 := Scalar.muli c2_i32_r0 arg0
  let c1_i32_r0 : BitVec 32 := 1#32
  let v18_r0 : BitVec 32 := Scalar.subi v17_r0 c1_i32_r0
  let c4_i32_40_r0 : BitVec 32 := 4#32
  let v139_r0 : BitVec 32 := Scalar.muli v18_r0 c4_i32_40_r0
  let c0_i32_15_r0 : BitVec 32 := 0#32
  let c1_i32_16_r0 : BitVec 32 := 1#32
  let arg35_r0 : BitVec 32 := Scf.iv c0_i32_15_r0 c1_i32_16_r0 k0_t8
  let v140_r0 : BitVec 32 := Scalar.addi v139_r0 arg35_r0
  let c128_i32_41_r0 : BitVec 32 := 128#32
  let v141_r0 : BitVec 32 := Scalar.muli v140_r0 c128_i32_41_r0
  v141_r0
def k0_off30 (i : grid0.Coords) (k0_t8 : Fin k0_t8_loop.trips) : Fin 2 → Nat :=
  let c0_r0 : Index := 0#32
  let c2_i32_r0 : BitVec 32 := 2#32
  let arg0 : BitVec 32 := BitVec.ofNat 32 (i 0).val
  let v17_r0 : BitVec 32 := Scalar.muli c2_i32_r0 arg0
  let c1_i32_r0 : BitVec 32 := 1#32
  let v18_r0 : BitVec 32 := Scalar.subi v17_r0 c1_i32_r0
  let c4_i32_40_r0 : BitVec 32 := 4#32
  let v139_r0 : BitVec 32 := Scalar.muli v18_r0 c4_i32_40_r0
  let c0_i32_15_r0 : BitVec 32 := 0#32
  let c1_i32_16_r0 : BitVec 32 := 1#32
  let arg35_r0 : BitVec 32 := Scf.iv c0_i32_15_r0 c1_i32_16_r0 k0_t8
  let v140_r0 : BitVec 32 := Scalar.addi v139_r0 arg35_r0
  let c128_i32_41_r0 : BitVec 32 := 128#32
  let v141_r0 : BitVec 32 := Scalar.muli v140_r0 c128_i32_41_r0
  let v142_r0 : BitVec 32 := v141_r0
  let v143_r0 : Index := Scalar.indexCast v142_r0
  ![0, v143_r0.toNat]
def k0_mult57 (k0_t8 : Fin k0_t8_loop.trips) : BitVec 32 :=
  let c0_i32_15_r0 : BitVec 32 := 0#32
  let c1_i32_16_r0 : BitVec 32 := 1#32
  let arg35_r0 : BitVec 32 := Scf.iv c0_i32_15_r0 c1_i32_16_r0 k0_t8
  let c512_i32_r0 : BitVec 32 := 512#32
  let v145_r0 : BitVec 32 := Scalar.muli arg35_r0 c512_i32_r0
  v145_r0
@[reducible] def k0_t9_loop : Scf.Loop 32 :=
  let c0_i32_56_r0 : BitVec 32 := 0#32
  let c4_i32_57_r0 : BitVec 32 := 4#32
  let v188_r0 : BitVec 32 := Scalar.addi c0_i32_56_r0 c4_i32_57_r0
  let c1_i32_58_r0 : BitVec 32 := 1#32
  ⟨c0_i32_56_r0, v188_r0, c1_i32_58_r0⟩
def k0_mult58 (k0_t8 : Fin k0_t8_loop.trips) (k0_t9 : Fin k0_t9_loop.trips) : BitVec 32 :=
  let c0_i32_15_r0 : BitVec 32 := 0#32
  let c1_i32_16_r0 : BitVec 32 := 1#32
  let arg35_r0 : BitVec 32 := Scf.iv c0_i32_15_r0 c1_i32_16_r0 k0_t8
  let c512_i32_r0 : BitVec 32 := 512#32
  let v145_r0 : BitVec 32 := Scalar.muli arg35_r0 c512_i32_r0
  let v146_r0 : BitVec 32 := v145_r0
  let c0_i32_56_r0 : BitVec 32 := 0#32
  let c1_i32_58_r0 : BitVec 32 := 1#32
  let arg36_r0 : BitVec 32 := Scf.iv c0_i32_56_r0 c1_i32_58_r0 k0_t9
  let c128_i32_76_r0 : BitVec 32 := 128#32
  let v248_r0 : BitVec 32 := Scalar.muli arg36_r0 c128_i32_76_r0
  let v249_r0 : BitVec 32 := Scalar.addi v146_r0 v248_r0
  v249_r0
def k0_off31 (k0_t8 : Fin k0_t8_loop.trips) (k0_t9 : Fin k0_t9_loop.trips) : Fin 2 → Nat :=
  let c0_77_r0 : Index := 0#32
  let c0_i32_15_r0 : BitVec 32 := 0#32
  let c1_i32_16_r0 : BitVec 32 := 1#32
  let arg35_r0 : BitVec 32 := Scf.iv c0_i32_15_r0 c1_i32_16_r0 k0_t8
  let c512_i32_r0 : BitVec 32 := 512#32
  let v145_r0 : BitVec 32 := Scalar.muli arg35_r0 c512_i32_r0
  let v146_r0 : BitVec 32 := v145_r0
  let c0_i32_56_r0 : BitVec 32 := 0#32
  let c1_i32_58_r0 : BitVec 32 := 1#32
  let arg36_r0 : BitVec 32 := Scf.iv c0_i32_56_r0 c1_i32_58_r0 k0_t9
  let c128_i32_76_r0 : BitVec 32 := 128#32
  let v248_r0 : BitVec 32 := Scalar.muli arg36_r0 c128_i32_76_r0
  let v249_r0 : BitVec 32 := Scalar.addi v146_r0 v248_r0
  let v250_r0 : BitVec 32 := v249_r0
  let v251_r0 : Index := Scalar.indexCast v250_r0
  ![0, v251_r0.toNat]
def k0_mult59 (k0_t8 : Fin k0_t8_loop.trips) (k0_t9 : Fin k0_t9_loop.trips) : BitVec 32 :=
  let c0_i32_15_r0 : BitVec 32 := 0#32
  let c1_i32_16_r0 : BitVec 32 := 1#32
  let arg35_r0 : BitVec 32 := Scf.iv c0_i32_15_r0 c1_i32_16_r0 k0_t8
  let c512_i32_r0 : BitVec 32 := 512#32
  let v145_r0 : BitVec 32 := Scalar.muli arg35_r0 c512_i32_r0
  let v146_r0 : BitVec 32 := v145_r0
  let c0_i32_56_r0 : BitVec 32 := 0#32
  let c1_i32_58_r0 : BitVec 32 := 1#32
  let arg36_r0 : BitVec 32 := Scf.iv c0_i32_56_r0 c1_i32_58_r0 k0_t9
  let c128_i32_80_r0 : BitVec 32 := 128#32
  let v260_r0 : BitVec 32 := Scalar.muli arg36_r0 c128_i32_80_r0
  let v261_r0 : BitVec 32 := Scalar.addi v146_r0 v260_r0
  v261_r0
def k0_off32 (k0_t8 : Fin k0_t8_loop.trips) (k0_t9 : Fin k0_t9_loop.trips) : Fin 2 → Nat :=
  let c16_r0 : Index := 16#32
  let c0_i32_15_r0 : BitVec 32 := 0#32
  let c1_i32_16_r0 : BitVec 32 := 1#32
  let arg35_r0 : BitVec 32 := Scf.iv c0_i32_15_r0 c1_i32_16_r0 k0_t8
  let c512_i32_r0 : BitVec 32 := 512#32
  let v145_r0 : BitVec 32 := Scalar.muli arg35_r0 c512_i32_r0
  let v146_r0 : BitVec 32 := v145_r0
  let c0_i32_56_r0 : BitVec 32 := 0#32
  let c1_i32_58_r0 : BitVec 32 := 1#32
  let arg36_r0 : BitVec 32 := Scf.iv c0_i32_56_r0 c1_i32_58_r0 k0_t9
  let c128_i32_80_r0 : BitVec 32 := 128#32
  let v260_r0 : BitVec 32 := Scalar.muli arg36_r0 c128_i32_80_r0
  let v261_r0 : BitVec 32 := Scalar.addi v146_r0 v260_r0
  let v262_r0 : BitVec 32 := v261_r0
  let v263_r0 : Index := Scalar.indexCast v262_r0
  ![16, v263_r0.toNat]
def k0_mult60 (k0_t8 : Fin k0_t8_loop.trips) (k0_t9 : Fin k0_t9_loop.trips) : BitVec 32 :=
  let c0_i32_15_r0 : BitVec 32 := 0#32
  let c1_i32_16_r0 : BitVec 32 := 1#32
  let arg35_r0 : BitVec 32 := Scf.iv c0_i32_15_r0 c1_i32_16_r0 k0_t8
  let c512_i32_r0 : BitVec 32 := 512#32
  let v145_r0 : BitVec 32 := Scalar.muli arg35_r0 c512_i32_r0
  let v146_r0 : BitVec 32 := v145_r0
  let c0_i32_56_r0 : BitVec 32 := 0#32
  let c1_i32_58_r0 : BitVec 32 := 1#32
  let arg36_r0 : BitVec 32 := Scf.iv c0_i32_56_r0 c1_i32_58_r0 k0_t9
  let c128_i32_83_r0 : BitVec 32 := 128#32
  let v272_r0 : BitVec 32 := Scalar.muli arg36_r0 c128_i32_83_r0
  let v273_r0 : BitVec 32 := Scalar.addi v146_r0 v272_r0
  v273_r0
def k0_off33 (k0_t8 : Fin k0_t8_loop.trips) (k0_t9 : Fin k0_t9_loop.trips) : Fin 2 → Nat :=
  let c32_r0 : Index := 32#32
  let c0_i32_15_r0 : BitVec 32 := 0#32
  let c1_i32_16_r0 : BitVec 32 := 1#32
  let arg35_r0 : BitVec 32 := Scf.iv c0_i32_15_r0 c1_i32_16_r0 k0_t8
  let c512_i32_r0 : BitVec 32 := 512#32
  let v145_r0 : BitVec 32 := Scalar.muli arg35_r0 c512_i32_r0
  let v146_r0 : BitVec 32 := v145_r0
  let c0_i32_56_r0 : BitVec 32 := 0#32
  let c1_i32_58_r0 : BitVec 32 := 1#32
  let arg36_r0 : BitVec 32 := Scf.iv c0_i32_56_r0 c1_i32_58_r0 k0_t9
  let c128_i32_83_r0 : BitVec 32 := 128#32
  let v272_r0 : BitVec 32 := Scalar.muli arg36_r0 c128_i32_83_r0
  let v273_r0 : BitVec 32 := Scalar.addi v146_r0 v272_r0
  let v274_r0 : BitVec 32 := v273_r0
  let v275_r0 : Index := Scalar.indexCast v274_r0
  ![32, v275_r0.toNat]
def k0_mult61 (k0_t8 : Fin k0_t8_loop.trips) (k0_t9 : Fin k0_t9_loop.trips) : BitVec 32 :=
  let c0_i32_15_r0 : BitVec 32 := 0#32
  let c1_i32_16_r0 : BitVec 32 := 1#32
  let arg35_r0 : BitVec 32 := Scf.iv c0_i32_15_r0 c1_i32_16_r0 k0_t8
  let c512_i32_r0 : BitVec 32 := 512#32
  let v145_r0 : BitVec 32 := Scalar.muli arg35_r0 c512_i32_r0
  let v146_r0 : BitVec 32 := v145_r0
  let c0_i32_56_r0 : BitVec 32 := 0#32
  let c1_i32_58_r0 : BitVec 32 := 1#32
  let arg36_r0 : BitVec 32 := Scf.iv c0_i32_56_r0 c1_i32_58_r0 k0_t9
  let c128_i32_86_r0 : BitVec 32 := 128#32
  let v284_r0 : BitVec 32 := Scalar.muli arg36_r0 c128_i32_86_r0
  let v285_r0 : BitVec 32 := Scalar.addi v146_r0 v284_r0
  v285_r0
def k0_off34 (k0_t8 : Fin k0_t8_loop.trips) (k0_t9 : Fin k0_t9_loop.trips) : Fin 2 → Nat :=
  let c48_r0 : Index := 48#32
  let c0_i32_15_r0 : BitVec 32 := 0#32
  let c1_i32_16_r0 : BitVec 32 := 1#32
  let arg35_r0 : BitVec 32 := Scf.iv c0_i32_15_r0 c1_i32_16_r0 k0_t8
  let c512_i32_r0 : BitVec 32 := 512#32
  let v145_r0 : BitVec 32 := Scalar.muli arg35_r0 c512_i32_r0
  let v146_r0 : BitVec 32 := v145_r0
  let c0_i32_56_r0 : BitVec 32 := 0#32
  let c1_i32_58_r0 : BitVec 32 := 1#32
  let arg36_r0 : BitVec 32 := Scf.iv c0_i32_56_r0 c1_i32_58_r0 k0_t9
  let c128_i32_86_r0 : BitVec 32 := 128#32
  let v284_r0 : BitVec 32 := Scalar.muli arg36_r0 c128_i32_86_r0
  let v285_r0 : BitVec 32 := Scalar.addi v146_r0 v284_r0
  let v286_r0 : BitVec 32 := v285_r0
  let v287_r0 : Index := Scalar.indexCast v286_r0
  ![48, v287_r0.toNat]
def k0_cond8 (i : grid0.Coords) : BitVec 1 :=
  let arg0 : BitVec 32 := BitVec.ofNat 32 (i 0).val
  let c0_i32_3_r0 : BitVec 32 := 0#32
  let v6_r0 : BitVec 1 := Scalar.cmpi .eq arg0 c0_i32_3_r0
  let v7_r0 : BitVec 32 := Scalar.extui v6_r0
  let c0_i32_4_r0 : BitVec 32 := 0#32
  let v8_r0 : BitVec 1 := Scalar.cmpi .ne v7_r0 c0_i32_4_r0
  v8_r0

@[reducible] def k0_t10_loop : Scf.Loop 32 :=
  let c0_i32_10_r0 : BitVec 32 := 0#32
  let c2_i32_r0 : BitVec 32 := 2#32
  let v17_r0 : BitVec 32 := Scalar.addi c0_i32_10_r0 c2_i32_r0
  let c1_i32_r0 : BitVec 32 := 1#32
  ⟨c0_i32_10_r0, v17_r0, c1_i32_r0⟩
@[reducible] def k0_t11_loop : Scf.Loop 32 :=
  let c0_i32_17_r0 : BitVec 32 := 0#32
  let c8_i32_r0 : BitVec 32 := 8#32
  let v50_r0 : BitVec 32 := Scalar.addi c0_i32_17_r0 c8_i32_r0
  let c1_i32_18_r0 : BitVec 32 := 1#32
  ⟨c0_i32_17_r0, v50_r0, c1_i32_18_r0⟩
def k0_mult62 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c128_i32_r0 : BitVec 32 := 128#32
  let v53_r0 : BitVec 32 := Scalar.muli v52_r0 c128_i32_r0
  v53_r0
def k0_off35 (k0_t10 : Fin k0_t10_loop.trips) (k0_t11 : Fin k0_t11_loop.trips) : Fin 2 → Nat :=
  let c512_r0 : Index := 512#32
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c128_i32_r0 : BitVec 32 := 128#32
  let v53_r0 : BitVec 32 := Scalar.muli v52_r0 c128_i32_r0
  let v54_r0 : BitVec 32 := v53_r0
  let v55_r0 : Index := Scalar.indexCast v54_r0
  ![512, v55_r0.toNat]
def k0_mult63 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c128_i32_21_r0 : BitVec 32 := 128#32
  let v61_r0 : BitVec 32 := Scalar.muli v52_r0 c128_i32_21_r0
  v61_r0
def k0_off36 (k0_t10 : Fin k0_t10_loop.trips) (k0_t11 : Fin k0_t11_loop.trips) : Fin 2 → Nat :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c128_i32_21_r0 : BitVec 32 := 128#32
  let v61_r0 : BitVec 32 := Scalar.muli v52_r0 c128_i32_21_r0
  let v62_r0 : BitVec 32 := v61_r0
  let v63_r0 : Index := Scalar.indexCast v62_r0
  let c0_r0 : Index := 0#32
  ![v63_r0.toNat, 0]
def k0_mult64 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c128_i32_22_r0 : BitVec 32 := 128#32
  let v67_r0 : BitVec 32 := Scalar.muli v52_r0 c128_i32_22_r0
  v67_r0
def k0_mult65 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c128_i32_25_r0 : BitVec 32 := 128#32
  let v75_r0 : BitVec 32 := Scalar.muli v52_r0 c128_i32_25_r0
  v75_r0
def k0_cond9 (k0_t10 : Fin k0_t10_loop.trips) (k0_t11 : Fin k0_t11_loop.trips) : BitVec 1 :=
  let c0_i32_17_r0 : BitVec 32 := 0#32
  let c1_i32_18_r0 : BitVec 32 := 1#32
  let arg36_r0 : BitVec 32 := Scf.iv c0_i32_17_r0 c1_i32_18_r0 k0_t11
  let c1_i32_27_r0 : BitVec 32 := 1#32
  let v81_r0 : BitVec 32 := Scalar.andi arg36_r0 c1_i32_27_r0
  let c2_i32_28_r0 : BitVec 32 := 2#32
  let c0_i32_10_r0 : BitVec 32 := 0#32
  let c1_i32_r0 : BitVec 32 := 1#32
  let arg35_r0 : BitVec 32 := Scf.iv c0_i32_10_r0 c1_i32_r0 k0_t10
  let v82_r0 : BitVec 32 := Scalar.muli c2_i32_28_r0 arg35_r0
  let v83_r0 : BitVec 32 := Scalar.addi v81_r0 v82_r0
  let c0_i32_29_r0 : BitVec 32 := 0#32
  let v84_r0 : BitVec 1 := Scalar.cmpi .eq v83_r0 c0_i32_29_r0
  let v85_r0 : BitVec 32 := Scalar.extui v84_r0
  let c0_i32_30_r0 : BitVec 32 := 0#32
  let v86_r0 : BitVec 1 := Scalar.cmpi .ne v85_r0 c0_i32_30_r0
  v86_r0

def k0_off37 (k0_t11 : Fin k0_t11_loop.trips) : Fin 2 → Nat :=
  let c512_i32_168_r0 : BitVec 32 := 512#32
  let c0_i32_17_r0 : BitVec 32 := 0#32
  let c1_i32_18_r0 : BitVec 32 := 1#32
  let arg36_r0 : BitVec 32 := Scf.iv c0_i32_17_r0 c1_i32_18_r0 k0_t11
  let c1_i32_167_r0 : BitVec 32 := 1#32
  let v720_r0 : BitVec 32 := Scalar.shrsi arg36_r0 c1_i32_167_r0
  let v721_r0 : BitVec 32 := Scalar.addi c512_i32_168_r0 v720_r0
  let v722_r0 : Index := Scalar.indexCast v721_r0
  let c0_169_r0 : Index := 0#32
  ![v722_r0.toNat, 0]
def k0_off38 (k0_t11 : Fin k0_t11_loop.trips) (c0_i32_172_r0 : BitVec 32) : Fin 2 → Nat :=
  let c0_i32_171_r0 : BitVec 32 := 0#32
  let c0_i32_17_r0 : BitVec 32 := 0#32
  let c1_i32_18_r0 : BitVec 32 := 1#32
  let arg36_r0 : BitVec 32 := Scf.iv c0_i32_17_r0 c1_i32_18_r0 k0_t11
  let c1_i32_167_r0 : BitVec 32 := 1#32
  let v720_r0 : BitVec 32 := Scalar.shrsi arg36_r0 c1_i32_167_r0
  let v736_r0 : BitVec 32 := Scalar.addi c0_i32_171_r0 v720_r0
  let v737_r0 : BitVec 32 := Scalar.addi v736_r0 c0_i32_172_r0
  let v738_r0 : Index := Scalar.indexCast v737_r0
  let c0_173_r0 : Index := 0#32
  ![v738_r0.toNat, 0]
def k0_cond10 (k0_t10 : Fin k0_t10_loop.trips) (k0_t11 : Fin k0_t11_loop.trips) : BitVec 1 :=
  let c0_i32_17_r0 : BitVec 32 := 0#32
  let c1_i32_18_r0 : BitVec 32 := 1#32
  let arg36_r0 : BitVec 32 := Scf.iv c0_i32_17_r0 c1_i32_18_r0 k0_t11
  let c1_i32_31_r0 : BitVec 32 := 1#32
  let v87_r0 : BitVec 32 := Scalar.andi arg36_r0 c1_i32_31_r0
  let c2_i32_32_r0 : BitVec 32 := 2#32
  let c0_i32_10_r0 : BitVec 32 := 0#32
  let c1_i32_r0 : BitVec 32 := 1#32
  let arg35_r0 : BitVec 32 := Scf.iv c0_i32_10_r0 c1_i32_r0 k0_t10
  let v88_r0 : BitVec 32 := Scalar.muli c2_i32_32_r0 arg35_r0
  let v89_r0 : BitVec 32 := Scalar.addi v87_r0 v88_r0
  let c2_i32_33_r0 : BitVec 32 := 2#32
  let v90_r0 : BitVec 1 := Scalar.cmpi .eq v89_r0 c2_i32_33_r0
  let v91_r0 : BitVec 32 := Scalar.extui v90_r0
  let c0_i32_34_r0 : BitVec 32 := 0#32
  let v92_r0 : BitVec 1 := Scalar.cmpi .ne v91_r0 c0_i32_34_r0
  v92_r0

def k0_off39 (k0_t11 : Fin k0_t11_loop.trips) : Fin 2 → Nat :=
  let c512_i32_168_r0 : BitVec 32 := 512#32
  let c0_i32_17_r0 : BitVec 32 := 0#32
  let c1_i32_18_r0 : BitVec 32 := 1#32
  let arg36_r0 : BitVec 32 := Scf.iv c0_i32_17_r0 c1_i32_18_r0 k0_t11
  let c1_i32_167_r0 : BitVec 32 := 1#32
  let v720_r0 : BitVec 32 := Scalar.shrsi arg36_r0 c1_i32_167_r0
  let v721_r0 : BitVec 32 := Scalar.addi c512_i32_168_r0 v720_r0
  let v722_r0 : Index := Scalar.indexCast v721_r0
  let c0_169_r0 : Index := 0#32
  ![v722_r0.toNat, 0]
def k0_off40 (k0_t11 : Fin k0_t11_loop.trips) (c0_i32_172_r0 : BitVec 32) : Fin 2 → Nat :=
  let c0_i32_171_r0 : BitVec 32 := 0#32
  let c0_i32_17_r0 : BitVec 32 := 0#32
  let c1_i32_18_r0 : BitVec 32 := 1#32
  let arg36_r0 : BitVec 32 := Scf.iv c0_i32_17_r0 c1_i32_18_r0 k0_t11
  let c1_i32_167_r0 : BitVec 32 := 1#32
  let v720_r0 : BitVec 32 := Scalar.shrsi arg36_r0 c1_i32_167_r0
  let v736_r0 : BitVec 32 := Scalar.addi c0_i32_171_r0 v720_r0
  let v737_r0 : BitVec 32 := Scalar.addi v736_r0 c0_i32_172_r0
  let v738_r0 : Index := Scalar.indexCast v737_r0
  let c0_173_r0 : Index := 0#32
  ![v738_r0.toNat, 0]
def k0_mult66 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c1_i32_35_r0 : BitVec 32 := 1#32
  let v93_r0 : BitVec 32 := Scalar.shrsi v52_r0 c1_i32_35_r0
  let c512_i32_r0 : BitVec 32 := 512#32
  let v95_r0 : BitVec 32 := Scalar.muli v93_r0 c512_i32_r0
  v95_r0
def k0_mult67 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c1_i32_36_r0 : BitVec 32 := 1#32
  let v94_r0 : BitVec 32 := Scalar.andi v52_r0 c1_i32_36_r0
  let c128_i32_37_r0 : BitVec 32 := 128#32
  let v97_r0 : BitVec 32 := Scalar.muli v94_r0 c128_i32_37_r0
  v97_r0
def k0_off41 (k0_t10 : Fin k0_t10_loop.trips) (k0_t11 : Fin k0_t11_loop.trips) : Fin 2 → Nat :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c1_i32_35_r0 : BitVec 32 := 1#32
  let v93_r0 : BitVec 32 := Scalar.shrsi v52_r0 c1_i32_35_r0
  let c512_i32_r0 : BitVec 32 := 512#32
  let v95_r0 : BitVec 32 := Scalar.muli v93_r0 c512_i32_r0
  let v96_r0 : BitVec 32 := v95_r0
  let v99_r0 : Index := Scalar.indexCast v96_r0
  let c1_i32_36_r0 : BitVec 32 := 1#32
  let v94_r0 : BitVec 32 := Scalar.andi v52_r0 c1_i32_36_r0
  let c128_i32_37_r0 : BitVec 32 := 128#32
  let v97_r0 : BitVec 32 := Scalar.muli v94_r0 c128_i32_37_r0
  let v98_r0 : BitVec 32 := v97_r0
  let v100_r0 : Index := Scalar.indexCast v98_r0
  ![v99_r0.toNat, v100_r0.toNat]
def k0_mult68 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c128_i32_39_r0 : BitVec 32 := 128#32
  let v106_r0 : BitVec 32 := Scalar.muli v52_r0 c128_i32_39_r0
  v106_r0
def k0_cond11 (k0_t11 : Fin k0_t11_loop.trips) : BitVec 1 :=
  let c0_i32_17_r0 : BitVec 32 := 0#32
  let c1_i32_18_r0 : BitVec 32 := 1#32
  let arg36_r0 : BitVec 32 := Scf.iv c0_i32_17_r0 c1_i32_18_r0 k0_t11
  let c1_i32_41_r0 : BitVec 32 := 1#32
  let v112_r0 : BitVec 32 := Scalar.andi arg36_r0 c1_i32_41_r0
  let c1_i32_42_r0 : BitVec 32 := 1#32
  let v113_r0 : BitVec 1 := Scalar.cmpi .eq v112_r0 c1_i32_42_r0
  let v114_r0 : BitVec 32 := Scalar.extui v113_r0
  let c0_i32_43_r0 : BitVec 32 := 0#32
  let v115_r0 : BitVec 1 := Scalar.cmpi .ne v114_r0 c0_i32_43_r0
  v115_r0

@[reducible] def k0_t12_loop : Scf.Loop 32 :=
  let c0_i32_176_r0 : BitVec 32 := 0#32
  let c8_i32_177_r0 : BitVec 32 := 8#32
  let v746_r0 : BitVec 32 := Scalar.addi c0_i32_176_r0 c8_i32_177_r0
  let c1_i32_178_r0 : BitVec 32 := 1#32
  ⟨c0_i32_176_r0, v746_r0, c1_i32_178_r0⟩
def k0_mult69 (k0_t12 : Fin k0_t12_loop.trips) : BitVec 32 :=
  let c0_i32_176_r0 : BitVec 32 := 0#32
  let c1_i32_178_r0 : BitVec 32 := 1#32
  let arg37_r0 : BitVec 32 := Scf.iv c0_i32_176_r0 c1_i32_178_r0 k0_t12
  let c2_i32_180_r0 : BitVec 32 := 2#32
  let v747_r0 : BitVec 32 := Scalar.shrsi arg37_r0 c2_i32_180_r0
  let c8_i32_182_r0 : BitVec 32 := 8#32
  let v749_r0 : BitVec 32 := Scalar.muli v747_r0 c8_i32_182_r0
  v749_r0
def k0_mult70 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c1_i32_167_r0 : BitVec 32 := 1#32
  let v720_r0 : BitVec 32 := Scalar.shrsi v52_r0 c1_i32_167_r0
  let c4_i32_183_r0 : BitVec 32 := 4#32
  let v751_r0 : BitVec 32 := Scalar.muli v720_r0 c4_i32_183_r0
  let c0_i32_184_r0 : BitVec 32 := 0#32
  let v752_r0 : BitVec 32 := Scalar.addi v751_r0 c0_i32_184_r0
  let c128_i32_185_r0 : BitVec 32 := 128#32
  let v753_r0 : BitVec 32 := Scalar.muli v752_r0 c128_i32_185_r0
  v753_r0
def k0_off42 (k0_t10 : Fin k0_t10_loop.trips) (k0_t11 : Fin k0_t11_loop.trips) (k0_t12 : Fin k0_t12_loop.trips) (c0_i32_184_r0 : BitVec 32) : Fin 2 → Nat :=
  let c0_i32_176_r0 : BitVec 32 := 0#32
  let c1_i32_178_r0 : BitVec 32 := 1#32
  let arg37_r0 : BitVec 32 := Scf.iv c0_i32_176_r0 c1_i32_178_r0 k0_t12
  let c2_i32_180_r0 : BitVec 32 := 2#32
  let v747_r0 : BitVec 32 := Scalar.shrsi arg37_r0 c2_i32_180_r0
  let c8_i32_182_r0 : BitVec 32 := 8#32
  let v749_r0 : BitVec 32 := Scalar.muli v747_r0 c8_i32_182_r0
  let v750_r0 : BitVec 32 := v749_r0
  let v755_r0 : Index := Scalar.indexCast v750_r0
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c1_i32_167_r0 : BitVec 32 := 1#32
  let v720_r0 : BitVec 32 := Scalar.shrsi v52_r0 c1_i32_167_r0
  let c4_i32_183_r0 : BitVec 32 := 4#32
  let v751_r0 : BitVec 32 := Scalar.muli v720_r0 c4_i32_183_r0
  let v752_r0 : BitVec 32 := Scalar.addi v751_r0 c0_i32_184_r0
  let c128_i32_185_r0 : BitVec 32 := 128#32
  let v753_r0 : BitVec 32 := Scalar.muli v752_r0 c128_i32_185_r0
  let v754_r0 : BitVec 32 := v753_r0
  let v756_r0 : Index := Scalar.indexCast v754_r0
  ![v755_r0.toNat, v756_r0.toNat]
def k0_mult71 (k0_t12 : Fin k0_t12_loop.trips) : BitVec 32 :=
  let c0_i32_176_r0 : BitVec 32 := 0#32
  let c1_i32_178_r0 : BitVec 32 := 1#32
  let arg37_r0 : BitVec 32 := Scf.iv c0_i32_176_r0 c1_i32_178_r0 k0_t12
  let c2_i32_180_r0 : BitVec 32 := 2#32
  let v747_r0 : BitVec 32 := Scalar.shrsi arg37_r0 c2_i32_180_r0
  let c8_i32_186_r0 : BitVec 32 := 8#32
  let v759_r0 : BitVec 32 := Scalar.muli v747_r0 c8_i32_186_r0
  v759_r0
def k0_mult72 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c1_i32_167_r0 : BitVec 32 := 1#32
  let v720_r0 : BitVec 32 := Scalar.shrsi v52_r0 c1_i32_167_r0
  let c4_i32_187_r0 : BitVec 32 := 4#32
  let v761_r0 : BitVec 32 := Scalar.muli v720_r0 c4_i32_187_r0
  let c1_i32_188_r0 : BitVec 32 := 1#32
  let v762_r0 : BitVec 32 := Scalar.addi v761_r0 c1_i32_188_r0
  let c128_i32_189_r0 : BitVec 32 := 128#32
  let v763_r0 : BitVec 32 := Scalar.muli v762_r0 c128_i32_189_r0
  v763_r0
def k0_mult73 (k0_t12 : Fin k0_t12_loop.trips) : BitVec 32 :=
  let c0_i32_176_r0 : BitVec 32 := 0#32
  let c1_i32_178_r0 : BitVec 32 := 1#32
  let arg37_r0 : BitVec 32 := Scf.iv c0_i32_176_r0 c1_i32_178_r0 k0_t12
  let c2_i32_180_r0 : BitVec 32 := 2#32
  let v747_r0 : BitVec 32 := Scalar.shrsi arg37_r0 c2_i32_180_r0
  let c8_i32_190_r0 : BitVec 32 := 8#32
  let v769_r0 : BitVec 32 := Scalar.muli v747_r0 c8_i32_190_r0
  v769_r0
def k0_mult74 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c1_i32_167_r0 : BitVec 32 := 1#32
  let v720_r0 : BitVec 32 := Scalar.shrsi v52_r0 c1_i32_167_r0
  let c4_i32_191_r0 : BitVec 32 := 4#32
  let v771_r0 : BitVec 32 := Scalar.muli v720_r0 c4_i32_191_r0
  let c2_i32_192_r0 : BitVec 32 := 2#32
  let v772_r0 : BitVec 32 := Scalar.addi v771_r0 c2_i32_192_r0
  let c128_i32_193_r0 : BitVec 32 := 128#32
  let v773_r0 : BitVec 32 := Scalar.muli v772_r0 c128_i32_193_r0
  v773_r0
def k0_mult75 (k0_t12 : Fin k0_t12_loop.trips) : BitVec 32 :=
  let c0_i32_176_r0 : BitVec 32 := 0#32
  let c1_i32_178_r0 : BitVec 32 := 1#32
  let arg37_r0 : BitVec 32 := Scf.iv c0_i32_176_r0 c1_i32_178_r0 k0_t12
  let c2_i32_180_r0 : BitVec 32 := 2#32
  let v747_r0 : BitVec 32 := Scalar.shrsi arg37_r0 c2_i32_180_r0
  let c8_i32_194_r0 : BitVec 32 := 8#32
  let v779_r0 : BitVec 32 := Scalar.muli v747_r0 c8_i32_194_r0
  v779_r0
def k0_mult76 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c1_i32_167_r0 : BitVec 32 := 1#32
  let v720_r0 : BitVec 32 := Scalar.shrsi v52_r0 c1_i32_167_r0
  let c4_i32_195_r0 : BitVec 32 := 4#32
  let v781_r0 : BitVec 32 := Scalar.muli v720_r0 c4_i32_195_r0
  let c3_i32_196_r0 : BitVec 32 := 3#32
  let v782_r0 : BitVec 32 := Scalar.addi v781_r0 c3_i32_196_r0
  let c128_i32_197_r0 : BitVec 32 := 128#32
  let v783_r0 : BitVec 32 := Scalar.muli v782_r0 c128_i32_197_r0
  v783_r0
def k0_off43 (k0_t10 : Fin k0_t10_loop.trips) (k0_t11 : Fin k0_t11_loop.trips) (k0_t12 : Fin k0_t12_loop.trips) (c0_i32_220_r0 : BitVec 32) : Fin 2 → Nat :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c1_i32_167_r0 : BitVec 32 := 1#32
  let v720_r0 : BitVec 32 := Scalar.shrsi v52_r0 c1_i32_167_r0
  let c16_i32_216_r0 : BitVec 32 := 16#32
  let v850_r0 : BitVec 32 := Scalar.muli v720_r0 c16_i32_216_r0
  let c0_i32_176_r0 : BitVec 32 := 0#32
  let c1_i32_178_r0 : BitVec 32 := 1#32
  let arg37_r0 : BitVec 32 := Scf.iv c0_i32_176_r0 c1_i32_178_r0 k0_t12
  let c2_i32_180_r0 : BitVec 32 := 2#32
  let v747_r0 : BitVec 32 := Scalar.shrsi arg37_r0 c2_i32_180_r0
  let c8_i32_217_r0 : BitVec 32 := 8#32
  let v851_r0 : BitVec 32 := Scalar.muli v747_r0 c8_i32_217_r0
  let v852_r0 : BitVec 32 := Scalar.addi v850_r0 v851_r0
  let c8_i32_218_r0 : BitVec 32 := 8#32
  let v853_r0 : BitVec 32 := Scalar.muli v852_r0 c8_i32_218_r0
  let c3_i32_181_r0 : BitVec 32 := 3#32
  let v748_r0 : BitVec 32 := Scalar.andi arg37_r0 c3_i32_181_r0
  let v865_r0 : BitVec 32 := Scalar.addi v853_r0 v748_r0
  let v866_r0 : BitVec 32 := Scalar.addi v865_r0 c0_i32_220_r0
  let v867_r0 : Index := Scalar.indexCast v866_r0
  let c0_221_r0 : Index := 0#32
  ![v867_r0.toNat, 0]
def k0_mult77 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_44_r0 : BitVec 32 := 4#32
  let v116_r0 : BitVec 32 := Scalar.muli v52_r0 c4_i32_44_r0
  let c0_i32_45_r0 : BitVec 32 := 0#32
  let v117_r0 : BitVec 32 := Scalar.addi v116_r0 c0_i32_45_r0
  let c32_i32_r0 : BitVec 32 := 32#32
  let v118_r0 : BitVec 32 := Scalar.muli v117_r0 c32_i32_r0
  v118_r0
def k0_mult78 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_44_r0 : BitVec 32 := 4#32
  let v116_r0 : BitVec 32 := Scalar.muli v52_r0 c4_i32_44_r0
  let c0_i32_45_r0 : BitVec 32 := 0#32
  let v117_r0 : BitVec 32 := Scalar.addi v116_r0 c0_i32_45_r0
  let c16_i32_r0 : BitVec 32 := 16#32
  let v120_r0 : BitVec 32 := Scalar.muli v117_r0 c16_i32_r0
  v120_r0
def k0_off44 (k0_t10 : Fin k0_t10_loop.trips) (k0_t11 : Fin k0_t11_loop.trips) (c0_i32_45_r0 : BitVec 32) : Fin 2 → Nat :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_44_r0 : BitVec 32 := 4#32
  let v116_r0 : BitVec 32 := Scalar.muli v52_r0 c4_i32_44_r0
  let v117_r0 : BitVec 32 := Scalar.addi v116_r0 c0_i32_45_r0
  let c32_i32_r0 : BitVec 32 := 32#32
  let v118_r0 : BitVec 32 := Scalar.muli v117_r0 c32_i32_r0
  let v119_r0 : BitVec 32 := v118_r0
  let v122_r0 : Index := Scalar.indexCast v119_r0
  let c0_46_r0 : Index := 0#32
  ![v122_r0.toNat, 0]
def k0_off45 (k0_t10 : Fin k0_t10_loop.trips) (k0_t11 : Fin k0_t11_loop.trips) (c0_i32_45_r0 : BitVec 32) (c0_i32_49_r0 : BitVec 32) : Fin 2 → Nat :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_44_r0 : BitVec 32 := 4#32
  let v116_r0 : BitVec 32 := Scalar.muli v52_r0 c4_i32_44_r0
  let v117_r0 : BitVec 32 := Scalar.addi v116_r0 c0_i32_45_r0
  let c16_i32_r0 : BitVec 32 := 16#32
  let v120_r0 : BitVec 32 := Scalar.muli v117_r0 c16_i32_r0
  let v121_r0 : BitVec 32 := v120_r0
  let v137_r0 : BitVec 32 := Scalar.addi v121_r0 c0_i32_49_r0
  let v138_r0 : Index := Scalar.indexCast v137_r0
  let c0_50_r0 : Index := 0#32
  ![v138_r0.toNat, 0]
def k0_mult79 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_44_r0 : BitVec 32 := 4#32
  let v116_r0 : BitVec 32 := Scalar.muli v52_r0 c4_i32_44_r0
  let c0_i32_45_r0 : BitVec 32 := 0#32
  let v117_r0 : BitVec 32 := Scalar.addi v116_r0 c0_i32_45_r0
  let c32_i32_57_r0 : BitVec 32 := 32#32
  let v190_r0 : BitVec 32 := Scalar.muli v117_r0 c32_i32_57_r0
  v190_r0
def k0_mult80 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_44_r0 : BitVec 32 := 4#32
  let v116_r0 : BitVec 32 := Scalar.muli v52_r0 c4_i32_44_r0
  let c0_i32_45_r0 : BitVec 32 := 0#32
  let v117_r0 : BitVec 32 := Scalar.addi v116_r0 c0_i32_45_r0
  let c16_i32_58_r0 : BitVec 32 := 16#32
  let v192_r0 : BitVec 32 := Scalar.muli v117_r0 c16_i32_58_r0
  v192_r0
def k0_mult81 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_44_r0 : BitVec 32 := 4#32
  let v116_r0 : BitVec 32 := Scalar.muli v52_r0 c4_i32_44_r0
  let c0_i32_45_r0 : BitVec 32 := 0#32
  let v117_r0 : BitVec 32 := Scalar.addi v116_r0 c0_i32_45_r0
  let c256_i32_r0 : BitVec 32 := 256#32
  let v262_r0 : BitVec 32 := Scalar.muli v117_r0 c256_i32_r0
  v262_r0
def k0_off46 (k0_t10 : Fin k0_t10_loop.trips) (k0_t11 : Fin k0_t11_loop.trips) (c0_i32_45_r0 : BitVec 32) : Fin 2 → Nat :=
  let c0_71_r0 : Index := 0#32
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_44_r0 : BitVec 32 := 4#32
  let v116_r0 : BitVec 32 := Scalar.muli v52_r0 c4_i32_44_r0
  let v117_r0 : BitVec 32 := Scalar.addi v116_r0 c0_i32_45_r0
  let c256_i32_r0 : BitVec 32 := 256#32
  let v262_r0 : BitVec 32 := Scalar.muli v117_r0 c256_i32_r0
  let v263_r0 : BitVec 32 := v262_r0
  let v264_r0 : Index := Scalar.indexCast v263_r0
  ![0, v264_r0.toNat]
def k0_mult82 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_72_r0 : BitVec 32 := 4#32
  let v267_r0 : BitVec 32 := Scalar.muli v52_r0 c4_i32_72_r0
  let c1_i32_73_r0 : BitVec 32 := 1#32
  let v268_r0 : BitVec 32 := Scalar.addi v267_r0 c1_i32_73_r0
  let c32_i32_74_r0 : BitVec 32 := 32#32
  let v269_r0 : BitVec 32 := Scalar.muli v268_r0 c32_i32_74_r0
  v269_r0
def k0_mult83 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_72_r0 : BitVec 32 := 4#32
  let v267_r0 : BitVec 32 := Scalar.muli v52_r0 c4_i32_72_r0
  let c1_i32_73_r0 : BitVec 32 := 1#32
  let v268_r0 : BitVec 32 := Scalar.addi v267_r0 c1_i32_73_r0
  let c16_i32_75_r0 : BitVec 32 := 16#32
  let v271_r0 : BitVec 32 := Scalar.muli v268_r0 c16_i32_75_r0
  v271_r0
def k0_mult84 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_72_r0 : BitVec 32 := 4#32
  let v267_r0 : BitVec 32 := Scalar.muli v52_r0 c4_i32_72_r0
  let c1_i32_73_r0 : BitVec 32 := 1#32
  let v268_r0 : BitVec 32 := Scalar.addi v267_r0 c1_i32_73_r0
  let c32_i32_88_r0 : BitVec 32 := 32#32
  let v341_r0 : BitVec 32 := Scalar.muli v268_r0 c32_i32_88_r0
  v341_r0
def k0_mult85 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_72_r0 : BitVec 32 := 4#32
  let v267_r0 : BitVec 32 := Scalar.muli v52_r0 c4_i32_72_r0
  let c1_i32_73_r0 : BitVec 32 := 1#32
  let v268_r0 : BitVec 32 := Scalar.addi v267_r0 c1_i32_73_r0
  let c16_i32_89_r0 : BitVec 32 := 16#32
  let v343_r0 : BitVec 32 := Scalar.muli v268_r0 c16_i32_89_r0
  v343_r0
def k0_mult86 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_72_r0 : BitVec 32 := 4#32
  let v267_r0 : BitVec 32 := Scalar.muli v52_r0 c4_i32_72_r0
  let c1_i32_73_r0 : BitVec 32 := 1#32
  let v268_r0 : BitVec 32 := Scalar.addi v267_r0 c1_i32_73_r0
  let c256_i32_102_r0 : BitVec 32 := 256#32
  let v413_r0 : BitVec 32 := Scalar.muli v268_r0 c256_i32_102_r0
  v413_r0
def k0_mult87 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_104_r0 : BitVec 32 := 4#32
  let v418_r0 : BitVec 32 := Scalar.muli v52_r0 c4_i32_104_r0
  let c2_i32_105_r0 : BitVec 32 := 2#32
  let v419_r0 : BitVec 32 := Scalar.addi v418_r0 c2_i32_105_r0
  let c32_i32_106_r0 : BitVec 32 := 32#32
  let v420_r0 : BitVec 32 := Scalar.muli v419_r0 c32_i32_106_r0
  v420_r0
def k0_mult88 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_104_r0 : BitVec 32 := 4#32
  let v418_r0 : BitVec 32 := Scalar.muli v52_r0 c4_i32_104_r0
  let c2_i32_105_r0 : BitVec 32 := 2#32
  let v419_r0 : BitVec 32 := Scalar.addi v418_r0 c2_i32_105_r0
  let c16_i32_107_r0 : BitVec 32 := 16#32
  let v422_r0 : BitVec 32 := Scalar.muli v419_r0 c16_i32_107_r0
  v422_r0
def k0_mult89 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_104_r0 : BitVec 32 := 4#32
  let v418_r0 : BitVec 32 := Scalar.muli v52_r0 c4_i32_104_r0
  let c2_i32_105_r0 : BitVec 32 := 2#32
  let v419_r0 : BitVec 32 := Scalar.addi v418_r0 c2_i32_105_r0
  let c32_i32_120_r0 : BitVec 32 := 32#32
  let v492_r0 : BitVec 32 := Scalar.muli v419_r0 c32_i32_120_r0
  v492_r0
def k0_mult90 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_104_r0 : BitVec 32 := 4#32
  let v418_r0 : BitVec 32 := Scalar.muli v52_r0 c4_i32_104_r0
  let c2_i32_105_r0 : BitVec 32 := 2#32
  let v419_r0 : BitVec 32 := Scalar.addi v418_r0 c2_i32_105_r0
  let c16_i32_121_r0 : BitVec 32 := 16#32
  let v494_r0 : BitVec 32 := Scalar.muli v419_r0 c16_i32_121_r0
  v494_r0
def k0_mult91 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_104_r0 : BitVec 32 := 4#32
  let v418_r0 : BitVec 32 := Scalar.muli v52_r0 c4_i32_104_r0
  let c2_i32_105_r0 : BitVec 32 := 2#32
  let v419_r0 : BitVec 32 := Scalar.addi v418_r0 c2_i32_105_r0
  let c256_i32_134_r0 : BitVec 32 := 256#32
  let v564_r0 : BitVec 32 := Scalar.muli v419_r0 c256_i32_134_r0
  v564_r0
def k0_mult92 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_136_r0 : BitVec 32 := 4#32
  let v569_r0 : BitVec 32 := Scalar.muli v52_r0 c4_i32_136_r0
  let c3_i32_r0 : BitVec 32 := 3#32
  let v570_r0 : BitVec 32 := Scalar.addi v569_r0 c3_i32_r0
  let c32_i32_137_r0 : BitVec 32 := 32#32
  let v571_r0 : BitVec 32 := Scalar.muli v570_r0 c32_i32_137_r0
  v571_r0
def k0_mult93 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_136_r0 : BitVec 32 := 4#32
  let v569_r0 : BitVec 32 := Scalar.muli v52_r0 c4_i32_136_r0
  let c3_i32_r0 : BitVec 32 := 3#32
  let v570_r0 : BitVec 32 := Scalar.addi v569_r0 c3_i32_r0
  let c16_i32_138_r0 : BitVec 32 := 16#32
  let v573_r0 : BitVec 32 := Scalar.muli v570_r0 c16_i32_138_r0
  v573_r0
def k0_mult94 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_136_r0 : BitVec 32 := 4#32
  let v569_r0 : BitVec 32 := Scalar.muli v52_r0 c4_i32_136_r0
  let c3_i32_r0 : BitVec 32 := 3#32
  let v570_r0 : BitVec 32 := Scalar.addi v569_r0 c3_i32_r0
  let c32_i32_151_r0 : BitVec 32 := 32#32
  let v643_r0 : BitVec 32 := Scalar.muli v570_r0 c32_i32_151_r0
  v643_r0
def k0_mult95 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_136_r0 : BitVec 32 := 4#32
  let v569_r0 : BitVec 32 := Scalar.muli v52_r0 c4_i32_136_r0
  let c3_i32_r0 : BitVec 32 := 3#32
  let v570_r0 : BitVec 32 := Scalar.addi v569_r0 c3_i32_r0
  let c16_i32_152_r0 : BitVec 32 := 16#32
  let v645_r0 : BitVec 32 := Scalar.muli v570_r0 c16_i32_152_r0
  v645_r0
def k0_mult96 (k0_t10 : Fin k0_t10_loop.trips) (k0_t11 : Fin k0_t11_loop.trips) : BitVec 32 :=
  let c0_i32_10_r0 : BitVec 32 := 0#32
  let c1_i32_r0 : BitVec 32 := 1#32
  let arg35_r0 : BitVec 32 := Scf.iv c0_i32_10_r0 c1_i32_r0 k0_t10
  let c8_i32_20_r0 : BitVec 32 := 8#32
  let v51_r0 : BitVec 32 := Scalar.muli arg35_r0 c8_i32_20_r0
  let c0_i32_17_r0 : BitVec 32 := 0#32
  let c1_i32_18_r0 : BitVec 32 := 1#32
  let arg36_r0 : BitVec 32 := Scf.iv c0_i32_17_r0 c1_i32_18_r0 k0_t11
  let v52_r0 : BitVec 32 := Scalar.addi v51_r0 arg36_r0
  let c4_i32_136_r0 : BitVec 32 := 4#32
  let v569_r0 : BitVec 32 := Scalar.muli v52_r0 c4_i32_136_r0
  let c3_i32_r0 : BitVec 32 := 3#32
  let v570_r0 : BitVec 32 := Scalar.addi v569_r0 c3_i32_r0
  let c256_i32_165_r0 : BitVec 32 := 256#32
  let v715_r0 : BitVec 32 := Scalar.muli v570_r0 c256_i32_165_r0
  v715_r0
@[reducible] def k0_t13_loop : Scf.Loop 32 :=
  let c0_i32_13_r0 : BitVec 32 := 0#32
  let c4_i32_r0 : BitVec 32 := 4#32
  let v49_r0 : BitVec 32 := Scalar.addi c0_i32_13_r0 c4_i32_r0
  let c1_i32_14_r0 : BitVec 32 := 1#32
  ⟨c0_i32_13_r0, v49_r0, c1_i32_14_r0⟩
def k0_mult97 (k0_t13 : Fin k0_t13_loop.trips) : BitVec 32 :=
  let c0_i32_38_r0 : BitVec 32 := 0#32
  let c0_i32_13_r0 : BitVec 32 := 0#32
  let c1_i32_14_r0 : BitVec 32 := 1#32
  let arg35_r0 : BitVec 32 := Scf.iv c0_i32_13_r0 c1_i32_14_r0 k0_t13
  let v137_r0 : BitVec 32 := Scalar.addi c0_i32_38_r0 arg35_r0
  let c128_i32_39_r0 : BitVec 32 := 128#32
  let v138_r0 : BitVec 32 := Scalar.muli v137_r0 c128_i32_39_r0
  v138_r0
def k0_off47 (k0_t13 : Fin k0_t13_loop.trips) : Fin 2 → Nat :=
  let c0_r0 : Index := 0#32
  let c0_i32_38_r0 : BitVec 32 := 0#32
  let c0_i32_13_r0 : BitVec 32 := 0#32
  let c1_i32_14_r0 : BitVec 32 := 1#32
  let arg35_r0 : BitVec 32 := Scf.iv c0_i32_13_r0 c1_i32_14_r0 k0_t13
  let v137_r0 : BitVec 32 := Scalar.addi c0_i32_38_r0 arg35_r0
  let c128_i32_39_r0 : BitVec 32 := 128#32
  let v138_r0 : BitVec 32 := Scalar.muli v137_r0 c128_i32_39_r0
  let v139_r0 : BitVec 32 := v138_r0
  let v140_r0 : Index := Scalar.indexCast v139_r0
  ![0, v140_r0.toNat]
def k0_mult98 (k0_t13 : Fin k0_t13_loop.trips) : BitVec 32 :=
  let c0_i32_13_r0 : BitVec 32 := 0#32
  let c1_i32_14_r0 : BitVec 32 := 1#32
  let arg35_r0 : BitVec 32 := Scf.iv c0_i32_13_r0 c1_i32_14_r0 k0_t13
  let c512_i32_r0 : BitVec 32 := 512#32
  let v142_r0 : BitVec 32 := Scalar.muli arg35_r0 c512_i32_r0
  v142_r0
@[reducible] def k0_t14_loop : Scf.Loop 32 :=
  let c0_i32_54_r0 : BitVec 32 := 0#32
  let c4_i32_55_r0 : BitVec 32 := 4#32
  let v185_r0 : BitVec 32 := Scalar.addi c0_i32_54_r0 c4_i32_55_r0
  let c1_i32_56_r0 : BitVec 32 := 1#32
  ⟨c0_i32_54_r0, v185_r0, c1_i32_56_r0⟩
def k0_mult99 (k0_t13 : Fin k0_t13_loop.trips) (k0_t14 : Fin k0_t14_loop.trips) : BitVec 32 :=
  let c0_i32_13_r0 : BitVec 32 := 0#32
  let c1_i32_14_r0 : BitVec 32 := 1#32
  let arg35_r0 : BitVec 32 := Scf.iv c0_i32_13_r0 c1_i32_14_r0 k0_t13
  let c512_i32_r0 : BitVec 32 := 512#32
  let v142_r0 : BitVec 32 := Scalar.muli arg35_r0 c512_i32_r0
  let v143_r0 : BitVec 32 := v142_r0
  let c0_i32_54_r0 : BitVec 32 := 0#32
  let c1_i32_56_r0 : BitVec 32 := 1#32
  let arg36_r0 : BitVec 32 := Scf.iv c0_i32_54_r0 c1_i32_56_r0 k0_t14
  let c128_i32_74_r0 : BitVec 32 := 128#32
  let v245_r0 : BitVec 32 := Scalar.muli arg36_r0 c128_i32_74_r0
  let v246_r0 : BitVec 32 := Scalar.addi v143_r0 v245_r0
  v246_r0
def k0_off48 (k0_t13 : Fin k0_t13_loop.trips) (k0_t14 : Fin k0_t14_loop.trips) : Fin 2 → Nat :=
  let c0_75_r0 : Index := 0#32
  let c0_i32_13_r0 : BitVec 32 := 0#32
  let c1_i32_14_r0 : BitVec 32 := 1#32
  let arg35_r0 : BitVec 32 := Scf.iv c0_i32_13_r0 c1_i32_14_r0 k0_t13
  let c512_i32_r0 : BitVec 32 := 512#32
  let v142_r0 : BitVec 32 := Scalar.muli arg35_r0 c512_i32_r0
  let v143_r0 : BitVec 32 := v142_r0
  let c0_i32_54_r0 : BitVec 32 := 0#32
  let c1_i32_56_r0 : BitVec 32 := 1#32
  let arg36_r0 : BitVec 32 := Scf.iv c0_i32_54_r0 c1_i32_56_r0 k0_t14
  let c128_i32_74_r0 : BitVec 32 := 128#32
  let v245_r0 : BitVec 32 := Scalar.muli arg36_r0 c128_i32_74_r0
  let v246_r0 : BitVec 32 := Scalar.addi v143_r0 v245_r0
  let v247_r0 : BitVec 32 := v246_r0
  let v248_r0 : Index := Scalar.indexCast v247_r0
  ![0, v248_r0.toNat]
def k0_mult100 (k0_t13 : Fin k0_t13_loop.trips) (k0_t14 : Fin k0_t14_loop.trips) : BitVec 32 :=
  let c0_i32_13_r0 : BitVec 32 := 0#32
  let c1_i32_14_r0 : BitVec 32 := 1#32
  let arg35_r0 : BitVec 32 := Scf.iv c0_i32_13_r0 c1_i32_14_r0 k0_t13
  let c512_i32_r0 : BitVec 32 := 512#32
  let v142_r0 : BitVec 32 := Scalar.muli arg35_r0 c512_i32_r0
  let v143_r0 : BitVec 32 := v142_r0
  let c0_i32_54_r0 : BitVec 32 := 0#32
  let c1_i32_56_r0 : BitVec 32 := 1#32
  let arg36_r0 : BitVec 32 := Scf.iv c0_i32_54_r0 c1_i32_56_r0 k0_t14
  let c128_i32_78_r0 : BitVec 32 := 128#32
  let v257_r0 : BitVec 32 := Scalar.muli arg36_r0 c128_i32_78_r0
  let v258_r0 : BitVec 32 := Scalar.addi v143_r0 v257_r0
  v258_r0
def k0_off49 (k0_t13 : Fin k0_t13_loop.trips) (k0_t14 : Fin k0_t14_loop.trips) : Fin 2 → Nat :=
  let c16_r0 : Index := 16#32
  let c0_i32_13_r0 : BitVec 32 := 0#32
  let c1_i32_14_r0 : BitVec 32 := 1#32
  let arg35_r0 : BitVec 32 := Scf.iv c0_i32_13_r0 c1_i32_14_r0 k0_t13
  let c512_i32_r0 : BitVec 32 := 512#32
  let v142_r0 : BitVec 32 := Scalar.muli arg35_r0 c512_i32_r0
  let v143_r0 : BitVec 32 := v142_r0
  let c0_i32_54_r0 : BitVec 32 := 0#32
  let c1_i32_56_r0 : BitVec 32 := 1#32
  let arg36_r0 : BitVec 32 := Scf.iv c0_i32_54_r0 c1_i32_56_r0 k0_t14
  let c128_i32_78_r0 : BitVec 32 := 128#32
  let v257_r0 : BitVec 32 := Scalar.muli arg36_r0 c128_i32_78_r0
  let v258_r0 : BitVec 32 := Scalar.addi v143_r0 v257_r0
  let v259_r0 : BitVec 32 := v258_r0
  let v260_r0 : Index := Scalar.indexCast v259_r0
  ![16, v260_r0.toNat]
def k0_mult101 (k0_t13 : Fin k0_t13_loop.trips) (k0_t14 : Fin k0_t14_loop.trips) : BitVec 32 :=
  let c0_i32_13_r0 : BitVec 32 := 0#32
  let c1_i32_14_r0 : BitVec 32 := 1#32
  let arg35_r0 : BitVec 32 := Scf.iv c0_i32_13_r0 c1_i32_14_r0 k0_t13
  let c512_i32_r0 : BitVec 32 := 512#32
  let v142_r0 : BitVec 32 := Scalar.muli arg35_r0 c512_i32_r0
  let v143_r0 : BitVec 32 := v142_r0
  let c0_i32_54_r0 : BitVec 32 := 0#32
  let c1_i32_56_r0 : BitVec 32 := 1#32
  let arg36_r0 : BitVec 32 := Scf.iv c0_i32_54_r0 c1_i32_56_r0 k0_t14
  let c128_i32_81_r0 : BitVec 32 := 128#32
  let v269_r0 : BitVec 32 := Scalar.muli arg36_r0 c128_i32_81_r0
  let v270_r0 : BitVec 32 := Scalar.addi v143_r0 v269_r0
  v270_r0
def k0_off50 (k0_t13 : Fin k0_t13_loop.trips) (k0_t14 : Fin k0_t14_loop.trips) : Fin 2 → Nat :=
  let c32_r0 : Index := 32#32
  let c0_i32_13_r0 : BitVec 32 := 0#32
  let c1_i32_14_r0 : BitVec 32 := 1#32
  let arg35_r0 : BitVec 32 := Scf.iv c0_i32_13_r0 c1_i32_14_r0 k0_t13
  let c512_i32_r0 : BitVec 32 := 512#32
  let v142_r0 : BitVec 32 := Scalar.muli arg35_r0 c512_i32_r0
  let v143_r0 : BitVec 32 := v142_r0
  let c0_i32_54_r0 : BitVec 32 := 0#32
  let c1_i32_56_r0 : BitVec 32 := 1#32
  let arg36_r0 : BitVec 32 := Scf.iv c0_i32_54_r0 c1_i32_56_r0 k0_t14
  let c128_i32_81_r0 : BitVec 32 := 128#32
  let v269_r0 : BitVec 32 := Scalar.muli arg36_r0 c128_i32_81_r0
  let v270_r0 : BitVec 32 := Scalar.addi v143_r0 v269_r0
  let v271_r0 : BitVec 32 := v270_r0
  let v272_r0 : Index := Scalar.indexCast v271_r0
  ![32, v272_r0.toNat]
def k0_mult102 (k0_t13 : Fin k0_t13_loop.trips) (k0_t14 : Fin k0_t14_loop.trips) : BitVec 32 :=
  let c0_i32_13_r0 : BitVec 32 := 0#32
  let c1_i32_14_r0 : BitVec 32 := 1#32
  let arg35_r0 : BitVec 32 := Scf.iv c0_i32_13_r0 c1_i32_14_r0 k0_t13
  let c512_i32_r0 : BitVec 32 := 512#32
  let v142_r0 : BitVec 32 := Scalar.muli arg35_r0 c512_i32_r0
  let v143_r0 : BitVec 32 := v142_r0
  let c0_i32_54_r0 : BitVec 32 := 0#32
  let c1_i32_56_r0 : BitVec 32 := 1#32
  let arg36_r0 : BitVec 32 := Scf.iv c0_i32_54_r0 c1_i32_56_r0 k0_t14
  let c128_i32_84_r0 : BitVec 32 := 128#32
  let v281_r0 : BitVec 32 := Scalar.muli arg36_r0 c128_i32_84_r0
  let v282_r0 : BitVec 32 := Scalar.addi v143_r0 v281_r0
  v282_r0
def k0_off51 (k0_t13 : Fin k0_t13_loop.trips) (k0_t14 : Fin k0_t14_loop.trips) : Fin 2 → Nat :=
  let c48_r0 : Index := 48#32
  let c0_i32_13_r0 : BitVec 32 := 0#32
  let c1_i32_14_r0 : BitVec 32 := 1#32
  let arg35_r0 : BitVec 32 := Scf.iv c0_i32_13_r0 c1_i32_14_r0 k0_t13
  let c512_i32_r0 : BitVec 32 := 512#32
  let v142_r0 : BitVec 32 := Scalar.muli arg35_r0 c512_i32_r0
  let v143_r0 : BitVec 32 := v142_r0
  let c0_i32_54_r0 : BitVec 32 := 0#32
  let c1_i32_56_r0 : BitVec 32 := 1#32
  let arg36_r0 : BitVec 32 := Scf.iv c0_i32_54_r0 c1_i32_56_r0 k0_t14
  let c128_i32_84_r0 : BitVec 32 := 128#32
  let v281_r0 : BitVec 32 := Scalar.muli arg36_r0 c128_i32_84_r0
  let v282_r0 : BitVec 32 := Scalar.addi v143_r0 v281_r0
  let v283_r0 : BitVec 32 := v282_r0
  let v284_r0 : Index := Scalar.indexCast v283_r0
  ![48, v284_r0.toNat]
def k0_cond12 (i : grid0.Coords) : BitVec 1 :=
  let arg0 : BitVec 32 := BitVec.ofNat 32 (i 0).val
  let c0_i32_5_r0 : BitVec 32 := 0#32
  let v9_r0 : BitVec 1 := Scalar.cmpi .sgt arg0 c0_i32_5_r0
  let c14_i32_r0 : BitVec 32 := 14#32
  let v10_r0 : BitVec 1 := Scalar.cmpi .slt arg0 c14_i32_r0
  let v11_r0 : BitVec 1 := Scalar.andi v9_r0 v10_r0
  let v12_r0 : BitVec 32 := Scalar.extui v11_r0
  let c0_i32_6_r0 : BitVec 32 := 0#32
  let v13_r0 : BitVec 1 := Scalar.cmpi .ne v12_r0 c0_i32_6_r0
  v13_r0

@[reducible] def k0_t15_loop : Scf.Loop 32 :=
  let c0_i32_10_r0 : BitVec 32 := 0#32
  let c2_i32_11_r0 : BitVec 32 := 2#32
  let v18_r0 : BitVec 32 := Scalar.addi c0_i32_10_r0 c2_i32_11_r0
  let c1_i32_r0 : BitVec 32 := 1#32
  ⟨c0_i32_10_r0, v18_r0, c1_i32_r0⟩
@[reducible] def k0_t16_loop : Scf.Loop 32 :=
  let c0_i32_18_r0 : BitVec 32 := 0#32
  let c8_i32_r0 : BitVec 32 := 8#32
  let v51_r0 : BitVec 32 := Scalar.addi c0_i32_18_r0 c8_i32_r0
  let c1_i32_19_r0 : BitVec 32 := 1#32
  ⟨c0_i32_18_r0, v51_r0, c1_i32_19_r0⟩
def k0_mult103 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c128_i32_r0 : BitVec 32 := 128#32
  let v76_r0 : BitVec 32 := Scalar.muli v75_r0 c128_i32_r0
  v76_r0
def k0_off52 (k0_t15 : Fin k0_t15_loop.trips) (k0_t16 : Fin k0_t16_loop.trips) : Fin 2 → Nat :=
  let c512_r0 : Index := 512#32
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c128_i32_r0 : BitVec 32 := 128#32
  let v76_r0 : BitVec 32 := Scalar.muli v75_r0 c128_i32_r0
  let v77_r0 : BitVec 32 := v76_r0
  let v78_r0 : Index := Scalar.indexCast v77_r0
  ![512, v78_r0.toNat]
def k0_mult104 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c128_i32_33_r0 : BitVec 32 := 128#32
  let v84_r0 : BitVec 32 := Scalar.muli v75_r0 c128_i32_33_r0
  v84_r0
def k0_off53 (k0_t15 : Fin k0_t15_loop.trips) (k0_t16 : Fin k0_t16_loop.trips) : Fin 2 → Nat :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c128_i32_33_r0 : BitVec 32 := 128#32
  let v84_r0 : BitVec 32 := Scalar.muli v75_r0 c128_i32_33_r0
  let v85_r0 : BitVec 32 := v84_r0
  let v86_r0 : Index := Scalar.indexCast v85_r0
  let c0_34_r0 : Index := 0#32
  ![v86_r0.toNat, 0]
def k0_mult105 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c128_i32_35_r0 : BitVec 32 := 128#32
  let v90_r0 : BitVec 32 := Scalar.muli v75_r0 c128_i32_35_r0
  v90_r0
def k0_mult106 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c128_i32_38_r0 : BitVec 32 := 128#32
  let v98_r0 : BitVec 32 := Scalar.muli v75_r0 c128_i32_38_r0
  v98_r0
def k0_cond13 (k0_t15 : Fin k0_t15_loop.trips) (k0_t16 : Fin k0_t16_loop.trips) : BitVec 1 :=
  let c0_i32_18_r0 : BitVec 32 := 0#32
  let c1_i32_19_r0 : BitVec 32 := 1#32
  let arg36_r0 : BitVec 32 := Scf.iv c0_i32_18_r0 c1_i32_19_r0 k0_t16
  let c1_i32_40_r0 : BitVec 32 := 1#32
  let v104_r0 : BitVec 32 := Scalar.andi arg36_r0 c1_i32_40_r0
  let c2_i32_41_r0 : BitVec 32 := 2#32
  let c0_i32_10_r0 : BitVec 32 := 0#32
  let c1_i32_r0 : BitVec 32 := 1#32
  let arg35_r0 : BitVec 32 := Scf.iv c0_i32_10_r0 c1_i32_r0 k0_t15
  let v105_r0 : BitVec 32 := Scalar.muli c2_i32_41_r0 arg35_r0
  let v106_r0 : BitVec 32 := Scalar.addi v104_r0 v105_r0
  let c0_i32_42_r0 : BitVec 32 := 0#32
  let v107_r0 : BitVec 1 := Scalar.cmpi .eq v106_r0 c0_i32_42_r0
  let v108_r0 : BitVec 32 := Scalar.extui v107_r0
  let c0_i32_43_r0 : BitVec 32 := 0#32
  let v109_r0 : BitVec 1 := Scalar.cmpi .ne v108_r0 c0_i32_43_r0
  v109_r0

def k0_off54 (k0_t16 : Fin k0_t16_loop.trips) : Fin 2 → Nat :=
  let c512_i32_259_r0 : BitVec 32 := 512#32
  let c0_i32_18_r0 : BitVec 32 := 0#32
  let c1_i32_19_r0 : BitVec 32 := 1#32
  let arg36_r0 : BitVec 32 := Scf.iv c0_i32_18_r0 c1_i32_19_r0 k0_t16
  let c1_i32_258_r0 : BitVec 32 := 1#32
  let v1067_r0 : BitVec 32 := Scalar.shrsi arg36_r0 c1_i32_258_r0
  let v1068_r0 : BitVec 32 := Scalar.addi c512_i32_259_r0 v1067_r0
  let v1069_r0 : Index := Scalar.indexCast v1068_r0
  let c0_260_r0 : Index := 0#32
  ![v1069_r0.toNat, 0]
def k0_off55 (k0_t16 : Fin k0_t16_loop.trips) (c0_i32_263_r0 : BitVec 32) : Fin 2 → Nat :=
  let c0_i32_262_r0 : BitVec 32 := 0#32
  let c0_i32_18_r0 : BitVec 32 := 0#32
  let c1_i32_19_r0 : BitVec 32 := 1#32
  let arg36_r0 : BitVec 32 := Scf.iv c0_i32_18_r0 c1_i32_19_r0 k0_t16
  let c1_i32_258_r0 : BitVec 32 := 1#32
  let v1067_r0 : BitVec 32 := Scalar.shrsi arg36_r0 c1_i32_258_r0
  let v1083_r0 : BitVec 32 := Scalar.addi c0_i32_262_r0 v1067_r0
  let v1084_r0 : BitVec 32 := Scalar.addi v1083_r0 c0_i32_263_r0
  let v1085_r0 : Index := Scalar.indexCast v1084_r0
  let c0_264_r0 : Index := 0#32
  ![v1085_r0.toNat, 0]
def k0_cond14 (k0_t15 : Fin k0_t15_loop.trips) (k0_t16 : Fin k0_t16_loop.trips) : BitVec 1 :=
  let c0_i32_18_r0 : BitVec 32 := 0#32
  let c1_i32_19_r0 : BitVec 32 := 1#32
  let arg36_r0 : BitVec 32 := Scf.iv c0_i32_18_r0 c1_i32_19_r0 k0_t16
  let c1_i32_44_r0 : BitVec 32 := 1#32
  let v110_r0 : BitVec 32 := Scalar.andi arg36_r0 c1_i32_44_r0
  let c2_i32_45_r0 : BitVec 32 := 2#32
  let c0_i32_10_r0 : BitVec 32 := 0#32
  let c1_i32_r0 : BitVec 32 := 1#32
  let arg35_r0 : BitVec 32 := Scf.iv c0_i32_10_r0 c1_i32_r0 k0_t15
  let v111_r0 : BitVec 32 := Scalar.muli c2_i32_45_r0 arg35_r0
  let v112_r0 : BitVec 32 := Scalar.addi v110_r0 v111_r0
  let c2_i32_46_r0 : BitVec 32 := 2#32
  let v113_r0 : BitVec 1 := Scalar.cmpi .eq v112_r0 c2_i32_46_r0
  let v114_r0 : BitVec 32 := Scalar.extui v113_r0
  let c0_i32_47_r0 : BitVec 32 := 0#32
  let v115_r0 : BitVec 1 := Scalar.cmpi .ne v114_r0 c0_i32_47_r0
  v115_r0

def k0_off56 (k0_t16 : Fin k0_t16_loop.trips) : Fin 2 → Nat :=
  let c512_i32_259_r0 : BitVec 32 := 512#32
  let c0_i32_18_r0 : BitVec 32 := 0#32
  let c1_i32_19_r0 : BitVec 32 := 1#32
  let arg36_r0 : BitVec 32 := Scf.iv c0_i32_18_r0 c1_i32_19_r0 k0_t16
  let c1_i32_258_r0 : BitVec 32 := 1#32
  let v1067_r0 : BitVec 32 := Scalar.shrsi arg36_r0 c1_i32_258_r0
  let v1068_r0 : BitVec 32 := Scalar.addi c512_i32_259_r0 v1067_r0
  let v1069_r0 : Index := Scalar.indexCast v1068_r0
  let c0_260_r0 : Index := 0#32
  ![v1069_r0.toNat, 0]
def k0_off57 (k0_t16 : Fin k0_t16_loop.trips) (c0_i32_263_r0 : BitVec 32) : Fin 2 → Nat :=
  let c0_i32_262_r0 : BitVec 32 := 0#32
  let c0_i32_18_r0 : BitVec 32 := 0#32
  let c1_i32_19_r0 : BitVec 32 := 1#32
  let arg36_r0 : BitVec 32 := Scf.iv c0_i32_18_r0 c1_i32_19_r0 k0_t16
  let c1_i32_258_r0 : BitVec 32 := 1#32
  let v1067_r0 : BitVec 32 := Scalar.shrsi arg36_r0 c1_i32_258_r0
  let v1083_r0 : BitVec 32 := Scalar.addi c0_i32_262_r0 v1067_r0
  let v1084_r0 : BitVec 32 := Scalar.addi v1083_r0 c0_i32_263_r0
  let v1085_r0 : Index := Scalar.indexCast v1084_r0
  let c0_264_r0 : Index := 0#32
  ![v1085_r0.toNat, 0]
def k0_mult107 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c1_i32_48_r0 : BitVec 32 := 1#32
  let v116_r0 : BitVec 32 := Scalar.shrsi v75_r0 c1_i32_48_r0
  let c512_i32_r0 : BitVec 32 := 512#32
  let v118_r0 : BitVec 32 := Scalar.muli v116_r0 c512_i32_r0
  v118_r0
def k0_mult108 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c1_i32_49_r0 : BitVec 32 := 1#32
  let v117_r0 : BitVec 32 := Scalar.andi v75_r0 c1_i32_49_r0
  let c128_i32_50_r0 : BitVec 32 := 128#32
  let v120_r0 : BitVec 32 := Scalar.muli v117_r0 c128_i32_50_r0
  v120_r0
def k0_off58 (k0_t15 : Fin k0_t15_loop.trips) (k0_t16 : Fin k0_t16_loop.trips) : Fin 2 → Nat :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c1_i32_48_r0 : BitVec 32 := 1#32
  let v116_r0 : BitVec 32 := Scalar.shrsi v75_r0 c1_i32_48_r0
  let c512_i32_r0 : BitVec 32 := 512#32
  let v118_r0 : BitVec 32 := Scalar.muli v116_r0 c512_i32_r0
  let v119_r0 : BitVec 32 := v118_r0
  let v122_r0 : Index := Scalar.indexCast v119_r0
  let c1_i32_49_r0 : BitVec 32 := 1#32
  let v117_r0 : BitVec 32 := Scalar.andi v75_r0 c1_i32_49_r0
  let c128_i32_50_r0 : BitVec 32 := 128#32
  let v120_r0 : BitVec 32 := Scalar.muli v117_r0 c128_i32_50_r0
  let v121_r0 : BitVec 32 := v120_r0
  let v123_r0 : Index := Scalar.indexCast v121_r0
  ![v122_r0.toNat, v123_r0.toNat]
def k0_mult109 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c128_i32_52_r0 : BitVec 32 := 128#32
  let v129_r0 : BitVec 32 := Scalar.muli v75_r0 c128_i32_52_r0
  v129_r0
def k0_cond15 (k0_t16 : Fin k0_t16_loop.trips) : BitVec 1 :=
  let c0_i32_18_r0 : BitVec 32 := 0#32
  let c1_i32_19_r0 : BitVec 32 := 1#32
  let arg36_r0 : BitVec 32 := Scf.iv c0_i32_18_r0 c1_i32_19_r0 k0_t16
  let c1_i32_54_r0 : BitVec 32 := 1#32
  let v135_r0 : BitVec 32 := Scalar.andi arg36_r0 c1_i32_54_r0
  let c1_i32_55_r0 : BitVec 32 := 1#32
  let v136_r0 : BitVec 1 := Scalar.cmpi .eq v135_r0 c1_i32_55_r0
  let v137_r0 : BitVec 32 := Scalar.extui v136_r0
  let c0_i32_56_r0 : BitVec 32 := 0#32
  let v138_r0 : BitVec 1 := Scalar.cmpi .ne v137_r0 c0_i32_56_r0
  v138_r0

@[reducible] def k0_t17_loop : Scf.Loop 32 :=
  let c0_i32_267_r0 : BitVec 32 := 0#32
  let c8_i32_268_r0 : BitVec 32 := 8#32
  let v1093_r0 : BitVec 32 := Scalar.addi c0_i32_267_r0 c8_i32_268_r0
  let c1_i32_269_r0 : BitVec 32 := 1#32
  ⟨c0_i32_267_r0, v1093_r0, c1_i32_269_r0⟩
def k0_mult110 (k0_t17 : Fin k0_t17_loop.trips) : BitVec 32 :=
  let c0_i32_267_r0 : BitVec 32 := 0#32
  let c1_i32_269_r0 : BitVec 32 := 1#32
  let arg37_r0 : BitVec 32 := Scf.iv c0_i32_267_r0 c1_i32_269_r0 k0_t17
  let c2_i32_271_r0 : BitVec 32 := 2#32
  let v1094_r0 : BitVec 32 := Scalar.shrsi arg37_r0 c2_i32_271_r0
  let c8_i32_273_r0 : BitVec 32 := 8#32
  let v1096_r0 : BitVec 32 := Scalar.muli v1094_r0 c8_i32_273_r0
  v1096_r0
def k0_mult111 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c1_i32_258_r0 : BitVec 32 := 1#32
  let v1067_r0 : BitVec 32 := Scalar.shrsi v75_r0 c1_i32_258_r0
  let c4_i32_274_r0 : BitVec 32 := 4#32
  let v1098_r0 : BitVec 32 := Scalar.muli v1067_r0 c4_i32_274_r0
  let c0_i32_275_r0 : BitVec 32 := 0#32
  let v1099_r0 : BitVec 32 := Scalar.addi v1098_r0 c0_i32_275_r0
  let c128_i32_276_r0 : BitVec 32 := 128#32
  let v1100_r0 : BitVec 32 := Scalar.muli v1099_r0 c128_i32_276_r0
  v1100_r0
def k0_off59 (k0_t15 : Fin k0_t15_loop.trips) (k0_t16 : Fin k0_t16_loop.trips) (k0_t17 : Fin k0_t17_loop.trips) (c0_i32_275_r0 : BitVec 32) : Fin 2 → Nat :=
  let c0_i32_267_r0 : BitVec 32 := 0#32
  let c1_i32_269_r0 : BitVec 32 := 1#32
  let arg37_r0 : BitVec 32 := Scf.iv c0_i32_267_r0 c1_i32_269_r0 k0_t17
  let c2_i32_271_r0 : BitVec 32 := 2#32
  let v1094_r0 : BitVec 32 := Scalar.shrsi arg37_r0 c2_i32_271_r0
  let c8_i32_273_r0 : BitVec 32 := 8#32
  let v1096_r0 : BitVec 32 := Scalar.muli v1094_r0 c8_i32_273_r0
  let v1097_r0 : BitVec 32 := v1096_r0
  let v1102_r0 : Index := Scalar.indexCast v1097_r0
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c1_i32_258_r0 : BitVec 32 := 1#32
  let v1067_r0 : BitVec 32 := Scalar.shrsi v75_r0 c1_i32_258_r0
  let c4_i32_274_r0 : BitVec 32 := 4#32
  let v1098_r0 : BitVec 32 := Scalar.muli v1067_r0 c4_i32_274_r0
  let v1099_r0 : BitVec 32 := Scalar.addi v1098_r0 c0_i32_275_r0
  let c128_i32_276_r0 : BitVec 32 := 128#32
  let v1100_r0 : BitVec 32 := Scalar.muli v1099_r0 c128_i32_276_r0
  let v1101_r0 : BitVec 32 := v1100_r0
  let v1103_r0 : Index := Scalar.indexCast v1101_r0
  ![v1102_r0.toNat, v1103_r0.toNat]
def k0_mult112 (k0_t17 : Fin k0_t17_loop.trips) : BitVec 32 :=
  let c0_i32_267_r0 : BitVec 32 := 0#32
  let c1_i32_269_r0 : BitVec 32 := 1#32
  let arg37_r0 : BitVec 32 := Scf.iv c0_i32_267_r0 c1_i32_269_r0 k0_t17
  let c2_i32_271_r0 : BitVec 32 := 2#32
  let v1094_r0 : BitVec 32 := Scalar.shrsi arg37_r0 c2_i32_271_r0
  let c8_i32_277_r0 : BitVec 32 := 8#32
  let v1106_r0 : BitVec 32 := Scalar.muli v1094_r0 c8_i32_277_r0
  v1106_r0
def k0_mult113 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c1_i32_258_r0 : BitVec 32 := 1#32
  let v1067_r0 : BitVec 32 := Scalar.shrsi v75_r0 c1_i32_258_r0
  let c4_i32_278_r0 : BitVec 32 := 4#32
  let v1108_r0 : BitVec 32 := Scalar.muli v1067_r0 c4_i32_278_r0
  let c1_i32_279_r0 : BitVec 32 := 1#32
  let v1109_r0 : BitVec 32 := Scalar.addi v1108_r0 c1_i32_279_r0
  let c128_i32_280_r0 : BitVec 32 := 128#32
  let v1110_r0 : BitVec 32 := Scalar.muli v1109_r0 c128_i32_280_r0
  v1110_r0
def k0_mult114 (k0_t17 : Fin k0_t17_loop.trips) : BitVec 32 :=
  let c0_i32_267_r0 : BitVec 32 := 0#32
  let c1_i32_269_r0 : BitVec 32 := 1#32
  let arg37_r0 : BitVec 32 := Scf.iv c0_i32_267_r0 c1_i32_269_r0 k0_t17
  let c2_i32_271_r0 : BitVec 32 := 2#32
  let v1094_r0 : BitVec 32 := Scalar.shrsi arg37_r0 c2_i32_271_r0
  let c8_i32_281_r0 : BitVec 32 := 8#32
  let v1116_r0 : BitVec 32 := Scalar.muli v1094_r0 c8_i32_281_r0
  v1116_r0
def k0_mult115 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c1_i32_258_r0 : BitVec 32 := 1#32
  let v1067_r0 : BitVec 32 := Scalar.shrsi v75_r0 c1_i32_258_r0
  let c4_i32_282_r0 : BitVec 32 := 4#32
  let v1118_r0 : BitVec 32 := Scalar.muli v1067_r0 c4_i32_282_r0
  let c2_i32_283_r0 : BitVec 32 := 2#32
  let v1119_r0 : BitVec 32 := Scalar.addi v1118_r0 c2_i32_283_r0
  let c128_i32_284_r0 : BitVec 32 := 128#32
  let v1120_r0 : BitVec 32 := Scalar.muli v1119_r0 c128_i32_284_r0
  v1120_r0
def k0_mult116 (k0_t17 : Fin k0_t17_loop.trips) : BitVec 32 :=
  let c0_i32_267_r0 : BitVec 32 := 0#32
  let c1_i32_269_r0 : BitVec 32 := 1#32
  let arg37_r0 : BitVec 32 := Scf.iv c0_i32_267_r0 c1_i32_269_r0 k0_t17
  let c2_i32_271_r0 : BitVec 32 := 2#32
  let v1094_r0 : BitVec 32 := Scalar.shrsi arg37_r0 c2_i32_271_r0
  let c8_i32_285_r0 : BitVec 32 := 8#32
  let v1126_r0 : BitVec 32 := Scalar.muli v1094_r0 c8_i32_285_r0
  v1126_r0
def k0_mult117 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c1_i32_258_r0 : BitVec 32 := 1#32
  let v1067_r0 : BitVec 32 := Scalar.shrsi v75_r0 c1_i32_258_r0
  let c4_i32_286_r0 : BitVec 32 := 4#32
  let v1128_r0 : BitVec 32 := Scalar.muli v1067_r0 c4_i32_286_r0
  let c3_i32_287_r0 : BitVec 32 := 3#32
  let v1129_r0 : BitVec 32 := Scalar.addi v1128_r0 c3_i32_287_r0
  let c128_i32_288_r0 : BitVec 32 := 128#32
  let v1130_r0 : BitVec 32 := Scalar.muli v1129_r0 c128_i32_288_r0
  v1130_r0
def k0_off60 (k0_t15 : Fin k0_t15_loop.trips) (k0_t16 : Fin k0_t16_loop.trips) (k0_t17 : Fin k0_t17_loop.trips) (c0_i32_311_r0 : BitVec 32) : Fin 2 → Nat :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c1_i32_258_r0 : BitVec 32 := 1#32
  let v1067_r0 : BitVec 32 := Scalar.shrsi v75_r0 c1_i32_258_r0
  let c16_i32_307_r0 : BitVec 32 := 16#32
  let v1197_r0 : BitVec 32 := Scalar.muli v1067_r0 c16_i32_307_r0
  let c0_i32_267_r0 : BitVec 32 := 0#32
  let c1_i32_269_r0 : BitVec 32 := 1#32
  let arg37_r0 : BitVec 32 := Scf.iv c0_i32_267_r0 c1_i32_269_r0 k0_t17
  let c2_i32_271_r0 : BitVec 32 := 2#32
  let v1094_r0 : BitVec 32 := Scalar.shrsi arg37_r0 c2_i32_271_r0
  let c8_i32_308_r0 : BitVec 32 := 8#32
  let v1198_r0 : BitVec 32 := Scalar.muli v1094_r0 c8_i32_308_r0
  let v1199_r0 : BitVec 32 := Scalar.addi v1197_r0 v1198_r0
  let c8_i32_309_r0 : BitVec 32 := 8#32
  let v1200_r0 : BitVec 32 := Scalar.muli v1199_r0 c8_i32_309_r0
  let c3_i32_272_r0 : BitVec 32 := 3#32
  let v1095_r0 : BitVec 32 := Scalar.andi arg37_r0 c3_i32_272_r0
  let v1212_r0 : BitVec 32 := Scalar.addi v1200_r0 v1095_r0
  let v1213_r0 : BitVec 32 := Scalar.addi v1212_r0 c0_i32_311_r0
  let v1214_r0 : Index := Scalar.indexCast v1213_r0
  let c0_312_r0 : Index := 0#32
  ![v1214_r0.toNat, 0]
def k0_mult118 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_57_r0 : BitVec 32 := 4#32
  let v139_r0 : BitVec 32 := Scalar.muli v75_r0 c4_i32_57_r0
  let c0_i32_58_r0 : BitVec 32 := 0#32
  let v140_r0 : BitVec 32 := Scalar.addi v139_r0 c0_i32_58_r0
  let c32_i32_r0 : BitVec 32 := 32#32
  let v141_r0 : BitVec 32 := Scalar.muli v140_r0 c32_i32_r0
  v141_r0
def k0_mult119 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_57_r0 : BitVec 32 := 4#32
  let v139_r0 : BitVec 32 := Scalar.muli v75_r0 c4_i32_57_r0
  let c0_i32_58_r0 : BitVec 32 := 0#32
  let v140_r0 : BitVec 32 := Scalar.addi v139_r0 c0_i32_58_r0
  let c16_i32_r0 : BitVec 32 := 16#32
  let v143_r0 : BitVec 32 := Scalar.muli v140_r0 c16_i32_r0
  v143_r0
def k0_off61 (k0_t15 : Fin k0_t15_loop.trips) (k0_t16 : Fin k0_t16_loop.trips) (c0_i32_58_r0 : BitVec 32) : Fin 2 → Nat :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_57_r0 : BitVec 32 := 4#32
  let v139_r0 : BitVec 32 := Scalar.muli v75_r0 c4_i32_57_r0
  let v140_r0 : BitVec 32 := Scalar.addi v139_r0 c0_i32_58_r0
  let c32_i32_r0 : BitVec 32 := 32#32
  let v141_r0 : BitVec 32 := Scalar.muli v140_r0 c32_i32_r0
  let v142_r0 : BitVec 32 := v141_r0
  let v145_r0 : Index := Scalar.indexCast v142_r0
  let c0_59_r0 : Index := 0#32
  ![v145_r0.toNat, 0]
def k0_off62 (k0_t15 : Fin k0_t15_loop.trips) (k0_t16 : Fin k0_t16_loop.trips) (c0_i32_58_r0 : BitVec 32) (c0_i32_62_r0 : BitVec 32) : Fin 2 → Nat :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_57_r0 : BitVec 32 := 4#32
  let v139_r0 : BitVec 32 := Scalar.muli v75_r0 c4_i32_57_r0
  let v140_r0 : BitVec 32 := Scalar.addi v139_r0 c0_i32_58_r0
  let c16_i32_r0 : BitVec 32 := 16#32
  let v143_r0 : BitVec 32 := Scalar.muli v140_r0 c16_i32_r0
  let v144_r0 : BitVec 32 := v143_r0
  let v160_r0 : BitVec 32 := Scalar.addi v144_r0 c0_i32_62_r0
  let v161_r0 : Index := Scalar.indexCast v160_r0
  let c0_63_r0 : Index := 0#32
  ![v161_r0.toNat, 0]
def k0_mult120 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_57_r0 : BitVec 32 := 4#32
  let v139_r0 : BitVec 32 := Scalar.muli v75_r0 c4_i32_57_r0
  let c0_i32_58_r0 : BitVec 32 := 0#32
  let v140_r0 : BitVec 32 := Scalar.addi v139_r0 c0_i32_58_r0
  let c32_i32_70_r0 : BitVec 32 := 32#32
  let v213_r0 : BitVec 32 := Scalar.muli v140_r0 c32_i32_70_r0
  v213_r0
def k0_mult121 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_57_r0 : BitVec 32 := 4#32
  let v139_r0 : BitVec 32 := Scalar.muli v75_r0 c4_i32_57_r0
  let c0_i32_58_r0 : BitVec 32 := 0#32
  let v140_r0 : BitVec 32 := Scalar.addi v139_r0 c0_i32_58_r0
  let c16_i32_71_r0 : BitVec 32 := 16#32
  let v215_r0 : BitVec 32 := Scalar.muli v140_r0 c16_i32_71_r0
  v215_r0
def k0_mult122 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_57_r0 : BitVec 32 := 4#32
  let v139_r0 : BitVec 32 := Scalar.muli v75_r0 c4_i32_57_r0
  let c0_i32_58_r0 : BitVec 32 := 0#32
  let v140_r0 : BitVec 32 := Scalar.addi v139_r0 c0_i32_58_r0
  let c256_i32_r0 : BitVec 32 := 256#32
  let v285_r0 : BitVec 32 := Scalar.muli v140_r0 c256_i32_r0
  v285_r0
def k0_off63 (k0_t15 : Fin k0_t15_loop.trips) (k0_t16 : Fin k0_t16_loop.trips) (c0_i32_58_r0 : BitVec 32) : Fin 2 → Nat :=
  let c0_84_r0 : Index := 0#32
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_57_r0 : BitVec 32 := 4#32
  let v139_r0 : BitVec 32 := Scalar.muli v75_r0 c4_i32_57_r0
  let v140_r0 : BitVec 32 := Scalar.addi v139_r0 c0_i32_58_r0
  let c256_i32_r0 : BitVec 32 := 256#32
  let v285_r0 : BitVec 32 := Scalar.muli v140_r0 c256_i32_r0
  let v286_r0 : BitVec 32 := v285_r0
  let v287_r0 : Index := Scalar.indexCast v286_r0
  ![0, v287_r0.toNat]
def k0_mult123 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_85_r0 : BitVec 32 := 4#32
  let v290_r0 : BitVec 32 := Scalar.muli v75_r0 c4_i32_85_r0
  let c1_i32_86_r0 : BitVec 32 := 1#32
  let v291_r0 : BitVec 32 := Scalar.addi v290_r0 c1_i32_86_r0
  let c32_i32_87_r0 : BitVec 32 := 32#32
  let v292_r0 : BitVec 32 := Scalar.muli v291_r0 c32_i32_87_r0
  v292_r0
def k0_mult124 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_85_r0 : BitVec 32 := 4#32
  let v290_r0 : BitVec 32 := Scalar.muli v75_r0 c4_i32_85_r0
  let c1_i32_86_r0 : BitVec 32 := 1#32
  let v291_r0 : BitVec 32 := Scalar.addi v290_r0 c1_i32_86_r0
  let c16_i32_88_r0 : BitVec 32 := 16#32
  let v294_r0 : BitVec 32 := Scalar.muli v291_r0 c16_i32_88_r0
  v294_r0
def k0_mult125 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_85_r0 : BitVec 32 := 4#32
  let v290_r0 : BitVec 32 := Scalar.muli v75_r0 c4_i32_85_r0
  let c1_i32_86_r0 : BitVec 32 := 1#32
  let v291_r0 : BitVec 32 := Scalar.addi v290_r0 c1_i32_86_r0
  let c32_i32_101_r0 : BitVec 32 := 32#32
  let v364_r0 : BitVec 32 := Scalar.muli v291_r0 c32_i32_101_r0
  v364_r0
def k0_mult126 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_85_r0 : BitVec 32 := 4#32
  let v290_r0 : BitVec 32 := Scalar.muli v75_r0 c4_i32_85_r0
  let c1_i32_86_r0 : BitVec 32 := 1#32
  let v291_r0 : BitVec 32 := Scalar.addi v290_r0 c1_i32_86_r0
  let c16_i32_102_r0 : BitVec 32 := 16#32
  let v366_r0 : BitVec 32 := Scalar.muli v291_r0 c16_i32_102_r0
  v366_r0
def k0_mult127 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_85_r0 : BitVec 32 := 4#32
  let v290_r0 : BitVec 32 := Scalar.muli v75_r0 c4_i32_85_r0
  let c1_i32_86_r0 : BitVec 32 := 1#32
  let v291_r0 : BitVec 32 := Scalar.addi v290_r0 c1_i32_86_r0
  let c256_i32_115_r0 : BitVec 32 := 256#32
  let v436_r0 : BitVec 32 := Scalar.muli v291_r0 c256_i32_115_r0
  v436_r0
def k0_mult128 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_117_r0 : BitVec 32 := 4#32
  let v441_r0 : BitVec 32 := Scalar.muli v75_r0 c4_i32_117_r0
  let c2_i32_118_r0 : BitVec 32 := 2#32
  let v442_r0 : BitVec 32 := Scalar.addi v441_r0 c2_i32_118_r0
  let c32_i32_119_r0 : BitVec 32 := 32#32
  let v443_r0 : BitVec 32 := Scalar.muli v442_r0 c32_i32_119_r0
  v443_r0
def k0_mult129 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_117_r0 : BitVec 32 := 4#32
  let v441_r0 : BitVec 32 := Scalar.muli v75_r0 c4_i32_117_r0
  let c2_i32_118_r0 : BitVec 32 := 2#32
  let v442_r0 : BitVec 32 := Scalar.addi v441_r0 c2_i32_118_r0
  let c16_i32_120_r0 : BitVec 32 := 16#32
  let v445_r0 : BitVec 32 := Scalar.muli v442_r0 c16_i32_120_r0
  v445_r0
def k0_mult130 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_117_r0 : BitVec 32 := 4#32
  let v441_r0 : BitVec 32 := Scalar.muli v75_r0 c4_i32_117_r0
  let c2_i32_118_r0 : BitVec 32 := 2#32
  let v442_r0 : BitVec 32 := Scalar.addi v441_r0 c2_i32_118_r0
  let c32_i32_133_r0 : BitVec 32 := 32#32
  let v515_r0 : BitVec 32 := Scalar.muli v442_r0 c32_i32_133_r0
  v515_r0
def k0_mult131 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_117_r0 : BitVec 32 := 4#32
  let v441_r0 : BitVec 32 := Scalar.muli v75_r0 c4_i32_117_r0
  let c2_i32_118_r0 : BitVec 32 := 2#32
  let v442_r0 : BitVec 32 := Scalar.addi v441_r0 c2_i32_118_r0
  let c16_i32_134_r0 : BitVec 32 := 16#32
  let v517_r0 : BitVec 32 := Scalar.muli v442_r0 c16_i32_134_r0
  v517_r0
def k0_mult132 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_117_r0 : BitVec 32 := 4#32
  let v441_r0 : BitVec 32 := Scalar.muli v75_r0 c4_i32_117_r0
  let c2_i32_118_r0 : BitVec 32 := 2#32
  let v442_r0 : BitVec 32 := Scalar.addi v441_r0 c2_i32_118_r0
  let c256_i32_147_r0 : BitVec 32 := 256#32
  let v587_r0 : BitVec 32 := Scalar.muli v442_r0 c256_i32_147_r0
  v587_r0
def k0_mult133 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_149_r0 : BitVec 32 := 4#32
  let v592_r0 : BitVec 32 := Scalar.muli v75_r0 c4_i32_149_r0
  let c3_i32_r0 : BitVec 32 := 3#32
  let v593_r0 : BitVec 32 := Scalar.addi v592_r0 c3_i32_r0
  let c32_i32_150_r0 : BitVec 32 := 32#32
  let v594_r0 : BitVec 32 := Scalar.muli v593_r0 c32_i32_150_r0
  v594_r0
def k0_mult134 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_149_r0 : BitVec 32 := 4#32
  let v592_r0 : BitVec 32 := Scalar.muli v75_r0 c4_i32_149_r0
  let c3_i32_r0 : BitVec 32 := 3#32
  let v593_r0 : BitVec 32 := Scalar.addi v592_r0 c3_i32_r0
  let c16_i32_151_r0 : BitVec 32 := 16#32
  let v596_r0 : BitVec 32 := Scalar.muli v593_r0 c16_i32_151_r0
  v596_r0
def k0_mult135 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_149_r0 : BitVec 32 := 4#32
  let v592_r0 : BitVec 32 := Scalar.muli v75_r0 c4_i32_149_r0
  let c3_i32_r0 : BitVec 32 := 3#32
  let v593_r0 : BitVec 32 := Scalar.addi v592_r0 c3_i32_r0
  let c32_i32_164_r0 : BitVec 32 := 32#32
  let v666_r0 : BitVec 32 := Scalar.muli v593_r0 c32_i32_164_r0
  v666_r0
def k0_mult136 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_149_r0 : BitVec 32 := 4#32
  let v592_r0 : BitVec 32 := Scalar.muli v75_r0 c4_i32_149_r0
  let c3_i32_r0 : BitVec 32 := 3#32
  let v593_r0 : BitVec 32 := Scalar.addi v592_r0 c3_i32_r0
  let c16_i32_165_r0 : BitVec 32 := 16#32
  let v668_r0 : BitVec 32 := Scalar.muli v593_r0 c16_i32_165_r0
  v668_r0
def k0_mult137 (k0_t15 : Fin k0_t15_loop.trips) (k0_t16 : Fin k0_t16_loop.trips) : BitVec 32 :=
  let c0_i32_10_r0 : BitVec 32 := 0#32
  let c1_i32_r0 : BitVec 32 := 1#32
  let arg35_r0 : BitVec 32 := Scf.iv c0_i32_10_r0 c1_i32_r0 k0_t15
  let c8_i32_32_r0 : BitVec 32 := 8#32
  let v74_r0 : BitVec 32 := Scalar.muli arg35_r0 c8_i32_32_r0
  let c0_i32_18_r0 : BitVec 32 := 0#32
  let c1_i32_19_r0 : BitVec 32 := 1#32
  let arg36_r0 : BitVec 32 := Scf.iv c0_i32_18_r0 c1_i32_19_r0 k0_t16
  let v75_r0 : BitVec 32 := Scalar.addi v74_r0 arg36_r0
  let c4_i32_149_r0 : BitVec 32 := 4#32
  let v592_r0 : BitVec 32 := Scalar.muli v75_r0 c4_i32_149_r0
  let c3_i32_r0 : BitVec 32 := 3#32
  let v593_r0 : BitVec 32 := Scalar.addi v592_r0 c3_i32_r0
  let c256_i32_178_r0 : BitVec 32 := 256#32
  let v738_r0 : BitVec 32 := Scalar.muli v593_r0 c256_i32_178_r0
  v738_r0
def k0_mult138 (k0_t15 : Fin k0_t15_loop.trips) (k0_t16 : Fin k0_t16_loop.trips) : BitVec 32 :=
  let c2_i32_182_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_180_r0 : BitVec 32 := 2#32
  let v743_r0 : BitVec 32 := Scalar.muli arg35_r0 c2_i32_180_r0
  let c0_i32_181_r0 : BitVec 32 := 0#32
  let v744_r0 : BitVec 32 := Scalar.addi v743_r0 c0_i32_181_r0
  let v745_r0 : BitVec 32 := Scalar.muli c2_i32_182_r0 v744_r0
  let c8_i32_185_r0 : BitVec 32 := 8#32
  let v748_r0 : BitVec 32 := Scalar.muli v745_r0 c8_i32_185_r0
  let c0_i32_18_r0 : BitVec 32 := 0#32
  let c1_i32_19_r0 : BitVec 32 := 1#32
  let arg36_r0 : BitVec 32 := Scf.iv c0_i32_18_r0 c1_i32_19_r0 k0_t16
  let v749_r0 : BitVec 32 := Scalar.addi v748_r0 arg36_r0
  let c32_i32_186_r0 : BitVec 32 := 32#32
  let v750_r0 : BitVec 32 := Scalar.muli v749_r0 c32_i32_186_r0
  v750_r0
def k0_mult139 (k0_t15 : Fin k0_t15_loop.trips) (k0_t16 : Fin k0_t16_loop.trips) : BitVec 32 :=
  let c2_i32_182_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_180_r0 : BitVec 32 := 2#32
  let v743_r0 : BitVec 32 := Scalar.muli arg35_r0 c2_i32_180_r0
  let c0_i32_181_r0 : BitVec 32 := 0#32
  let v744_r0 : BitVec 32 := Scalar.addi v743_r0 c0_i32_181_r0
  let v745_r0 : BitVec 32 := Scalar.muli c2_i32_182_r0 v744_r0
  let c8_i32_187_r0 : BitVec 32 := 8#32
  let v752_r0 : BitVec 32 := Scalar.muli v745_r0 c8_i32_187_r0
  let c0_i32_18_r0 : BitVec 32 := 0#32
  let c1_i32_19_r0 : BitVec 32 := 1#32
  let arg36_r0 : BitVec 32 := Scf.iv c0_i32_18_r0 c1_i32_19_r0 k0_t16
  let v753_r0 : BitVec 32 := Scalar.addi v752_r0 arg36_r0
  let c16_i32_188_r0 : BitVec 32 := 16#32
  let v754_r0 : BitVec 32 := Scalar.muli v753_r0 c16_i32_188_r0
  v754_r0
def k0_off64 (k0_t15 : Fin k0_t15_loop.trips) (k0_t16 : Fin k0_t16_loop.trips) (c0_i32_181_r0 : BitVec 32) : Fin 2 → Nat :=
  let c2_i32_182_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_180_r0 : BitVec 32 := 2#32
  let v743_r0 : BitVec 32 := Scalar.muli arg35_r0 c2_i32_180_r0
  let v744_r0 : BitVec 32 := Scalar.addi v743_r0 c0_i32_181_r0
  let v745_r0 : BitVec 32 := Scalar.muli c2_i32_182_r0 v744_r0
  let c8_i32_185_r0 : BitVec 32 := 8#32
  let v748_r0 : BitVec 32 := Scalar.muli v745_r0 c8_i32_185_r0
  let c0_i32_18_r0 : BitVec 32 := 0#32
  let c1_i32_19_r0 : BitVec 32 := 1#32
  let arg36_r0 : BitVec 32 := Scf.iv c0_i32_18_r0 c1_i32_19_r0 k0_t16
  let v749_r0 : BitVec 32 := Scalar.addi v748_r0 arg36_r0
  let c32_i32_186_r0 : BitVec 32 := 32#32
  let v750_r0 : BitVec 32 := Scalar.muli v749_r0 c32_i32_186_r0
  let v751_r0 : BitVec 32 := v750_r0
  let v756_r0 : Index := Scalar.indexCast v751_r0
  let c0_189_r0 : Index := 0#32
  ![v756_r0.toNat, 0]
def k0_off65 (k0_t15 : Fin k0_t15_loop.trips) (k0_t16 : Fin k0_t16_loop.trips) (c0_i32_181_r0 : BitVec 32) (c0_i32_193_r0 : BitVec 32) : Fin 2 → Nat :=
  let c2_i32_182_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_180_r0 : BitVec 32 := 2#32
  let v743_r0 : BitVec 32 := Scalar.muli arg35_r0 c2_i32_180_r0
  let v744_r0 : BitVec 32 := Scalar.addi v743_r0 c0_i32_181_r0
  let v745_r0 : BitVec 32 := Scalar.muli c2_i32_182_r0 v744_r0
  let c8_i32_187_r0 : BitVec 32 := 8#32
  let v752_r0 : BitVec 32 := Scalar.muli v745_r0 c8_i32_187_r0
  let c0_i32_18_r0 : BitVec 32 := 0#32
  let c1_i32_19_r0 : BitVec 32 := 1#32
  let arg36_r0 : BitVec 32 := Scf.iv c0_i32_18_r0 c1_i32_19_r0 k0_t16
  let v753_r0 : BitVec 32 := Scalar.addi v752_r0 arg36_r0
  let c16_i32_188_r0 : BitVec 32 := 16#32
  let v754_r0 : BitVec 32 := Scalar.muli v753_r0 c16_i32_188_r0
  let v755_r0 : BitVec 32 := v754_r0
  let v771_r0 : BitVec 32 := Scalar.addi v755_r0 c0_i32_193_r0
  let v772_r0 : Index := Scalar.indexCast v771_r0
  let c0_194_r0 : Index := 0#32
  ![v772_r0.toNat, 0]
def k0_mult140 (k0_t15 : Fin k0_t15_loop.trips) (k0_t16 : Fin k0_t16_loop.trips) : BitVec 32 :=
  let c2_i32_183_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_180_r0 : BitVec 32 := 2#32
  let v743_r0 : BitVec 32 := Scalar.muli arg35_r0 c2_i32_180_r0
  let c0_i32_181_r0 : BitVec 32 := 0#32
  let v744_r0 : BitVec 32 := Scalar.addi v743_r0 c0_i32_181_r0
  let v746_r0 : BitVec 32 := Scalar.muli c2_i32_183_r0 v744_r0
  let c1_i32_184_r0 : BitVec 32 := 1#32
  let v747_r0 : BitVec 32 := Scalar.addi v746_r0 c1_i32_184_r0
  let c8_i32_201_r0 : BitVec 32 := 8#32
  let v824_r0 : BitVec 32 := Scalar.muli v747_r0 c8_i32_201_r0
  let c0_i32_18_r0 : BitVec 32 := 0#32
  let c1_i32_19_r0 : BitVec 32 := 1#32
  let arg36_r0 : BitVec 32 := Scf.iv c0_i32_18_r0 c1_i32_19_r0 k0_t16
  let v825_r0 : BitVec 32 := Scalar.addi v824_r0 arg36_r0
  let c32_i32_202_r0 : BitVec 32 := 32#32
  let v826_r0 : BitVec 32 := Scalar.muli v825_r0 c32_i32_202_r0
  v826_r0
def k0_mult141 (k0_t15 : Fin k0_t15_loop.trips) (k0_t16 : Fin k0_t16_loop.trips) : BitVec 32 :=
  let c2_i32_183_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_180_r0 : BitVec 32 := 2#32
  let v743_r0 : BitVec 32 := Scalar.muli arg35_r0 c2_i32_180_r0
  let c0_i32_181_r0 : BitVec 32 := 0#32
  let v744_r0 : BitVec 32 := Scalar.addi v743_r0 c0_i32_181_r0
  let v746_r0 : BitVec 32 := Scalar.muli c2_i32_183_r0 v744_r0
  let c1_i32_184_r0 : BitVec 32 := 1#32
  let v747_r0 : BitVec 32 := Scalar.addi v746_r0 c1_i32_184_r0
  let c8_i32_203_r0 : BitVec 32 := 8#32
  let v828_r0 : BitVec 32 := Scalar.muli v747_r0 c8_i32_203_r0
  let c0_i32_18_r0 : BitVec 32 := 0#32
  let c1_i32_19_r0 : BitVec 32 := 1#32
  let arg36_r0 : BitVec 32 := Scf.iv c0_i32_18_r0 c1_i32_19_r0 k0_t16
  let v829_r0 : BitVec 32 := Scalar.addi v828_r0 arg36_r0
  let c16_i32_204_r0 : BitVec 32 := 16#32
  let v830_r0 : BitVec 32 := Scalar.muli v829_r0 c16_i32_204_r0
  v830_r0
def k0_off66 (k0_t15 : Fin k0_t15_loop.trips) (k0_t16 : Fin k0_t16_loop.trips) (c0_i32_181_r0 : BitVec 32) : Fin 2 → Nat :=
  let c2_i32_183_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_180_r0 : BitVec 32 := 2#32
  let v743_r0 : BitVec 32 := Scalar.muli arg35_r0 c2_i32_180_r0
  let v744_r0 : BitVec 32 := Scalar.addi v743_r0 c0_i32_181_r0
  let v746_r0 : BitVec 32 := Scalar.muli c2_i32_183_r0 v744_r0
  let c1_i32_184_r0 : BitVec 32 := 1#32
  let v747_r0 : BitVec 32 := Scalar.addi v746_r0 c1_i32_184_r0
  let c8_i32_201_r0 : BitVec 32 := 8#32
  let v824_r0 : BitVec 32 := Scalar.muli v747_r0 c8_i32_201_r0
  let c0_i32_18_r0 : BitVec 32 := 0#32
  let c1_i32_19_r0 : BitVec 32 := 1#32
  let arg36_r0 : BitVec 32 := Scf.iv c0_i32_18_r0 c1_i32_19_r0 k0_t16
  let v825_r0 : BitVec 32 := Scalar.addi v824_r0 arg36_r0
  let c32_i32_202_r0 : BitVec 32 := 32#32
  let v826_r0 : BitVec 32 := Scalar.muli v825_r0 c32_i32_202_r0
  let v827_r0 : BitVec 32 := v826_r0
  let v832_r0 : Index := Scalar.indexCast v827_r0
  let c0_205_r0 : Index := 0#32
  ![v832_r0.toNat, 0]
def k0_off67 (k0_t15 : Fin k0_t15_loop.trips) (k0_t16 : Fin k0_t16_loop.trips) (c0_i32_181_r0 : BitVec 32) (c0_i32_209_r0 : BitVec 32) : Fin 2 → Nat :=
  let c2_i32_183_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_180_r0 : BitVec 32 := 2#32
  let v743_r0 : BitVec 32 := Scalar.muli arg35_r0 c2_i32_180_r0
  let v744_r0 : BitVec 32 := Scalar.addi v743_r0 c0_i32_181_r0
  let v746_r0 : BitVec 32 := Scalar.muli c2_i32_183_r0 v744_r0
  let c1_i32_184_r0 : BitVec 32 := 1#32
  let v747_r0 : BitVec 32 := Scalar.addi v746_r0 c1_i32_184_r0
  let c8_i32_203_r0 : BitVec 32 := 8#32
  let v828_r0 : BitVec 32 := Scalar.muli v747_r0 c8_i32_203_r0
  let c0_i32_18_r0 : BitVec 32 := 0#32
  let c1_i32_19_r0 : BitVec 32 := 1#32
  let arg36_r0 : BitVec 32 := Scf.iv c0_i32_18_r0 c1_i32_19_r0 k0_t16
  let v829_r0 : BitVec 32 := Scalar.addi v828_r0 arg36_r0
  let c16_i32_204_r0 : BitVec 32 := 16#32
  let v830_r0 : BitVec 32 := Scalar.muli v829_r0 c16_i32_204_r0
  let v831_r0 : BitVec 32 := v830_r0
  let v847_r0 : BitVec 32 := Scalar.addi v831_r0 c0_i32_209_r0
  let v848_r0 : Index := Scalar.indexCast v847_r0
  let c0_210_r0 : Index := 0#32
  ![v848_r0.toNat, 0]
def k0_mult142 (k0_t16 : Fin k0_t16_loop.trips) : BitVec 32 :=
  let c0_i32_18_r0 : BitVec 32 := 0#32
  let c1_i32_19_r0 : BitVec 32 := 1#32
  let arg36_r0 : BitVec 32 := Scf.iv c0_i32_18_r0 c1_i32_19_r0 k0_t16
  let c256_i32_217_r0 : BitVec 32 := 256#32
  let v900_r0 : BitVec 32 := Scalar.muli arg36_r0 c256_i32_217_r0
  v900_r0
def k0_off68 (k0_t16 : Fin k0_t16_loop.trips) : Fin 2 → Nat :=
  let c0_218_r0 : Index := 0#32
  let c0_i32_18_r0 : BitVec 32 := 0#32
  let c1_i32_19_r0 : BitVec 32 := 1#32
  let arg36_r0 : BitVec 32 := Scf.iv c0_i32_18_r0 c1_i32_19_r0 k0_t16
  let c256_i32_217_r0 : BitVec 32 := 256#32
  let v900_r0 : BitVec 32 := Scalar.muli arg36_r0 c256_i32_217_r0
  let v901_r0 : BitVec 32 := v900_r0
  let v902_r0 : Index := Scalar.indexCast v901_r0
  ![0, v902_r0.toNat]
def k0_mult143 (k0_t15 : Fin k0_t15_loop.trips) (k0_t16 : Fin k0_t16_loop.trips) : BitVec 32 :=
  let c2_i32_221_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_219_r0 : BitVec 32 := 2#32
  let v905_r0 : BitVec 32 := Scalar.muli arg35_r0 c2_i32_219_r0
  let c1_i32_220_r0 : BitVec 32 := 1#32
  let v906_r0 : BitVec 32 := Scalar.addi v905_r0 c1_i32_220_r0
  let v907_r0 : BitVec 32 := Scalar.muli c2_i32_221_r0 v906_r0
  let c8_i32_224_r0 : BitVec 32 := 8#32
  let v910_r0 : BitVec 32 := Scalar.muli v907_r0 c8_i32_224_r0
  let c0_i32_18_r0 : BitVec 32 := 0#32
  let c1_i32_19_r0 : BitVec 32 := 1#32
  let arg36_r0 : BitVec 32 := Scf.iv c0_i32_18_r0 c1_i32_19_r0 k0_t16
  let v911_r0 : BitVec 32 := Scalar.addi v910_r0 arg36_r0
  let c32_i32_225_r0 : BitVec 32 := 32#32
  let v912_r0 : BitVec 32 := Scalar.muli v911_r0 c32_i32_225_r0
  v912_r0
def k0_mult144 (k0_t15 : Fin k0_t15_loop.trips) (k0_t16 : Fin k0_t16_loop.trips) : BitVec 32 :=
  let c2_i32_221_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_219_r0 : BitVec 32 := 2#32
  let v905_r0 : BitVec 32 := Scalar.muli arg35_r0 c2_i32_219_r0
  let c1_i32_220_r0 : BitVec 32 := 1#32
  let v906_r0 : BitVec 32 := Scalar.addi v905_r0 c1_i32_220_r0
  let v907_r0 : BitVec 32 := Scalar.muli c2_i32_221_r0 v906_r0
  let c8_i32_226_r0 : BitVec 32 := 8#32
  let v914_r0 : BitVec 32 := Scalar.muli v907_r0 c8_i32_226_r0
  let c0_i32_18_r0 : BitVec 32 := 0#32
  let c1_i32_19_r0 : BitVec 32 := 1#32
  let arg36_r0 : BitVec 32 := Scf.iv c0_i32_18_r0 c1_i32_19_r0 k0_t16
  let v915_r0 : BitVec 32 := Scalar.addi v914_r0 arg36_r0
  let c16_i32_227_r0 : BitVec 32 := 16#32
  let v916_r0 : BitVec 32 := Scalar.muli v915_r0 c16_i32_227_r0
  v916_r0
def k0_mult145 (k0_t15 : Fin k0_t15_loop.trips) (k0_t16 : Fin k0_t16_loop.trips) : BitVec 32 :=
  let c2_i32_222_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_219_r0 : BitVec 32 := 2#32
  let v905_r0 : BitVec 32 := Scalar.muli arg35_r0 c2_i32_219_r0
  let c1_i32_220_r0 : BitVec 32 := 1#32
  let v906_r0 : BitVec 32 := Scalar.addi v905_r0 c1_i32_220_r0
  let v908_r0 : BitVec 32 := Scalar.muli c2_i32_222_r0 v906_r0
  let c1_i32_223_r0 : BitVec 32 := 1#32
  let v909_r0 : BitVec 32 := Scalar.addi v908_r0 c1_i32_223_r0
  let c8_i32_240_r0 : BitVec 32 := 8#32
  let v986_r0 : BitVec 32 := Scalar.muli v909_r0 c8_i32_240_r0
  let c0_i32_18_r0 : BitVec 32 := 0#32
  let c1_i32_19_r0 : BitVec 32 := 1#32
  let arg36_r0 : BitVec 32 := Scf.iv c0_i32_18_r0 c1_i32_19_r0 k0_t16
  let v987_r0 : BitVec 32 := Scalar.addi v986_r0 arg36_r0
  let c32_i32_241_r0 : BitVec 32 := 32#32
  let v988_r0 : BitVec 32 := Scalar.muli v987_r0 c32_i32_241_r0
  v988_r0
def k0_mult146 (k0_t15 : Fin k0_t15_loop.trips) (k0_t16 : Fin k0_t16_loop.trips) : BitVec 32 :=
  let c2_i32_222_r0 : BitVec 32 := 2#32
  let c0_i32_10_r0 : BitVec 32 := 0#32
  let c1_i32_r0 : BitVec 32 := 1#32
  let arg35_r0 : BitVec 32 := Scf.iv c0_i32_10_r0 c1_i32_r0 k0_t15
  let c2_i32_219_r0 : BitVec 32 := 2#32
  let v905_r0 : BitVec 32 := Scalar.muli arg35_r0 c2_i32_219_r0
  let c1_i32_220_r0 : BitVec 32 := 1#32
  let v906_r0 : BitVec 32 := Scalar.addi v905_r0 c1_i32_220_r0
  let v908_r0 : BitVec 32 := Scalar.muli c2_i32_222_r0 v906_r0
  let c1_i32_223_r0 : BitVec 32 := 1#32
  let v909_r0 : BitVec 32 := Scalar.addi v908_r0 c1_i32_223_r0
  let c8_i32_242_r0 : BitVec 32 := 8#32
  let v990_r0 : BitVec 32 := Scalar.muli v909_r0 c8_i32_242_r0
  let c0_i32_18_r0 : BitVec 32 := 0#32
  let c1_i32_19_r0 : BitVec 32 := 1#32
  let arg36_r0 : BitVec 32 := Scf.iv c0_i32_18_r0 c1_i32_19_r0 k0_t16
  let v991_r0 : BitVec 32 := Scalar.addi v990_r0 arg36_r0
  let c16_i32_243_r0 : BitVec 32 := 16#32
  let v992_r0 : BitVec 32 := Scalar.muli v991_r0 c16_i32_243_r0
  v992_r0
def k0_mult147 (k0_t16 : Fin k0_t16_loop.trips) : BitVec 32 :=
  let c0_i32_18_r0 : BitVec 32 := 0#32
  let c1_i32_19_r0 : BitVec 32 := 1#32
  let arg36_r0 : BitVec 32 := Scf.iv c0_i32_18_r0 c1_i32_19_r0 k0_t16
  let c256_i32_256_r0 : BitVec 32 := 256#32
  let v1062_r0 : BitVec 32 := Scalar.muli arg36_r0 c256_i32_256_r0
  v1062_r0
def k0_off69 (k0_t15 : Fin k0_t15_loop.trips) (c0_i32_22_r0 : BitVec 32) : Fin 3 → Nat :=
  let c0_i32_10_r0 : BitVec 32 := 0#32
  let c1_i32_r0 : BitVec 32 := 1#32
  let arg35_r0 : BitVec 32 := Scf.iv c0_i32_10_r0 c1_i32_r0 k0_t15
  let c2_i32_21_r0 : BitVec 32 := 2#32
  let v52_r0 : BitVec 32 := Scalar.muli arg35_r0 c2_i32_21_r0
  let v53_r0 : BitVec 32 := Scalar.addi v52_r0 c0_i32_22_r0
  let v54_r0 : Index := Scalar.indexCast v53_r0
  let c0_r0 : Index := 0#32
  let c0_23_r0 : Index := 0#32
  ![v54_r0.toNat, 0, 0]
@[reducible] def k0_t18_loop : Scf.Loop 32 :=
  let c0_i32_14_r0 : BitVec 32 := 0#32
  let c4_i32_r0 : BitVec 32 := 4#32
  let v50_r0 : BitVec 32 := Scalar.addi c0_i32_14_r0 c4_i32_r0
  let c1_i32_15_r0 : BitVec 32 := 1#32
  ⟨c0_i32_14_r0, v50_r0, c1_i32_15_r0⟩
def k0_mult148 (i : grid0.Coords) (k0_t18 : Fin k0_t18_loop.trips) : BitVec 32 :=
  let c2_i32_r0 : BitVec 32 := 2#32
  let arg0 : BitVec 32 := BitVec.ofNat 32 (i 0).val
  let v17_r0 : BitVec 32 := Scalar.muli c2_i32_r0 arg0
  let c4_i32_39_r0 : BitVec 32 := 4#32
  let v138_r0 : BitVec 32 := Scalar.muli v17_r0 c4_i32_39_r0
  let c0_i32_14_r0 : BitVec 32 := 0#32
  let c1_i32_15_r0 : BitVec 32 := 1#32
  let arg35_r0 : BitVec 32 := Scf.iv c0_i32_14_r0 c1_i32_15_r0 k0_t18
  let v139_r0 : BitVec 32 := Scalar.addi v138_r0 arg35_r0
  let c128_i32_40_r0 : BitVec 32 := 128#32
  let v140_r0 : BitVec 32 := Scalar.muli v139_r0 c128_i32_40_r0
  v140_r0
def k0_off70 (i : grid0.Coords) (k0_t18 : Fin k0_t18_loop.trips) : Fin 2 → Nat :=
  let c0_r0 : Index := 0#32
  let c2_i32_r0 : BitVec 32 := 2#32
  let arg0 : BitVec 32 := BitVec.ofNat 32 (i 0).val
  let v17_r0 : BitVec 32 := Scalar.muli c2_i32_r0 arg0
  let c4_i32_39_r0 : BitVec 32 := 4#32
  let v138_r0 : BitVec 32 := Scalar.muli v17_r0 c4_i32_39_r0
  let c0_i32_14_r0 : BitVec 32 := 0#32
  let c1_i32_15_r0 : BitVec 32 := 1#32
  let arg35_r0 : BitVec 32 := Scf.iv c0_i32_14_r0 c1_i32_15_r0 k0_t18
  let v139_r0 : BitVec 32 := Scalar.addi v138_r0 arg35_r0
  let c128_i32_40_r0 : BitVec 32 := 128#32
  let v140_r0 : BitVec 32 := Scalar.muli v139_r0 c128_i32_40_r0
  let v141_r0 : BitVec 32 := v140_r0
  let v142_r0 : Index := Scalar.indexCast v141_r0
  ![0, v142_r0.toNat]
def k0_mult149 (k0_t18 : Fin k0_t18_loop.trips) : BitVec 32 :=
  let c0_i32_14_r0 : BitVec 32 := 0#32
  let c1_i32_15_r0 : BitVec 32 := 1#32
  let arg35_r0 : BitVec 32 := Scf.iv c0_i32_14_r0 c1_i32_15_r0 k0_t18
  let c512_i32_r0 : BitVec 32 := 512#32
  let v144_r0 : BitVec 32 := Scalar.muli arg35_r0 c512_i32_r0
  v144_r0
@[reducible] def k0_t19_loop : Scf.Loop 32 :=
  let c0_i32_55_r0 : BitVec 32 := 0#32
  let c4_i32_56_r0 : BitVec 32 := 4#32
  let v187_r0 : BitVec 32 := Scalar.addi c0_i32_55_r0 c4_i32_56_r0
  let c1_i32_57_r0 : BitVec 32 := 1#32
  ⟨c0_i32_55_r0, v187_r0, c1_i32_57_r0⟩
def k0_mult150 (k0_t18 : Fin k0_t18_loop.trips) (k0_t19 : Fin k0_t19_loop.trips) : BitVec 32 :=
  let c0_i32_14_r0 : BitVec 32 := 0#32
  let c1_i32_15_r0 : BitVec 32 := 1#32
  let arg35_r0 : BitVec 32 := Scf.iv c0_i32_14_r0 c1_i32_15_r0 k0_t18
  let c512_i32_r0 : BitVec 32 := 512#32
  let v144_r0 : BitVec 32 := Scalar.muli arg35_r0 c512_i32_r0
  let v145_r0 : BitVec 32 := v144_r0
  let c0_i32_55_r0 : BitVec 32 := 0#32
  let c1_i32_57_r0 : BitVec 32 := 1#32
  let arg36_r0 : BitVec 32 := Scf.iv c0_i32_55_r0 c1_i32_57_r0 k0_t19
  let c128_i32_75_r0 : BitVec 32 := 128#32
  let v247_r0 : BitVec 32 := Scalar.muli arg36_r0 c128_i32_75_r0
  let v248_r0 : BitVec 32 := Scalar.addi v145_r0 v247_r0
  v248_r0
def k0_off71 (k0_t18 : Fin k0_t18_loop.trips) (k0_t19 : Fin k0_t19_loop.trips) : Fin 2 → Nat :=
  let c0_76_r0 : Index := 0#32
  let c0_i32_14_r0 : BitVec 32 := 0#32
  let c1_i32_15_r0 : BitVec 32 := 1#32
  let arg35_r0 : BitVec 32 := Scf.iv c0_i32_14_r0 c1_i32_15_r0 k0_t18
  let c512_i32_r0 : BitVec 32 := 512#32
  let v144_r0 : BitVec 32 := Scalar.muli arg35_r0 c512_i32_r0
  let v145_r0 : BitVec 32 := v144_r0
  let c0_i32_55_r0 : BitVec 32 := 0#32
  let c1_i32_57_r0 : BitVec 32 := 1#32
  let arg36_r0 : BitVec 32 := Scf.iv c0_i32_55_r0 c1_i32_57_r0 k0_t19
  let c128_i32_75_r0 : BitVec 32 := 128#32
  let v247_r0 : BitVec 32 := Scalar.muli arg36_r0 c128_i32_75_r0
  let v248_r0 : BitVec 32 := Scalar.addi v145_r0 v247_r0
  let v249_r0 : BitVec 32 := v248_r0
  let v250_r0 : Index := Scalar.indexCast v249_r0
  ![0, v250_r0.toNat]
def k0_mult151 (k0_t18 : Fin k0_t18_loop.trips) (k0_t19 : Fin k0_t19_loop.trips) : BitVec 32 :=
  let c0_i32_14_r0 : BitVec 32 := 0#32
  let c1_i32_15_r0 : BitVec 32 := 1#32
  let arg35_r0 : BitVec 32 := Scf.iv c0_i32_14_r0 c1_i32_15_r0 k0_t18
  let c512_i32_r0 : BitVec 32 := 512#32
  let v144_r0 : BitVec 32 := Scalar.muli arg35_r0 c512_i32_r0
  let v145_r0 : BitVec 32 := v144_r0
  let c0_i32_55_r0 : BitVec 32 := 0#32
  let c1_i32_57_r0 : BitVec 32 := 1#32
  let arg36_r0 : BitVec 32 := Scf.iv c0_i32_55_r0 c1_i32_57_r0 k0_t19
  let c128_i32_79_r0 : BitVec 32 := 128#32
  let v259_r0 : BitVec 32 := Scalar.muli arg36_r0 c128_i32_79_r0
  let v260_r0 : BitVec 32 := Scalar.addi v145_r0 v259_r0
  v260_r0
def k0_off72 (k0_t18 : Fin k0_t18_loop.trips) (k0_t19 : Fin k0_t19_loop.trips) : Fin 2 → Nat :=
  let c16_r0 : Index := 16#32
  let c0_i32_14_r0 : BitVec 32 := 0#32
  let c1_i32_15_r0 : BitVec 32 := 1#32
  let arg35_r0 : BitVec 32 := Scf.iv c0_i32_14_r0 c1_i32_15_r0 k0_t18
  let c512_i32_r0 : BitVec 32 := 512#32
  let v144_r0 : BitVec 32 := Scalar.muli arg35_r0 c512_i32_r0
  let v145_r0 : BitVec 32 := v144_r0
  let c0_i32_55_r0 : BitVec 32 := 0#32
  let c1_i32_57_r0 : BitVec 32 := 1#32
  let arg36_r0 : BitVec 32 := Scf.iv c0_i32_55_r0 c1_i32_57_r0 k0_t19
  let c128_i32_79_r0 : BitVec 32 := 128#32
  let v259_r0 : BitVec 32 := Scalar.muli arg36_r0 c128_i32_79_r0
  let v260_r0 : BitVec 32 := Scalar.addi v145_r0 v259_r0
  let v261_r0 : BitVec 32 := v260_r0
  let v262_r0 : Index := Scalar.indexCast v261_r0
  ![16, v262_r0.toNat]
def k0_mult152 (k0_t18 : Fin k0_t18_loop.trips) (k0_t19 : Fin k0_t19_loop.trips) : BitVec 32 :=
  let c0_i32_14_r0 : BitVec 32 := 0#32
  let c1_i32_15_r0 : BitVec 32 := 1#32
  let arg35_r0 : BitVec 32 := Scf.iv c0_i32_14_r0 c1_i32_15_r0 k0_t18
  let c512_i32_r0 : BitVec 32 := 512#32
  let v144_r0 : BitVec 32 := Scalar.muli arg35_r0 c512_i32_r0
  let v145_r0 : BitVec 32 := v144_r0
  let c0_i32_55_r0 : BitVec 32 := 0#32
  let c1_i32_57_r0 : BitVec 32 := 1#32
  let arg36_r0 : BitVec 32 := Scf.iv c0_i32_55_r0 c1_i32_57_r0 k0_t19
  let c128_i32_82_r0 : BitVec 32 := 128#32
  let v271_r0 : BitVec 32 := Scalar.muli arg36_r0 c128_i32_82_r0
  let v272_r0 : BitVec 32 := Scalar.addi v145_r0 v271_r0
  v272_r0
def k0_off73 (k0_t18 : Fin k0_t18_loop.trips) (k0_t19 : Fin k0_t19_loop.trips) : Fin 2 → Nat :=
  let c32_r0 : Index := 32#32
  let c0_i32_14_r0 : BitVec 32 := 0#32
  let c1_i32_15_r0 : BitVec 32 := 1#32
  let arg35_r0 : BitVec 32 := Scf.iv c0_i32_14_r0 c1_i32_15_r0 k0_t18
  let c512_i32_r0 : BitVec 32 := 512#32
  let v144_r0 : BitVec 32 := Scalar.muli arg35_r0 c512_i32_r0
  let v145_r0 : BitVec 32 := v144_r0
  let c0_i32_55_r0 : BitVec 32 := 0#32
  let c1_i32_57_r0 : BitVec 32 := 1#32
  let arg36_r0 : BitVec 32 := Scf.iv c0_i32_55_r0 c1_i32_57_r0 k0_t19
  let c128_i32_82_r0 : BitVec 32 := 128#32
  let v271_r0 : BitVec 32 := Scalar.muli arg36_r0 c128_i32_82_r0
  let v272_r0 : BitVec 32 := Scalar.addi v145_r0 v271_r0
  let v273_r0 : BitVec 32 := v272_r0
  let v274_r0 : Index := Scalar.indexCast v273_r0
  ![32, v274_r0.toNat]
def k0_mult153 (k0_t18 : Fin k0_t18_loop.trips) (k0_t19 : Fin k0_t19_loop.trips) : BitVec 32 :=
  let c0_i32_14_r0 : BitVec 32 := 0#32
  let c1_i32_15_r0 : BitVec 32 := 1#32
  let arg35_r0 : BitVec 32 := Scf.iv c0_i32_14_r0 c1_i32_15_r0 k0_t18
  let c512_i32_r0 : BitVec 32 := 512#32
  let v144_r0 : BitVec 32 := Scalar.muli arg35_r0 c512_i32_r0
  let v145_r0 : BitVec 32 := v144_r0
  let c0_i32_55_r0 : BitVec 32 := 0#32
  let c1_i32_57_r0 : BitVec 32 := 1#32
  let arg36_r0 : BitVec 32 := Scf.iv c0_i32_55_r0 c1_i32_57_r0 k0_t19
  let c128_i32_85_r0 : BitVec 32 := 128#32
  let v283_r0 : BitVec 32 := Scalar.muli arg36_r0 c128_i32_85_r0
  let v284_r0 : BitVec 32 := Scalar.addi v145_r0 v283_r0
  v284_r0
def k0_off74 (k0_t18 : Fin k0_t18_loop.trips) (k0_t19 : Fin k0_t19_loop.trips) : Fin 2 → Nat :=
  let c48_r0 : Index := 48#32
  let c0_i32_14_r0 : BitVec 32 := 0#32
  let c1_i32_15_r0 : BitVec 32 := 1#32
  let arg35_r0 : BitVec 32 := Scf.iv c0_i32_14_r0 c1_i32_15_r0 k0_t18
  let c512_i32_r0 : BitVec 32 := 512#32
  let v144_r0 : BitVec 32 := Scalar.muli arg35_r0 c512_i32_r0
  let v145_r0 : BitVec 32 := v144_r0
  let c0_i32_55_r0 : BitVec 32 := 0#32
  let c1_i32_57_r0 : BitVec 32 := 1#32
  let arg36_r0 : BitVec 32 := Scf.iv c0_i32_55_r0 c1_i32_57_r0 k0_t19
  let c128_i32_85_r0 : BitVec 32 := 128#32
  let v283_r0 : BitVec 32 := Scalar.muli arg36_r0 c128_i32_85_r0
  let v284_r0 : BitVec 32 := Scalar.addi v145_r0 v283_r0
  let v285_r0 : BitVec 32 := v284_r0
  let v286_r0 : Index := Scalar.indexCast v285_r0
  ![48, v286_r0.toNat]
def k0_cond16 (i : grid0.Coords) : BitVec 1 :=
  let arg0 : BitVec 32 := BitVec.ofNat 32 (i 0).val
  let c14_i32_7_r0 : BitVec 32 := 14#32
  let v14_r0 : BitVec 1 := Scalar.cmpi .eq arg0 c14_i32_7_r0
  let v15_r0 : BitVec 32 := Scalar.extui v14_r0
  let c0_i32_8_r0 : BitVec 32 := 0#32
  let v16_r0 : BitVec 1 := Scalar.cmpi .ne v15_r0 c0_i32_8_r0
  v16_r0

@[reducible] def k0_t20_loop : Scf.Loop 32 :=
  let c0_i32_10_r0 : BitVec 32 := 0#32
  let c2_i32_r0 : BitVec 32 := 2#32
  let v17_r0 : BitVec 32 := Scalar.addi c0_i32_10_r0 c2_i32_r0
  let c1_i32_r0 : BitVec 32 := 1#32
  ⟨c0_i32_10_r0, v17_r0, c1_i32_r0⟩
@[reducible] def k0_t21_loop : Scf.Loop 32 :=
  let c0_i32_17_r0 : BitVec 32 := 0#32
  let c8_i32_r0 : BitVec 32 := 8#32
  let v19_r0 : BitVec 32 := Scalar.addi c0_i32_17_r0 c8_i32_r0
  let c1_i32_18_r0 : BitVec 32 := 1#32
  ⟨c0_i32_17_r0, v19_r0, c1_i32_18_r0⟩
def k0_mult154 (k0_t20 : Fin k0_t20_loop.trips) (k0_t21 : Fin k0_t21_loop.trips) : BitVec 32 :=
  let c2_i32_34_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_32_r0 : BitVec 32 := 2#32
  let v44_r0 : BitVec 32 := Scalar.muli arg35_r0 c2_i32_32_r0
  let c0_i32_33_r0 : BitVec 32 := 0#32
  let v45_r0 : BitVec 32 := Scalar.addi v44_r0 c0_i32_33_r0
  let v46_r0 : BitVec 32 := Scalar.muli c2_i32_34_r0 v45_r0
  let c8_i32_37_r0 : BitVec 32 := 8#32
  let v49_r0 : BitVec 32 := Scalar.muli v46_r0 c8_i32_37_r0
  let c0_i32_17_r0 : BitVec 32 := 0#32
  let c1_i32_18_r0 : BitVec 32 := 1#32
  let arg36_r0 : BitVec 32 := Scf.iv c0_i32_17_r0 c1_i32_18_r0 k0_t21
  let v50_r0 : BitVec 32 := Scalar.addi v49_r0 arg36_r0
  let c32_i32_38_r0 : BitVec 32 := 32#32
  let v51_r0 : BitVec 32 := Scalar.muli v50_r0 c32_i32_38_r0
  v51_r0
def k0_mult155 (k0_t20 : Fin k0_t20_loop.trips) (k0_t21 : Fin k0_t21_loop.trips) : BitVec 32 :=
  let c2_i32_34_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_32_r0 : BitVec 32 := 2#32
  let v44_r0 : BitVec 32 := Scalar.muli arg35_r0 c2_i32_32_r0
  let c0_i32_33_r0 : BitVec 32 := 0#32
  let v45_r0 : BitVec 32 := Scalar.addi v44_r0 c0_i32_33_r0
  let v46_r0 : BitVec 32 := Scalar.muli c2_i32_34_r0 v45_r0
  let c8_i32_39_r0 : BitVec 32 := 8#32
  let v53_r0 : BitVec 32 := Scalar.muli v46_r0 c8_i32_39_r0
  let c0_i32_17_r0 : BitVec 32 := 0#32
  let c1_i32_18_r0 : BitVec 32 := 1#32
  let arg36_r0 : BitVec 32 := Scf.iv c0_i32_17_r0 c1_i32_18_r0 k0_t21
  let v54_r0 : BitVec 32 := Scalar.addi v53_r0 arg36_r0
  let c16_i32_r0 : BitVec 32 := 16#32
  let v55_r0 : BitVec 32 := Scalar.muli v54_r0 c16_i32_r0
  v55_r0
def k0_off75 (k0_t20 : Fin k0_t20_loop.trips) (k0_t21 : Fin k0_t21_loop.trips) (c0_i32_33_r0 : BitVec 32) : Fin 2 → Nat :=
  let c2_i32_34_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_32_r0 : BitVec 32 := 2#32
  let v44_r0 : BitVec 32 := Scalar.muli arg35_r0 c2_i32_32_r0
  let v45_r0 : BitVec 32 := Scalar.addi v44_r0 c0_i32_33_r0
  let v46_r0 : BitVec 32 := Scalar.muli c2_i32_34_r0 v45_r0
  let c8_i32_37_r0 : BitVec 32 := 8#32
  let v49_r0 : BitVec 32 := Scalar.muli v46_r0 c8_i32_37_r0
  let c0_i32_17_r0 : BitVec 32 := 0#32
  let c1_i32_18_r0 : BitVec 32 := 1#32
  let arg36_r0 : BitVec 32 := Scf.iv c0_i32_17_r0 c1_i32_18_r0 k0_t21
  let v50_r0 : BitVec 32 := Scalar.addi v49_r0 arg36_r0
  let c32_i32_38_r0 : BitVec 32 := 32#32
  let v51_r0 : BitVec 32 := Scalar.muli v50_r0 c32_i32_38_r0
  let v52_r0 : BitVec 32 := v51_r0
  let v57_r0 : Index := Scalar.indexCast v52_r0
  let c0_40_r0 : Index := 0#32
  ![v57_r0.toNat, 0]
def k0_off76 (k0_t20 : Fin k0_t20_loop.trips) (k0_t21 : Fin k0_t21_loop.trips) (c0_i32_33_r0 : BitVec 32) (c0_i32_42_r0 : BitVec 32) : Fin 2 → Nat :=
  let c2_i32_34_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_32_r0 : BitVec 32 := 2#32
  let v44_r0 : BitVec 32 := Scalar.muli arg35_r0 c2_i32_32_r0
  let v45_r0 : BitVec 32 := Scalar.addi v44_r0 c0_i32_33_r0
  let v46_r0 : BitVec 32 := Scalar.muli c2_i32_34_r0 v45_r0
  let c8_i32_39_r0 : BitVec 32 := 8#32
  let v53_r0 : BitVec 32 := Scalar.muli v46_r0 c8_i32_39_r0
  let c0_i32_17_r0 : BitVec 32 := 0#32
  let c1_i32_18_r0 : BitVec 32 := 1#32
  let arg36_r0 : BitVec 32 := Scf.iv c0_i32_17_r0 c1_i32_18_r0 k0_t21
  let v54_r0 : BitVec 32 := Scalar.addi v53_r0 arg36_r0
  let c16_i32_r0 : BitVec 32 := 16#32
  let v55_r0 : BitVec 32 := Scalar.muli v54_r0 c16_i32_r0
  let v56_r0 : BitVec 32 := v55_r0
  let v72_r0 : BitVec 32 := Scalar.addi v56_r0 c0_i32_42_r0
  let v73_r0 : Index := Scalar.indexCast v72_r0
  let c0_43_r0 : Index := 0#32
  ![v73_r0.toNat, 0]
def k0_mult156 (k0_t20 : Fin k0_t20_loop.trips) (k0_t21 : Fin k0_t21_loop.trips) : BitVec 32 :=
  let c2_i32_35_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_32_r0 : BitVec 32 := 2#32
  let v44_r0 : BitVec 32 := Scalar.muli arg35_r0 c2_i32_32_r0
  let c0_i32_33_r0 : BitVec 32 := 0#32
  let v45_r0 : BitVec 32 := Scalar.addi v44_r0 c0_i32_33_r0
  let v47_r0 : BitVec 32 := Scalar.muli c2_i32_35_r0 v45_r0
  let c1_i32_36_r0 : BitVec 32 := 1#32
  let v48_r0 : BitVec 32 := Scalar.addi v47_r0 c1_i32_36_r0
  let c8_i32_50_r0 : BitVec 32 := 8#32
  let v125_r0 : BitVec 32 := Scalar.muli v48_r0 c8_i32_50_r0
  let c0_i32_17_r0 : BitVec 32 := 0#32
  let c1_i32_18_r0 : BitVec 32 := 1#32
  let arg36_r0 : BitVec 32 := Scf.iv c0_i32_17_r0 c1_i32_18_r0 k0_t21
  let v126_r0 : BitVec 32 := Scalar.addi v125_r0 arg36_r0
  let c32_i32_51_r0 : BitVec 32 := 32#32
  let v127_r0 : BitVec 32 := Scalar.muli v126_r0 c32_i32_51_r0
  v127_r0
def k0_mult157 (k0_t20 : Fin k0_t20_loop.trips) (k0_t21 : Fin k0_t21_loop.trips) : BitVec 32 :=
  let c2_i32_35_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_32_r0 : BitVec 32 := 2#32
  let v44_r0 : BitVec 32 := Scalar.muli arg35_r0 c2_i32_32_r0
  let c0_i32_33_r0 : BitVec 32 := 0#32
  let v45_r0 : BitVec 32 := Scalar.addi v44_r0 c0_i32_33_r0
  let v47_r0 : BitVec 32 := Scalar.muli c2_i32_35_r0 v45_r0
  let c1_i32_36_r0 : BitVec 32 := 1#32
  let v48_r0 : BitVec 32 := Scalar.addi v47_r0 c1_i32_36_r0
  let c8_i32_52_r0 : BitVec 32 := 8#32
  let v129_r0 : BitVec 32 := Scalar.muli v48_r0 c8_i32_52_r0
  let c0_i32_17_r0 : BitVec 32 := 0#32
  let c1_i32_18_r0 : BitVec 32 := 1#32
  let arg36_r0 : BitVec 32 := Scf.iv c0_i32_17_r0 c1_i32_18_r0 k0_t21
  let v130_r0 : BitVec 32 := Scalar.addi v129_r0 arg36_r0
  let c16_i32_53_r0 : BitVec 32 := 16#32
  let v131_r0 : BitVec 32 := Scalar.muli v130_r0 c16_i32_53_r0
  v131_r0
def k0_off77 (k0_t20 : Fin k0_t20_loop.trips) (k0_t21 : Fin k0_t21_loop.trips) (c0_i32_33_r0 : BitVec 32) : Fin 2 → Nat :=
  let c2_i32_35_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_32_r0 : BitVec 32 := 2#32
  let v44_r0 : BitVec 32 := Scalar.muli arg35_r0 c2_i32_32_r0
  let v45_r0 : BitVec 32 := Scalar.addi v44_r0 c0_i32_33_r0
  let v47_r0 : BitVec 32 := Scalar.muli c2_i32_35_r0 v45_r0
  let c1_i32_36_r0 : BitVec 32 := 1#32
  let v48_r0 : BitVec 32 := Scalar.addi v47_r0 c1_i32_36_r0
  let c8_i32_50_r0 : BitVec 32 := 8#32
  let v125_r0 : BitVec 32 := Scalar.muli v48_r0 c8_i32_50_r0
  let c0_i32_17_r0 : BitVec 32 := 0#32
  let c1_i32_18_r0 : BitVec 32 := 1#32
  let arg36_r0 : BitVec 32 := Scf.iv c0_i32_17_r0 c1_i32_18_r0 k0_t21
  let v126_r0 : BitVec 32 := Scalar.addi v125_r0 arg36_r0
  let c32_i32_51_r0 : BitVec 32 := 32#32
  let v127_r0 : BitVec 32 := Scalar.muli v126_r0 c32_i32_51_r0
  let v128_r0 : BitVec 32 := v127_r0
  let v133_r0 : Index := Scalar.indexCast v128_r0
  let c0_54_r0 : Index := 0#32
  ![v133_r0.toNat, 0]
def k0_off78 (k0_t20 : Fin k0_t20_loop.trips) (k0_t21 : Fin k0_t21_loop.trips) (c0_i32_33_r0 : BitVec 32) (c0_i32_58_r0 : BitVec 32) : Fin 2 → Nat :=
  let c2_i32_35_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_32_r0 : BitVec 32 := 2#32
  let v44_r0 : BitVec 32 := Scalar.muli arg35_r0 c2_i32_32_r0
  let v45_r0 : BitVec 32 := Scalar.addi v44_r0 c0_i32_33_r0
  let v47_r0 : BitVec 32 := Scalar.muli c2_i32_35_r0 v45_r0
  let c1_i32_36_r0 : BitVec 32 := 1#32
  let v48_r0 : BitVec 32 := Scalar.addi v47_r0 c1_i32_36_r0
  let c8_i32_52_r0 : BitVec 32 := 8#32
  let v129_r0 : BitVec 32 := Scalar.muli v48_r0 c8_i32_52_r0
  let c0_i32_17_r0 : BitVec 32 := 0#32
  let c1_i32_18_r0 : BitVec 32 := 1#32
  let arg36_r0 : BitVec 32 := Scf.iv c0_i32_17_r0 c1_i32_18_r0 k0_t21
  let v130_r0 : BitVec 32 := Scalar.addi v129_r0 arg36_r0
  let c16_i32_53_r0 : BitVec 32 := 16#32
  let v131_r0 : BitVec 32 := Scalar.muli v130_r0 c16_i32_53_r0
  let v132_r0 : BitVec 32 := v131_r0
  let v148_r0 : BitVec 32 := Scalar.addi v132_r0 c0_i32_58_r0
  let v149_r0 : Index := Scalar.indexCast v148_r0
  let c0_59_r0 : Index := 0#32
  ![v149_r0.toNat, 0]
def k0_mult158 (k0_t21 : Fin k0_t21_loop.trips) : BitVec 32 :=
  let c0_i32_17_r0 : BitVec 32 := 0#32
  let c1_i32_18_r0 : BitVec 32 := 1#32
  let arg36_r0 : BitVec 32 := Scf.iv c0_i32_17_r0 c1_i32_18_r0 k0_t21
  let c256_i32_r0 : BitVec 32 := 256#32
  let v201_r0 : BitVec 32 := Scalar.muli arg36_r0 c256_i32_r0
  v201_r0
def k0_off79 (k0_t21 : Fin k0_t21_loop.trips) : Fin 2 → Nat :=
  let c0_66_r0 : Index := 0#32
  let c0_i32_17_r0 : BitVec 32 := 0#32
  let c1_i32_18_r0 : BitVec 32 := 1#32
  let arg36_r0 : BitVec 32 := Scf.iv c0_i32_17_r0 c1_i32_18_r0 k0_t21
  let c256_i32_r0 : BitVec 32 := 256#32
  let v201_r0 : BitVec 32 := Scalar.muli arg36_r0 c256_i32_r0
  let v202_r0 : BitVec 32 := v201_r0
  let v203_r0 : Index := Scalar.indexCast v202_r0
  ![0, v203_r0.toNat]
def k0_mult159 (k0_t20 : Fin k0_t20_loop.trips) (k0_t21 : Fin k0_t21_loop.trips) : BitVec 32 :=
  let c2_i32_69_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_67_r0 : BitVec 32 := 2#32
  let v206_r0 : BitVec 32 := Scalar.muli arg35_r0 c2_i32_67_r0
  let c1_i32_68_r0 : BitVec 32 := 1#32
  let v207_r0 : BitVec 32 := Scalar.addi v206_r0 c1_i32_68_r0
  let v208_r0 : BitVec 32 := Scalar.muli c2_i32_69_r0 v207_r0
  let c8_i32_72_r0 : BitVec 32 := 8#32
  let v211_r0 : BitVec 32 := Scalar.muli v208_r0 c8_i32_72_r0
  let c0_i32_17_r0 : BitVec 32 := 0#32
  let c1_i32_18_r0 : BitVec 32 := 1#32
  let arg36_r0 : BitVec 32 := Scf.iv c0_i32_17_r0 c1_i32_18_r0 k0_t21
  let v212_r0 : BitVec 32 := Scalar.addi v211_r0 arg36_r0
  let c32_i32_73_r0 : BitVec 32 := 32#32
  let v213_r0 : BitVec 32 := Scalar.muli v212_r0 c32_i32_73_r0
  v213_r0
def k0_mult160 (k0_t20 : Fin k0_t20_loop.trips) (k0_t21 : Fin k0_t21_loop.trips) : BitVec 32 :=
  let c2_i32_69_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_67_r0 : BitVec 32 := 2#32
  let v206_r0 : BitVec 32 := Scalar.muli arg35_r0 c2_i32_67_r0
  let c1_i32_68_r0 : BitVec 32 := 1#32
  let v207_r0 : BitVec 32 := Scalar.addi v206_r0 c1_i32_68_r0
  let v208_r0 : BitVec 32 := Scalar.muli c2_i32_69_r0 v207_r0
  let c8_i32_74_r0 : BitVec 32 := 8#32
  let v215_r0 : BitVec 32 := Scalar.muli v208_r0 c8_i32_74_r0
  let c0_i32_17_r0 : BitVec 32 := 0#32
  let c1_i32_18_r0 : BitVec 32 := 1#32
  let arg36_r0 : BitVec 32 := Scf.iv c0_i32_17_r0 c1_i32_18_r0 k0_t21
  let v216_r0 : BitVec 32 := Scalar.addi v215_r0 arg36_r0
  let c16_i32_75_r0 : BitVec 32 := 16#32
  let v217_r0 : BitVec 32 := Scalar.muli v216_r0 c16_i32_75_r0
  v217_r0
def k0_mult161 (k0_t20 : Fin k0_t20_loop.trips) (k0_t21 : Fin k0_t21_loop.trips) : BitVec 32 :=
  let c2_i32_70_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_67_r0 : BitVec 32 := 2#32
  let v206_r0 : BitVec 32 := Scalar.muli arg35_r0 c2_i32_67_r0
  let c1_i32_68_r0 : BitVec 32 := 1#32
  let v207_r0 : BitVec 32 := Scalar.addi v206_r0 c1_i32_68_r0
  let v209_r0 : BitVec 32 := Scalar.muli c2_i32_70_r0 v207_r0
  let c1_i32_71_r0 : BitVec 32 := 1#32
  let v210_r0 : BitVec 32 := Scalar.addi v209_r0 c1_i32_71_r0
  let c8_i32_88_r0 : BitVec 32 := 8#32
  let v287_r0 : BitVec 32 := Scalar.muli v210_r0 c8_i32_88_r0
  let c0_i32_17_r0 : BitVec 32 := 0#32
  let c1_i32_18_r0 : BitVec 32 := 1#32
  let arg36_r0 : BitVec 32 := Scf.iv c0_i32_17_r0 c1_i32_18_r0 k0_t21
  let v288_r0 : BitVec 32 := Scalar.addi v287_r0 arg36_r0
  let c32_i32_89_r0 : BitVec 32 := 32#32
  let v289_r0 : BitVec 32 := Scalar.muli v288_r0 c32_i32_89_r0
  v289_r0
def k0_mult162 (k0_t20 : Fin k0_t20_loop.trips) (k0_t21 : Fin k0_t21_loop.trips) : BitVec 32 :=
  let c2_i32_70_r0 : BitVec 32 := 2#32
  let c0_i32_10_r0 : BitVec 32 := 0#32
  let c1_i32_r0 : BitVec 32 := 1#32
  let arg35_r0 : BitVec 32 := Scf.iv c0_i32_10_r0 c1_i32_r0 k0_t20
  let c2_i32_67_r0 : BitVec 32 := 2#32
  let v206_r0 : BitVec 32 := Scalar.muli arg35_r0 c2_i32_67_r0
  let c1_i32_68_r0 : BitVec 32 := 1#32
  let v207_r0 : BitVec 32 := Scalar.addi v206_r0 c1_i32_68_r0
  let v209_r0 : BitVec 32 := Scalar.muli c2_i32_70_r0 v207_r0
  let c1_i32_71_r0 : BitVec 32 := 1#32
  let v210_r0 : BitVec 32 := Scalar.addi v209_r0 c1_i32_71_r0
  let c8_i32_90_r0 : BitVec 32 := 8#32
  let v291_r0 : BitVec 32 := Scalar.muli v210_r0 c8_i32_90_r0
  let c0_i32_17_r0 : BitVec 32 := 0#32
  let c1_i32_18_r0 : BitVec 32 := 1#32
  let arg36_r0 : BitVec 32 := Scf.iv c0_i32_17_r0 c1_i32_18_r0 k0_t21
  let v292_r0 : BitVec 32 := Scalar.addi v291_r0 arg36_r0
  let c16_i32_91_r0 : BitVec 32 := 16#32
  let v293_r0 : BitVec 32 := Scalar.muli v292_r0 c16_i32_91_r0
  v293_r0
def k0_mult163 (k0_t21 : Fin k0_t21_loop.trips) : BitVec 32 :=
  let c0_i32_17_r0 : BitVec 32 := 0#32
  let c1_i32_18_r0 : BitVec 32 := 1#32
  let arg36_r0 : BitVec 32 := Scf.iv c0_i32_17_r0 c1_i32_18_r0 k0_t21
  let c256_i32_104_r0 : BitVec 32 := 256#32
  let v363_r0 : BitVec 32 := Scalar.muli arg36_r0 c256_i32_104_r0
  v363_r0
def k0_off80 (k0_t20 : Fin k0_t20_loop.trips) (c0_i32_21_r0 : BitVec 32) : Fin 3 → Nat :=
  let c0_i32_10_r0 : BitVec 32 := 0#32
  let c1_i32_r0 : BitVec 32 := 1#32
  let arg35_r0 : BitVec 32 := Scf.iv c0_i32_10_r0 c1_i32_r0 k0_t20
  let c2_i32_20_r0 : BitVec 32 := 2#32
  let v20_r0 : BitVec 32 := Scalar.muli arg35_r0 c2_i32_20_r0
  let v21_r0 : BitVec 32 := Scalar.addi v20_r0 c0_i32_21_r0
  let v22_r0 : Index := Scalar.indexCast v21_r0
  let c0_r0 : Index := 0#32
  let c0_22_r0 : Index := 0#32
  ![v22_r0.toNat, 0, 0]
@[reducible] def k0_t22_loop : Scf.Loop 32 :=
  let c0_i32_13_r0 : BitVec 32 := 0#32
  let c32_i32_r0 : BitVec 32 := 32#32
  let v18_r0 : BitVec 32 := Scalar.addi c0_i32_13_r0 c32_i32_r0
  let c1_i32_14_r0 : BitVec 32 := 1#32
  ⟨c0_i32_13_r0, v18_r0, c1_i32_14_r0⟩
def k0_mult164 (k0_t22 : Fin k0_t22_loop.trips) : BitVec 32 :=
  let c0_i32_13_r0 : BitVec 32 := 0#32
  let c1_i32_14_r0 : BitVec 32 := 1#32
  let arg35_r0 : BitVec 32 := Scf.iv c0_i32_13_r0 c1_i32_14_r0 k0_t22
  let c2_i32_16_r0 : BitVec 32 := 2#32
  let v19_r0 : BitVec 32 := Scalar.shrsi arg35_r0 c2_i32_16_r0
  let c1_i32_18_r0 : BitVec 32 := 1#32
  let v22_r0 : BitVec 32 := Scalar.andi v19_r0 c1_i32_18_r0
  let c128_i32_r0 : BitVec 32 := 128#32
  let v23_r0 : BitVec 32 := Scalar.muli v22_r0 c128_i32_r0
  v23_r0
def k0_off81 (k0_t22 : Fin k0_t22_loop.trips) : Fin 3 → Nat :=
  let c0_i32_13_r0 : BitVec 32 := 0#32
  let c1_i32_14_r0 : BitVec 32 := 1#32
  let arg35_r0 : BitVec 32 := Scf.iv c0_i32_13_r0 c1_i32_14_r0 k0_t22
  let c2_i32_16_r0 : BitVec 32 := 2#32
  let v19_r0 : BitVec 32 := Scalar.shrsi arg35_r0 c2_i32_16_r0
  let c1_i32_17_r0 : BitVec 32 := 1#32
  let v21_r0 : BitVec 32 := Scalar.shrsi v19_r0 c1_i32_17_r0
  let v25_r0 : Index := Scalar.indexCast v21_r0
  let c0_r0 : Index := 0#32
  let c1_i32_18_r0 : BitVec 32 := 1#32
  let v22_r0 : BitVec 32 := Scalar.andi v19_r0 c1_i32_18_r0
  let c128_i32_r0 : BitVec 32 := 128#32
  let v23_r0 : BitVec 32 := Scalar.muli v22_r0 c128_i32_r0
  let v24_r0 : BitVec 32 := v23_r0
  let v26_r0 : Index := Scalar.indexCast v24_r0
  ![v25_r0.toNat, 0, v26_r0.toNat]
def k0_mult165 (k0_t22 : Fin k0_t22_loop.trips) : BitVec 32 :=
  let c0_i32_13_r0 : BitVec 32 := 0#32
  let c1_i32_14_r0 : BitVec 32 := 1#32
  let arg35_r0 : BitVec 32 := Scf.iv c0_i32_13_r0 c1_i32_14_r0 k0_t22
  let c2_i32_16_r0 : BitVec 32 := 2#32
  let v19_r0 : BitVec 32 := Scalar.shrsi arg35_r0 c2_i32_16_r0
  let c1_i32_18_r0 : BitVec 32 := 1#32
  let v22_r0 : BitVec 32 := Scalar.andi v19_r0 c1_i32_18_r0
  let c128_i32_19_r0 : BitVec 32 := 128#32
  let v31_r0 : BitVec 32 := Scalar.muli v22_r0 c128_i32_19_r0
  v31_r0
def k0_off82 (k0_t22 : Fin k0_t22_loop.trips) : Fin 3 → Nat :=
  let c0_i32_13_r0 : BitVec 32 := 0#32
  let c1_i32_14_r0 : BitVec 32 := 1#32
  let arg35_r0 : BitVec 32 := Scf.iv c0_i32_13_r0 c1_i32_14_r0 k0_t22
  let c2_i32_16_r0 : BitVec 32 := 2#32
  let v19_r0 : BitVec 32 := Scalar.shrsi arg35_r0 c2_i32_16_r0
  let c1_i32_17_r0 : BitVec 32 := 1#32
  let v21_r0 : BitVec 32 := Scalar.shrsi v19_r0 c1_i32_17_r0
  let v33_r0 : Index := Scalar.indexCast v21_r0
  let c16_r0 : Index := 16#32
  let c1_i32_18_r0 : BitVec 32 := 1#32
  let v22_r0 : BitVec 32 := Scalar.andi v19_r0 c1_i32_18_r0
  let c128_i32_19_r0 : BitVec 32 := 128#32
  let v31_r0 : BitVec 32 := Scalar.muli v22_r0 c128_i32_19_r0
  let v32_r0 : BitVec 32 := v31_r0
  let v34_r0 : Index := Scalar.indexCast v32_r0
  ![v33_r0.toNat, 16, v34_r0.toNat]
def k0_mult166 (k0_t22 : Fin k0_t22_loop.trips) : BitVec 32 :=
  let c0_i32_13_r0 : BitVec 32 := 0#32
  let c1_i32_14_r0 : BitVec 32 := 1#32
  let arg35_r0 : BitVec 32 := Scf.iv c0_i32_13_r0 c1_i32_14_r0 k0_t22
  let c2_i32_16_r0 : BitVec 32 := 2#32
  let v19_r0 : BitVec 32 := Scalar.shrsi arg35_r0 c2_i32_16_r0
  let c1_i32_18_r0 : BitVec 32 := 1#32
  let v22_r0 : BitVec 32 := Scalar.andi v19_r0 c1_i32_18_r0
  let c128_i32_20_r0 : BitVec 32 := 128#32
  let v39_r0 : BitVec 32 := Scalar.muli v22_r0 c128_i32_20_r0
  v39_r0
def k0_off83 (k0_t22 : Fin k0_t22_loop.trips) : Fin 3 → Nat :=
  let c0_i32_13_r0 : BitVec 32 := 0#32
  let c1_i32_14_r0 : BitVec 32 := 1#32
  let arg35_r0 : BitVec 32 := Scf.iv c0_i32_13_r0 c1_i32_14_r0 k0_t22
  let c2_i32_16_r0 : BitVec 32 := 2#32
  let v19_r0 : BitVec 32 := Scalar.shrsi arg35_r0 c2_i32_16_r0
  let c1_i32_17_r0 : BitVec 32 := 1#32
  let v21_r0 : BitVec 32 := Scalar.shrsi v19_r0 c1_i32_17_r0
  let v41_r0 : Index := Scalar.indexCast v21_r0
  let c32_r0 : Index := 32#32
  let c1_i32_18_r0 : BitVec 32 := 1#32
  let v22_r0 : BitVec 32 := Scalar.andi v19_r0 c1_i32_18_r0
  let c128_i32_20_r0 : BitVec 32 := 128#32
  let v39_r0 : BitVec 32 := Scalar.muli v22_r0 c128_i32_20_r0
  let v40_r0 : BitVec 32 := v39_r0
  let v42_r0 : Index := Scalar.indexCast v40_r0
  ![v41_r0.toNat, 32, v42_r0.toNat]
def k0_mult167 (k0_t22 : Fin k0_t22_loop.trips) : BitVec 32 :=
  let c0_i32_13_r0 : BitVec 32 := 0#32
  let c1_i32_14_r0 : BitVec 32 := 1#32
  let arg35_r0 : BitVec 32 := Scf.iv c0_i32_13_r0 c1_i32_14_r0 k0_t22
  let c2_i32_16_r0 : BitVec 32 := 2#32
  let v19_r0 : BitVec 32 := Scalar.shrsi arg35_r0 c2_i32_16_r0
  let c1_i32_18_r0 : BitVec 32 := 1#32
  let v22_r0 : BitVec 32 := Scalar.andi v19_r0 c1_i32_18_r0
  let c128_i32_21_r0 : BitVec 32 := 128#32
  let v47_r0 : BitVec 32 := Scalar.muli v22_r0 c128_i32_21_r0
  v47_r0
def k0_off84 (k0_t22 : Fin k0_t22_loop.trips) : Fin 3 → Nat :=
  let c0_i32_13_r0 : BitVec 32 := 0#32
  let c1_i32_14_r0 : BitVec 32 := 1#32
  let arg35_r0 : BitVec 32 := Scf.iv c0_i32_13_r0 c1_i32_14_r0 k0_t22
  let c2_i32_16_r0 : BitVec 32 := 2#32
  let v19_r0 : BitVec 32 := Scalar.shrsi arg35_r0 c2_i32_16_r0
  let c1_i32_17_r0 : BitVec 32 := 1#32
  let v21_r0 : BitVec 32 := Scalar.shrsi v19_r0 c1_i32_17_r0
  let v49_r0 : Index := Scalar.indexCast v21_r0
  let c48_r0 : Index := 48#32
  let c1_i32_18_r0 : BitVec 32 := 1#32
  let v22_r0 : BitVec 32 := Scalar.andi v19_r0 c1_i32_18_r0
  let c128_i32_21_r0 : BitVec 32 := 128#32
  let v47_r0 : BitVec 32 := Scalar.muli v22_r0 c128_i32_21_r0
  let v48_r0 : BitVec 32 := v47_r0
  let v50_r0 : Index := Scalar.indexCast v48_r0
  ![v49_r0.toNat, 48, v50_r0.toNat]
def k0_mult168 (k0_t22 : Fin k0_t22_loop.trips) : BitVec 32 :=
  let c0_i32_13_r0 : BitVec 32 := 0#32
  let c1_i32_14_r0 : BitVec 32 := 1#32
  let arg35_r0 : BitVec 32 := Scf.iv c0_i32_13_r0 c1_i32_14_r0 k0_t22
  let c128_i32_46_r0 : BitVec 32 := 128#32
  let v142_r0 : BitVec 32 := Scalar.muli arg35_r0 c128_i32_46_r0
  v142_r0
def k0_off85 (k0_t22 : Fin k0_t22_loop.trips) : Fin 2 → Nat :=
  let c0_47_r0 : Index := 0#32
  let c0_i32_13_r0 : BitVec 32 := 0#32
  let c1_i32_14_r0 : BitVec 32 := 1#32
  let arg35_r0 : BitVec 32 := Scf.iv c0_i32_13_r0 c1_i32_14_r0 k0_t22
  let c128_i32_46_r0 : BitVec 32 := 128#32
  let v142_r0 : BitVec 32 := Scalar.muli arg35_r0 c128_i32_46_r0
  let v143_r0 : BitVec 32 := v142_r0
  let v144_r0 : Index := Scalar.indexCast v143_r0
  ![0, v144_r0.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.subi v0 c0_i32
  let c0_i32_0 : BitVec 32 := 0#32
  let c27_i32 : BitVec 32 := 27#32
  let v2 : BitVec 32 := Scalar.maxsi c0_i32_0 v1
  let v3 : BitVec 32 := Scalar.minsi c27_i32 v2
  let c0_i32_1 : BitVec 32 := 0#32
  let c0_i32_2 : BitVec 32 := 0#32
  ![c0_i32_1.toNat, v3.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let c27_i32 : BitVec 32 := 27#32
  let v2 : BitVec 32 := Scalar.maxsi c0_i32 v1
  let v3 : BitVec 32 := Scalar.minsi c27_i32 v2
  let c0_i32_0 : BitVec 32 := 0#32
  let c0_i32_1 : BitVec 32 := 0#32
  ![c0_i32_0.toNat, v3.toNat]

def cc0_transform_5 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.subi v0 c0_i32
  let c0_i32_0 : BitVec 32 := 0#32
  let c27_i32 : BitVec 32 := 27#32
  let v2 : BitVec 32 := Scalar.maxsi c0_i32_0 v1
  let v3 : BitVec 32 := Scalar.minsi c27_i32 v2
  let c0_i32_1 : BitVec 32 := 0#32
  let c0_i32_2 : BitVec 32 := 0#32
  ![v3.toNat, c0_i32_1.toNat]

def cc0_transform_8 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let c27_i32 : BitVec 32 := 27#32
  let v2 : BitVec 32 := Scalar.maxsi c0_i32 v1
  let v3 : BitVec 32 := Scalar.minsi c27_i32 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S12x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S12x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12x14336 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S12x1x4096 : Shape := ⟨3, ![12, 1, 4096]⟩
abbrev S14336x2048 : Shape := ⟨2, ![14336, 2048]⟩
abbrev S14336x128 : Shape := ⟨2, ![14336, 128]⟩
abbrev S4096x7168 : Shape := ⟨2, ![4096, 7168]⟩
abbrev S4096x448 : Shape := ⟨2, ![4096, 448]⟩
abbrev S12x1x128x2x16 : Shape := ⟨5, ![12, 1, 128, 2, 16]⟩
abbrev S_ : Shape := ⟨0, ![]⟩
abbrev S14336x128x16 : Shape := ⟨3, ![14336, 128, 16]⟩
abbrev S14336x128x1 : Shape := ⟨3, ![14336, 128, 1]⟩
abbrev S12x1x128x1x16 : Shape := ⟨5, ![12, 1, 128, 1, 16]⟩
abbrev S12x1x128x16 : Shape := ⟨4, ![12, 1, 128, 16]⟩
abbrev S12x1x14336 : Shape := ⟨3, ![12, 1, 14336]⟩
abbrev S12x14336 : Shape := ⟨2, ![12, 14336]⟩

abbrev nBuf : Space → Nat
  | .hbm => 85
  | .vmem => 0
  | .smem => 0
  | _ => 0

abbrev bufTy : (tb : Table) → Fin (tcTables nBuf tb) → BufTy
  | .hbm, ⟨0, _⟩ => ⟨S12x1x4096, .bf16⟩
  | .hbm, ⟨1, _⟩ => ⟨S14336x2048, .i8⟩
  | .hbm, ⟨2, _⟩ => ⟨S14336x128, .f32⟩
  | .hbm, ⟨3, _⟩ => ⟨S14336x2048, .i8⟩
  | .hbm, ⟨4, _⟩ => ⟨S14336x128, .f32⟩
  | .hbm, ⟨5, _⟩ => ⟨S4096x7168, .i8⟩
  | .hbm, ⟨6, _⟩ => ⟨S4096x448, .f32⟩
  | .hbm, ⟨7, _⟩ => ⟨S12x1x128x2x16, .bf16⟩
  | .hbm, ⟨8, _⟩ => ⟨S14336x2048, .i32⟩
  | .hbm, ⟨9, _⟩ => ⟨S_, .i32⟩
  | .hbm, ⟨10, _⟩ => ⟨S14336x2048, .i32⟩
  | .hbm, ⟨11, _⟩ => ⟨S14336x2048, .i32⟩
  | .hbm, ⟨12, _⟩ => ⟨S14336x128x16, .i32⟩
  | .hbm, ⟨13, _⟩ => ⟨S_, .i32⟩
  | .hbm, ⟨14, _⟩ => ⟨S14336x2048, .i32⟩
  | .hbm, ⟨15, _⟩ => ⟨S14336x2048, .i32⟩
  | .hbm, ⟨16, _⟩ => ⟨S14336x128x16, .i32⟩
  | .hbm, ⟨17, _⟩ => ⟨S14336x128x16, .f32⟩
  | .hbm, ⟨18, _⟩ => ⟨S_, .f32⟩
  | .hbm, ⟨19, _⟩ => ⟨S14336x128x16, .f32⟩
  | .hbm, ⟨20, _⟩ => ⟨S14336x128x16, .f32⟩
  | .hbm, ⟨21, _⟩ => ⟨S14336x128x1, .f32⟩
  | .hbm, ⟨22, _⟩ => ⟨S14336x128x16, .f32⟩
  | .hbm, ⟨23, _⟩ => ⟨S14336x128x16, .f32⟩
  | .hbm, ⟨24, _⟩ => ⟨S14336x128x16, .bf16⟩
  | .hbm, ⟨25, _⟩ => ⟨S14336x128x16, .f32⟩
  | .hbm, ⟨26, _⟩ => ⟨S_, .f32⟩
  | .hbm, ⟨27, _⟩ => ⟨S14336x128x16, .f32⟩
  | .hbm, ⟨28, _⟩ => ⟨S14336x128x16, .f32⟩
  | .hbm, ⟨29, _⟩ => ⟨S14336x128x1, .f32⟩
  | .hbm, ⟨30, _⟩ => ⟨S14336x128x16, .f32⟩
  | .hbm, ⟨31, _⟩ => ⟨S14336x128x16, .f32⟩
  | .hbm, ⟨32, _⟩ => ⟨S14336x128x16, .bf16⟩
  | .hbm, ⟨33, _⟩ => ⟨S12x1x128x1x16, .bf16⟩
  | .hbm, ⟨34, _⟩ => ⟨S12x1x128x16, .bf16⟩
  | .hbm, ⟨35, _⟩ => ⟨S12x1x14336, .f32⟩
  | .hbm, ⟨36, _⟩ => ⟨S12x1x128x1x16, .bf16⟩
  | .hbm, ⟨37, _⟩ => ⟨S12x1x128x16, .bf16⟩
  | .hbm, ⟨38, _⟩ => ⟨S12x1x14336, .f32⟩
  | .hbm, ⟨39, _⟩ => ⟨S12x1x14336, .f32⟩
  | .hbm, ⟨40, _⟩ => ⟨S12x1x128x2x16, .bf16⟩
  | .hbm, ⟨41, _⟩ => ⟨S14336x2048, .i32⟩
  | .hbm, ⟨42, _⟩ => ⟨S_, .i32⟩
  | .hbm, ⟨43, _⟩ => ⟨S14336x2048, .i32⟩
  | .hbm, ⟨44, _⟩ => ⟨S14336x2048, .i32⟩
  | .hbm, ⟨45, _⟩ => ⟨S14336x128x16, .i32⟩
  | .hbm, ⟨46, _⟩ => ⟨S_, .i32⟩
  | .hbm, ⟨47, _⟩ => ⟨S14336x2048, .i32⟩
  | .hbm, ⟨48, _⟩ => ⟨S14336x2048, .i32⟩
  | .hbm, ⟨49, _⟩ => ⟨S14336x128x16, .i32⟩
  | .hbm, ⟨50, _⟩ => ⟨S14336x128x16, .f32⟩
  | .hbm, ⟨51, _⟩ => ⟨S_, .f32⟩
  | .hbm, ⟨52, _⟩ => ⟨S14336x128x16, .f32⟩
  | .hbm, ⟨53, _⟩ => ⟨S14336x128x16, .f32⟩
  | .hbm, ⟨54, _⟩ => ⟨S14336x128x1, .f32⟩
  | .hbm, ⟨55, _⟩ => ⟨S14336x128x16, .f32⟩
  | .hbm, ⟨56, _⟩ => ⟨S14336x128x16, .f32⟩
  | .hbm, ⟨57, _⟩ => ⟨S14336x128x16, .bf16⟩
  | .hbm, ⟨58, _⟩ => ⟨S14336x128x16, .f32⟩
  | .hbm, ⟨59, _⟩ => ⟨S_, .f32⟩
  | .hbm, ⟨60, _⟩ => ⟨S14336x128x16, .f32⟩
  | .hbm, ⟨61, _⟩ => ⟨S14336x128x16, .f32⟩
  | .hbm, ⟨62, _⟩ => ⟨S14336x128x1, .f32⟩
  | .hbm, ⟨63, _⟩ => ⟨S14336x128x16, .f32⟩
  | .hbm, ⟨64, _⟩ => ⟨S14336x128x16, .f32⟩
  | .hbm, ⟨65, _⟩ => ⟨S14336x128x16, .bf16⟩
  | .hbm, ⟨66, _⟩ => ⟨S12x1x128x1x16, .bf16⟩
  | .hbm, ⟨67, _⟩ => ⟨S12x1x128x16, .bf16⟩
  | .hbm, ⟨68, _⟩ => ⟨S12x1x14336, .f32⟩
  | .hbm, ⟨69, _⟩ => ⟨S12x1x128x1x16, .bf16⟩
  | .hbm, ⟨70, _⟩ => ⟨S12x1x128x16, .bf16⟩
  | .hbm, ⟨71, _⟩ => ⟨S12x1x14336, .f32⟩
  | .hbm, ⟨72, _⟩ => ⟨S12x1x14336, .f32⟩
  | .hbm, ⟨73, _⟩ => ⟨S12x1x14336, .f32⟩
  | .hbm, ⟨74, _⟩ => ⟨S12x1x14336, .f32⟩
  | .hbm, ⟨75, _⟩ => ⟨S_, .f32⟩
  | .hbm, ⟨76, _⟩ => ⟨S12x1x14336, .f32⟩
  | .hbm, ⟨77, _⟩ => ⟨S12x1x14336, .f32⟩
  | .hbm, ⟨78, _⟩ => ⟨S_, .f32⟩
  | .hbm, ⟨79, _⟩ => ⟨S12x1x14336, .f32⟩
  | .hbm, ⟨80, _⟩ => ⟨S12x1x14336, .f32⟩
  | .hbm, ⟨81, _⟩ => ⟨S12x1x14336, .f32⟩
  | .hbm, ⟨82, _⟩ => ⟨S12x1x14336, .f32⟩
  | .hbm, ⟨83, _⟩ => ⟨S12x1x14336, .bf16⟩
  | .hbm, ⟨84, _⟩ => ⟨S12x14336, .bf16⟩
  | _, _ => ⟨S12x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_cst_7 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Proof.KernelIdeal.Unit.lean ====
/-
The matrix unit between two tiles: its registers are empty, and the rows of the result buffer that hold something lie in a
known range. Ownership of a whole buffer at contents nothing states.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Mxu
public import Idealize.ShloMosaic.Lib.Mxu.Walk

@[expose] public section

set_option maxRecDepth 16384
set_option warn.classDefReducibility false

noncomputable section

namespace Cert.Proof.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The registers are empty and the live rows of both units lie in `[lo, hi)`. -/
def Parked (lo hi : ℕ) (s : Mxu F) : Prop :=
  (∀ u r, s.reg u r = none) ∧ ∀ u R, s.live u R = true → lo ≤ R.val ∧ R.val < hi

theorem Parked.mono {lo hi lo' hi' : ℕ} {s : Mxu F} (h : Parked lo hi s) (h1 : lo' ≤ lo) (h2 : hi ≤ hi') : Parked lo' hi' s :=
  ⟨h.1, fun u R hl => ⟨h1.trans (h.2 u R hl).1, (h.2 u R hl).2.trans_le h2⟩⟩

/-- An empty unit. -/
theorem Parked.init : Parked 64 64 (Mxu.init : Mxu F) := ⟨fun _ _ => rfl, fun _ _ h => by simp [Mxu.init] at h⟩

/-- A tile pushed and multiplied at once leaves the registers empty. -/
theorem Parked.tile {lo hi : ℕ} {s : Mxu F} (h : Parked lo hi s) (u r : Fin 2) (A : ℕ) (hf : Mxu.Fits A 64) (hlo : lo ≤ 4 * A) (hhi : 4 * A + 64 ≤ hi)
    {φ ψ : FTy} (v : FVec F (Mxu.STile 256) φ) (lhs : FVec F (Mxu.STile 64) ψ) : Parked lo hi ((s.pushed u r false v).accLhs u r A lhs hf) := by
  refine ⟨fun u' r' => ?_, fun u' R hl => ?_⟩
  · by_cases e : u' = u ∧ r' = r
    · obtain ⟨rfl, rfl⟩ := e; exact Mxu.reg_accLhs _ _ _ _ _ _
    · rw [Mxu.reg_accLhs_ne _ _ _ _ _ _ _ _ e, Mxu.reg_pushed_ne _ _ _ _ _ _ _ e]; exact h.1 _ _
  · rw [Mxu.live_accLhs, Mxu.live_pushed] at hl
    split at hl
    · omega
    · exact h.2 _ _ hl

theorem Parked.ok {lo hi : ℕ} {s : Mxu F} (h : Parked lo hi s) (u r : Fin 2) : s.PushOk u r false := Mxu.pushOk_of_none _ _ _ _ (h.1 u r)

/-- Popping rows 64 to 128 of both units leaves the rows below. -/
theorem Parked.pop_hi {lo : ℕ} {s : Mxu F} (h : Parked lo 128 s) (h0 h1 : Mxu.Fits 16 64) : Parked lo 64 ((s.pop 0 16 64 h0).pop 1 16 64 h1) :=
  ⟨h.1, fun u R hl => by
    rw [Mxu.live_pop] at hl; split at hl
    · simp at hl
    rw [Mxu.live_pop] at hl; split at hl
    · simp at hl
    have := h.2 u R hl
    omega⟩

/-- Popping rows 0 to 64 of both units leaves the rows above. -/
theorem Parked.pop_lo {hi : ℕ} {s : Mxu F} (h : Parked 0 hi s) (h0 h1 : Mxu.Fits 0 64) : Parked 64 hi ((s.pop 0 0 64 h0).pop 1 0 64 h1) :=
  ⟨h.1, fun u R hl => by
    rw [Mxu.live_pop] at hl; split at hl
    · simp at hl
    rw [Mxu.live_pop] at hl; split at hl
    · simp at hl
    have := h.2 u R hl
    omega⟩

/-- A unit with no live row is drained. -/
theorem Parked.drained {s : Mxu F} (h : Parked 64 64 s) : s.Drained :=
  ⟨fun u r => by rw [h.1 u r]; rfl, fun u R => by
    by_contra hl
    have := h.2 u R (by simpa using hl)
    omega⟩

/-- A memref owned whole, its contents anything. -/
abbrev any (c : Dev nD) {s : Shape} {e : EltTy} (m : Memref sig .tc .vmem s e) : sProp 𝕄 :=
  iprop(∃ f : Buf (Elt F) (m.view.loc (c : Thread nD τ)), (m.view.loc (c : Thread nD τ) ↦[m.view.set]{fullShare} f))

end Cert.Proof.KernelIdeal.Frames
-- ==== Proof.KernelIdeal.Offsets.lean ====
/-
The offsets of the strided stores.
-/
module

public import proofs.«01_k».proof.Proof.KernelIdeal.Unit

@[expose] public section

set_option maxRecDepth 16384
set_option warn.classDefReducibility false

noncomputable section

namespace Cert.Proof.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-! The offsets of the strided stores in closed form. -/

theorem off9_0 (t4 : Fin k0_t4_loop.trips) : k0_off9 t4 0#32 = ![t4.val / 2, 0] := by revert t4; decide +kernel
instance closed9_0 (t4 : Fin k0_t4_loop.trips) : ClosedOff (k0_off9 t4 0#32) := ⟨_, off9_0 t4⟩
theorem off9_4 (t4 : Fin k0_t4_loop.trips) : k0_off9 t4 4#32 = ![t4.val / 2 + 4, 0] := by revert t4; decide +kernel
instance closed9_4 (t4 : Fin k0_t4_loop.trips) : ClosedOff (k0_off9 t4 4#32) := ⟨_, off9_4 t4⟩
theorem off11_0 (t4 : Fin k0_t4_loop.trips) : k0_off11 t4 0#32 = ![t4.val / 2, 0] := by revert t4; decide +kernel
instance closed11_0 (t4 : Fin k0_t4_loop.trips) : ClosedOff (k0_off11 t4 0#32) := ⟨_, off11_0 t4⟩
theorem off11_4 (t4 : Fin k0_t4_loop.trips) : k0_off11 t4 4#32 = ![t4.val / 2 + 4, 0] := by revert t4; decide +kernel
instance closed11_4 (t4 : Fin k0_t4_loop.trips) : ClosedOff (k0_off11 t4 4#32) := ⟨_, off11_4 t4⟩
theorem off15_0 (t6 : Fin k0_t6_loop.trips) : k0_off15 t6 0#32 = ![t6.val / 2, 0] := by revert t6; decide +kernel
instance closed15_0 (t6 : Fin k0_t6_loop.trips) : ClosedOff (k0_off15 t6 0#32) := ⟨_, off15_0 t6⟩
theorem off15_4 (t6 : Fin k0_t6_loop.trips) : k0_off15 t6 4#32 = ![t6.val / 2 + 4, 0] := by revert t6; decide +kernel
instance closed15_4 (t6 : Fin k0_t6_loop.trips) : ClosedOff (k0_off15 t6 4#32) := ⟨_, off15_4 t6⟩
theorem off17_0 (t6 : Fin k0_t6_loop.trips) : k0_off17 t6 0#32 = ![t6.val / 2, 0] := by revert t6; decide +kernel
instance closed17_0 (t6 : Fin k0_t6_loop.trips) : ClosedOff (k0_off17 t6 0#32) := ⟨_, off17_0 t6⟩
theorem off17_4 (t6 : Fin k0_t6_loop.trips) : k0_off17 t6 4#32 = ![t6.val / 2 + 4, 0] := by revert t6; decide +kernel
instance closed17_4 (t6 : Fin k0_t6_loop.trips) : ClosedOff (k0_off17 t6 4#32) := ⟨_, off17_4 t6⟩
theorem off38_0 (t11 : Fin k0_t11_loop.trips) : k0_off38 t11 0#32 = ![t11.val / 2, 0] := by revert t11; decide +kernel
instance closed38_0 (t11 : Fin k0_t11_loop.trips) : ClosedOff (k0_off38 t11 0#32) := ⟨_, off38_0 t11⟩
theorem off38_4 (t11 : Fin k0_t11_loop.trips) : k0_off38 t11 4#32 = ![t11.val / 2 + 4, 0] := by revert t11; decide +kernel
instance closed38_4 (t11 : Fin k0_t11_loop.trips) : ClosedOff (k0_off38 t11 4#32) := ⟨_, off38_4 t11⟩
theorem off40_0 (t11 : Fin k0_t11_loop.trips) : k0_off40 t11 0#32 = ![t11.val / 2, 0] := by revert t11; decide +kernel
instance closed40_0 (t11 : Fin k0_t11_loop.trips) : ClosedOff (k0_off40 t11 0#32) := ⟨_, off40_0 t11⟩
theorem off40_4 (t11 : Fin k0_t11_loop.trips) : k0_off40 t11 4#32 = ![t11.val / 2 + 4, 0] := by revert t11; decide +kernel
instance closed40_4 (t11 : Fin k0_t11_loop.trips) : ClosedOff (k0_off40 t11 4#32) := ⟨_, off40_4 t11⟩
theorem off55_0 (t16 : Fin k0_t16_loop.trips) : k0_off55 t16 0#32 = ![t16.val / 2, 0] := by revert t16; decide +kernel
instance closed55_0 (t16 : Fin k0_t16_loop.trips) : ClosedOff (k0_off55 t16 0#32) := ⟨_, off55_0 t16⟩
theorem off55_4 (t16 : Fin k0_t16_loop.trips) : k0_off55 t16 4#32 = ![t16.val / 2 + 4, 0] := by revert t16; decide +kernel
instance closed55_4 (t16 : Fin k0_t16_loop.trips) : ClosedOff (k0_off55 t16 4#32) := ⟨_, off55_4 t16⟩
theorem off57_0 (t16 : Fin k0_t16_loop.trips) : k0_off57 t16 0#32 = ![t16.val / 2, 0] := by revert t16; decide +kernel
instance closed57_0 (t16 : Fin k0_t16_loop.trips) : ClosedOff (k0_off57 t16 0#32) := ⟨_, off57_0 t16⟩
theorem off57_4 (t16 : Fin k0_t16_loop.trips) : k0_off57 t16 4#32 = ![t16.val / 2 + 4, 0] := by revert t16; decide +kernel
instance closed57_4 (t16 : Fin k0_t16_loop.trips) : ClosedOff (k0_off57 t16 4#32) := ⟨_, off57_4 t16⟩
theorem off20_0 (t5 : Fin k0_t5_loop.trips) (t6 : Fin k0_t6_loop.trips) (t7 : Fin k0_t7_loop.trips) : k0_off20 t5 t6 t7 0#32 = ![((8 * t5.val + t6.val) / 2 * 16 + t7.val / 4 * 8) * 8 + t7.val % 4, 0] := by revert t5 t6 t7; decide +kernel
instance closed20_0 (t5 : Fin k0_t5_loop.trips) (t6 : Fin k0_t6_loop.trips) (t7 : Fin k0_t7_loop.trips) : ClosedOff (k0_off20 t5 t6 t7 0#32) := ⟨_, off20_0 t5 t6 t7⟩
theorem off20_4 (t5 : Fin k0_t5_loop.trips) (t6 : Fin k0_t6_loop.trips) (t7 : Fin k0_t7_loop.trips) : k0_off20 t5 t6 t7 4#32 = ![((8 * t5.val + t6.val) / 2 * 16 + t7.val / 4 * 8) * 8 + t7.val % 4 + 4, 0] := by revert t5 t6 t7; decide +kernel
instance closed20_4 (t5 : Fin k0_t5_loop.trips) (t6 : Fin k0_t6_loop.trips) (t7 : Fin k0_t7_loop.trips) : ClosedOff (k0_off20 t5 t6 t7 4#32) := ⟨_, off20_4 t5 t6 t7⟩
theorem off43_0 (t10 : Fin k0_t10_loop.trips) (t11 : Fin k0_t11_loop.trips) (t12 : Fin k0_t12_loop.trips) : k0_off43 t10 t11 t12 0#32 = ![((8 * t10.val + t11.val) / 2 * 16 + t12.val / 4 * 8) * 8 + t12.val % 4, 0] := by revert t10 t11 t12; decide +kernel
instance closed43_0 (t10 : Fin k0_t10_loop.trips) (t11 : Fin k0_t11_loop.trips) (t12 : Fin k0_t12_loop.trips) : ClosedOff (k0_off43 t10 t11 t12 0#32) := ⟨_, off43_0 t10 t11 t12⟩
theorem off43_4 (t10 : Fin k0_t10_loop.trips) (t11 : Fin k0_t11_loop.trips) (t12 : Fin k0_t12_loop.trips) : k0_off43 t10 t11 t12 4#32 = ![((8 * t10.val + t11.val) / 2 * 16 + t12.val / 4 * 8) * 8 + t12.val % 4 + 4, 0] := by revert t10 t11 t12; decide +kernel
instance closed43_4 (t10 : Fin k0_t10_loop.trips) (t11 : Fin k0_t11_loop.trips) (t12 : Fin k0_t12_loop.trips) : ClosedOff (k0_off43 t10 t11 t12 4#32) := ⟨_, off43_4 t10 t11 t12⟩
theorem off60_0 (t15 : Fin k0_t15_loop.trips) (t16 : Fin k0_t16_loop.trips) (t17 : Fin k0_t17_loop.trips) : k0_off60 t15 t16 t17 0#32 = ![((8 * t15.val + t16.val) / 2 * 16 + t17.val / 4 * 8) * 8 + t17.val % 4, 0] := by revert t15 t16 t17; decide +kernel
instance closed60_0 (t15 : Fin k0_t15_loop.trips) (t16 : Fin k0_t16_loop.trips) (t17 : Fin k0_t17_loop.trips) : ClosedOff (k0_off60 t15 t16 t17 0#32) := ⟨_, off60_0 t15 t16 t17⟩
theorem off60_4 (t15 : Fin k0_t15_loop.trips) (t16 : Fin k0_t16_loop.trips) (t17 : Fin k0_t17_loop.trips) : k0_off60 t15 t16 t17 4#32 = ![((8 * t15.val + t16.val) / 2 * 16 + t17.val / 4 * 8) * 8 + t17.val % 4 + 4, 0] := by revert t15 t16 t17; decide +kernel
instance closed60_4 (t15 : Fin k0_t15_loop.trips) (t16 : Fin k0_t16_loop.trips) (t17 : Fin k0_t17_loop.trips) : ClosedOff (k0_off60 t15 t16 t17 4#32) := ⟨_, off60_4 t15 t16 t17⟩

end Cert.Proof.KernelIdeal.Frames
-- ==== Proof.KernelIdeal.First.lean ====
/-
The loops of the first step that spread the input and make the first tables, run at any contents.
-/
module

public import proofs.«01_k».proof.Proof.KernelIdeal.Offsets

@[expose] public section

set_option maxRecDepth 16384
set_option warn.classDefReducibility false

noncomputable section

namespace Cert.Proof.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- One column block of the input, by its four parts. -/
@[sl_loop] def inv2 (k0_h1 : k0_cond1 i = 1#1) (k0_t1 : Fin k0_t1_loop.trips) (v33_r0 : BitVec 32) (v38_r0 : FVec F S16x128 .f32) (v39_r0 : IVec S16x128 32) (v65_r0 : BitVec 32) (v67_r0 : IVec S16x128 32) (v69_r0 : IVec S16x128 1) (v71_r0 : IVec S16x128 1) (v74_r0 : IVec S16x128 1) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h1 k0_t1 v33_r0 v38_r0 v39_r0 v65_r0 v67_r0 v69_r0 v71_r0 v74_r0 where
  inv := fun _ _ => any c arg13
  step k _ := by
    unfold k0_t2_body
    iintro ⟨%f13, H13⟩
    sl_exec
    sl_step
    sl_close

/-- The input's rows spread over the quads. -/
@[sl_loop] def inv1 (k0_h1 : k0_cond1 i = 1#1) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h1 where
  inv := fun _ _ => iprop(any c arg12 ∗ any c arg13)
  step k _ := by
    unfold k0_t1_body
    iintro ⟨⟨%f12, H12⟩, ⟨%f13, H13⟩⟩
    sl_exec
    sl_step
    sl_close

/-- The first block's tables, by tiles of a chunk. -/
@[sl_loop] def inv4 (k0_h1 : k0_cond1 i = 1#1) (k0_t3 : Fin k0_t3_loop.trips) (arg35_r0 : BitVec 32) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h1 k0_t3 arg35_r0 where
  inv := fun _ _ => iprop(any c arg2 ∗ any c arg3 ∗ any c arg6 ∗ any c arg7 ∗ any c arg16 ∗ any c arg18 ∗ any c arg22 ∗ any c arg24 ∗ any c arg26 ∗ any c arg28)
  step k _ := by
    unfold k0_t4_body
    iintro ⟨⟨%f2, H2⟩, ⟨%f3, H3⟩, ⟨%f6, H6⟩, ⟨%f7, H7⟩, ⟨%f16, H16⟩, ⟨%f18, H18⟩, ⟨%f22, H22⟩, ⟨%f24, H24⟩, ⟨%f26, H26⟩, ⟨%f28, H28⟩⟩
    by_cases q0 : k0_cond2 k0_t3 k = 1#1
    · skip
      have q1 : ¬ k0_cond3 k0_t3 k = 1#1 := by revert q0; revert k0_t3 k; decide +kernel
      sl_exec
      sl_step
      sl_close
    · skip
      by_cases q1 : k0_cond3 k0_t3 k = 1#1
      · skip
        sl_exec
        sl_step
        sl_close
      · skip
        sl_exec
        sl_step
        sl_close

/-- The first block's tables, by chunks. -/
@[sl_loop] def inv3 (k0_h1 : k0_cond1 i = 1#1) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h1 where
  inv := fun _ _ => iprop(any c arg2 ∗ any c arg3 ∗ any c arg6 ∗ any c arg7 ∗ any c arg16 ∗ any c arg18 ∗ any c arg22 ∗ any c arg24 ∗ any c arg26 ∗ any c arg28)
  step k _ := by
    unfold k0_t3_body
    iintro ⟨⟨%f2, H2⟩, ⟨%f3, H3⟩, ⟨%f6, H6⟩, ⟨%f7, H7⟩, ⟨%f16, H16⟩, ⟨%f18, H18⟩, ⟨%f22, H22⟩, ⟨%f24, H24⟩, ⟨%f26, H26⟩, ⟨%f28, H28⟩⟩
    sl_exec
    sl_step
    sl_close

end Cert.Proof.KernelIdeal.Frames
-- ==== Proof.KernelIdeal.Odd.lean ====
/-
The loops of the odd half of a step, run at any contents.
-/
module

public import proofs.«01_k».proof.Proof.KernelIdeal.Offsets

@[expose] public section

set_option maxRecDepth 16384
set_option warn.classDefReducibility false

noncomputable section

namespace Cert.Proof.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- The odd half's down scales of a tile. -/
@[sl_loop] def inv7 (k0_h4 : k0_cond4 i = 1#1) (k0_t5 : Fin k0_t5_loop.trips) (k0_t6 : Fin k0_t6_loop.trips) (arg36_r0 : BitVec 32) (v76_r0 : BitVec 32) (v113_r0 : BitVec 32) (k0_h7 : k0_cond7 k0_t6 = 1#1) (v1068_r0 : BitVec 32) (v1069_r0 : IVec S8x128 32) :
    LoopInvTy_k0_t7 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h4 k0_t5 k0_t6 arg36_r0 v76_r0 v113_r0 k0_h7 v1068_r0 v1069_r0 where
  inv := fun _ _ => iprop(any c arg9 ∗ any c arg31 ∗ any c arg33)
  step k _ := by
    unfold k0_t7_body
    iintro ⟨⟨%f9, H9⟩, ⟨%f31, H31⟩, ⟨%f33, H33⟩⟩
    sl_exec
    sl_step
    sl_close

/-- The odd half of an inner step, by tiles of a chunk. -/
@[sl_loop] def inv6 (k0_h4 : k0_cond4 i = 1#1) (k0_t5 : Fin k0_t5_loop.trips) (arg35_r0 : BitVec 32) (init : Mxu F) :
    LoopInvTy_k0_t6 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h4 k0_t5 arg35_r0 init where
  inv := fun _ s => iprop(⌜Parked 0 128 s⌝ ∗ any c arg2 ∗ any c arg3 ∗ any c arg5 ∗ any c arg6 ∗ any c arg7 ∗ any c arg9 ∗ any c arg13 ∗ any c arg14 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32 ∗ any c arg33)
  step k s := by
    unfold k0_t6_body
    iintro ⟨%hs, ⟨%f2, H2⟩, ⟨%f3, H3⟩, ⟨%f5, H5⟩, ⟨%f6, H6⟩, ⟨%f7, H7⟩, ⟨%f9, H9⟩, ⟨%f13, H13⟩, ⟨%f14, H14⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩⟩
    have p00 := hs.ok 0 0
    have p01 := hs.ok 0 1
    have p10 := hs.ok 1 0
    have p11 := hs.ok 1 1
    by_cases q2 : k0_cond7 k = 1#1
    · skip
      have q1 : ¬ k0_cond6 k0_t5 k = 1#1 := by revert q2; revert k0_t5 k; decide +kernel
      have q0 : ¬ k0_cond5 k0_t5 k = 1#1 := by revert q2; revert k0_t5 k; decide +kernel
      sl_exec (disch := (mxu_pushok_peel <;> assumption))
      sl_step
      isplitr
      · ipureintro; exact Parked.tile (Parked.tile (Parked.tile (Parked.tile (Parked.tile (Parked.tile hs _ _ _ _ (by decide) (by decide) _ _) _ _ _ _ (by decide) (by decide) _ _) _ _ _ _ (by decide) (by decide) _ _) _ _ _ _ (by decide) (by decide) _ _) _ _ _ _ (by decide) (by decide) _ _) _ _ _ _ (by decide) (by decide) _ _
      sl_close
    · skip
      by_cases q1 : k0_cond6 k0_t5 k = 1#1
      · skip
        have q0 : ¬ k0_cond5 k0_t5 k = 1#1 := by revert q1; revert k0_t5 k; decide +kernel
        sl_exec (disch := (mxu_pushok_peel <;> assumption))
        sl_step
        isplitr
        · ipureintro; exact Parked.tile (Parked.tile (Parked.tile (Parked.tile (Parked.tile (Parked.tile hs _ _ _ _ (by decide) (by decide) _ _) _ _ _ _ (by decide) (by decide) _ _) _ _ _ _ (by decide) (by decide) _ _) _ _ _ _ (by decide) (by decide) _ _) _ _ _ _ (by decide) (by decide) _ _) _ _ _ _ (by decide) (by decide) _ _
        sl_close
      · skip
        by_cases q0 : k0_cond5 k0_t5 k = 1#1
        · skip
          sl_exec (disch := (mxu_pushok_peel <;> assumption))
          sl_step
          isplitr
          · ipureintro; exact Parked.tile (Parked.tile (Parked.tile (Parked.tile (Parked.tile (Parked.tile hs _ _ _ _ (by decide) (by decide) _ _) _ _ _ _ (by decide) (by decide) _ _) _ _ _ _ (by decide) (by decide) _ _) _ _ _ _ (by decide) (by decide) _ _) _ _ _ _ (by decide) (by decide) _ _) _ _ _ _ (by decide) (by decide) _ _
          sl_close
        · skip
          sl_exec (disch := (mxu_pushok_peel <;> assumption))
          sl_step
          isplitr
          · ipureintro; exact Parked.tile (Parked.tile (Parked.tile (Parked.tile (Parked.tile (Parked.tile hs _ _ _ _ (by decide) (by decide) _ _) _ _ _ _ (by decide) (by decide) _ _) _ _ _ _ (by decide) (by decide) _ _) _ _ _ _ (by decide) (by decide) _ _) _ _ _ _ (by decide) (by decide) _ _) _ _ _ _ (by decide) (by decide) _ _
          sl_close

/-- The odd half of an inner step, by chunks. -/
@[sl_loop] def inv5 (k0_h4 : k0_cond4 i = 1#1) (init : Mxu F) :
    LoopInvTy_k0_t5 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h4 init where
  inv := fun _ s => iprop(⌜Parked 0 64 s⌝ ∗ ⌜Parked 0 64 ((s.pop 0 0 64 fits_0_64).pop 1 0 64 fits_0_64)⌝ ∗ ⌜Parked 64 64 ((s.pop 0 0 64 fits_0_64).pop 1 0 64 fits_0_64)⌝ ∗ any c arg2 ∗ any c arg3 ∗ any c arg5 ∗ any c arg6 ∗ any c arg7 ∗ any c arg9 ∗ any c arg13 ∗ any c arg14 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32 ∗ any c arg33 ∗ any c arg34)
  step k s := by
    unfold k0_t5_body
    iintro ⟨%hs, -, -, ⟨%f2, H2⟩, ⟨%f3, H3⟩, ⟨%f5, H5⟩, ⟨%f6, H6⟩, ⟨%f7, H7⟩, ⟨%f9, H9⟩, ⟨%f13, H13⟩, ⟨%f14, H14⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩⟩
    have hw : Parked 0 128 s := hs.mono (by decide) (by decide)
    sl_exec
    sl_step
    isplitr
    · ipureintro; exact Parked.pop_hi (by assumption) _ _
    isplitr
    · ipureintro; exact (Parked.pop_lo (Parked.pop_hi (by assumption) _ _) _ _).mono (by decide) (by decide)
    isplitr
    · ipureintro; exact Parked.pop_lo (Parked.pop_hi (by assumption) _ _) _ _
    sl_close

/-- The odd half's hidden columns. -/
@[sl_loop] def inv8 (k0_h4 : k0_cond4 i = 1#1) (v18_r0 : BitVec 32) (v20_r0 : FVec F S64x256 .f32) (v21_r0 : FVec F S64x256 .f32) :
    LoopInvTy_k0_t8 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h4 v18_r0 v20_r0 v21_r0 where
  inv := fun _ _ => iprop(any c arg11 ∗ any c arg15)
  step k _ := by
    unfold k0_t8_body
    iintro ⟨⟨%f11, H11⟩, ⟨%f15, H15⟩⟩
    sl_exec
    sl_step
    sl_close

end Cert.Proof.KernelIdeal.Frames
-- ==== Proof.KernelIdeal.EvenFirst.lean ====
/-
The loops of the even half of the first step, run at any contents.
-/
module

public import proofs.«01_k».proof.Proof.KernelIdeal.Offsets

@[expose] public section

set_option maxRecDepth 16384
set_option warn.classDefReducibility false

noncomputable section

namespace Cert.Proof.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- The first step's down scales of a tile. -/
@[sl_loop] def inv12 (k0_h8 : k0_cond8 i = 1#1) (k0_t10 : Fin k0_t10_loop.trips) (k0_t11 : Fin k0_t11_loop.trips) (arg36_r0 : BitVec 32) (v52_r0 : BitVec 32) (v89_r0 : BitVec 32) (k0_h11 : k0_cond11 k0_t11 = 1#1) (v720_r0 : BitVec 32) (v721_r0 : IVec S8x128 32) :
    LoopInvTy_k0_t12 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h8 k0_t10 k0_t11 arg36_r0 v52_r0 v89_r0 k0_h11 v720_r0 v721_r0 where
  inv := fun _ _ => iprop(any c arg8 ∗ any c arg30 ∗ any c arg32)
  step k _ := by
    unfold k0_t12_body
    iintro ⟨⟨%f8, H8⟩, ⟨%f30, H30⟩, ⟨%f32, H32⟩⟩
    sl_exec
    sl_step
    sl_close

/-- The even half of the first step, by tiles of a chunk. -/
@[sl_loop] def inv11 (k0_h8 : k0_cond8 i = 1#1) (k0_t10 : Fin k0_t10_loop.trips) (arg35_r0 : BitVec 32) (init : Mxu F) :
    LoopInvTy_k0_t11 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h8 k0_t10 arg35_r0 init where
  inv := fun _ s => iprop(⌜Parked 0 64 s⌝ ∗ any c arg2 ∗ any c arg3 ∗ any c arg4 ∗ any c arg6 ∗ any c arg7 ∗ any c arg8 ∗ any c arg13 ∗ any c arg16 ∗ any c arg17 ∗ any c arg18 ∗ any c arg19 ∗ any c arg20 ∗ any c arg22 ∗ any c arg23 ∗ any c arg24 ∗ any c arg25 ∗ any c arg26 ∗ any c arg27 ∗ any c arg28 ∗ any c arg29 ∗ any c arg30 ∗ any c arg32)
  step k s := by
    unfold k0_t11_body
    iintro ⟨%hs, ⟨%f2, H2⟩, ⟨%f3, H3⟩, ⟨%f4, H4⟩, ⟨%f6, H6⟩, ⟨%f7, H7⟩, ⟨%f8, H8⟩, ⟨%f13, H13⟩, ⟨%f16, H16⟩, ⟨%f17, H17⟩, ⟨%f18, H18⟩, ⟨%f19, H19⟩, ⟨%f20, H20⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f32, H32⟩⟩
    have p00 := hs.ok 0 0
    have p01 := hs.ok 0 1
    have p10 := hs.ok 1 0
    have p11 := hs.ok 1 1
    by_cases q2 : k0_cond11 k = 1#1
    · skip
      have q1 : ¬ k0_cond10 k0_t10 k = 1#1 := by revert q2; revert k0_t10 k; decide +kernel
      have q0 : ¬ k0_cond9 k0_t10 k = 1#1 := by revert q2; revert k0_t10 k; decide +kernel
      sl_exec (disch := (mxu_pushok_peel <;> assumption))
      sl_step
      isplitr
      · ipureintro; exact Parked.tile (Parked.tile (Parked.tile (Parked.tile hs _ _ _ _ (by decide) (by decide) _ _) _ _ _ _ (by decide) (by decide) _ _) _ _ _ _ (by decide) (by decide) _ _) _ _ _ _ (by decide) (by decide) _ _
      sl_close
    · skip
      by_cases q1 : k0_cond10 k0_t10 k = 1#1
      · skip
        have q0 : ¬ k0_cond9 k0_t10 k = 1#1 := by revert q1; revert k0_t10 k; decide +kernel
        sl_exec (disch := (mxu_pushok_peel <;> assumption))
        sl_step
        isplitr
        · ipureintro; exact Parked.tile (Parked.tile (Parked.tile (Parked.tile hs _ _ _ _ (by decide) (by decide) _ _) _ _ _ _ (by decide) (by decide) _ _) _ _ _ _ (by decide) (by decide) _ _) _ _ _ _ (by decide) (by decide) _ _
        sl_close
      · skip
        by_cases q0 : k0_cond9 k0_t10 k = 1#1
        · skip
          sl_exec (disch := (mxu_pushok_peel <;> assumption))
          sl_step
          isplitr
          · ipureintro; exact Parked.tile (Parked.tile (Parked.tile (Parked.tile hs _ _ _ _ (by decide) (by decide) _ _) _ _ _ _ (by decide) (by decide) _ _) _ _ _ _ (by decide) (by decide) _ _) _ _ _ _ (by decide) (by decide) _ _
          sl_close
        · skip
          sl_exec (disch := (mxu_pushok_peel <;> assumption))
          sl_step
          isplitr
          · ipureintro; exact Parked.tile (Parked.tile (Parked.tile (Parked.tile hs _ _ _ _ (by decide) (by decide) _ _) _ _ _ _ (by decide) (by decide) _ _) _ _ _ _ (by decide) (by decide) _ _) _ _ _ _ (by decide) (by decide) _ _
          sl_close

/-- The even half of the first step, by chunks. -/
@[sl_loop] def inv10 (k0_h8 : k0_cond8 i = 1#1) (init : Mxu F) :
    LoopInvTy_k0_t10 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h8 init where
  inv := fun _ s => iprop(⌜Parked 0 64 s⌝ ∗ any c arg2 ∗ any c arg3 ∗ any c arg4 ∗ any c arg6 ∗ any c arg7 ∗ any c arg8 ∗ any c arg13 ∗ any c arg16 ∗ any c arg17 ∗ any c arg18 ∗ any c arg19 ∗ any c arg20 ∗ any c arg22 ∗ any c arg23 ∗ any c arg24 ∗ any c arg25 ∗ any c arg26 ∗ any c arg27 ∗ any c arg28 ∗ any c arg29 ∗ any c arg30 ∗ any c arg32)
  step k s := by
    unfold k0_t10_body
    iintro ⟨%hs, ⟨%f2, H2⟩, ⟨%f3, H3⟩, ⟨%f4, H4⟩, ⟨%f6, H6⟩, ⟨%f7, H7⟩, ⟨%f8, H8⟩, ⟨%f13, H13⟩, ⟨%f16, H16⟩, ⟨%f17, H17⟩, ⟨%f18, H18⟩, ⟨%f19, H19⟩, ⟨%f20, H20⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f32, H32⟩⟩
    sl_exec
    sl_step
    isplitr
    · ipureintro; assumption
    sl_close

/-- The first step's hidden columns. -/
@[sl_loop] def inv13 (k0_h8 : k0_cond8 i = 1#1) (v18_r0 : FVec F S64x256 .f32) (v19_r0 : FVec F S64x256 .f32) :
    LoopInvTy_k0_t13 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h8 v18_r0 v19_r0 where
  inv := fun _ _ => iprop(any c arg11 ∗ any c arg14)
  step k _ := by
    unfold k0_t13_body
    iintro ⟨⟨%f11, H11⟩, ⟨%f14, H14⟩⟩
    sl_exec
    sl_step
    sl_close

end Cert.Proof.KernelIdeal.Frames
-- ==== Proof.KernelIdeal.Even.lean ====
/-
The loops of the even half of an inner step, run at any contents.
-/
module

public import proofs.«01_k».proof.Proof.KernelIdeal.Offsets

@[expose] public section

set_option maxRecDepth 16384
set_option warn.classDefReducibility false

noncomputable section

namespace Cert.Proof.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- The even half's down scales of a tile. -/
@[sl_loop] def inv17 (k0_h12 : k0_cond12 i = 1#1) (k0_t15 : Fin k0_t15_loop.trips) (k0_t16 : Fin k0_t16_loop.trips) (arg36_r0 : BitVec 32) (v75_r0 : BitVec 32) (v112_r0 : BitVec 32) (k0_h15 : k0_cond15 k0_t16 = 1#1) (v1067_r0 : BitVec 32) (v1068_r0 : IVec S8x128 32) :
    LoopInvTy_k0_t17 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h12 k0_t15 k0_t16 arg36_r0 v75_r0 v112_r0 k0_h15 v1067_r0 v1068_r0 where
  inv := fun _ _ => iprop(any c arg8 ∗ any c arg30 ∗ any c arg32)
  step k _ := by
    unfold k0_t17_body
    iintro ⟨⟨%f8, H8⟩, ⟨%f30, H30⟩, ⟨%f32, H32⟩⟩
    sl_exec
    sl_step
    sl_close

/-- The even half of an inner step, by tiles of a chunk. -/
@[sl_loop] def inv16 (k0_h12 : k0_cond12 i = 1#1) (k0_t15 : Fin k0_t15_loop.trips) (arg35_r0 : BitVec 32) (init : Mxu F) :
    LoopInvTy_k0_t16 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h12 k0_t15 arg35_r0 init where
  inv := fun _ s => iprop(⌜Parked 0 128 s⌝ ∗ any c arg2 ∗ any c arg3 ∗ any c arg4 ∗ any c arg6 ∗ any c arg7 ∗ any c arg8 ∗ any c arg13 ∗ any c arg15 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32 ∗ any c arg33)
  step k s := by
    unfold k0_t16_body
    iintro ⟨%hs, ⟨%f2, H2⟩, ⟨%f3, H3⟩, ⟨%f4, H4⟩, ⟨%f6, H6⟩, ⟨%f7, H7⟩, ⟨%f8, H8⟩, ⟨%f13, H13⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩⟩
    have p00 := hs.ok 0 0
    have p01 := hs.ok 0 1
    have p10 := hs.ok 1 0
    have p11 := hs.ok 1 1
    by_cases q2 : k0_cond15 k = 1#1
    · skip
      have q1 : ¬ k0_cond14 k0_t15 k = 1#1 := by revert q2; revert k0_t15 k; decide +kernel
      have q0 : ¬ k0_cond13 k0_t15 k = 1#1 := by revert q2; revert k0_t15 k; decide +kernel
      sl_exec (disch := (mxu_pushok_peel <;> assumption))
      sl_step
      isplitr
      · ipureintro; exact Parked.tile (Parked.tile (Parked.tile (Parked.tile (Parked.tile (Parked.tile hs _ _ _ _ (by decide) (by decide) _ _) _ _ _ _ (by decide) (by decide) _ _) _ _ _ _ (by decide) (by decide) _ _) _ _ _ _ (by decide) (by decide) _ _) _ _ _ _ (by decide) (by decide) _ _) _ _ _ _ (by decide) (by decide) _ _
      sl_close
    · skip
      by_cases q1 : k0_cond14 k0_t15 k = 1#1
      · skip
        have q0 : ¬ k0_cond13 k0_t15 k = 1#1 := by revert q1; revert k0_t15 k; decide +kernel
        sl_exec (disch := (mxu_pushok_peel <;> assumption))
        sl_step
        isplitr
        · ipureintro; exact Parked.tile (Parked.tile (Parked.tile (Parked.tile (Parked.tile (Parked.tile hs _ _ _ _ (by decide) (by decide) _ _) _ _ _ _ (by decide) (by decide) _ _) _ _ _ _ (by decide) (by decide) _ _) _ _ _ _ (by decide) (by decide) _ _) _ _ _ _ (by decide) (by decide) _ _) _ _ _ _ (by decide) (by decide) _ _
        sl_close
      · skip
        by_cases q0 : k0_cond13 k0_t15 k = 1#1
        · skip
          sl_exec (disch := (mxu_pushok_peel <;> assumption))
          sl_step
          isplitr
          · ipureintro; exact Parked.tile (Parked.tile (Parked.tile (Parked.tile (Parked.tile (Parked.tile hs _ _ _ _ (by decide) (by decide) _ _) _ _ _ _ (by decide) (by decide) _ _) _ _ _ _ (by decide) (by decide) _ _) _ _ _ _ (by decide) (by decide) _ _) _ _ _ _ (by decide) (by decide) _ _) _ _ _ _ (by decide) (by decide) _ _
          sl_close
        · skip
          sl_exec (disch := (mxu_pushok_peel <;> assumption))
          sl_step
          isplitr
          · ipureintro; exact Parked.tile (Parked.tile (Parked.tile (Parked.tile (Parked.tile (Parked.tile hs _ _ _ _ (by decide) (by decide) _ _) _ _ _ _ (by decide) (by decide) _ _) _ _ _ _ (by decide) (by decide) _ _) _ _ _ _ (by decide) (by decide) _ _) _ _ _ _ (by decide) (by decide) _ _) _ _ _ _ (by decide) (by decide) _ _
          sl_close

/-- The even half of an inner step, by chunks. -/
@[sl_loop] def inv15 (k0_h12 : k0_cond12 i = 1#1) (init : Mxu F) :
    LoopInvTy_k0_t15 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h12 init where
  inv := fun _ s => iprop(⌜Parked 0 64 s⌝ ∗ any c arg2 ∗ any c arg3 ∗ any c arg4 ∗ any c arg6 ∗ any c arg7 ∗ any c arg8 ∗ any c arg13 ∗ any c arg15 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32 ∗ any c arg33 ∗ any c arg34)
  step k s := by
    unfold k0_t15_body
    iintro ⟨%hs, ⟨%f2, H2⟩, ⟨%f3, H3⟩, ⟨%f4, H4⟩, ⟨%f6, H6⟩, ⟨%f7, H7⟩, ⟨%f8, H8⟩, ⟨%f13, H13⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩⟩
    have hw : Parked 0 128 s := hs.mono (by decide) (by decide)
    sl_exec
    sl_step
    isplitr
    · ipureintro; exact Parked.pop_hi (by assumption) _ _
    sl_close

/-- The even half's hidden columns. -/
@[sl_loop] def inv18 (k0_h12 : k0_cond12 i = 1#1) (v17_r0 : BitVec 32) (v19_r0 : FVec F S64x256 .f32) (v20_r0 : FVec F S64x256 .f32) :
    LoopInvTy_k0_t18 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h12 v17_r0 v19_r0 v20_r0 where
  inv := fun _ _ => iprop(any c arg11 ∗ any c arg14)
  step k _ := by
    unfold k0_t18_body
    iintro ⟨⟨%f11, H11⟩, ⟨%f14, H14⟩⟩
    sl_exec
    sl_step
    sl_close

end Cert.Proof.KernelIdeal.Frames
-- ==== Proof.KernelIdeal.Last.lean ====
/-
The loops of the last step, run at any contents.
-/
module

public import proofs.«01_k».proof.Proof.KernelIdeal.Offsets

@[expose] public section

set_option maxRecDepth 16384
set_option warn.classDefReducibility false

noncomputable section

namespace Cert.Proof.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- The last step's down pass, by tiles of a chunk. -/
@[sl_loop] def inv21 (k0_h16 : k0_cond16 i = 1#1) (k0_t20 : Fin k0_t20_loop.trips) (arg35_r0 : BitVec 32) (init : Mxu F) :
    LoopInvTy_k0_t21 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h16 k0_t20 arg35_r0 init where
  inv := fun _ s => iprop(⌜Parked 64 128 s⌝ ∗ any c arg15 ∗ any c arg21 ∗ any c arg31 ∗ any c arg33)
  step k s := by
    unfold k0_t21_body
    iintro ⟨%hs, ⟨%f15, H15⟩, ⟨%f21, H21⟩, ⟨%f31, H31⟩, ⟨%f33, H33⟩⟩
    have p00 := hs.ok 0 0
    have p01 := hs.ok 0 1
    have p10 := hs.ok 1 0
    have p11 := hs.ok 1 1
    sl_exec (disch := (mxu_pushok_peel <;> assumption))
    sl_step
    isplitr
    · ipureintro; exact Parked.tile (Parked.tile hs _ _ _ _ (by decide) (by decide) _ _) _ _ _ _ (by decide) (by decide) _ _
    sl_close

/-- The last step's down pass, by chunks. -/
@[sl_loop] def inv20 (k0_h16 : k0_cond16 i = 1#1) (init : Mxu F) :
    LoopInvTy_k0_t20 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h16 init where
  inv := fun _ s => iprop(⌜Parked 64 64 s⌝ ∗ any c arg15 ∗ any c arg21 ∗ any c arg31 ∗ any c arg33 ∗ any c arg34)
  step k s := by
    unfold k0_t20_body
    iintro ⟨%hs, ⟨%f15, H15⟩, ⟨%f21, H21⟩, ⟨%f31, H31⟩, ⟨%f33, H33⟩, ⟨%f34, H34⟩⟩
    have hw : Parked 64 128 s := hs.mono (by decide) (by decide)
    sl_exec
    sl_step
    isplitr
    · ipureintro; exact Parked.pop_hi (by assumption) _ _
    sl_close

end Cert.Proof.KernelIdeal.Frames
-- ==== Proof.KernelIdeal.Body.lean ====
/-
The body at any step, from buffers at any contents to buffers at some contents.
-/
module

public import proofs.«01_k».proof.Proof.KernelIdeal.First
public import proofs.«01_k».proof.Proof.KernelIdeal.Odd
public import proofs.«01_k».proof.Proof.KernelIdeal.EvenFirst
public import proofs.«01_k».proof.Proof.KernelIdeal.Even
public import proofs.«01_k».proof.Proof.KernelIdeal.Last

@[expose] public section

set_option maxRecDepth 16384
set_option warn.classDefReducibility false

noncomputable section

namespace Cert.Proof.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- The conditions of the body at a step: the first, an inner one or the last. -/
def Stepped (i : grid0.Coords) : Prop :=
  (k0_cond1 i = 1#1 ∧ ¬ k0_cond4 i = 1#1 ∧ k0_cond8 i = 1#1 ∧ ¬ k0_cond12 i = 1#1 ∧ ¬ k0_cond16 i = 1#1)
  ∨ (¬ k0_cond1 i = 1#1 ∧ k0_cond4 i = 1#1 ∧ ¬ k0_cond8 i = 1#1 ∧ k0_cond12 i = 1#1 ∧ ¬ k0_cond16 i = 1#1)
  ∨ (¬ k0_cond1 i = 1#1 ∧ k0_cond4 i = 1#1 ∧ ¬ k0_cond8 i = 1#1 ∧ ¬ k0_cond12 i = 1#1 ∧ k0_cond16 i = 1#1)

theorem stepped : ∀ t : Fin grid0.N, Stepped (grid0.coords t) := by unfold Stepped; decide +kernel

theorem sound_kernel (hi : Stepped i) :
    iprop(any c arg1 ∗ any c arg2 ∗ any c arg3 ∗ any c arg4 ∗ any c arg5 ∗ any c arg6 ∗ any c arg7 ∗ any c arg8 ∗ any c arg9 ∗ any c arg10 ∗ any c arg11 ∗ any c arg12 ∗ any c arg13 ∗ any c arg14 ∗ any c arg15 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32 ∗ any c arg33 ∗ any c arg34)
      ⊢ wp frame (wpE (defs₀ (F := F)) Variants.none (c : Thread nD τ) none) Set.univ (cc0_q4_swiglu_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => iprop(any c arg1 ∗ any c arg2 ∗ any c arg3 ∗ any c arg4 ∗ any c arg5 ∗ any c arg6 ∗ any c arg7 ∗ any c arg8 ∗ any c arg9 ∗ any c arg10 ∗ any c arg11 ∗ any c arg12 ∗ any c arg13 ∗ any c arg14 ∗ any c arg15 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32 ∗ any c arg33 ∗ any c arg34)) := by
  simp only [cc0_q4_swiglu_mlp_eq_skeleton]; unfold cc0_q4_swiglu_mlp_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩⟩
  have e : Parked 64 64 (Mxu.init : Mxu F) := Parked.init
  have e' : Parked 0 64 (Mxu.init : Mxu F) := Parked.init.mono (by decide) (by decide)
  have e1 : Parked 64 64 (((Mxu.init : Mxu F).pop 0 0 64 fits_0_64).pop 1 0 64 fits_0_64) := Parked.pop_lo e' _ _
  have e2 : Parked 0 64 (((Mxu.init : Mxu F).pop 0 0 64 fits_0_64).pop 1 0 64 fits_0_64) := e1.mono (by decide) (by decide)
  rcases hi with ⟨h1, h4, h8, h12, h16⟩ | ⟨h1, h4, h8, h12, h16⟩ | ⟨h1, h4, h8, h12, h16⟩
  · sl_exec (disch := exact Parked.drained (Parked.pop_lo (by assumption) _ _))
    sl_step
    sl_close
  · sl_exec (disch := exact Parked.drained (Parked.pop_lo (by assumption) _ _))
    sl_step
    sl_close
  · sl_exec (disch := exact Parked.drained (by assumption))
    sl_step
    sl_close

end Cert.Proof.KernelIdeal.Frames
-- ==== Proof.KernelIdeal.Frame.lean ====
/-
The frame of the kernel: the body runs at every grid point from windows and scratch of any contents, so the
whole call runs, leaves its argument arrays as they were and every semaphore at zero.
-/
module

public import proofs.«01_k».proof.Proof.KernelIdeal.Body
public import proofs.«01_k».proof.Proof.Gen.KernelIdeal.Frame
public import proofs.«01_k».proof.Proof.Gen.KernelIdeal.Points
public import proofs.«01_k».proof.Proof.Gen.KernelIdeal.Launch

@[expose] public section

set_option maxRecDepth 16384

noncomputable section

namespace Cert.Proof.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- A memref owned at a known reading is owned at some contents, -/
theorem any_of_owns (c : Dev nD) {s : Shape} {e : EltTy} (b : Memref sig .tc .vmem s e) (X : s.Idx → Elt F e) :
    owns (c : Thread nD τ) b fullShare X ⊢ (any c b : sProp 𝕄) := by
  unfold owns
  iintro ⟨%f, -, H⟩
  iexists f; iexact H

/-- and a memref owned at some contents is owned at some reading. -/
theorem owns_of_any (c : Dev nD) {s : Shape} {e : EltTy} (b : Memref sig .tc .vmem s e) :
    (any c b : sProp 𝕄) ⊢ iprop(∃ X : s.Idx → Elt F e, ⌜True⌝ ∗ owns (c : Thread nD τ) b fullShare X) := by
  iintro ⟨%f, H⟩
  iexists (b.view.read (Elt F) f)
  isplitr; · ipureintro; trivial
  unfold owns
  iexists f; isplitr; · ipureintro; rfl
  iexact H

/-- The cells of a whole buffer are all of it, -/
theorem set_whole (b : Ref sig .tc) : (Memref.whole b).view.set = Finset.univ := View.set_whole b

/-- so a whole buffer is owned at some contents either way. -/
theorem any_whole (c : Dev nD) (b : Ref sig .tc) :
    (iprop(∃ f : Buf (Elt F) ((c : Thread nD τ).loc b), ((c : Thread nD τ).loc b) ↦{fullShare} f) : sProp 𝕄)
      = iprop(∃ f : Buf (Elt F) ((Memref.whole b).view.loc (c : Thread nD τ)), ((Memref.whole b).view.loc (c : Thread nD τ)) ↦[(Memref.whole b).view.set]{fullShare} f) := by
  rw [set_whole]

theorem sep_eq {a a' b b' : sProp 𝕄} (h : a = a') (h' : b = b') : iprop(a ∗ b) = iprop(a' ∗ b') := by rw [h, h']

set_option maxHeartbeats 2000000 in
/-- The pipeline's scratch, as the body names it. -/
theorem scratch_eq (c : Dev nD) : (scopedRest (Ix := Unit) (Name := ℕ) (U := UR sig nD τ) (Lvl := ℕ) (Val := Elt F) spec0 c : sProp 𝕄)
    = iprop(any c (Memref.whole cc0_scratch0) ∗ any c (Memref.whole cc0_scratch1) ∗ any c (Memref.whole cc0_scratch2) ∗ any c (Memref.whole cc0_scratch3) ∗ any c (Memref.whole cc0_scratch4) ∗ any c (Memref.whole cc0_scratch5) ∗ any c (Memref.whole cc0_scratch6) ∗ any c (Memref.whole cc0_scratch7) ∗ any c (Memref.whole cc0_scratch8) ∗ any c (Memref.whole cc0_scratch9) ∗ any c (Memref.whole cc0_scratch10) ∗ any c (Memref.whole cc0_scratch11) ∗ any c (Memref.whole cc0_scratch12) ∗ any c (Memref.whole cc0_scratch13) ∗ any c (Memref.whole cc0_scratch14) ∗ any c (Memref.whole cc0_scratch15) ∗ any c (Memref.whole cc0_scratch16) ∗ any c (Memref.whole cc0_scratch17) ∗ any c (Memref.whole cc0_scratch18) ∗ any c (Memref.whole cc0_scratch19) ∗ any c (Memref.whole cc0_scratch20) ∗ any c (Memref.whole cc0_scratch21) ∗ any c (Memref.whole cc0_scratch22)) := by
  rw [scopedRest0_eq]
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  refine sep_eq (any_whole c _) ?_
  exact any_whole c _

/-- The proof data of the pipeline: the arrays as the region finds them, nothing said of what the body leaves. -/
def frameData (c : Dev nD) : RDat τ (Elt F) Unit ℕ (UR sig nD τ) ℕ cfg0 c where
  A w := V m c (arrRef spec0 w)
  after _ _ _ _ := True
  Φ _ := ΦA spec0 c
  q w := shareOf spec0 w
  owed _ := 0

set_option maxHeartbeats 2000000 in
/-- The body at any point. -/
theorem sound_body (c : Dev nD) (t : Fin cfg0.N) (Y : (w : Fin cfg0.W) → (cfg0.win w).block.Idx → Elt F (cfg0.win w).elt) :
    iprop(ΦA spec0 c ∗ (frameData m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
      ⊢ wp frame (wpE (defs₀ (F := F)) Variants.none (c : Thread nD τ) none) Set.univ (bodyAt0 t) (fun _ =>
        iprop(ΦA spec0 c ∗ (frameData m c).owesAt () t.castSucc ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜True⌝ ∗ owns (c : Thread nD τ) (st0_10 t) fullShare X))) := by
  unfold ΦA
  rw [scratch_eq]
  iintro ⟨⟨⟨S0, S1, S2, S3, S4, S5, S6, S7, S8, S9, S10, S11, S12, S13, S14, S15, S16, S17, S18, S19, S20, S21, S22⟩, Hr⟩, Ho, H0, H1, H2, H3, H4, H5, H6, H7, H8, H9, H10⟩
  iapply (wp_wand_r frame (wpE (defs₀ (F := F)) Variants.none (c : Thread nD τ) none) Set.univ)
  isplitr [Hr Ho]
  · iapply (sound_kernel c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (stepped t))
    isplitl [H0]; · iapply (any_of_owns c _ _); iexact H0
    isplitl [H1]; · iapply (any_of_owns c _ _); iexact H1
    isplitl [H2]; · iapply (any_of_owns c _ _); iexact H2
    isplitl [H3]; · iapply (any_of_owns c _ _); iexact H3
    isplitl [H4]; · iapply (any_of_owns c _ _); iexact H4
    isplitl [H5]; · iapply (any_of_owns c _ _); iexact H5
    isplitl [H6]; · iapply (any_of_owns c _ _); iexact H6
    isplitl [H7]; · iapply (any_of_owns c _ _); iexact H7
    isplitl [H8]; · iapply (any_of_owns c _ _); iexact H8
    isplitl [H9]; · iapply (any_of_owns c _ _); iexact H9
    isplitl [H10]; · iapply (any_of_owns c _ _); iexact H10
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    iexact S22
  iintro %_ ⟨H0, H1, H2, H3, H4, H5, H6, H7, H8, H9, H10, S0, S1, S2, S3, S4, S5, S6, S7, S8, S9, S10, S11, S12, S13, S14, S15, S16, S17, S18, S19, S20, S21, S22⟩
  isplitl [Hr S0 S1 S2 S3 S4 S5 S6 S7 S8 S9 S10 S11 S12 S13 S14 S15 S16 S17 S18 S19 S20 S21 S22]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      iexact S22
    iexact Hr
  isplitl [Ho]; · iexact Ho
  isplitl [H0]; · iapply (owns_of_any c _); iexact H0
  isplitl [H1]; · iapply (owns_of_any c _); iexact H1
  isplitl [H2]; · iapply (owns_of_any c _); iexact H2
  isplitl [H3]; · iapply (owns_of_any c _); iexact H3
  isplitl [H4]; · iapply (owns_of_any c _); iexact H4
  isplitl [H5]; · iapply (owns_of_any c _); iexact H5
  isplitl [H6]; · iapply (owns_of_any c _); iexact H6
  isplitl [H7]; · iapply (owns_of_any c _); iexact H7
  isplitl [H8]; · iapply (owns_of_any c _); iexact H8
  isplitl [H9]; · iapply (owns_of_any c _); iexact H9
  iapply (owns_of_any c _); iexact H10

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) : (frameData (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The run: the arrays and the other buffers at what the pipeline leaves, every semaphore at zero. -/
theorem run_main : θ_run defs (onTc (τ := τ) (main (F := F))) (s₀ m ρ)
    (fun r => RDat.FramePost cfg0 (frameData m) (V m) r ∧ r.2.sem = fun _ => 0) :=
  RDat.θ_run_frame_track_shared (Q' := _) cfgs (0 : Fin 1) launch₀0 defs₀ Variants.none (frameData m) m ρ main
    (hbody := body_obligation m) (hq := fun _ _ _ => rfl) (howed := fun _ _ => rfl) (V := V m)
    (hmain := hmain m Variants.none) (hA := fun _ _ => rfl) (hin := fun _ => .rfl) (hout := fun _ => .rfl)

/-- The frame: the argument arrays end unchanged and every semaphore at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).2 main_arg0 (mem_restRefs_of main_arg0 (by decide) (by decide))).trans (V_main_arg0 m c),
      (h.1.arr_in c 1 rfl).trans (V_main_arg1 m c), (h.1.arr_in c 5 rfl).trans (V_main_arg2 m c),
      (h.1.arr_in c 2 rfl).trans (V_main_arg3 m c), (h.1.arr_in c 6 rfl).trans (V_main_arg4 m c),
      (h.1.arr_in c 4 rfl).trans (V_main_arg5 m c),
      ((h.1 c).2 main_arg6 (mem_restRefs_of main_arg6 (by decide) (by decide))).trans (V_main_arg6 m c)⟩, h.2⟩) (run_main m ρ)

end Cert.Proof.KernelIdeal.Frames

end
-- ==== Proof.KernelFrame.lean ====
/-
The frame of the kernel as compiled: its program and its idealization have one text, so the frame proved of
the one, at any reading of the floats, is the frame of the other.
-/
module

public import proofs.«01_k».proof.Proof.KernelIdeal.Frame
public import proofs.«01_k».proof.Proof.Gen.Kernel

@[expose] public section

set_option maxRecDepth 16384

noncomputable section

namespace Cert.Proof.KernelFrame

open Idealize.ShloMosaic Idealize.ShloMosaic.TcCoe Idealize.SL.Sem

variable {F : FTy → Type} [FloatOps F]

set_option maxHeartbeats 4000000 in
/-- The two texts' body tables are one, label by label. -/
theorem defs₀_eq : Cert.Kernel.defs₀ (F := F) = Cert.KernelIdeal.defs₀ (F := F) := by
  funext p ℓ a
  cases p with
  | tc =>
    match ℓ, a with
    | 0, (t, s) => rfl
  | scScalar _ => rfl
  | scVector _ _ => rfl

theorem defs_eq : Cert.Kernel.defs (F := F) = Cert.KernelIdeal.defs (F := F) := by
  show Pipeline.defs _ (Cert.Kernel.defs₀ (F := F)) = _
  rw [defs₀_eq]; rfl

theorem main_eq : Cert.Kernel.main (F := F) = Cert.KernelIdeal.main (F := F) := rfl

/-- The frame: the argument arrays end unchanged and every semaphore at zero. -/
theorem framed (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0) := by
  rw [defs_eq, main_eq]
  exact Cert.Proof.KernelIdeal.Frames.framed (F := F) m g

end Cert.Proof.KernelFrame

end
-- ==== Proof.KernelIdeal.Tables.lean ====
/-
The tables that a step makes of a block's weights and scales, as functions of the arrays, and what one store adds to them.
-/
module

public import proofs.«01_k».proof.Proof.KernelIdeal.Offsets
public import Idealize.ShloMosaic.Lib.Pointwise.Index
public import Idealize.ShloMosaic.Lib.Writes
public import Idealize.ShloMosaic.Lib.WritesUnit

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The entry of a matrix at two numbers, taken modulo its sizes. -/
def pick {m n : ℕ} [NeZero m] [NeZero n] {α : Type} (f : (⟨2, ![m, n]⟩ : Shape).Idx → α) (a b : ℕ) : α :=
  f (ix2 (Fin.ofNat m a) (Fin.ofNat n b))

theorem pick_at {m n : ℕ} [NeZero m] [NeZero n] {α : Type} (f : (⟨2, ![m, n]⟩ : Shape).Idx → α) (y : (⟨2, ![m, n]⟩ : Shape).Idx) {a b : ℕ}
    (h0 : (y 0).val = a) (h1 : (y 1).val = b) : f y = pick f a b := by
  subst h0; subst h1
  refine congrArg f ((eq_ix2 y).trans ?_)
  congr 1
  · exact Fin.ext (Nat.mod_eq_of_lt (y 0).isLt).symm
  · exact Fin.ext (Nat.mod_eq_of_lt (y 1).isLt).symm

theorem pick_ix {m n : ℕ} [NeZero m] [NeZero n] {α : Type} (f : (⟨2, ![m, n]⟩ : Shape).Idx → α) {a b : ℕ} (h0 : a < m) (h1 : b < n) :
    pick f a b = f (ix2 ⟨a, h0⟩ ⟨b, h1⟩) := (pick_at f (ix2 ⟨a, h0⟩ ⟨b, h1⟩) rfl rfl).symm

/-- The block of a matrix that starts at a row and a column, rows taken every `s`. -/
def part {α : Type} (Q : ℕ → ℕ → α) (m n r c s : ℕ) : (⟨2, ![m, n]⟩ : Shape).Idx → α := fun y => Q (r + s * (y 0).val) (c + (y 1).val)

section Access

variable {κ : Kind} {sp : Space} {e : EltTy} {m n m' n' : ℕ} [NeZero m] [NeZero n] {Val : EltTy → Type}
variable (v : View sig κ sp (⟨2, ![m, n]⟩ : Shape) e) (f : v.ty.Contents Val)

/-- A load reads a block of the matrix. -/
theorem readAt_part (off st : Fin 2 → ℕ) (inb) {r c s : ℕ} (h0 : off 0 = r) (h1 : off 1 = c) (hs : st 0 = s) (hs1 : st 1 = 1) :
    v.readAt Val (⟨off, ![m', n'], st, inb⟩ : LoadRect (⟨2, ![m, n]⟩ : Shape)) f = part (pick (v.read Val f)) m' n' r c s := by
  subst h0; subst h1; subst hs
  funext y
  refine pick_at (m := m) (n := n) (v.read Val f) ((⟨off, ![m', n'], st, inb⟩ : LoadRect (⟨2, ![m, n]⟩ : Shape)).idx y) rfl ?_
  show off 1 + st 1 * (y 1).val = _
  rw [hs1, Nat.one_mul]

/-- A store at rows `r, r + s, …` and the columns from `c` is read back there, and nothing else changes. -/
theorem pick_write (off st : Fin 2 → ℕ) (inb pos) {r c s : ℕ} (h0 : off 0 = r) (h1 : off 1 = c) (hs : st 0 = s) (hs1 : st 1 = 1) (hpos : 0 < s)
    (w : (⟨2, ![m', n']⟩ : Shape).Idx → Val e) (L : List (View.Piece Val (⟨2, ![m, n]⟩ : Shape) e)) (a b : ℕ) (ha : a < m) (hb : b < n) [NeZero m'] [NeZero n'] :
    pick (v.read Val (v.writes Val f ((⟨⟨⟨off, ![m', n'], st, inb⟩, pos⟩, w⟩ : View.Piece Val (⟨2, ![m, n]⟩ : Shape) e) :: L))) a b
      = if r ≤ a ∧ (a - r) % s = 0 ∧ (a - r) / s < m' ∧ c ≤ b ∧ b < c + n' then pick w ((a - r) / s) (b - c)
        else pick (v.read Val (v.writes Val f L)) a b := by
  subst h0; subst h1; subst hs
  rw [pick_ix _ ha hb]
  split
  · rename_i h
    obtain ⟨h0, h1, h2, h3, h4⟩ := h
    have h5 : b - off 1 < n' := by omega
    rw [pick_ix w h2 h5]
    refine View.read_writes_cons_hit v f (⟨⟨off, ![m', n'], st, inb⟩, pos⟩ : Rect (⟨2, ![m, n]⟩ : Shape)) w L (ix2 ⟨_, h2⟩ ⟨_, h5⟩ : (⟨2, ![m', n']⟩ : Shape).Idx) _ ?_
    refine (eq_ix2 _).trans ?_
    have h6 : st 0 * ((a - off 0) / st 0) = a - off 0 := Nat.mul_div_cancel' (Nat.dvd_of_mod_eq_zero h1)
    congr 1
    · refine Fin.ext ?_
      show off 0 + st 0 * ((a - off 0) / st 0) = a
      omega
    · refine Fin.ext ?_
      show off 1 + st 1 * (b - off 1) = b
      rw [hs1]; omega
  · rename_i h
    rw [pick_ix _ ha hb]
    refine View.read_writes_cons_miss v f _ L _ ?_
    intro hm
    rw [← Rect.map_emb_univ] at hm
    obtain ⟨x, -, hx⟩ := Finset.mem_map.mp hm
    have e0 : off 0 + st 0 * (x 0).val = a := congrArg Fin.val (congrFun hx 0)
    have e1 : off 1 + st 1 * (x 1).val = b := congrArg Fin.val (congrFun hx 1)
    have l0 : (x 0).val < m' := (x 0).isLt
    have l1 : (x 1).val < n' := (x 1).isLt
    rw [hs1] at e1
    apply h
    have e2 : a - off 0 = st 0 * (x 0).val := by omega
    rw [e2, Nat.mul_mod_right, Nat.mul_div_cancel_left _ hpos]
    omega

end Access

/-! ## The words of the weights -/

/-- The words of 512 rows and 128 columns of weight bytes: four rows to a word, the sign of every nibble flipped, transposed. -/
def words (W : Vec F S512x128 .i8) : IVec S128x128 32 := k0_pay66 W

/-- Word row `R`, lane `l` of the table of the 512 rows of `Q` from `row`. -/
def word (F : FTy → Type) [FloatOps F] (Q : ℕ → ℕ → BitVec 8) (row R l : ℕ) : BitVec 32 :=
  pick (words (F := F) (part Q 512 128 row (128 * (R / 128)) 1)) (R % 128) l

/-- The first `n` rows of the table are made. -/
def Words (F : FTy → Type) [FloatOps F] (Q : ℕ → ℕ → BitVec 8) (row n : ℕ) (wt : S2048x128.Idx → BitVec 32) : Prop :=
  ∀ R l, R < n → R < 2048 → l < 128 → pick wt R l = word F Q row R l

theorem Words.zero (Q : ℕ → ℕ → BitVec 8) (row : ℕ) (wt) : Words F Q row 0 wt := fun _ _ h => absurd h (Nat.not_lt_zero _)

theorem Words.store {Q : ℕ → ℕ → BitVec 8} {row c : ℕ} (m : Memref sig .tc .vmem S2048x128 .i32) (f : m.view.ty.Contents (Elt F))
    (h : Words F Q row (128 * c) (m.view.read (Elt F) f)) (off : Fin 2 → ℕ) (inb) (hoff : off = ![128 * c, 0]) (w : IVec S128x128 32)
    (hw : w = words (F := F) (part Q 512 128 row (128 * c) 1)) :
    Words F Q row (128 * (c + 1)) (m.view.read (Elt F) (m.view.writes (Elt F) f [⟨Rect.unit off S128x128.size inb, w⟩])) := by
  intro R l hR hR' hl
  have e := pick_write (m := 2048) (n := 128) (m' := 128) (n' := 128) m.view f off (fun _ => 1) (Rect.unit (s := S2048x128) off S128x128.size inb).inb (fun _ => Nat.one_pos) (r := 128 * c) (c := 0) (s := 1) (by rw [hoff]; rfl) (by rw [hoff]; rfl) rfl rfl (by decide) w [] R l hR' hl
  refine Eq.trans e ?_
  rw [Nat.div_one, Nat.mod_one]
  by_cases hc : R < 128 * c
  · rw [if_neg (by omega)]
    exact h R l hc hR' hl
  · rw [if_pos (by omega), hw, word]
    congr 1 <;> [(congr 2; omega); omega]

/-- `Words.store` where the bytes are what a load read. -/
theorem Words.store_load {row c : ℕ} (m : Memref sig .tc .vmem S2048x128 .i32) (f : m.view.ty.Contents (Elt F))
    (m2 : Memref sig .tc .vmem S1024x2048 .i8) (f2 : m2.view.ty.Contents (Elt F))
    (h : Words F (pick (m2.view.read (Elt F) f2)) row (128 * c) (m.view.read (Elt F) f)) (off : Fin 2 → ℕ) (inb) (hoff : off = ![128 * c, 0])
    (loff : Fin 2 → ℕ) (linb) (hl : loff = ![row, 128 * c]) (w : IVec S128x128 32)
    (hw : w = words (m2.view.readAt (Elt F) (Rect.unit (s := S1024x2048) loff S512x128.size linb).toLoadRect f2)) :
    Words F (pick (m2.view.read (Elt F) f2)) row (128 * (c + 1)) (m.view.read (Elt F) (m.view.writes (Elt F) f [⟨Rect.unit off S128x128.size inb, w⟩])) :=
  Words.store m f h off inb hoff w (hw.trans (congrArg words
    (readAt_part (m := 1024) (n := 2048) m2.view f2 loff (fun _ => 1) _ (by rw [hl]; rfl) (by rw [hl]; rfl) rfl rfl)))

theorem Words.cast {Q : ℕ → ℕ → BitVec 8} {row n n' : ℕ} {wt} (h : Words F Q row n wt) (e : n = n') : Words F Q row n' wt := e ▸ h

/-! ## The scales -/

/-- Rows `row + q, row + q + 4, …` of the scales. -/
def srows (S : ℕ → ℕ → F .f32) (row q : ℕ) : Vec F S128x128 .f32 := part S 128 128 (row + q) 0 4

/-- The first and the second term of the scales, transposed. -/
def termA (v : Vec F S128x128 .f32) : FVec F S128x128 .f32 := k0_pay54 v
def termB (v : Vec F S128x128 .f32) : FVec F S128x128 .f32 := k0_pay55 v

/-- The rows of the scale table that hold rows `q < n` of every four are made: row `8g + q` and row `8g + q + 4`. -/
def Scales (t : Vec F S128x128 .f32 → FVec F S128x128 .f32) (S : ℕ → ℕ → F .f32) (row n : ℕ) (sa : S1024x128.Idx → F .f32) : Prop :=
  ∀ r l, r % 4 < n → r < 1024 → l < 128 → pick sa r l = pick (t (srows S row (r % 4))) (r / 8) l

theorem Scales.zero (t) (S : ℕ → ℕ → F .f32) (row : ℕ) (sa) : Scales t S row 0 sa := fun _ _ h => absurd h (Nat.not_lt_zero _)

theorem Scales.store {t : Vec F S128x128 .f32 → FVec F S128x128 .f32} {S : ℕ → ℕ → F .f32} {row q : ℕ} (m : Memref sig .tc .vmem S1024x128 .f32)
    (f : m.view.ty.Contents (Elt F)) (h : Scales t S row q (m.view.read (Elt F) f)) (hq : q < 4) (o4 o0 : Fin 2 → ℕ) (inb4 inb0 pos4 pos0)
    (h4 : o4 = ![q + 4, 0]) (h0 : o0 = ![q, 0]) (w4 w0 : FVec F S128x128 .f32) (e4 : w4 = t (srows S row q)) (e0 : w0 = t (srows S row q)) :
    Scales t S row (q + 1) (m.view.read (Elt F) (m.view.writes (Elt F) f
      [⟨⟨⟨o4, S128x128.size, ![8, 1], inb4⟩, pos4⟩, w4⟩, ⟨⟨⟨o0, S128x128.size, ![8, 1], inb0⟩, pos0⟩, w0⟩])) := by
  intro r l hr hr' hl
  refine Eq.trans (pick_write (m := 1024) (n := 128) (m' := 128) (n' := 128) m.view f o4 ![8, 1] inb4 pos4 (r := q + 4) (c := 0) (s := 8) (by rw [h4]; rfl) (by rw [h4]; rfl) rfl rfl (by decide) w4 _ r l hr' hl) ?_
  split
  · rename_i hc
    have e : r % 4 = q := by omega
    rw [e4, e]
    congr 1; omega
  · rename_i hc
    refine Eq.trans (pick_write (m := 1024) (n := 128) (m' := 128) (n' := 128) m.view f o0 ![8, 1] inb0 pos0 (r := q) (c := 0) (s := 8) (by rw [h0]; rfl) (by rw [h0]; rfl) rfl rfl (by decide) w0 _ r l hr' hl) ?_
    split
    · rename_i hd
      have e : r % 4 = q := by omega
      rw [e0, e]
      congr 1; omega
    · rename_i hd
      refine h r l ?_ hr' hl
      omega

/-- `Scales.store` where the scales are what a load read. -/
theorem Scales.store_load (t : Vec F S128x128 .f32 → FVec F S128x128 .f32) {row q : ℕ} (m : Memref sig .tc .vmem S1024x128 .f32)
    (f : m.view.ty.Contents (Elt F)) (m2 : Memref sig .tc .vmem S1024x128 .f32) (f2 : m2.view.ty.Contents (Elt F))
    (h : Scales t (pick (m2.view.read (Elt F) f2)) row q (m.view.read (Elt F) f)) (hq : q < 4) (o4 o0 lo : Fin 2 → ℕ) (inb4 inb0 linb pos4 pos0)
    (h4 : o4 = ![q + 4, 0]) (h0 : o0 = ![q, 0]) (hl : lo = ![row + q, 0]) (w4 w0 : FVec F S128x128 .f32)
    (e4 : w4 = t (m2.view.readAt (Elt F) (⟨lo, S128x128.size, ![4, 1], linb⟩ : LoadRect S1024x128) f2))
    (e0 : w0 = t (m2.view.readAt (Elt F) (⟨lo, S128x128.size, ![4, 1], linb⟩ : LoadRect S1024x128) f2)) :
    Scales t (pick (m2.view.read (Elt F) f2)) row (q + 1) (m.view.read (Elt F) (m.view.writes (Elt F) f
      [⟨⟨⟨o4, S128x128.size, ![8, 1], inb4⟩, pos4⟩, w4⟩, ⟨⟨⟨o0, S128x128.size, ![8, 1], inb0⟩, pos0⟩, w0⟩])) :=
  have e := readAt_part (m := 1024) (n := 128) m2.view f2 lo ![4, 1] linb (r := row + q) (c := 0) (by rw [hl]; rfl) (by rw [hl]; rfl) rfl rfl
  Scales.store m f h hq o4 o0 inb4 inb0 pos4 pos0 h4 h0 w4 w0 (e4.trans (congrArg t e)) (e0.trans (congrArg t e))

theorem Scales.cast {t} {S : ℕ → ℕ → F .f32} {row n n' : ℕ} {sa} (h : Scales t S row n sa) (e : n = n') : Scales t S row n' sa := e ▸ h

/-- How many rows of every four the gate's scales are made of after `k` tiles of chunk group `i`, -/
def gateRows (i k : ℕ) : ℕ := if i = 0 then (k + 1) / 2 else 4

/-- and how many the up projection's. -/
def upRows (i k : ℕ) : ℕ := if i = 0 then 0 else if i = 1 then (k + 1) / 2 else 4

/-! ## A tile's right operand -/

/-- Codes times a group's two scale terms. -/
def group (c : FVec F S128x128 .bf16) (a b : FVec F S16x128 .bf16) : FVec F S128x128 .bf16 :=
  let v := shapeCast S8x16x128 c shapeCasts_S128x128_S8x16x128
  shapeCast S128x128 (addf
    (mulf v (broadcastTo S8x16x128 (shapeCast S1x16x128 a shapeCasts_S16x128_S1x16x128) broadcasts_S1x16x128_S8x16x128))
    (mulf v (broadcastTo S8x16x128 (shapeCast S1x16x128 b shapeCasts_S16x128_S1x16x128) broadcasts_S1x16x128_S8x16x128))) shapeCasts_S8x16x128_S128x128

/-- 32 word rows dequantised with two groups of scales. -/
def dequant (w : Vec F S32x128 .i32) (a0 b0 a1 b1 : Vec F S8x128 .f32) : FVec F S256x128 .bf16 :=
  concatenate S256x128 0
    [⟨S128x128, group (extractStridedSlice S128x128 ![0, 0] (k0_pay112 w) slices_S256x128_o0_0_S128x128) (k0_pay109 a0) (k0_pay109 b0)⟩,
     ⟨S128x128, group (extractStridedSlice S128x128 ![128, 0] (k0_pay112 w) slices_S256x128_o128_0_S128x128) (k0_pay109 a1) (k0_pay109 b1)⟩]
    concatenates_S128x128_S128x128_S256x128_d0

/-- Tile `k` dequantised from a table of words and two of scales. -/
def side (w : ℕ → ℕ → BitVec 32) (sa sb : ℕ → ℕ → F .f32) (k : ℕ) : FVec F S256x128 .bf16 :=
  dequant (part w 32 128 (32 * k) 0 1) (part sa 8 128 (16 * k) 0 1) (part sb 8 128 (16 * k) 0 1)
    (part sa 8 128 (16 * k + 8) 0 1) (part sb 8 128 (16 * k + 8) 0 1)

/-- The gate's tile beside the up projection's. -/
def beside (g u : FVec F S256x128 .bf16) : FVec F S256x256 .bf16 :=
  concatenate S256x256 1 [⟨S256x128, g⟩, ⟨S256x128, u⟩] concatenates_S256x128_S256x128_S256x256_d1

end Cert.Proof.KernelIdeal.Values
-- ==== Proof.KernelIdeal.UnitSum.lean ====
/-
What the two units have summed up between two tiles of a block.
-/
module

public import proofs.«01_k».proof.Proof.KernelIdeal.Tables

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The sum of the first `n` of a row of passes, the first one stored and each further one added to what is there. -/
def tot (P : ℕ → FVec F (Mxu.STile 64) .f32) : ℕ → FVec F (Mxu.STile 64) .f32
  | 0 => P 0
  | 1 => P 0
  | n + 2 => addf (tot P (n + 1)) (P (n + 1))

/-- Rows 0 to 64 of unit `u` hold the sum of the first `n` passes; with none they are not live. -/
def Acc (P : ℕ → FVec F (Mxu.STile 64) .f32) (n : ℕ) (s : Mxu F) (u : Fin 2) : Prop :=
  (∀ R : Fin 1024, R.val < 64 → s.live u R = decide (0 < n)) ∧ (0 < n → s.read u 0 fits_0_64 = tot P n)

/-- A pass of the unit into its rows 0 to 64. -/
theorem Acc.tile {P : ℕ → FVec F (Mxu.STile 64) .f32} {n : ℕ} {s : Mxu F} {u : Fin 2} (h : Acc P n s u) (r : Fin 2) (hr : s.reg u r = none)
    (hf : Mxu.Fits 0 64) {φ : FTy} (v : FVec F (Mxu.STile 256) φ) (lhs : FVec F (Mxu.STile 64) φ)
    (e : FloatOps.mxuPass (DotDims.plain 64 256 256) lhs v = P n) : Acc P (n + 1) ((s.pushed u r false v).accLhs u r 0 lhs hf) u := by
  have hst : (s.pushed u r false v).staged u r = ⟨φ, false, v⟩ := by
    rw [Mxu.staged_eq, Mxu.reg_pushed_of_none _ _ _ _ _ hr]; rfl
  refine ⟨fun R hR => ?_, fun _ => ?_⟩
  · rw [Mxu.live_accLhs, if_pos ⟨rfl, by omega, by omega⟩]; simp
  · cases n with
    | zero =>
      rw [Mxu.read_accLhs_of_not_live _ _ _ _ _ hf (fun r' => by
        rw [Mxu.live_pushed]; refine (h.1 _ ?_).trans (by simp)
        have := r'.isLt
        show 4 * 0 + r'.val < 64
        omega), hst, Mxu.Staged.pass_false, e]
      rfl
    | succ n =>
      rw [Mxu.read_accLhs_of_live _ _ _ _ _ hf (fun r' => by
        rw [Mxu.live_pushed]; refine (h.1 _ ?_).trans (by simp)
        have := r'.isLt
        show 4 * 0 + r'.val < 64
        omega), hst, Mxu.Staged.pass_false, e, Mxu.read_pushed, h.2 (Nat.succ_pos n)]
      rfl

/-- A pass of the other unit, or one into rows 64 to 128, leaves the rows. -/
theorem Acc.tile_ne {P : ℕ → FVec F (Mxu.STile 64) .f32} {n : ℕ} {s : Mxu F} {u : Fin 2} (h : Acc P n s u) (u' r : Fin 2) (A : ℕ) (hf : Mxu.Fits A 64)
    (ne : u ≠ u' ∨ 64 ≤ 4 * A) {φ ψ : FTy} (v : FVec F (Mxu.STile 256) φ) (lhs : FVec F (Mxu.STile 64) ψ) :
    Acc P n ((s.pushed u' r false v).accLhs u' r A lhs hf) u := by
  refine ⟨fun R hR => ?_, fun hn => ?_⟩
  · rw [Mxu.live_accLhs, if_neg (fun hc => by rcases ne with ne | ne; exact ne hc.1; omega), Mxu.live_pushed]; exact h.1 R hR
  · rw [Mxu.read_accLhs_ne _ _ _ _ _ hf _ _ fits_0_64 (by rcases ne with ne | ne; exact .inl ne; exact .inr (.inl (by omega))), Mxu.read_pushed]
    exact h.2 hn

theorem Acc.pop_hi {P : ℕ → FVec F (Mxu.STile 64) .f32} {n : ℕ} {s : Mxu F} {u : Fin 2} (h : Acc P n s u) (u' : Fin 2) (h0 : Mxu.Fits 16 64) :
    Acc P n (s.pop u' 16 64 h0) u := by
  refine ⟨fun R hR => ?_, fun hn => ?_⟩
  · rw [Mxu.live_pop, if_neg (by omega)]; exact h.1 R hR
  · rw [Mxu.read_pop_ne _ _ _ h0 _ _ fits_0_64 (.inr (.inl (by omega)))]; exact h.2 hn

/-- Popped, the rows hold nothing. -/
theorem Acc.none {P : ℕ → FVec F (Mxu.STile 64) .f32} {s : Mxu F} (h : Parked 64 128 s) (u : Fin 2) : Acc P 0 s u :=
  ⟨fun R hR => by
    rw [decide_eq_false (by omega)]
    cases hl : s.live u R with
    | false => rfl
    | true => have := h.2 u R hl; omega, fun h => absurd h (by omega)⟩

/-- Both units between two tiles: the registers empty, unit 0 with `m` and unit 1 with `n` passes summed in rows 0 to 64. -/
def Sums (P0 P1 : ℕ → FVec F (Mxu.STile 64) .f32) (m n hi : ℕ) (s : Mxu F) : Prop := Parked 0 hi s ∧ Acc P0 m s 0 ∧ Acc P1 n s 1

section Sums

variable {P0 P1 : ℕ → FVec F (Mxu.STile 64) .f32} {m n hi : ℕ} {s : Mxu F}

theorem Sums.gu0 (h : Sums P0 P1 m n hi s) (r : Fin 2) (hf : Mxu.Fits 0 64) (hhi : 64 ≤ hi) {φ : FTy} (v : FVec F (Mxu.STile 256) φ)
    (lhs : FVec F (Mxu.STile 64) φ) (e : FloatOps.mxuPass (DotDims.plain 64 256 256) lhs v = P0 m) :
    Sums P0 P1 (m + 1) n hi ((s.pushed 0 r false v).accLhs 0 r 0 lhs hf) :=
  ⟨h.1.tile _ _ _ _ (by omega) (by omega) _ _, h.2.1.tile r (h.1.1 _ _) hf v lhs e, h.2.2.tile_ne _ _ _ _ (.inl (by decide)) _ _⟩

theorem Sums.gu1 (h : Sums P0 P1 m n hi s) (r : Fin 2) (hf : Mxu.Fits 0 64) (hhi : 64 ≤ hi) {φ : FTy} (v : FVec F (Mxu.STile 256) φ)
    (lhs : FVec F (Mxu.STile 64) φ) (e : FloatOps.mxuPass (DotDims.plain 64 256 256) lhs v = P1 n) :
    Sums P0 P1 m (n + 1) hi ((s.pushed 1 r false v).accLhs 1 r 0 lhs hf) :=
  ⟨h.1.tile _ _ _ _ (by omega) (by omega) _ _, h.2.1.tile_ne _ _ _ _ (.inl (by decide)) _ _, h.2.2.tile r (h.1.1 _ _) hf v lhs e⟩

theorem Sums.down (h : Sums P0 P1 m n hi s) (u r : Fin 2) (hf : Mxu.Fits 16 64) (hhi : 128 ≤ hi) {φ ψ : FTy} (v : FVec F (Mxu.STile 256) φ)
    (lhs : FVec F (Mxu.STile 64) ψ) : Sums P0 P1 m n hi ((s.pushed u r false v).accLhs u r 16 lhs hf) :=
  ⟨h.1.tile _ _ _ _ (by omega) (by omega) _ _, h.2.1.tile_ne _ _ _ _ (.inr (by omega)) _ _, h.2.2.tile_ne _ _ _ _ (.inr (by omega)) _ _⟩

theorem Sums.pop_hi (h : Sums P0 P1 m n 128 s) (h0 h1 : Mxu.Fits 16 64) : Sums P0 P1 m n 64 ((s.pop 0 16 64 h0).pop 1 16 64 h1) :=
  ⟨h.1.pop_hi _ _, (h.2.1.pop_hi _ _).pop_hi _ _, (h.2.2.pop_hi _ _).pop_hi _ _⟩

theorem Sums.cast (h : Sums P0 P1 m n hi s) {m' : ℕ} (e : m = m') (e' : n = m') : Sums P0 P1 m' m' hi s := by subst e; subst e'; exact h

theorem Sums.parked (h : Sums P0 P1 m n hi s) : Parked 0 hi s := h.1

theorem Sums.mono (h : Sums P0 P1 m n 64 s) : Sums P0 P1 m n 128 s := ⟨h.1.mono (by decide) (by decide), h.2⟩

theorem Sums.init : Sums P0 P1 0 0 64 (Mxu.init : Mxu F) :=
  ⟨Parked.init.mono (by decide) (by decide), Acc.none (Parked.init.mono (by decide) (by decide)) _, Acc.none (Parked.init.mono (by decide) (by decide)) _⟩

theorem Sums.none (h : Parked 64 64 s) : Sums P0 P1 0 0 64 s :=
  ⟨h.mono (by decide) (by decide), Acc.none (h.mono (by decide) (by decide)) _, Acc.none (h.mono (by decide) (by decide)) _⟩

/-- What the pops of a block read: the two units' sums. -/
theorem Sums.read (h : Sums P0 P1 32 32 hi s) (h0 h1 h2 : Mxu.Fits 0 64) : s.read 0 0 h0 = tot P0 32 ∧ (s.pop 0 0 64 h1).read 1 0 h2 = tot P1 32 :=
  ⟨h.2.1.2 (by decide), (Mxu.read_pop_ne _ _ _ _ _ _ _ (.inl (by decide))).trans (h.2.2.2 (by decide))⟩

end Sums

/-- The pass of tile `k`: the spread input's columns times the gate's and the up projection's tile. -/
def pass (X : ℕ → ℕ → F .bf16) (w : ℕ → ℕ → BitVec 32) (sa sb : ℕ → ℕ → F .f32) (w' : ℕ → ℕ → BitVec 32) (sa' sb' : ℕ → ℕ → F .f32) (k : ℕ) :
    FVec F (Mxu.STile 64) .f32 :=
  FloatOps.mxuPass (DotDims.plain 64 256 256) (part X 64 256 0 (256 * k) 1 : FVec F (Mxu.STile 64) .bf16)
    (beside (side w sa sb k) (side w' sa' sb' k) : FVec F (Mxu.STile 256) .bf16)

/-- A tile's operands where they are what loads read. -/
theorem pass_load (mx : Memref sig .tc .vmem S64x16384 .bf16) (fx : mx.view.ty.Contents (Elt F))
    (mw mw' : Memref sig .tc .vmem S2048x128 .i32) (fw : mw.view.ty.Contents (Elt F)) (fw' : mw'.view.ty.Contents (Elt F))
    (ma mb ma' mb' : Memref sig .tc .vmem S1024x128 .f32) (fa : ma.view.ty.Contents (Elt F)) (fb : mb.view.ty.Contents (Elt F))
    (fa' : ma'.view.ty.Contents (Elt F)) (fb' : mb'.view.ty.Contents (Elt F)) (k : ℕ) (ox ow o0 o1 : Fin 2 → ℕ) (ix iw i0 i1)
    (hx : ox = ![0, 256 * k]) (hw : ow = ![32 * k, 0]) (h0 : o0 = ![16 * k, 0]) (h1 : o1 = ![16 * k + 8, 0])
    (lhs : FVec F (Mxu.STile 64) .bf16) (v : FVec F (Mxu.STile 256) .bf16)
    (hl : lhs = mx.view.readAt (Elt F) (Rect.unit (s := S64x16384) ox S64x256.size ix).toLoadRect fx)
    (hv : v = beside
      (dequant (mw.view.readAt (Elt F) (Rect.unit (s := S2048x128) ow S32x128.size iw).toLoadRect fw)
        (ma.view.readAt (Elt F) (Rect.unit (s := S1024x128) o0 S8x128.size i0).toLoadRect fa)
        (mb.view.readAt (Elt F) (Rect.unit (s := S1024x128) o0 S8x128.size i0).toLoadRect fb)
        (ma.view.readAt (Elt F) (Rect.unit (s := S1024x128) o1 S8x128.size i1).toLoadRect fa)
        (mb.view.readAt (Elt F) (Rect.unit (s := S1024x128) o1 S8x128.size i1).toLoadRect fb))
      (dequant (mw'.view.readAt (Elt F) (Rect.unit (s := S2048x128) ow S32x128.size iw).toLoadRect fw')
        (ma'.view.readAt (Elt F) (Rect.unit (s := S1024x128) o0 S8x128.size i0).toLoadRect fa')
        (mb'.view.readAt (Elt F) (Rect.unit (s := S1024x128) o0 S8x128.size i0).toLoadRect fb')
        (ma'.view.readAt (Elt F) (Rect.unit (s := S1024x128) o1 S8x128.size i1).toLoadRect fa')
        (mb'.view.readAt (Elt F) (Rect.unit (s := S1024x128) o1 S8x128.size i1).toLoadRect fb'))) :
    FloatOps.mxuPass (DotDims.plain 64 256 256) lhs v
      = pass (pick (mx.view.read (Elt F) fx)) (pick (mw.view.read (Elt F) fw)) (pick (ma.view.read (Elt F) fa)) (pick (mb.view.read (Elt F) fb))
          (pick (mw'.view.read (Elt F) fw')) (pick (ma'.view.read (Elt F) fa')) (pick (mb'.view.read (Elt F) fb')) k := by
  have ex := readAt_part (m := 64) (n := 16384) (m' := 64) (n' := 256) mx.view fx ox (fun _ => 1) (Rect.unit (s := S64x16384) ox S64x256.size ix).inb (r := 0) (c := 256 * k) (s := 1) (by rw [hx]; rfl) (by rw [hx]; rfl) rfl rfl
  have ew := fun (m : Memref sig .tc .vmem S2048x128 .i32) (f : m.view.ty.Contents (Elt F)) =>
    readAt_part (m := 2048) (n := 128) (m' := 32) (n' := 128) m.view f ow (fun _ => 1) (Rect.unit (s := S2048x128) ow S32x128.size iw).inb (r := 32 * k) (c := 0) (s := 1) (by rw [hw]; rfl) (by rw [hw]; rfl) rfl rfl
  have e0 := fun (m : Memref sig .tc .vmem S1024x128 .f32) (f : m.view.ty.Contents (Elt F)) =>
    readAt_part (m := 1024) (n := 128) (m' := 8) (n' := 128) m.view f o0 (fun _ => 1) (Rect.unit (s := S1024x128) o0 S8x128.size i0).inb (r := 16 * k) (c := 0) (s := 1) (by rw [h0]; rfl) (by rw [h0]; rfl) rfl rfl
  have e1 := fun (m : Memref sig .tc .vmem S1024x128 .f32) (f : m.view.ty.Contents (Elt F)) =>
    readAt_part (m := 1024) (n := 128) (m' := 8) (n' := 128) m.view f o1 (fun _ => 1) (Rect.unit (s := S1024x128) o1 S8x128.size i1).inb (r := 16 * k + 8) (c := 0) (s := 1) (by rw [h1]; rfl) (by rw [h1]; rfl) rfl rfl
  subst hl; subst hv
  unfold pass side
  rw [← ex, ← ew, ← ew, ← e0, ← e0, ← e0, ← e0, ← e1, ← e1, ← e1, ← e1]
  rfl

/-- The passes of unit `u`: every other tile. -/
def passes (X : ℕ → ℕ → F .bf16) (w : ℕ → ℕ → BitVec 32) (sa sb : ℕ → ℕ → F .f32) (w' : ℕ → ℕ → BitVec 32) (sa' sb' : ℕ → ℕ → F .f32) (u m : ℕ) :
    FVec F (Mxu.STile 64) .f32 := pass X w sa sb w' sa' sb' (2 * m + u)

/-- The units after `n` chunks of two tiles each: before the first one only what is left of the block before. -/
def SumsAt (P0 P1 : ℕ → FVec F (Mxu.STile 64) .f32) (hi : ℕ) (s : Mxu F) : ℕ → Prop
  | 0 => Parked 64 64 s
  | n + 1 => Sums P0 P1 (2 * (n + 1)) (2 * (n + 1)) hi s

section SumsAt

variable {P0 P1 : ℕ → FVec F (Mxu.STile 64) .f32} {n hi : ℕ} {s : Mxu F}

theorem SumsAt.sums (h : SumsAt P0 P1 hi s n) (hhi : 64 ≤ hi) : Sums P0 P1 (2 * n) (2 * n) hi s := by
  cases n with
  | zero => exact ⟨h.mono (by decide) hhi, Acc.none (h.mono (by decide) (by decide)) _, Acc.none (h.mono (by decide) (by decide)) _⟩
  | succ n => exact h

theorem Sums.next (h : Sums P0 P1 (2 * n + 1 + 1) (2 * n + 1 + 1) hi s) : SumsAt P0 P1 hi s (n + 1) := h

theorem SumsAt.parked (h : SumsAt P0 P1 hi s (n + 1)) : Parked 0 hi s := Sums.parked h

theorem SumsAt.widen (h : SumsAt P0 P1 64 s n) : SumsAt P0 P1 128 s n := by
  cases n with
  | zero => exact h
  | succ n => exact Sums.mono h

theorem SumsAt.cast {m : ℕ} (h : SumsAt P0 P1 hi s n) (e : n = m) : SumsAt P0 P1 hi s m := e ▸ h

theorem SumsAt.pop_hi (h : SumsAt P0 P1 128 s (n + 1)) (h0 h1 : Mxu.Fits 16 64) : SumsAt P0 P1 64 ((s.pop 0 16 64 h0).pop 1 16 64 h1) (n + 1) :=
  Sums.pop_hi h h0 h1

end SumsAt

end Cert.Proof.KernelIdeal.Values
-- ==== Proof.KernelIdeal.FirstSpread.lean ====
/-
The input spread over the quads, made by the first step.
-/
module

public import proofs.«01_k».proof.Proof.KernelIdeal.Tables

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The quad of a lane: lanes in pairs, four pairs to a round. -/
def quadOf : IVec S16x128 32 := k0_pay4 (Scalar.select (Scalar.cmpi .eq 4#32 0#32) 1#32 4#32) k0_pay46 k0_pay47 k0_pay48 k0_pay49

/-- The elements of `v` that the lanes of part `k` take. -/
def taken (v : FVec F S16x128 .f32) (k : Fin k0_t2_loop.trips) : FVec F S16x128 .f32 :=
  k0_pay41 v (k0_pay38 (iota .tc S16x128 32 [1] iota_S16x128_d1_w32) 0#32 1#32 k) (k0_pay39 (iota .tc S16x128 32 [1] iota_S16x128_d1_w32)) k0_pay40

/-- What quad `q`'s rows get of part `k`: the lanes of the other quads zero. -/
def spread (v : FVec F S16x128 .f32) (k : Fin k0_t2_loop.trips) (q : BitVec 32) : FVec F S16x128 .bf16 :=
  shapeCast S16x128 (truncf .bf16 (select (cmpi .eq quadOf (broadcast S16x128 q)) (taken v k)
    (broadcast S16x128 (Scalar.ofBits .f32 0x00000000#32))) bitsLt_bf16_f32) shapeCasts_S16x128_S16x128

/-- Trip `k` of the loop over a column block's four parts. -/
def part4 (k : ℕ) : Fin k0_t2_loop.trips := ⟨k % 4, (Nat.mod_lt k (by decide)).trans_eq (by decide)⟩

/-- Row `r`, column `col` of the spread input. -/
def xt (X : ℕ → ℕ → F .bf16) (r col : ℕ) : F .bf16 :=
  pick (spread (k0_pay45 (part X 16 128 0 (128 * (col / 512)) 1)) (part4 (col % 512 / 128)) (BitVec.ofNat 32 (r / 16))) (r % 16) (col % 128)

/-- The first `n` columns are made. -/
def Spread (X : ℕ → ℕ → F .bf16) (n : ℕ) (xx : S64x16384.Idx → F .bf16) : Prop :=
  ∀ r col, r < 64 → col < n → col < 16384 → pick xx r col = xt X r col

theorem Spread.zero (X : ℕ → ℕ → F .bf16) (xx) : Spread X 0 xx := fun _ _ _ h => absurd h (Nat.not_lt_zero _)

theorem Spread.cast {X : ℕ → ℕ → F .bf16} {n n' : ℕ} {xx} (h : Spread X n xx) (e : n = n') : Spread X n' xx := e ▸ h

theorem Spread.store {X : ℕ → ℕ → F .bf16} {a : ℕ} (k : Fin k0_t2_loop.trips) (m : Memref sig .tc .vmem S64x16384 .bf16) (f : m.view.ty.Contents (Elt F))
    (h : Spread X (512 * a + 128 * k.val) (m.view.read (Elt F) f)) (o0 o1 o2 o3 : Fin 2 → ℕ) (i0 i1 i2 i3)
    (h0 : o0 = ![0, 512 * a + 128 * k.val]) (h1 : o1 = ![16, 512 * a + 128 * k.val]) (h2 : o2 = ![32, 512 * a + 128 * k.val]) (h3 : o3 = ![48, 512 * a + 128 * k.val])
    (v : FVec F S16x128 .f32) (hv : v = k0_pay45 (part X 16 128 0 (128 * a) 1)) (w0 w1 w2 w3 : FVec F S16x128 .bf16)
    (e0 : w0 = spread v k 0#32) (e1 : w1 = spread v k 1#32) (e2 : w2 = spread v k 2#32) (e3 : w3 = spread v k 3#32) :
    Spread X (512 * a + 128 * (k.val + 1)) (m.view.read (Elt F) (m.view.writes (Elt F) f
      [⟨Rect.unit (s := S64x16384) o3 S16x128.size i3, w3⟩, ⟨Rect.unit (s := S64x16384) o2 S16x128.size i2, w2⟩,
        ⟨Rect.unit (s := S64x16384) o1 S16x128.size i1, w1⟩, ⟨Rect.unit (s := S64x16384) o0 S16x128.size i0, w0⟩])) := by
  intro r col hr hc hc'
  have hk : k.val < 4 := k.isLt.trans_eq (by decide)
  have val : ∀ q : ℕ, 512 * a + 128 * k.val ≤ col → r / 16 = q →
      pick (spread v k (BitVec.ofNat 32 q)) ((r - 16 * q) / 1) (col - (512 * a + 128 * k.val)) = xt X r col := by
    intro q hq hr'
    have e4 : col / 512 = a := by omega
    have e5 : part4 (col % 512 / 128) = k := Fin.ext (by show col % 512 / 128 % 4 = k.val; omega)
    unfold xt
    rw [e4, e5, hr', hv]
    congr 1 <;> omega
  have wr := fun (o : Fin 2 → ℕ) (ii) (q : ℕ) (ho : o = ![16 * q, 512 * a + 128 * k.val]) (w : FVec F S16x128 .bf16) (L) =>
    pick_write (m := 64) (n := 16384) (m' := 16) (n' := 128) m.view f o (fun _ => 1) (Rect.unit (s := S64x16384) o S16x128.size ii).inb (fun _ => Nat.one_pos)
      (r := 16 * q) (c := 512 * a + 128 * k.val) (s := 1) (by rw [ho]; rfl) (by rw [ho]; rfl) rfl rfl (by decide) w L r col hr hc'
  refine Eq.trans (wr o3 i3 3 h3 w3 _) ?_
  split
  · rw [e3]; exact val 3 (by omega) (by omega)
  refine Eq.trans (wr o2 i2 2 h2 w2 _) ?_
  split
  · rw [e2]; exact val 2 (by omega) (by omega)
  refine Eq.trans (wr o1 i1 1 h1 w1 _) ?_
  split
  · rw [e1]; exact val 1 (by omega) (by omega)
  refine Eq.trans (wr o0 i0 0 h0 w0 _) ?_
  split
  · rw [e0]; exact val 0 (by omega) (by omega)
  · rename_i n3 n2 n1 n0
    refine h r col hr ?_ hc'
    omega

theorem off2 (a : Fin k0_t1_loop.trips) (k : Fin k0_t2_loop.trips) : k0_off2 a k = ![0, 512 * a.val + 128 * k.val] := by revert a k; decide +kernel
theorem off3 (a : Fin k0_t1_loop.trips) (k : Fin k0_t2_loop.trips) : k0_off3 a k = ![16, 512 * a.val + 128 * k.val] := by revert a k; decide +kernel
theorem off4 (a : Fin k0_t1_loop.trips) (k : Fin k0_t2_loop.trips) : k0_off4 a k = ![32, 512 * a.val + 128 * k.val] := by revert a k; decide +kernel
theorem off5 (a : Fin k0_t1_loop.trips) (k : Fin k0_t2_loop.trips) : k0_off5 a k = ![48, 512 * a.val + 128 * k.val] := by revert a k; decide +kernel
theorem off1 (a : Fin k0_t1_loop.trips) : k0_off1 a = ![0, 128 * a.val] := by revert a; decide +kernel
theorem trips2 : k0_t2_loop.trips = 4 := by decide

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- One column block, by parts. -/
@[sl_loop] def inv2 (k0_h1 : k0_cond1 i = 1#1) (k0_t1 : Fin k0_t1_loop.trips) (v33_r0 : BitVec 32) (v38_r0 : FVec F S16x128 .f32) (v39_r0 : IVec S16x128 32) (v65_r0 : BitVec 32) (v67_r0 : IVec S16x128 32) (v69_r0 : IVec S16x128 1) (v71_r0 : IVec S16x128 1) (v74_r0 : IVec S16x128 1) (g12 : Buf (Elt F) (arg12.view.loc (c : Thread nD τ))) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h1 k0_t1 v33_r0 v38_r0 v39_r0 v65_r0 v67_r0 v69_r0 v71_r0 v74_r0 where
  inv := fun k _ => iprop(⌜v38_r0 = k0_pay45 (arg12.view.readAt (Elt F) (Rect.unit (s := S16x4096) (k0_off1 k0_t1) S16x128.size (k0_off1_inb i k0_t1 k0_h1)).toLoadRect g12)⌝ ∗ ⌜v39_r0 = iota .tc S16x128 32 [1] iota_S16x128_d1_w32⌝ ∗ ⌜v65_r0 = Scalar.select (Scalar.cmpi .eq 4#32 0#32) 1#32 4#32⌝ ∗ ⌜v67_r0 = k0_pay46⌝ ∗ ⌜v69_r0 = k0_pay47⌝ ∗ ⌜v71_r0 = k0_pay48⌝ ∗ ⌜v74_r0 = k0_pay49⌝ ∗ ((arg12.view.loc (c : Thread nD τ)) ↦[arg12.view.set]{fullShare} g12) ∗ (∃ f : Buf (Elt F) (arg13.view.loc (c : Thread nD τ)), ⌜Spread (pick (arg12.view.read (Elt F) g12)) (512 * k0_t1.val + 128 * k) (arg13.view.read (Elt F) f)⌝ ∗ ((arg13.view.loc (c : Thread nD τ)) ↦[arg13.view.set]{fullShare} f)))
  step k _ := by
    unfold k0_t2_body
    iintro ⟨%e38, %e39, %e65, %e67, %e69, %e71, %e74, H12, ⟨%f13, %h13, H13⟩⟩
    subst e38
    subst e39
    subst e65
    subst e67
    subst e69
    subst e71
    subst e74
    sl_exec
    sl_step
    isplitr
    · ipureintro; rfl
    isplitr
    · ipureintro; rfl
    isplitr
    · ipureintro; rfl
    isplitr
    · ipureintro; rfl
    isplitr
    · ipureintro; rfl
    isplitr
    · ipureintro; rfl
    isplitr
    · ipureintro; rfl
    isplitl [H12]; · iexact H12
    iexists _; isplitr [H13]
    swap; · iexact H13
    ipureintro
    refine Spread.store k arg13 f13 h13 _ _ _ _ _ _ _ _ (off2 _ _) (off3 _ _) (off4 _ _) (off5 _ _) _ (congrArg _
      (readAt_part (m := 16) (n := 4096) arg12.view g12 _ (fun _ => 1) _ (by rw [off1]; rfl) (by rw [off1]; rfl) rfl rfl)) _ _ _ _ rfl rfl rfl rfl

/-- The input's rows spread over the quads. -/
@[sl_loop] def inv1 (k0_h1 : k0_cond1 i = 1#1) (g12 : Buf (Elt F) (arg12.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h1 where
  inv := fun k _ => iprop(((arg12.view.loc (c : Thread nD τ)) ↦[arg12.view.set]{fullShare} g12) ∗ (∃ f : Buf (Elt F) (arg13.view.loc (c : Thread nD τ)), ⌜Spread (pick (arg12.view.read (Elt F) g12)) (512 * k + 128 * 0) (arg13.view.read (Elt F) f)⌝ ∗ ((arg13.view.loc (c : Thread nD τ)) ↦[arg13.view.set]{fullShare} f)))
  step k _ := by
    unfold k0_t1_body
    iintro ⟨H12, ⟨%f13, %h13, H13⟩⟩
    sl_exec
    sl_step
    isplitl [H12]; · iexact H12
    iexists _; isplitr [H13]
    swap; · iexact H13
    ipureintro
    refine Spread.cast (n := 512 * k.val + 128 * k0_t2_loop.trips) (by assumption) (by rw [trips2]; omega)

end Cert.Proof.KernelIdeal.Values
-- ==== Proof.KernelIdeal.HiddenRow.lean ====
/-
The columns of the hidden row that a block stores, and what the loops over them leave.
-/
module

public import proofs.«01_k».proof.Proof.KernelIdeal.Tables

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- Trip `k` of the loop over a block's four parts of 128 columns. -/
def quarter (k : ℕ) : Fin k0_t13_loop.trips := ⟨k % 4, (Nat.mod_lt k (by decide)).trans_eq (by decide)⟩

/-- The hidden columns of part `k` of a block, from the two units' sums. -/
def hput (v v' : FVec F S64x256 .f32) (k : Fin k0_t13_loop.trips) : FVec F S12x128 .bf16 :=
  k0_pay256 (k0_pay18 v v') (k0_pay19 v v') (k0_pay20 v v') (k0_pay21 v v') k0_pay253 (k0_pay254 0#32 1#32 k) 0#32

/-- The contents after `k` trips that each store a block of 128 columns. -/
def hfill (m : Memref sig .tc .vmem S12x14336 .bf16) (f : m.view.ty.Contents (Elt F)) {T : ℕ} (o : Fin T → Fin 2 → ℕ)
    (inb : ∀ k d, o k d + S12x128.size d ≤ S12x14336.size d) (v : Fin T → FVec F S12x128 .bf16) : ℕ → m.view.ty.Contents (Elt F)
  | 0 => f
  | k + 1 => if h : k < T then m.view.writes (Elt F) (hfill m f o inb v k) [⟨Rect.unit (s := S12x14336) (o ⟨k, h⟩) S12x128.size (inb ⟨k, h⟩), v ⟨k, h⟩⟩]
      else hfill m f o inb v k

/-- The same, where the contents to begin with are themselves the contents after such trips. -/
def hnext (m : Memref sig .tc .vmem S12x14336 .bf16) (f : m.view.ty.Contents (Elt F)) {T : ℕ} (o : Fin T → Fin 2 → ℕ)
    (inb : ∀ k d, o k d + S12x128.size d ≤ S12x14336.size d) (v : Fin T → FVec F S12x128 .bf16) : ℕ → m.view.ty.Contents (Elt F)
  | 0 => f
  | k + 1 => hfill m f o inb v (k + 1)

theorem hnext_eq (m : Memref sig .tc .vmem S12x14336 .bf16) (f : m.view.ty.Contents (Elt F)) {T : ℕ} (o : Fin T → Fin 2 → ℕ)
    (inb) (v : Fin T → FVec F S12x128 .bf16) (k : ℕ) : hnext m f o inb v k = hfill m f o inb v k := by
  cases k <;> rfl

theorem hnext_succ (m : Memref sig .tc .vmem S12x14336 .bf16) (f : m.view.ty.Contents (Elt F)) {T : ℕ} (o : Fin T → Fin 2 → ℕ)
    (inb) (v : Fin T → FVec F S12x128 .bf16) (k : ℕ) (h : k < T) :
    hnext m f o inb v (k + 1) = m.view.writes (Elt F) (hnext m f o inb v k) [⟨Rect.unit (s := S12x14336) (o ⟨k, h⟩) S12x128.size (inb ⟨k, h⟩), v ⟨k, h⟩⟩] := by
  rw [hnext_eq, hnext_eq]; exact dif_pos h

/-- The first `n` columns of the hidden row are those of `H`. -/
def Hidden (H : ℕ → ℕ → F .bf16) (n : ℕ) (h : S12x14336.Idx → F .bf16) : Prop :=
  ∀ r col, r < 12 → col < n → col < 14336 → pick h r col = H r col

theorem Hidden.zero (H : ℕ → ℕ → F .bf16) (h) : Hidden H 0 h := fun _ _ _ h => absurd h (Nat.not_lt_zero _)

theorem Hidden.cast {H : ℕ → ℕ → F .bf16} {n n' : ℕ} {h} (a : Hidden H n h) (e : n = n') : Hidden H n' h := e ▸ a

theorem Hidden.store {H : ℕ → ℕ → F .bf16} {n : ℕ} (m : Memref sig .tc .vmem S12x14336 .bf16) (f : m.view.ty.Contents (Elt F))
    (h : Hidden H n (m.view.read (Elt F) f)) (o : Fin 2 → ℕ) (inb) (ho : o = ![0, n]) (w : FVec F S12x128 .bf16)
    (hw : ∀ r l, r < 12 → l < 128 → pick w r l = H r (n + l)) :
    Hidden H (n + 128) (m.view.read (Elt F) (m.view.writes (Elt F) f [⟨Rect.unit (s := S12x14336) o S12x128.size inb, w⟩])) := by
  intro r col hr hc hc'
  have e := pick_write (m := 12) (n := 14336) (m' := 12) (n' := 128) m.view f o (fun _ => 1) (Rect.unit (s := S12x14336) o S12x128.size inb).inb (fun _ => Nat.one_pos)
      (r := 0) (c := n) (s := 1) (by rw [ho]; rfl) (by rw [ho]; rfl) rfl rfl (by decide) w [] r col hr hc'
  refine Eq.trans e ?_
  rw [Nat.sub_zero, Nat.div_one, Nat.mod_one]
  by_cases hl : col < n
  · rw [if_neg (by omega)]
    exact h r col hr hl hc'
  · rw [if_pos (by omega), hw _ _ hr (by omega)]
    congr 1
    omega

theorem Hidden.fill {H : ℕ → ℕ → F .bf16} {n : ℕ} (m : Memref sig .tc .vmem S12x14336 .bf16) (f : m.view.ty.Contents (Elt F))
    (h : Hidden H n (m.view.read (Elt F) f)) {T : ℕ} (o : Fin T → Fin 2 → ℕ) (inb) (v : Fin T → FVec F S12x128 .bf16)
    (ho : ∀ k, o k = ![0, n + 128 * k.val]) (hv : ∀ (k : Fin T) r l, r < 12 → l < 128 → pick (v k) r l = H r (n + 128 * k.val + l)) (k : ℕ) (hk : k ≤ T) :
    Hidden H (n + 128 * k) (m.view.read (Elt F) (hfill m f o inb v k)) := by
  induction k with
  | zero => exact h
  | succ k ih =>
    have e : hfill m f o inb v (k + 1) = m.view.writes (Elt F) (hfill m f o inb v k) [⟨Rect.unit (s := S12x14336) (o ⟨k, hk⟩) S12x128.size (inb ⟨k, hk⟩), v ⟨k, hk⟩⟩] := dif_pos hk
    rw [e]
    exact Hidden.store m _ (ih (Nat.le_of_succ_le hk)) _ _ (ho _) _ (hv _)

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- The first step's hidden columns. -/
@[sl_loop] def inv13 (k0_h8 : k0_cond8 i = 1#1) (v18_r0 : FVec F S64x256 .f32) (v19_r0 : FVec F S64x256 .f32) (g11 : Buf (Elt F) (arg11.view.loc (c : Thread nD τ))) :
    LoopInvTy_k0_t13 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h8 v18_r0 v19_r0 where
  inv := fun k _ => iprop(((arg11.view.loc (c : Thread nD τ)) ↦[arg11.view.set]{fullShare} (hfill arg11 g11 (fun k : Fin k0_t13_loop.trips => k0_off47 k) (fun k => k0_off47_inb i k k0_h8) (fun k => hput v18_r0 v19_r0 ⟨k.val, k.isLt⟩) k)) ∗ any c arg14)
  step k _ := by
    unfold k0_t13_body
    iintro ⟨H11, ⟨%f14, H14⟩⟩
    have e : (hfill arg11 g11 (fun k : Fin k0_t13_loop.trips => k0_off47 k) (fun k => k0_off47_inb i k k0_h8) (fun k => hput v18_r0 v19_r0 ⟨k.val, k.isLt⟩) (k.val + 1)) = arg11.view.writes (Elt F) (hfill arg11 g11 (fun k : Fin k0_t13_loop.trips => k0_off47 k) (fun k => k0_off47_inb i k k0_h8) (fun k => hput v18_r0 v19_r0 ⟨k.val, k.isLt⟩) k.val) [⟨Rect.unit (s := S12x14336) (k0_off47 k) S12x128.size (k0_off47_inb i k k0_h8), hput v18_r0 v19_r0 ⟨k.val, k.isLt⟩⟩] := dif_pos k.isLt
    rw [e]
    sl_exec
    sl_step
    isplitl [H11]; · iexact H11
    sl_close

/-- The odd half's hidden columns. -/
@[sl_loop] def inv8 (k0_h4 : k0_cond4 i = 1#1) (v18_r0 : BitVec 32) (v20_r0 : FVec F S64x256 .f32) (v21_r0 : FVec F S64x256 .f32) (g11 : Buf (Elt F) (arg11.view.loc (c : Thread nD τ))) :
    LoopInvTy_k0_t8 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h4 v18_r0 v20_r0 v21_r0 where
  inv := fun k _ => iprop(((arg11.view.loc (c : Thread nD τ)) ↦[arg11.view.set]{fullShare} (hfill arg11 g11 (fun k : Fin k0_t8_loop.trips => k0_off30 i k) (fun k => k0_off30_inb i k k0_h4) (fun k => hput v20_r0 v21_r0 ⟨k.val, k.isLt⟩) k)) ∗ any c arg15)
  step k _ := by
    unfold k0_t8_body
    iintro ⟨H11, ⟨%f15, H15⟩⟩
    have e : (hfill arg11 g11 (fun k : Fin k0_t8_loop.trips => k0_off30 i k) (fun k => k0_off30_inb i k k0_h4) (fun k => hput v20_r0 v21_r0 ⟨k.val, k.isLt⟩) (k.val + 1)) = arg11.view.writes (Elt F) (hfill arg11 g11 (fun k : Fin k0_t8_loop.trips => k0_off30 i k) (fun k => k0_off30_inb i k k0_h4) (fun k => hput v20_r0 v21_r0 ⟨k.val, k.isLt⟩) k.val) [⟨Rect.unit (s := S12x14336) (k0_off30 i k) S12x128.size (k0_off30_inb i k k0_h4), hput v20_r0 v21_r0 ⟨k.val, k.isLt⟩⟩] := dif_pos k.isLt
    rw [e]
    sl_exec
    sl_step
    isplitl [H11]; · iexact H11
    sl_close

/-- The even half's hidden columns. -/
@[sl_loop] def inv18 (k0_h12 : k0_cond12 i = 1#1) (v17_r0 : BitVec 32) (v19_r0 : FVec F S64x256 .f32) (v20_r0 : FVec F S64x256 .f32) (g11 : Buf (Elt F) (arg11.view.loc (c : Thread nD τ))) :
    LoopInvTy_k0_t18 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h12 v17_r0 v19_r0 v20_r0 where
  inv := fun k _ => iprop(((arg11.view.loc (c : Thread nD τ)) ↦[arg11.view.set]{fullShare} (hnext arg11 g11 (fun k : Fin k0_t18_loop.trips => k0_off70 i k) (fun k => k0_off70_inb i k k0_h12) (fun k => hput v19_r0 v20_r0 ⟨k.val, k.isLt⟩) k)) ∗ any c arg14)
  step k _ := by
    unfold k0_t18_body
    iintro ⟨H11, ⟨%f14, H14⟩⟩
    have e : (hnext arg11 g11 (fun k : Fin k0_t18_loop.trips => k0_off70 i k) (fun k => k0_off70_inb i k k0_h12) (fun k => hput v19_r0 v20_r0 ⟨k.val, k.isLt⟩) (k.val + 1)) = arg11.view.writes (Elt F) (hnext arg11 g11 (fun k : Fin k0_t18_loop.trips => k0_off70 i k) (fun k => k0_off70_inb i k k0_h12) (fun k => hput v19_r0 v20_r0 ⟨k.val, k.isLt⟩) k.val) [⟨Rect.unit (s := S12x14336) (k0_off70 i k) S12x128.size (k0_off70_inb i k k0_h12), hput v19_r0 v20_r0 ⟨k.val, k.isLt⟩⟩] := hnext_succ _ _ _ _ _ _ k.isLt
    rw [e]
    sl_exec
    sl_step
    isplitl [H11]; · iexact H11
    sl_close

end Cert.Proof.KernelIdeal.Values
-- ==== Proof.KernelIdeal.Block.lean ====
/-
A block of 512 hidden columns: its values from the input, the weights' bytes and the scales, and when it is stored.
-/
module

public import proofs.«01_k».proof.Proof.KernelIdeal.UnitSum
public import proofs.«01_k».proof.Proof.KernelIdeal.FirstSpread
public import proofs.«01_k».proof.Proof.KernelIdeal.HiddenRow

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- Row `r`, lane `l` of the table of scales made from `row`. -/
def scale (t : Vec F S128x128 .f32 → FVec F S128x128 .f32) (S : ℕ → ℕ → F .f32) (row r l : ℕ) : F .f32 := pick (t (srows S row (r % 4))) (r / 8) l

/-- The passes of unit `u` for the 512 rows from `row` of the gate (bytes `Q`, scales `S`) and the up projection (bytes `U`, scales `V`). -/
def unitPass (X : ℕ → ℕ → F .bf16) (Q U : ℕ → ℕ → BitVec 8) (S V : ℕ → ℕ → F .f32) (row : ℕ) (u m : ℕ) : FVec F (Mxu.STile 64) .f32 :=
  passes (xt X) (word F Q row) (scale termA S row) (scale termB S row) (word F U row) (scale termA V row) (scale termB V row) u m

/-- Row `r`, column `l` of the block of hidden columns of those 512 rows. -/
def blockOf (X : ℕ → ℕ → F .bf16) (Q U : ℕ → ℕ → BitVec 8) (S V : ℕ → ℕ → F .f32) (row : ℕ) (r l : ℕ) : F .bf16 :=
  pick (hput (tot (unitPass X Q U S V row 0) 32) (tot (unitPass X Q U S V row 1) 32) (quarter (l / 128))) r (l % 128)

theorem part_congr {α : Type} {Q Q' : ℕ → ℕ → α} {m n r c s : ℕ} (h : ∀ a b, a < m → b < n → Q (r + s * a) (c + b) = Q' (r + s * a) (c + b)) :
    part Q m n r c s = part Q' m n r c s := funext fun y => h _ _ (y 0).isLt (y 1).isLt

theorem tot_congr {P P' : ℕ → FVec F (Mxu.STile 64) .f32} (N : ℕ) (h : ∀ m, m < N → P m = P' m) : ∀ n, n ≤ N → 0 < N → tot P n = tot P' n
  | 0, _, h0 => h 0 h0
  | 1, hn, _ => h 0 hn
  | n + 2, hn, h0 => by
    show addf (tot P (n + 1)) (P (n + 1)) = addf (tot P' (n + 1)) (P' (n + 1))
    rw [tot_congr N h (n + 1) (by omega) h0, h (n + 1) (by omega)]

theorem side_congr {w w' : ℕ → ℕ → BitVec 32} {sa sb sa' sb' : ℕ → ℕ → F .f32} {k : ℕ} (hk : k < 64) (hw : ∀ R l, R < 2048 → l < 128 → w R l = w' R l)
    (ha : ∀ r l, r < 1024 → l < 128 → sa r l = sa' r l) (hb : ∀ r l, r < 1024 → l < 128 → sb r l = sb' r l) : side w sa sb k = side w' sa' sb' k := by
  unfold side
  rw [part_congr fun a b _ _ => hw (32 * k + 1 * a) (0 + b) (by omega) (by omega), part_congr fun a b _ _ => ha (16 * k + 1 * a) (0 + b) (by omega) (by omega),
    part_congr fun a b _ _ => hb (16 * k + 1 * a) (0 + b) (by omega) (by omega), part_congr fun a b _ _ => ha (16 * k + 8 + 1 * a) (0 + b) (by omega) (by omega),
    part_congr fun a b _ _ => hb (16 * k + 8 + 1 * a) (0 + b) (by omega) (by omega)]

/-- Complete tables hold what the passes multiply. -/
theorem passes_made (X : ℕ → ℕ → F .bf16) (Q U : ℕ → ℕ → BitVec 8) (S V : ℕ → ℕ → F .f32) (row : ℕ) {xx : S64x16384.Idx → F .bf16} {w w' : S2048x128.Idx → BitVec 32} {sa sb sa' sb' : S1024x128.Idx → F .f32}
    (hx : Spread X 16384 xx) (hw : Words F Q row 2048 w) (hw' : Words F U row 2048 w') (ha : Scales termA S row 4 sa) (hb : Scales termB S row 4 sb)
    (ha' : Scales termA V row 4 sa') (hb' : Scales termB V row 4 sb') (u m : ℕ) (hm : 2 * m + u < 64) :
    passes (pick xx) (pick w) (pick sa) (pick sb) (pick w') (pick sa') (pick sb') u m = unitPass X Q U S V row u m := by
  have h4 : ∀ r : ℕ, r % 4 < 4 := fun r => Nat.mod_lt r (by decide)
  unfold unitPass passes pass
  rw [part_congr (Q := pick xx) (Q' := xt X) fun a b _ _ => hx (0 + 1 * a) (256 * (2 * m + u) + b) (by omega) (by omega) (by omega),
    side_congr hm (fun R l hR hl => hw R l hR hR hl) (fun r l hr hl => ha r l (h4 r) hr hl) (fun r l hr hl => hb r l (h4 r) hr hl),
    side_congr hm (fun R l hR hl => hw' R l hR hR hl) (fun r l hr hl => ha' r l (h4 r) hr hl) (fun r l hr hl => hb' r l (h4 r) hr hl)]
  rfl

/-- A block's columns are stored: the row is right that much further. -/
theorem Hidden.block (X : ℕ → ℕ → F .bf16) (Q U : ℕ → ℕ → BitVec 8) (S V : ℕ → ℕ → F .f32) (row : ℕ) {xx : S64x16384.Idx → F .bf16} {w w' : S2048x128.Idx → BitVec 32} {sa sb sa' sb' : S1024x128.Idx → F .f32}
    (hx : Spread X 16384 xx) (hw : Words F Q row 2048 w) (hw' : Words F U row 2048 w') (ha : Scales termA S row 4 sa) (hb : Scales termB S row 4 sb)
    (ha' : Scales termA V row 4 sa') (hb' : Scales termB V row 4 sb')
    {s : Mxu F} (hs : SumsAt (passes (pick xx) (pick w) (pick sa) (pick sb) (pick w') (pick sa') (pick sb') 0)
      (passes (pick xx) (pick w) (pick sa) (pick sb) (pick w') (pick sa') (pick sb') 1) 64 s 16)
    (h0 h1 h2 : Mxu.Fits 0 64) {H : ℕ → ℕ → F .bf16} {n : ℕ} (hH : ∀ r l, r < 12 → l < 512 → H r (n + l) = blockOf X Q U S V row r l)
    (m : Memref sig .tc .vmem S12x14336 .bf16) (f : m.view.ty.Contents (Elt F)) (h : Hidden H n (m.view.read (Elt F) f))
    {T : ℕ} (hT : T = k0_t13_loop.trips) (o : Fin T → Fin 2 → ℕ) (inb) (ho : ∀ k, o k = ![0, n + 128 * k.val]) :
    Hidden H (n + 512) (m.view.read (Elt F) (hfill m f o inb
      (fun k => hput (s.read 0 0 h0) ((s.pop 0 0 64 h1).read 1 0 h2) ⟨k.val, k.isLt.trans_eq hT⟩) 4)) := by
  have h4 : T = 4 := hT.trans (by decide)
  obtain ⟨e0, e1⟩ := Sums.read (SumsAt.sums hs (by decide)) h0 h1 h2
  refine Hidden.fill m f h o inb _ ho ?_ 4 h4.ge
  intro k r l hr hl
  have hk : k.val < 4 := k.isLt.trans_eq h4
  have hq : quarter ((128 * k.val + l) / 128) = ⟨k.val, k.isLt.trans_eq hT⟩ := Fin.ext (by show (128 * k.val + l) / 128 % 4 = k.val; omega)
  have hl' : (128 * k.val + l) % 128 = l := by omega
  rw [Nat.add_assoc, hH _ _ hr (by omega), blockOf, hq, hl', e0, e1,
    tot_congr 32 (fun m hm => passes_made X Q U S V row hx hw hw' ha hb ha' hb' 0 m (by omega)) 32 (le_refl _) (by decide),
    tot_congr 32 (fun m hm => passes_made X Q U S V row hx hw hw' ha hb ha' hb' 1 m (by omega)) 32 (le_refl _) (by decide)]

end Cert.Proof.KernelIdeal.Values
-- ==== Proof.KernelIdeal.Entries.lean ====
/-
The entries of the tables and tiles over the extended reals.
-/
module

public import proofs.«01_k».proof.Proof.KernelIdeal.Block
public import Idealize.ShloMosaic.Lib.Pointwise
public import Idealize.ShloMosaic.Lib.BitcastFour

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe

/-! Over the extended reals: the entries of the tables and tiles. -/

/-- The signed four-bit code in the low (`h = 0`) or the high half of a byte. -/
def code (b : BitVec 8) (h : ℕ) : ℤ := if h = 0 then (b.toNat % 16 : ℤ) - 8 else (b.toNat / 16 : ℤ) - 8

theorem code_low : ∀ b : BitVec 8, (IntOp.shrsi .vector (IntOp.shli .vector ((b ^^^ 0x88#8).signExtend 32) 28#32) 28#32).toInt = code b 0 := by
  decide +kernel
theorem code_high : ∀ b : BitVec 8, (IntOp.shrsi .vector ((b ^^^ 0x88#8).signExtend 32) 4#32).toInt = code b 1 := by
  decide +kernel

/-- A byte's bit of a word made of four rows of bytes. -/
theorem word_bit (x : S512x128.Idx → BitVec 8) (a l : Fin 128) (q : ℕ) (hq : q < 32) :
    (bitcast S128x128 32 x bitcasts_S512x128_w8_S128x128_w32 (ix2 a l)).getLsbD q = (pick x (4 * a.val + q / 8) l.val).getLsbD (q % 8) := by
  rw [bitcast_8_32_getLsbD x _ _ q hq]
  congr 1
  refine pick_at x _ ?_ ?_
  · exact (Shape.Bitcasts.srcIdx_row _ _ _ _ ⟨0, Nat.zero_lt_two⟩ rfl)
  · exact (Shape.Bitcasts.srcIdx_other _ _ _ _ ⟨1, Nat.one_lt_two⟩ (by show ¬ 1 + 2 = 2; omega))

/-- A byte of a word. -/
theorem byte_bit (x : S32x128.Idx → BitVec 32) (a l : Fin 128) (q : ℕ) (hq : q < 8) :
    (bitcast S128x128 8 x bitcasts_S32x128_w32_S128x128_w8 (ix2 a l)).getLsbD q = (pick x (a.val / 4) l.val).getLsbD (8 * (a.val % 4) + q) := by
  rw [bitcast_getLsbD x _ _ q hq (by decide)]
  have e : ((S128x128.row (ix2 a l)) * 8 + q) % 32 = 8 * (a.val % 4) + q := by
    show (a.val * 8 + q) % 32 = _
    omega
  rw [e]
  congr 1
  refine pick_at x _ ?_ ?_
  · refine (Shape.Bitcasts.srcIdx_row _ _ _ _ ⟨0, Nat.zero_lt_two⟩ rfl).trans ?_
    show (a.val * 8 + q) / 32 = _
    omega
  · exact (Shape.Bitcasts.srcIdx_other _ _ _ _ ⟨1, Nat.one_lt_two⟩ (by show ¬ 1 + 2 = 2; omega))

theorem flip_bit : ∀ a : Fin 4, ∀ q : Fin 8, (2290649224#32).getLsbD (8 * a.val + q.val) = (0x88#8).getLsbD q.val := by decide +kernel

/-- A bit of a word of the table. -/
theorem table_bit (Q : ℕ → ℕ → BitVec 8) (row R l a q : ℕ) (hl : l < 128) (ha : a < 4) (hq : q < 8) :
    (word Ideal Q row R l).getLsbD (8 * a + q) = (Q (row + (4 * l + a)) R ^^^ 0x88#8).getLsbD q := by
  have hw : word Ideal Q row R l = IntOp.xori (bitcast S128x128 32 (part Q 512 128 row (128 * (R / 128)) 1) bitcasts_S512x128_w8_S128x128_w32
      (ix2 (Fin.ofNat 128 l) (Fin.ofNat 128 (R % 128)))) 2290649224#32 := by
    unfold word words pick
    pointwise [k0_pay66]
  rw [hw, IntOp.xori, BitVec.getLsbD_xor, BitVec.getLsbD_xor, word_bit _ _ _ _ (by omega), flip_bit ⟨a, ha⟩ ⟨q, hq⟩]
  have e1 : (8 * a + q) / 8 = a := by omega
  have e2 : (8 * a + q) % 8 = q := by omega
  rw [e1, e2]
  congr 2
  show Q (row + 1 * ((4 * (l % 128) + a) % 512)) (128 * (R / 128) + (R % 128 % 128) % 128) = _
  congr 1 <;> omega

/-- A byte of the word rows of tile `k`. -/
theorem tile_byte (Q : ℕ → ℕ → BitVec 8) (row k : ℕ) (y l : Fin 128) :
    bitcast S128x128 8 (part (word Ideal Q row) 32 128 (32 * k) 0 1) bitcasts_S32x128_w32_S128x128_w8 (ix2 y l)
      = Q (row + (4 * l.val + y.val % 4)) (32 * k + y.val / 4) ^^^ 0x88#8 := by
  apply BitVec.eq_of_getLsbD_eq
  intro q hq
  rw [byte_bit _ _ _ q hq]
  have e : pick (part (word Ideal Q row) 32 128 (32 * k) 0 1) (y.val / 4) l.val = word Ideal Q row (32 * k + y.val / 4) l.val := by
    show word Ideal Q row (32 * k + 1 * ((y.val / 4) % 32)) (0 + l.val % 128) = _
    congr 1 <;> omega
  rw [e, table_bit _ _ _ _ _ _ l.isLt (by omega) hq]

/-- A code from the byte it lies in. -/
theorem code_at (w : Vec Ideal S32x128 .i32) (j : Fin 256) (l : Fin 128) (b : BitVec 8) (y : Fin 128) (hy : y.val = j.val / 2)
    (hb : bitcast S128x128 8 w bitcasts_S32x128_w32_S128x128_w8 (ix2 y l) = b ^^^ 0x88#8) :
    k0_pay112 (F := Ideal) w (ix2 j l) = ((code b (j.val % 2) : ℝ) : EReal) := by
  rw [show y = ⟨j.val / 2, by have := j.isLt; omega⟩ from Fin.ext hy] at hb
  pointwise [k0_pay112]
  by_cases h : j.val % 2 < 1
  · have e0 : j.val % 2 = 0 := by omega
    rw [dif_pos h, hb, e0, ← code_low]
    rfl
  · have e0 : j.val % 2 = 1 := by omega
    rw [dif_neg h, hb, e0, ← code_high]
    rfl

/-- The codes of tile `k`. -/
theorem codes_at (Q : ℕ → ℕ → BitVec 8) (row k : ℕ) (j : Fin 256) (l : Fin 128) :
    k0_pay112 (F := Ideal) (part (word Ideal Q row) 32 128 (32 * k) 0 1) (ix2 j l)
      = ((code (Q (row + (4 * l.val + j.val / 2 % 4)) (32 * k + j.val / 8)) (j.val % 2) : ℝ) : EReal) := by
  have hj := j.isLt
  have e : (j.val / 2) / 4 = j.val / 8 := by omega
  have h := tile_byte Q row k ⟨j.val / 2, by omega⟩ l
  rw [show (⟨j.val / 2, by omega⟩ : Fin 128).val = j.val / 2 from rfl, e] at h
  exact code_at _ j l _ _ rfl h

/-- The first term of a scale. -/
def split (s : EReal) : EReal :=
  s * Ideal.ofBits .f32 1065354240#32 * Ideal.ofBits .f32 1224736784#32 -
    (s * Ideal.ofBits .f32 1065354240#32 * Ideal.ofBits .f32 1224736784#32 - s * Ideal.ofBits .f32 1065354240#32)

theorem real_bits (b : BitVec 32) (h : (b.extractLsb' 23 8).toNat ≠ 255) (h' : (b.extractLsb' 23 8).toNat ≠ 0) : ∃ a : ℝ, Ideal.ofBits .f32 b = (a : EReal) := by
  show ∃ a : ℝ, Ideal.ieee 8 23 b = (a : EReal)
  unfold Ideal.ieee
  simp only
  rw [if_neg (show ¬ (b.extractLsb' 23 8).toNat = 2 ^ 8 - 1 from h), if_neg h']
  exact ⟨_, rfl⟩

theorem split_real (r : ℝ) : ∃ a : ℝ, split (r : EReal) = (a : EReal) := by
  obtain ⟨c, hc⟩ := real_bits 1065354240#32 (by decide) (by decide)
  obtain ⟨d, hd⟩ := real_bits 1224736784#32 (by decide) (by decide)
  unfold split
  rw [hc, hd]
  exact ⟨r * c * d - (r * c * d - r * c), by push_cast; rfl⟩

/-- The two terms of a finite scale sum to it, times a code. -/
theorem split_sum (z : ℝ) (s : EReal) (hs : ∃ r : ℝ, s = r) : (z : EReal) * split s + (z : EReal) * (s - split s) = (z : EReal) * s := by
  obtain ⟨r, rfl⟩ := hs
  obtain ⟨a, ha⟩ := split_real r
  rw [ha]
  norm_cast
  ring

theorem scaleA_at (S : ℕ → ℕ → EReal) (row r l : ℕ) (hr : r < 1024) (hl : l < 128) :
    scale (F := Ideal) termA S row r l = split (S (row + (4 * l + r % 4)) (r / 8)) := by
  unfold scale termA pick
  pointwise [k0_pay54, k0_pay52, k0_pay51, k0_pay50]
  have e : srows (F := Ideal) S row (r % 4) (ix2 (Fin.ofNat 128 l) (Fin.ofNat 128 (r / 8))) = S (row + (4 * l + r % 4)) (r / 8) := by
    show S (row + r % 4 + 4 * (l % 128)) (0 + (r / 8) % 128) = _
    congr 1 <;> omega
  rw [← e]
  rfl

theorem scaleB_at (S : ℕ → ℕ → EReal) (row r l : ℕ) (hr : r < 1024) (hl : l < 128) :
    scale (F := Ideal) termB S row r l = S (row + (4 * l + r % 4)) (r / 8) - split (S (row + (4 * l + r % 4)) (r / 8)) := by
  unfold scale termB pick
  pointwise [k0_pay55, k0_pay53, k0_pay51, k0_pay50]
  have e : srows (F := Ideal) S row (r % 4) (ix2 (Fin.ofNat 128 l) (Fin.ofNat 128 (r / 8))) = S (row + (4 * l + r % 4)) (r / 8) := by
    show S (row + r % 4 + 4 * (l % 128)) (0 + (r / 8) % 128) = _
    congr 1 <;> omega
  rw [← e]
  rfl

/-- A tile's entry: the code times the two terms of its scale. -/
theorem side_at (w : ℕ → ℕ → BitVec 32) (sa sb : ℕ → ℕ → EReal) (k : ℕ) (j : Fin 256) (l : Fin 128) :
    side (F := Ideal) w sa sb k (ix2 j l) =
      k0_pay112 (F := Ideal) (part w 32 128 (32 * k) 0 1) (ix2 j l) * sa (16 * k + 8 * (j.val / 128) + j.val % 16 / 2) l.val +
      k0_pay112 (F := Ideal) (part w 32 128 (32 * k) 0 1) (ix2 j l) * sb (16 * k + 8 * (j.val / 128) + j.val % 16 / 2) l.val := by
  unfold side
  pointwise [dequant, group, k0_pay109]
  by_cases h : j.val < 128
  · rw [dif_pos h]
    have e : (⟨j.val / 16 * 16 + j.val % 16, by omega⟩ : Fin 256) = j := Fin.ext (by simp only; omega)
    have e1 : 16 * k + 8 * (j.val / 128) + j.val % 16 / 2 = 16 * k + 1 * (j.val % 16 / 2) := by omega
    rw [e, e1]
    show _ * sa (16 * k + 1 * (j.val % 16 / 2)) (0 + l.val) + _ * sb (16 * k + 1 * (j.val % 16 / 2)) (0 + l.val) = _
    rw [Nat.zero_add]
  · rw [dif_neg h]
    have e : (⟨128 + ((j.val - 128) / 16 * 16 + (j.val - 128) % 16), by omega⟩ : Fin 256) = j := Fin.ext (by simp only; omega)
    have e1 : 16 * k + 8 * (j.val / 128) + j.val % 16 / 2 = 16 * k + 8 + 1 * ((j.val - 128) % 16 / 2) := by omega
    rw [e, e1]
    show _ * sa (16 * k + 8 + 1 * ((j.val - 128) % 16 / 2)) (0 + l.val) + _ * sb (16 * k + 8 + 1 * ((j.val - 128) % 16 / 2)) (0 + l.val) = _
    rw [Nat.zero_add]

/-- The dequantised weight of output row `row + 4l + q` that tile row `j` holds. -/
theorem weight_at (Q : ℕ → ℕ → BitVec 8) (S : ℕ → ℕ → EReal) (hS : ∀ a b, ∃ r : ℝ, S a b = r) (row k : ℕ) (hk : k < 64) (j : Fin 256) (l : Fin 128) :
    side (F := Ideal) (word Ideal Q row) (scale (F := Ideal) termA S row) (scale (F := Ideal) termB S row) k (ix2 j l) =
      ((code (Q (row + (4 * l.val + j.val / 2 % 4)) (32 * k + j.val / 8)) (j.val % 2) : ℝ) : EReal)
        * S (row + (4 * l.val + j.val / 2 % 4)) ((32 * k + j.val / 8) / 16) := by
  have hj := j.isLt
  rw [side_at, codes_at, scaleA_at _ _ _ _ (by omega) l.isLt, scaleB_at _ _ _ _ (by omega) l.isLt, split_sum _ _ (hS _ _)]
  have e1 : (16 * k + 8 * (j.val / 128) + j.val % 16 / 2) % 4 = j.val / 2 % 4 := by omega
  have e2 : (16 * k + 8 * (j.val / 128) + j.val % 16 / 2) / 8 = (32 * k + j.val / 8) / 16 := by omega
  rw [e1, e2]

/-- A pass's entry as a sum. -/
theorem pass_at (X : ℕ → ℕ → EReal) (w : ℕ → ℕ → BitVec 32) (sa sb : ℕ → ℕ → EReal) (w' : ℕ → ℕ → BitVec 32) (sa' sb' : ℕ → ℕ → EReal) (k : ℕ)
    (j : Fin 64) (l : Fin 256) : pass (F := Ideal) X w sa sb w' sa' sb' k (ix2 j l) =
      ∑ i : Fin 256, X j.val (256 * k + i.val) * beside (F := Ideal) (side w sa sb k) (side w' sa' sb' k) (ix2 i l) := by
  show Ideal.mxuPass (DotDims.plain 64 256 256) _ _ (ix2 j l) = _
  unfold Ideal.mxuPass
  rw [DotDims.sum_contr₁ (a := 1) _ rfl (K := 256) rfl]
  refine Finset.sum_congr rfl fun i _ => ?_
  refine congrArg₂ (· * ·) ?_ ?_
  · show X (0 + 1 * j.val) (256 * k + i.val) = _
    rw [Nat.zero_add, Nat.one_mul]
  · refine congrArg (beside (F := Ideal) (side w sa sb k) (side w' sa' sb' k)) (funext fun a => Fin.ext ?_)
    match a with
    | ⟨0, _⟩ => rfl
    | ⟨1, _⟩ => rfl

theorem beside_left (g u : FVec Ideal S256x128 .bf16) (j : Fin 256) (l : Fin 256) (h : l.val < 128) : beside (F := Ideal) g u (ix2 j l) = g (ix2 j ⟨l.val, h⟩) := by
  pointwise [beside]
  rw [dif_pos h]
theorem beside_right (g u : FVec Ideal S256x128 .bf16) (j : Fin 256) (l : Fin 256) (h : ¬ l.val < 128) :
    beside (F := Ideal) g u (ix2 j l) = u (ix2 j ⟨l.val - 128, by omega⟩) := by
  pointwise [beside]
  rw [dif_neg h]

end Cert.Proof.KernelIdeal.Values
-- ==== Proof.KernelIdeal.Lanes.lean ====
/-
The spread input, the hidden columns read out and the sums of passes, over the extended reals.
-/
module

public import proofs.«01_k».proof.Proof.KernelIdeal.Block
public import Idealize.ShloMosaic.Lib.Pointwise

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe

/-! Over the extended reals: the spread input, the hidden columns read out, and the sums of passes. -/

theorem laneQuad : ∀ l : Fin 128, k0_pay253 (ix2 0 l) = BitVec.ofNat 32 (l.val % 4) := by decide +kernel
theorem laneIndex : ∀ k : Fin 4, ∀ l : Fin 128, k0_pay254 0#32 1#32 (quarter k.val) (ix2 0 l) = BitVec.ofNat 32 (l.val / 4 + 32 * k.val) := by decide +kernel
theorem spreadQuad : ∀ l : Fin 128, quadOf (ix2 0 l) = BitVec.ofNat 32 (l.val / 2 % 4) := by decide +kernel
/-- The element of the block of 128 that a lane of part `k` takes. -/
theorem spreadIndex : ∀ k : Fin 4, ∀ l : Fin 128,
    IntOp.addi (k0_pay38 (iota .tc S16x128 32 [1] iota_S16x128_d1_w32) 0#32 1#32 (part4 k.val) (ix2 0 l))
      (IntOp.muli (k0_pay40 (ix2 0 l)) (k0_pay39 (iota .tc S16x128 32 [1] iota_S16x128_d1_w32) (ix2 0 l)))
      = BitVec.ofNat 32 (32 * k.val + l.val / 8 + 16 * (l.val % 2)) := by decide +kernel

theorem wrap : ∀ n : Fin 128, (Scalar.select (IntOp.cmpi .slt (BitVec.ofNat 32 n.val) 0#32) (IntOp.addi (BitVec.ofNat 32 n.val) 128#32) (BitVec.ofNat 32 n.val)).toNat % 128 = n.val := by
  decide +kernel
theorem same4 : ∀ a b : Fin 4, IntOp.cmpi .eq (BitVec.ofNat 32 a.val) (BitVec.ofNat 32 b.val) = if a.val = b.val then 1#1 else 0#1 := by decide +kernel
theorem same (a b : ℕ) (ha : a < 4) (hb : b < 4) : IntOp.cmpi .eq (BitVec.ofNat 32 a) (BitVec.ofNat 32 b) = if a = b then 1#1 else 0#1 :=
  same4 ⟨a, ha⟩ ⟨b, hb⟩

/-- The spread input: a lane keeps its element in its own quad's rows. -/
theorem xt_at (X : ℕ → ℕ → EReal) (r q col : ℕ) (hr : r < 16) (hq : q < 4) (hcol : col < 16384) :
    xt (F := Ideal) X (16 * q + r) col = if col / 2 % 4 = q then X r (32 * (col / 8 / 16) + col / 8 % 16 + 16 * (col % 2)) else 0 := by
  have e1 : (16 * q + r) / 16 = q := by omega
  have e2 : (16 * q + r) % 16 = r := by omega
  unfold xt pick
  rw [e1, e2]
  generalize hv : (part X 16 128 0 (128 * (col / 512)) 1 : FVec Ideal S16x128 .bf16) = v
  have hk : col % 512 / 128 < 4 := by omega
  have hl : col % 128 < 128 := by omega
  have hw := spreadIndex ⟨col % 512 / 128, hk⟩ ⟨col % 128, hl⟩
  have hQ := spreadQuad ⟨col % 128, hl⟩
  have e3 : (Fin.ofNat 128 (col % 128)) = (⟨col % 128, hl⟩ : Fin 128) := Fin.ext (Nat.mod_eq_of_lt hl)
  rw [e3]
  have hn : 32 * (col % 512 / 128) + col % 128 / 8 + 16 * (col % 128 % 2) < 128 := by omega
  have key : spread (F := Ideal) (k0_pay45 v) (part4 (col % 512 / 128)) (BitVec.ofNat 32 q) (ix2 (Fin.ofNat 16 r) ⟨col % 128, hl⟩) =
      Scalar.select (IntOp.cmpi .eq (quadOf (ix2 0 ⟨col % 128, hl⟩)) (BitVec.ofNat 32 q))
        (v (ix2 (Fin.ofNat 16 r) ⟨32 * (col % 512 / 128) + col % 128 / 8 + 16 * (col % 128 % 2), hn⟩)) (0 : EReal) := by
    pointwise [spread, taken, k0_pay41, k0_pay45]
    refine congrArg₂ (fun a b => Scalar.select a b (0 : EReal)) rfl ?_
    refine congrArg v ?_
    congr 1
    refine Fin.ext ?_
    refine Eq.trans ?_ (wrap ⟨_, hn⟩)
    rw [← hw]
    rfl
  have e4 : col % 128 / 2 % 4 = col / 2 % 4 := by omega
  rw [key, hQ, show (⟨col % 128, hl⟩ : Fin 128).val / 2 % 4 = col / 2 % 4 from e4, same _ _ (Nat.mod_lt _ (by decide)) hq]
  by_cases h : col / 2 % 4 = q
  · rw [if_pos h, if_pos h]
    refine (show Scalar.select 1#1 _ _ = v _ from rfl).trans ?_
    subst hv
    show X (0 + 1 * (r % 16)) (128 * (col / 512) + (32 * (col % 512 / 128) + col % 128 / 8 + 16 * (col % 128 % 2))) = _
    congr 1 <;> omega
  · rw [if_neg h, if_neg h]
    rfl

/-- A hidden value from the gate's and the up projection's. -/
def act (g u : EReal) : EReal := g * Ideal.logistic g * u

theorem hput_at (v v' : FVec Ideal S64x256 .f32) (k : Fin 4) (r : Fin 12) (l : Fin 128) :
    hput (F := Ideal) v v' (quarter k.val) (ix2 r l) =
      act (pick v (16 * (l.val % 4) + r.val) (l.val / 4 + 32 * k.val) + pick v' (16 * (l.val % 4) + r.val) (l.val / 4 + 32 * k.val))
        (pick v (16 * (l.val % 4) + r.val) (128 + (l.val / 4 + 32 * k.val)) + pick v' (16 * (l.val % 4) + r.val) (128 + (l.val / 4 + 32 * k.val))) := by
  have hn : l.val / 4 + 32 * k.val < 128 := by omega
  have hr : r.val < 16 := by omega
  have key : hput (F := Ideal) v v' (quarter k.val) (ix2 r l) =
      Scalar.select (IntOp.cmpi .eq (k0_pay253 (ix2 0 l)) (BitVec.ofNat 32 3)) (k0_pay21 (F := Ideal) v v' (ix2 ⟨r.val, hr⟩ ⟨l.val / 4 + 32 * k.val, hn⟩))
        (Scalar.select (IntOp.cmpi .eq (k0_pay253 (ix2 0 l)) (BitVec.ofNat 32 2)) (k0_pay20 (F := Ideal) v v' (ix2 ⟨r.val, hr⟩ ⟨l.val / 4 + 32 * k.val, hn⟩))
          (Scalar.select (IntOp.cmpi .eq (k0_pay253 (ix2 0 l)) (BitVec.ofNat 32 1)) (k0_pay19 (F := Ideal) v v' (ix2 ⟨r.val, hr⟩ ⟨l.val / 4 + 32 * k.val, hn⟩))
            (k0_pay18 (F := Ideal) v v' (ix2 ⟨r.val, hr⟩ ⟨l.val / 4 + 32 * k.val, hn⟩)))) := by
    have ei : ∀ h, (⟨(Scalar.select (IntOp.cmpi .slt (k0_pay254 0#32 1#32 (quarter k.val) (ix2 ⟨r.val, hr⟩ l)) 0#32)
        (IntOp.addi (k0_pay254 0#32 1#32 (quarter k.val) (ix2 ⟨r.val, hr⟩ l)) 128#32)
        (k0_pay254 0#32 1#32 (quarter k.val) (ix2 ⟨r.val, hr⟩ l))).toNat % 128, h⟩ : Fin 128) = ⟨l.val / 4 + 32 * k.val, hn⟩ := fun _ => by
      refine Fin.ext ?_
      refine Eq.trans ?_ (wrap ⟨_, hn⟩)
      rw [← laneIndex k l]
      rfl
    pointwise [hput, k0_pay256, k0_pay255]
    simp only [ei]
    rfl
  rw [key, laneQuad]
  have h4 : l.val % 4 = 0 ∨ l.val % 4 = 1 ∨ l.val % 4 = 2 ∨ l.val % 4 = 3 := by omega
  have at_pick : ∀ (w : FVec Ideal S64x256 .f32) (a b : ℕ) (ha hb), w (ix2 ⟨a, ha⟩ ⟨b, hb⟩) = pick (m := 64) (n := 256) w a b := fun w a b _ _ => pick_at w _ rfl rfl
  rcases h4 with h | h | h | h
  · rw [h]
    refine (show _ = k0_pay18 (F := Ideal) v v' (ix2 ⟨r.val, hr⟩ ⟨l.val / 4 + 32 * k.val, hn⟩) from rfl).trans ?_
    pointwise [k0_pay18, k0_pay17]
    simp only [at_pick, Nat.zero_add, Nat.mul_zero]
    rfl
  · rw [h]
    refine (show _ = k0_pay19 (F := Ideal) v v' (ix2 ⟨r.val, hr⟩ ⟨l.val / 4 + 32 * k.val, hn⟩) from rfl).trans ?_
    pointwise [k0_pay19, k0_pay17]
    simp only [at_pick]
    rfl
  · rw [h]
    refine (show _ = k0_pay20 (F := Ideal) v v' (ix2 ⟨r.val, hr⟩ ⟨l.val / 4 + 32 * k.val, hn⟩) from rfl).trans ?_
    pointwise [k0_pay20, k0_pay17]
    simp only [at_pick]
    rfl
  · rw [h]
    refine (show _ = k0_pay21 (F := Ideal) v v' (ix2 ⟨r.val, hr⟩ ⟨l.val / 4 + 32 * k.val, hn⟩) from rfl).trans ?_
    pointwise [k0_pay21, k0_pay17]
    simp only [at_pick]
    rfl

/-- The sum of a row of passes, entry by entry. -/
theorem tot_at (P : ℕ → FVec Ideal (Mxu.STile 64) .f32) (y : (Mxu.STile 64).Idx) : ∀ n, tot P (n + 1) y = ∑ i ∈ Finset.range (n + 1), P i y
  | 0 => by rw [Finset.sum_range_one]; rfl
  | n + 1 => by
    rw [Finset.sum_range_succ, ← tot_at P y n]
    rfl

/-- A sum over even and over odd numbers. -/
theorem sum_pairs (f : ℕ → EReal) : ∀ n, (∑ i ∈ Finset.range n, f (2 * i)) + ∑ i ∈ Finset.range n, f (2 * i + 1) = ∑ i ∈ Finset.range (2 * n), f i
  | 0 => by simp
  | n + 1 => by
    rw [Finset.sum_range_succ, Finset.sum_range_succ, show 2 * (n + 1) = 2 * n + 1 + 1 from rfl, Finset.sum_range_succ, Finset.sum_range_succ, ← sum_pairs f n]
    ac_rfl

/-- A sum over tiles. -/
theorem sum_tiles (b : ℕ) (f : ℕ → EReal) : ∀ n, (∑ k ∈ Finset.range n, ∑ i ∈ Finset.range b, f (b * k + i)) = ∑ i ∈ Finset.range (b * n), f i
  | 0 => by simp
  | n + 1 => by rw [Finset.sum_range_succ, sum_tiles b f n, Nat.mul_succ, Finset.sum_range_add]

end Cert.Proof.KernelIdeal.Values
-- ==== Proof.KernelIdeal.Padded.lean ====
/-
The input padded to sixteen rows.
-/
module

public import proofs.«01_k».proof.Proof.KernelIdeal.Block

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The input's twelve rows, and four of zeros. -/
def padded (x : ℕ → ℕ → F .bf16) (r col : ℕ) : F .bf16 :=
  if r < 12 then pick (k0_pay3 (part x 12 4096 0 0 1)) r col else pick (k0_pay2 (F := F)) r col

theorem Spread.congr {X X' : ℕ → ℕ → F .bf16} {n : ℕ} {xx} (h : Spread X n xx) (e : ∀ r col, r < 16 → col < 4096 → X r col = X' r col) : Spread X' n xx := by
  intro r col hr hc hc'
  rw [h r col hr hc hc', xt, xt, part_congr (Q := X) (Q' := X') fun a b ha hb => e (0 + 1 * a) (128 * (col / 512) + b) (by omega) (by omega)]

theorem pad_read (m : Memref sig .tc .vmem S16x4096 .bf16) (f : m.view.ty.Contents (Elt F)) (m1 : Memref sig .tc .vmem S12x4096 .bf16) (g : m1.view.ty.Contents (Elt F))
    (i0 i1 i2) (r col : ℕ) (hr : r < 16) (hc : col < 4096) :
    pick (m.view.read (Elt F) (m.view.writes (Elt F) f
      [⟨Rect.unit (s := S16x4096) ![0, 0] S12x4096.size i1, k0_pay3 (m1.view.readAt (Elt F) (Rect.unit (s := S12x4096) ![0, 0] S12x4096.size i2).toLoadRect g)⟩,
        ⟨Rect.unit (s := S16x4096) ![0, 0] S16x4096.size i0, k0_pay2 (F := F)⟩])) r col = padded (pick (m1.view.read (Elt F) g)) r col := by
  have e := readAt_part (m := 12) (n := 4096) m1.view g ![0, 0] (fun _ => 1) (Rect.unit (s := S12x4096) ![0, 0] S12x4096.size i2).inb (r := 0) (c := 0) (s := 1) rfl rfl rfl rfl
  have w1 := fun w L => pick_write (m := 16) (n := 4096) (m' := 12) (n' := 4096) m.view f ![0, 0] (fun _ => 1) (Rect.unit (s := S16x4096) ![0, 0] S12x4096.size i1).inb (fun _ => Nat.one_pos)
      (r := 0) (c := 0) (s := 1) rfl rfl rfl rfl (by decide) w L r col hr hc
  have w0 := fun w L => pick_write (m := 16) (n := 4096) (m' := 16) (n' := 4096) m.view f ![0, 0] (fun _ => 1) (Rect.unit (s := S16x4096) ![0, 0] S16x4096.size i0).inb (fun _ => Nat.one_pos)
      (r := 0) (c := 0) (s := 1) rfl rfl rfl rfl (by decide) w L r col hr hc
  unfold padded
  refine Eq.trans (w1 _ _) ?_
  by_cases h : r < 12
  · rw [if_pos (by omega), if_pos h, ← e]
    congr 1; omega
  · rw [if_neg (by omega), if_neg h]
    refine Eq.trans (w0 _ _) ?_
    rw [if_pos (by omega)]
    congr 1; omega

theorem pad_spread (m : Memref sig .tc .vmem S16x4096 .bf16) (m1 : Memref sig .tc .vmem S12x4096 .bf16) (g : m1.view.ty.Contents (Elt F)) {n : ℕ} {xx}
    (h : Spread (pick (m.view.read (Elt F) (m.view.writes (Elt F) m.view.junk
      [⟨Rect.unit (s := S16x4096) ![0, 0] S12x4096.size inb_S16x4096_S12x4096_0_0, k0_pay3 (m1.view.readAt (Elt F) (Rect.unit (s := S12x4096) ![0, 0] S12x4096.size inb_S12x4096_S12x4096_0_0).toLoadRect g)⟩,
        ⟨Rect.unit (s := S16x4096) ![0, 0] S16x4096.size inb_S16x4096_S16x4096_0_0, k0_pay2 (F := F)⟩]))) n xx) : Spread (padded (pick (m1.view.read (Elt F) g))) n xx :=
  h.congr fun r col hr hc => pad_read m _ m1 g _ _ _ r col hr hc

end Cert.Proof.KernelIdeal.Values
-- ==== Proof.KernelIdeal.Sums.lean ====
/-
The values of the hidden row over the reals: a block of the kernel is the activation of two plain dot products of an
input row with a dequantised weight row, whatever the order in which its lanes and passes add them.
-/
module

public import proofs.«01_k».proof.Proof.KernelIdeal.Entries
public import proofs.«01_k».proof.Proof.KernelIdeal.Lanes
public import proofs.«01_k».proof.Proof.KernelIdeal.Padded

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic

/-- The weight a byte's low (`h = 0`) or high code stands for. -/
def wgt (Q : ℕ → ℕ → BitVec 8) (S : ℕ → ℕ → EReal) (f R h : ℕ) : EReal := ((code (Q f R) h : ℝ) : EReal) * S f (R / 16)

/-- The two products of byte `R` of weight row `f` with row `r` of the input. -/
def term (X : ℕ → ℕ → EReal) (Q : ℕ → ℕ → BitVec 8) (S : ℕ → ℕ → EReal) (f r R : ℕ) : EReal :=
  X r (32 * (R / 16) + R % 16) * wgt Q S f R 0 + X r (32 * (R / 16) + R % 16 + 16) * wgt Q S f R 1

/-- Row `r` of the input times weight row `f`. -/
def rowDot (X : ℕ → ℕ → EReal) (Q : ℕ → ℕ → BitVec 8) (S : ℕ → ℕ → EReal) (f r : ℕ) : EReal := ∑ R ∈ Finset.range 2048, term X Q S f r R

/-- The eight lanes of one byte column: those of quad `q` hold its two products. -/
theorem lanes_eight (X : ℕ → ℕ → EReal) (Q : ℕ → ℕ → BitVec 8) (S : ℕ → ℕ → EReal) (row r q p R : ℕ) (hr : r < 16) (hq : q < 4) (hR : R < 2048) :
    ∑ e ∈ Finset.range 8, xt (F := Ideal) X (16 * q + r) (8 * R + e) * wgt Q S (row + (4 * p + (8 * R + e) / 2 % 4)) ((8 * R + e) / 8) ((8 * R + e) % 2)
      = term X Q S (row + (4 * p + q)) r R := by
  have hx : ∀ e, e < 8 → xt (F := Ideal) X (16 * q + r) (8 * R + e) * wgt Q S (row + (4 * p + (8 * R + e) / 2 % 4)) ((8 * R + e) / 8) ((8 * R + e) % 2)
      = if e / 2 = q then X r (32 * (R / 16) + R % 16 + 16 * (e % 2)) * wgt Q S (row + (4 * p + q)) R (e % 2) else 0 := by
    intro e he
    have e1 : (8 * R + e) / 2 % 4 = e / 2 := by omega
    have e2 : (8 * R + e) / 8 = R := by omega
    have e3 : (8 * R + e) % 2 = e % 2 := by omega
    rw [xt_at X r q _ hr hq (by omega), e1, e2, e3]
    by_cases h : e / 2 = q
    · rw [if_pos h, if_pos h, h]
    · rw [if_neg h, if_neg h, zero_mul]
  rw [Finset.sum_congr rfl fun e he => hx e (Finset.mem_range.1 he)]
  unfold term
  have h4 : q = 0 ∨ q = 1 ∨ q = 2 ∨ q = 3 := by omega
  rcases h4 with rfl | rfl | rfl | rfl <;> simp [Finset.sum_range_succ]

/-- The 64 passes of a lane add to the product of the rows. -/
theorem spread_dot (X : ℕ → ℕ → EReal) (Q : ℕ → ℕ → BitVec 8) (S : ℕ → ℕ → EReal) (row r q p : ℕ) (hr : r < 16) (hq : q < 4) :
    ∑ k ∈ Finset.range 64, ∑ i ∈ Finset.range 256, xt (F := Ideal) X (16 * q + r) (256 * k + i) * wgt Q S (row + (4 * p + i / 2 % 4)) (32 * k + i / 8) (i % 2)
      = rowDot X Q S (row + (4 * p + q)) r := by
  have h1 : ∀ k ∈ Finset.range 64, ∑ i ∈ Finset.range 256, xt (F := Ideal) X (16 * q + r) (256 * k + i) * wgt Q S (row + (4 * p + i / 2 % 4)) (32 * k + i / 8) (i % 2)
      = ∑ i ∈ Finset.range 256, (fun n => xt (F := Ideal) X (16 * q + r) n * wgt Q S (row + (4 * p + n / 2 % 4)) (n / 8) (n % 2)) (256 * k + i) := by
    intro k _
    refine Finset.sum_congr rfl fun i _ => ?_
    have e1 : (256 * k + i) / 2 % 4 = i / 2 % 4 := by omega
    have e2 : (256 * k + i) / 8 = 32 * k + i / 8 := by omega
    have e3 : (256 * k + i) % 2 = i % 2 := by omega
    simp only [e1, e2, e3]
  refine (Finset.sum_congr rfl h1).trans ((sum_tiles 256 (fun n => xt (F := Ideal) X (16 * q + r) n * wgt Q S (row + (4 * p + n / 2 % 4)) (n / 8) (n % 2)) 64).trans ?_)
  refine (sum_tiles 8 (fun n => xt (F := Ideal) X (16 * q + r) n * wgt Q S (row + (4 * p + n / 2 % 4)) (n / 8) (n % 2)) 2048).symm.trans ?_
  exact Finset.sum_congr rfl fun R hR => lanes_eight X Q S row r q p R hr hq (Finset.mem_range.1 hR)

/-- The two units' sums of a row of passes, added. -/
theorem units_at (P : ℕ → FVec Ideal (Mxu.STile 64) .f32) (y : (Mxu.STile 64).Idx) :
    tot (fun m => P (2 * m + 0)) 32 y + tot (fun m => P (2 * m + 1)) 32 y = ∑ k ∈ Finset.range 64, P k y := by
  rw [tot_at _ y 31, tot_at _ y 31]
  exact sum_pairs (fun k => P k y) 32

section
variable (X : ℕ → ℕ → EReal) (Q U : ℕ → ℕ → BitVec 8) (S V : ℕ → ℕ → EReal) (row r q p : ℕ)

theorem gate_at (hS : ∀ a b, ∃ x : ℝ, S a b = x) (hr : r < 16) (hq : q < 4) (hp : p < 128) :
    pick (tot (unitPass (F := Ideal) X Q U S V row 0) 32) (16 * q + r) p + pick (tot (unitPass (F := Ideal) X Q U S V row 1) 32) (16 * q + r) p
      = rowDot X Q S (row + (4 * p + q)) r := by
  rw [pick_ix (m := 64) (n := 256) _ (show 16 * q + r < 64 by omega) (show p < 256 by omega), pick_ix (m := 64) (n := 256) _ (show 16 * q + r < 64 by omega) (show p < 256 by omega)]
  refine (units_at (fun k => pass (xt (F := Ideal) X) (word Ideal Q row) (scale termA S row) (scale termB S row) (word Ideal U row) (scale termA V row) (scale termB V row) k) _).trans ?_
  refine Eq.trans ?_ (spread_dot X Q S row r q p hr hq)
  refine Finset.sum_congr rfl fun k hk => ?_
  rw [pass_at, ← Fin.sum_univ_eq_sum_range (fun i => xt (F := Ideal) X (16 * q + r) (256 * k + i) * wgt Q S (row + (4 * p + i / 2 % 4)) (32 * k + i / 8) (i % 2)) 256]
  refine Finset.sum_congr rfl fun i _ => ?_
  rw [beside_left _ _ _ _ hp, weight_at Q S hS row k (Finset.mem_range.1 hk)]
  rfl

theorem up_at (hV : ∀ a b, ∃ x : ℝ, V a b = x) (hr : r < 16) (hq : q < 4) (hp : p < 128) :
    pick (tot (unitPass (F := Ideal) X Q U S V row 0) 32) (16 * q + r) (128 + p) + pick (tot (unitPass (F := Ideal) X Q U S V row 1) 32) (16 * q + r) (128 + p)
      = rowDot X U V (row + (4 * p + q)) r := by
  rw [pick_ix (m := 64) (n := 256) _ (show 16 * q + r < 64 by omega) (show 128 + p < 256 by omega), pick_ix (m := 64) (n := 256) _ (show 16 * q + r < 64 by omega) (show 128 + p < 256 by omega)]
  refine (units_at (fun k => pass (xt (F := Ideal) X) (word Ideal Q row) (scale termA S row) (scale termB S row) (word Ideal U row) (scale termA V row) (scale termB V row) k) _).trans ?_
  refine Eq.trans ?_ (spread_dot X U V row r q p hr hq)
  refine Finset.sum_congr rfl fun k hk => ?_
  rw [pass_at, ← Fin.sum_univ_eq_sum_range (fun i => xt (F := Ideal) X (16 * q + r) (256 * k + i) * wgt U V (row + (4 * p + i / 2 % 4)) (32 * k + i / 8) (i % 2)) 256]
  refine Finset.sum_congr rfl fun i _ => ?_
  have e : (⟨128 + p - 128, by omega⟩ : Fin 128) = ⟨p, hp⟩ := Fin.ext (Nat.add_sub_cancel_left 128 p)
  rw [beside_right _ _ _ _ (show ¬ (128 + p) < 128 by omega)]
  refine (congrArg (fun z => _ * side (F := Ideal) _ _ _ k (ix2 i z)) e).trans ?_
  rw [weight_at U V hV row k (Finset.mem_range.1 hk)]
  rfl
end

/-- A block's entry: the activated gate times the up projection. -/
theorem block_at (X : ℕ → ℕ → EReal) (Q U : ℕ → ℕ → BitVec 8) (S V : ℕ → ℕ → EReal) (hS : ∀ a b, ∃ x : ℝ, S a b = x) (hV : ∀ a b, ∃ x : ℝ, V a b = x)
    (row r l : ℕ) (hr : r < 12) (hl : l < 512) :
    blockOf (F := Ideal) X Q U S V row r l = act (rowDot X Q S (row + l) r) (rowDot X U V (row + l) r) := by
  unfold blockOf
  rw [pick_ix (m := 12) (n := 128) _ hr (show l % 128 < 128 by omega)]
  refine (hput_at _ _ ⟨l / 128, by omega⟩ ⟨r, hr⟩ ⟨l % 128, by omega⟩).trans ?_
  have e : 4 * (l % 128 / 4 + 32 * (l / 128)) + l % 128 % 4 = l := by omega
  refine congrArg₂ act ?_ ?_
  · refine (gate_at X Q U S V row r (l % 128 % 4) (l % 128 / 4 + 32 * (l / 128)) hS (by omega) (by omega) (by omega)).trans ?_
    rw [e]
  · refine (up_at X Q U S V row r (l % 128 % 4) (l % 128 / 4 + 32 * (l / 128)) hV (by omega) (by omega) (by omega)).trans ?_
    rw [e]

/-- The input's rows are not padding. -/
theorem padded_at (x : ℕ → ℕ → EReal) (r col : ℕ) (hr : r < 12) (hc : col < 4096) : padded (F := Ideal) x r col = x r col := by
  unfold padded
  rw [if_pos hr, pick_ix (m := 12) (n := 4096) _ hr hc]
  have e : k0_pay3 (F := Ideal) (part x 12 4096 0 0 1) (ix2 ⟨r, hr⟩ ⟨col, hc⟩) = part x 12 4096 0 0 1 (ix2 ⟨r, hr⟩ ⟨col, hc⟩) := by pointwise [k0_pay3]
  rw [e]
  show x (0 + 1 * r) (0 + col) = _
  rw [Nat.zero_add, Nat.zero_add, Nat.one_mul]

theorem rowDot_congr {X X' : ℕ → ℕ → EReal} {Q Q' : ℕ → ℕ → BitVec 8} {S S' : ℕ → ℕ → EReal} {f f' r : ℕ} (hX : ∀ col, col < 4096 → X r col = X' r col)
    (hQ : ∀ R, R < 2048 → Q f R = Q' f' R) (hS : ∀ R, R < 128 → S f R = S' f' R) : rowDot X Q S f r = rowDot X' Q' S' f' r := by
  refine Finset.sum_congr rfl fun R hR => ?_
  have := Finset.mem_range.1 hR
  unfold term wgt
  rw [hX _ (by omega), hX _ (by omega), hQ R this, hS _ (by omega)]

end Cert.Proof.KernelIdeal.Values

end
-- ==== Proof.Reference.lean ====
/-
The reference's hidden row, entry by entry: the activation of two plain dot products over the codes and scales.
-/
module

public import proofs.«01_k».proof.Proof.Gen.ReferenceIdeal.Run
public import Idealize.ShloMosaic.Lib.Pointwise
public import proofs.«01_k».proof.Proof.KernelIdeal.Sums

@[expose] public section

set_option maxRecDepth 16384

noncomputable section

namespace Cert.Proof.ReferenceIdeal

open Cert.Proof.KernelIdeal.Values Cert.ReferenceIdeal Cert.ReferenceIdeal.Gen
open Idealize.ShloMosaic Idealize.ShloMosaic.TcCoe Idealize.ShloMosaic.Tactic

/-- A projection as the reference writes it. -/
def lin (x : FVec Ideal S12x1x4096 .bf16) (q : IVec S14336x2048 8) (s : FVec Ideal S14336x128 .f32) : FVec Ideal S12x1x14336 .f32 :=
  addf (Host.dotGeneral dot_S12x1x128x16_S14336x128x16_S12x1x14336_23_12_01_0_n_n none (shapeCast S12x1x128x16 (extractStridedSlice S12x1x128x1x16 ![0, 0, 0, 0, 0] (shapeCast S12x1x128x2x16 (x : FVec Ideal S12x1x4096 .bf16) shapeCasts_S12x1x4096_S12x1x128x2x16) slices_S12x1x128x2x16_S12x1x128x1x16_0_0_0_0_0) shapeCasts_S12x1x128x1x16_S12x1x128x16) (truncf .bf16 (mulf (subf (sitofp .f32 (shapeCast S14336x128x16 (andi (extui 32 q natLt_8_32) (broadcastInDim S14336x2048 ![] bcast_S_S14336x2048 (constantI S_ 32 15#32))) shapeCasts_S14336x2048_S14336x128x16)) (broadcastInDim S14336x128x16 ![] bcast_S_S14336x128x16 (constant S_ .f32 0x41000000#32))) (broadcastInDim S14336x128x16 ![0, 1, 2] bcast_S14336x128x1_S14336x128x16_0_1_2 (broadcastInDim S14336x128x1 ![0, 1] bcast_S14336x128_S14336x128x1_0_1 (s : FVec Ideal S14336x128 .f32)))) bitsLt_bf16_f32)) (Host.dotGeneral dot_S12x1x128x16_S14336x128x16_S12x1x14336_23_12_01_0_n_n none (shapeCast S12x1x128x16 (extractStridedSlice S12x1x128x1x16 ![0, 0, 0, 1, 0] (shapeCast S12x1x128x2x16 (x : FVec Ideal S12x1x4096 .bf16) shapeCasts_S12x1x4096_S12x1x128x2x16) slices_S12x1x128x2x16_S12x1x128x1x16_0_0_0_1_0) shapeCasts_S12x1x128x1x16_S12x1x128x16) (truncf .bf16 (mulf (subf (sitofp .f32 (shapeCast S14336x128x16 (Host.shrsi (extui 32 q natLt_8_32) (broadcastInDim S14336x2048 ![] bcast_S_S14336x2048 (constantI S_ 32 4#32))) shapeCasts_S14336x2048_S14336x128x16)) (broadcastInDim S14336x128x16 ![] bcast_S_S14336x128x16 (constant S_ .f32 0x41000000#32))) (broadcastInDim S14336x128x16 ![0, 1, 2] bcast_S14336x128x1_S14336x128x16_0_1_2 (broadcastInDim S14336x128x1 ![0, 1] bcast_S14336x128_S14336x128x1_0_1 (s : FVec Ideal S14336x128 .f32)))) bitsLt_bf16_f32))

/-- The reference's result from the two projections. -/
theorem res_eq (m : (ℓ : Loc nD τ sig) → Buf (Elt Ideal) ℓ) (c : Dev nD) (r : Fin 12) (f : Fin 14336) :
    Value.res_main_v67 (F := Ideal) m c (ix2 r f) =
      (lin (m ((c.tc : Thread nD τ).loc main_arg0)) (m ((c.tc : Thread nD τ).loc main_arg1)) (m ((c.tc : Thread nD τ).loc main_arg2)) (ix3 r 0 f)) * Ideal.logistic (lin (m ((c.tc : Thread nD τ).loc main_arg0)) (m ((c.tc : Thread nD τ).loc main_arg1)) (m ((c.tc : Thread nD τ).loc main_arg2)) (ix3 r 0 f)) * (lin (m ((c.tc : Thread nD τ).loc main_arg0)) (m ((c.tc : Thread nD τ).loc main_arg3)) (m ((c.tc : Thread nD τ).loc main_arg4)) (ix3 r 0 f)) := by
  have e : Value.res_main_v67 (F := Ideal) m c = shapeCast _ (truncf .bf16 (mulf (mulf (lin (m ((c.tc : Thread nD τ).loc main_arg0)) (m ((c.tc : Thread nD τ).loc main_arg1)) (m ((c.tc : Thread nD τ).loc main_arg2))) (Host.divf (broadcastInDim S12x1x14336 ![] bcast_S_S12x1x14336 (constant S_ .f32 0x3F800000#32)) (addf (broadcastInDim S12x1x14336 ![] bcast_S_S12x1x14336 (constant S_ .f32 0x3F800000#32)) (Host.exp (Host.negf (lin (m ((c.tc : Thread nD τ).loc main_arg0)) (m ((c.tc : Thread nD τ).loc main_arg1)) (m ((c.tc : Thread nD τ).loc main_arg2)))))))) (lin (m ((c.tc : Thread nD τ).loc main_arg0)) (m ((c.tc : Thread nD τ).loc main_arg3)) (m ((c.tc : Thread nD τ).loc main_arg4)))) bitsLt_bf16_f32) shapeCasts_S12x1x14336_S12x14336 := by
    unfold Value.res_main_v67 lin; rfl
  rw [e]
  generalize lin (m ((c.tc : Thread nD τ).loc main_arg0)) (m ((c.tc : Thread nD τ).loc main_arg1)) (m ((c.tc : Thread nD τ).loc main_arg2)) = G
  generalize lin (m ((c.tc : Thread nD τ).loc main_arg0)) (m ((c.tc : Thread nD τ).loc main_arg3)) (m ((c.tc : Thread nD τ).loc main_arg4)) = U
  pointwise []
  rfl

/-- The low code of a byte, -/
theorem low : ∀ b : BitVec 8, (IntOp.andi (b.setWidth 32) 15#32).toInt = (b.toNat % 16 : ℤ) := by decide +kernel
/-- its high code, -/
theorem high : ∀ b : BitVec 8, (IntOp.shrsi .host (b.setWidth 32) 4#32).toInt = (b.toNat / 16 : ℤ) := by decide +kernel

/-- and what both are counted from. -/
theorem eight : Ideal.ofBits .f32 1090519040#32 = ((8 : ℝ) : EReal) := by
  show Ideal.ieee 8 23 1090519040#32 = _
  unfold Ideal.ieee
  simp only
  rw [if_neg (by decide), if_neg (by decide), if_neg (by decide), show (BitVec.extractLsb' 23 8 1090519040#32).toNat = 130 from rfl, show (BitVec.extractLsb' 0 23 1090519040#32).toNat = 0 from rfl]
  norm_num

/-- A byte's low code as the reference takes it, -/
theorem low_at (b : BitVec 8) : (FloatOps.sitofp (F := Ideal) .f32 (IntOp.andi (b.setWidth 32) 15#32) : EReal) - Ideal.ofBits .f32 1090519040#32 = ((code b 0 : ℝ) : EReal) := by
  rw [eight]
  show ((((IntOp.andi (b.setWidth 32) 15#32).toInt : ℤ) : ℝ) : EReal) - ((8 : ℝ) : EReal) = _
  rw [low, ← EReal.coe_sub]
  unfold code
  rw [if_pos rfl]
  push_cast
  rfl

/-- and its high code. -/
theorem high_at (b : BitVec 8) : (FloatOps.sitofp (F := Ideal) .f32 (IntOp.shrsi .host (b.setWidth 32) 4#32) : EReal) - Ideal.ofBits .f32 1090519040#32 = ((code b 1 : ℝ) : EReal) := by
  rw [eight]
  show ((((IntOp.shrsi .host (b.setWidth 32) 4#32).toInt : ℤ) : ℝ) : EReal) - ((8 : ℝ) : EReal) = _
  rw [high, ← EReal.coe_sub]
  unfold code
  rw [if_neg (by decide)]
  push_cast
  rfl

/-- A sum over 128 groups of 16. -/
theorem sum_groups (F : Fin 128 → Fin 16 → EReal) (g : ℕ → EReal) (h : ∀ a b, F a b = g (16 * a.val + b.val)) :
    ∑ a, ∑ b, F a b = ∑ R ∈ Finset.range 2048, g R := by
  refine Eq.trans ?_ (sum_tiles 16 g 128)
  rw [← Fin.sum_univ_eq_sum_range (fun k => ∑ i ∈ Finset.range 16, g (16 * k + i)) 128]
  refine Finset.sum_congr rfl fun a _ => ?_
  rw [← Fin.sum_univ_eq_sum_range (fun i => g (16 * a.val + i)) 16]
  exact Finset.sum_congr rfl fun b _ => h a b

/-- The input by row and column. -/
def input (x : FVec Ideal S12x1x4096 .bf16) (r col : ℕ) : EReal := x (ix3 (Fin.ofNat 12 r) 0 (Fin.ofNat 4096 col))

theorem input_at (x : FVec Ideal S12x1x4096 .bf16) (r : Fin 12) (n col : ℕ) (h : n < 4096) (e : n = col) : x (ix3 r 0 ⟨n, h⟩) = input x r.val col := by
  subst e
  unfold input
  congr 1
  congr 1
  · exact Fin.ext (Nat.mod_eq_of_lt r.isLt).symm
  · exact Fin.ext (Nat.mod_eq_of_lt h).symm

/-- A projection is the product of the rows. -/
theorem lin_at (x : FVec Ideal S12x1x4096 .bf16) (q : IVec S14336x2048 8) (s : FVec Ideal S14336x128 .f32) (r : Fin 12) (f : Fin 14336) :
    lin x q s (ix3 r 0 f) = rowDot (input x) (pick q) (pick s) f.val r.val := by
  unfold rowDot term
  rw [Finset.sum_add_distrib]
  pointwise [lin]
  refine congrArg₂ (· + ·) (sum_groups _ _ fun a b => ?_) (sum_groups _ _ fun a b => ?_)
  · have e1 : (16 * a.val + b.val) / 16 = a.val := by omega
    have e2 : (16 * a.val + b.val) % 16 = b.val := by omega
    rw [low_at, input_at x r _ (32 * ((16 * a.val + b.val) / 16) + (16 * a.val + b.val) % 16) _ (by omega)]
    unfold wgt
    rw [e1, pick_at q (ix2 f ⟨a.val * 16 + b.val, _⟩) (a := f.val) (b := 16 * a.val + b.val) rfl (by show a.val * 16 + b.val = _; omega), pick_at s (ix2 f a) (a := f.val) (b := a.val) rfl rfl]
  · have e1 : (16 * a.val + b.val) / 16 = a.val := by omega
    have e2 : (16 * a.val + b.val) % 16 = b.val := by omega
    rw [high_at, input_at x r _ (32 * ((16 * a.val + b.val) / 16) + (16 * a.val + b.val) % 16 + 16) _ (by omega)]
    unfold wgt
    rw [e1, pick_at q (ix2 f ⟨a.val * 16 + b.val, _⟩) (a := f.val) (b := 16 * a.val + b.val) rfl (by show a.val * 16 + b.val = _; omega), pick_at s (ix2 f a) (a := f.val) (b := a.val) rfl rfl]

/-- The reference's result, entry by entry. -/
theorem res_at (m : (ℓ : Loc nD τ sig) → Buf (Elt Ideal) ℓ) (c : Dev nD) (r : Fin 12) (f : Fin 14336) :
    Value.res_main_v67 (F := Ideal) m c (ix2 r f) =
      act (rowDot (input (m ((c.tc : Thread nD τ).loc main_arg0))) (pick (m := 14336) (n := 2048) (m ((c.tc : Thread nD τ).loc main_arg1))) (pick (m := 14336) (n := 128) (m ((c.tc : Thread nD τ).loc main_arg2))) f.val r.val)
        (rowDot (input (m ((c.tc : Thread nD τ).loc main_arg0))) (pick (m := 14336) (n := 2048) (m ((c.tc : Thread nD τ).loc main_arg3))) (pick (m := 14336) (n := 128) (m ((c.tc : Thread nD τ).loc main_arg4))) f.val r.val) := by
  rw [res_eq, lin_at, lin_at]
  rfl

end Cert.Proof.ReferenceIdeal

end
-- ==== Proof.KernelIdeal.EvenFirstSums.lean ====
/-
The even half of the first step: the second block's tables, and the sums of the first.
-/
module

public import proofs.«01_k».proof.Proof.KernelIdeal.UnitSum

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

theorem off35 (a : Fin k0_t10_loop.trips) (k : Fin k0_t11_loop.trips) : k0_off35 a k = ![512, 128 * (8 * a.val + k.val)] := by revert a k; decide +kernel
theorem off36 (a : Fin k0_t10_loop.trips) (k : Fin k0_t11_loop.trips) : k0_off36 a k = ![128 * (8 * a.val + k.val), 0] := by revert a k; decide +kernel
theorem off37 (k : Fin k0_t11_loop.trips) : k0_off37 k = ![512 + k.val / 2, 0] := by revert k; decide +kernel
theorem off39 (k : Fin k0_t11_loop.trips) : k0_off39 k = ![512 + k.val / 2, 0] := by revert k; decide +kernel
theorem off46_0 (a : Fin k0_t10_loop.trips) (k : Fin k0_t11_loop.trips) : k0_off46 a k 0#32 = ![0, 256 * (2 * (2 * (8 * a.val + k.val)) + 0)] := by revert a k; decide +kernel
theorem off44_0 (a : Fin k0_t10_loop.trips) (k : Fin k0_t11_loop.trips) : k0_off44 a k 0#32 = ![32 * (2 * (2 * (8 * a.val + k.val)) + 0), 0] := by revert a k; decide +kernel
theorem off45_0_0 (a : Fin k0_t10_loop.trips) (k : Fin k0_t11_loop.trips) : k0_off45 a k 0#32 0#32 = ![16 * (2 * (2 * (8 * a.val + k.val)) + 0), 0] := by revert a k; decide +kernel
theorem off45_0_8 (a : Fin k0_t10_loop.trips) (k : Fin k0_t11_loop.trips) : k0_off45 a k 0#32 8#32 = ![16 * (2 * (2 * (8 * a.val + k.val)) + 0) + 8, 0] := by revert a k; decide +kernel
theorem off46_1 (a : Fin k0_t10_loop.trips) (k : Fin k0_t11_loop.trips) : k0_off46 a k 1#32 = ![0, 256 * (2 * (2 * (8 * a.val + k.val)) + 1)] := by revert a k; decide +kernel
theorem off44_1 (a : Fin k0_t10_loop.trips) (k : Fin k0_t11_loop.trips) : k0_off44 a k 1#32 = ![32 * (2 * (2 * (8 * a.val + k.val)) + 1), 0] := by revert a k; decide +kernel
theorem off45_1_0 (a : Fin k0_t10_loop.trips) (k : Fin k0_t11_loop.trips) : k0_off45 a k 1#32 0#32 = ![16 * (2 * (2 * (8 * a.val + k.val)) + 1), 0] := by revert a k; decide +kernel
theorem off45_1_8 (a : Fin k0_t10_loop.trips) (k : Fin k0_t11_loop.trips) : k0_off45 a k 1#32 8#32 = ![16 * (2 * (2 * (8 * a.val + k.val)) + 1) + 8, 0] := by revert a k; decide +kernel
theorem off46_2 (a : Fin k0_t10_loop.trips) (k : Fin k0_t11_loop.trips) : k0_off46 a k 2#32 = ![0, 256 * (2 * (2 * (8 * a.val + k.val) + 1) + 0)] := by revert a k; decide +kernel
theorem off44_2 (a : Fin k0_t10_loop.trips) (k : Fin k0_t11_loop.trips) : k0_off44 a k 2#32 = ![32 * (2 * (2 * (8 * a.val + k.val) + 1) + 0), 0] := by revert a k; decide +kernel
theorem off45_2_0 (a : Fin k0_t10_loop.trips) (k : Fin k0_t11_loop.trips) : k0_off45 a k 2#32 0#32 = ![16 * (2 * (2 * (8 * a.val + k.val) + 1) + 0), 0] := by revert a k; decide +kernel
theorem off45_2_8 (a : Fin k0_t10_loop.trips) (k : Fin k0_t11_loop.trips) : k0_off45 a k 2#32 8#32 = ![16 * (2 * (2 * (8 * a.val + k.val) + 1) + 0) + 8, 0] := by revert a k; decide +kernel
theorem off46_3 (a : Fin k0_t10_loop.trips) (k : Fin k0_t11_loop.trips) : k0_off46 a k 3#32 = ![0, 256 * (2 * (2 * (8 * a.val + k.val) + 1) + 1)] := by revert a k; decide +kernel
theorem off44_3 (a : Fin k0_t10_loop.trips) (k : Fin k0_t11_loop.trips) : k0_off44 a k 3#32 = ![32 * (2 * (2 * (8 * a.val + k.val) + 1) + 1), 0] := by revert a k; decide +kernel
theorem off45_3_0 (a : Fin k0_t10_loop.trips) (k : Fin k0_t11_loop.trips) : k0_off45 a k 3#32 0#32 = ![16 * (2 * (2 * (8 * a.val + k.val) + 1) + 1), 0] := by revert a k; decide +kernel
theorem off45_3_8 (a : Fin k0_t10_loop.trips) (k : Fin k0_t11_loop.trips) : k0_off45 a k 3#32 8#32 = ![16 * (2 * (2 * (8 * a.val + k.val) + 1) + 1) + 8, 0] := by revert a k; decide +kernel
theorem no_up11 (a : Fin k0_t10_loop.trips) (k : Fin k0_t11_loop.trips) (h : k0_cond9 a k = 1#1) : ¬ k0_cond10 a k = 1#1 := by revert h; revert a k; decide +kernel
theorem no_down11 (a : Fin k0_t10_loop.trips) (k : Fin k0_t11_loop.trips) (h : k0_cond9 a k = 1#1) : ¬ k0_cond11 k = 1#1 := by revert h; revert a k; decide +kernel
theorem no_down'11 (a : Fin k0_t10_loop.trips) (k : Fin k0_t11_loop.trips) (h : k0_cond10 a k = 1#1) : ¬ k0_cond11 k = 1#1 := by revert h; revert a k; decide +kernel
theorem rows_gate11 (a : Fin k0_t10_loop.trips) (k : Fin k0_t11_loop.trips) (h : k0_cond9 a k = 1#1) :
    gateRows a.val k.val = k.val / 2 ∧ k.val / 2 < 4 ∧ k.val / 2 + 1 = gateRows a.val (k.val + 1) ∧ upRows a.val k.val = upRows a.val (k.val + 1) := by
  revert h; revert a k; decide +kernel
theorem rows_up11 (a : Fin k0_t10_loop.trips) (k : Fin k0_t11_loop.trips) (h : k0_cond10 a k = 1#1) :
    upRows a.val k.val = k.val / 2 ∧ k.val / 2 < 4 ∧ k.val / 2 + 1 = upRows a.val (k.val + 1) ∧ gateRows a.val k.val = gateRows a.val (k.val + 1) := by
  revert h; revert a k; decide +kernel
theorem rows_none11 (a : Fin k0_t10_loop.trips) (k : Fin k0_t11_loop.trips) (h : ¬ k0_cond9 a k = 1#1) (h' : ¬ k0_cond10 a k = 1#1) : upRows a.val k.val = upRows a.val (k.val + 1) ∧ gateRows a.val k.val = gateRows a.val (k.val + 1) := by
  revert h h'; revert a k; decide +kernel
theorem rows_next11 (a : Fin k0_t10_loop.trips) : gateRows a.val k0_t11_loop.trips = gateRows (a.val + 1) 0 ∧ upRows a.val k0_t11_loop.trips = upRows (a.val + 1) 0
    ∧ 128 * (8 * a.val + k0_t11_loop.trips) = 128 * (8 * (a.val + 1) + 0) ∧ 8 * a.val + k0_t11_loop.trips = 8 * (a.val + 1) := by
  revert a; decide +kernel

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- The first step's down scales of a tile. -/
@[sl_loop] def inv12 (k0_h8 : k0_cond8 i = 1#1) (k0_t10 : Fin k0_t10_loop.trips) (k0_t11 : Fin k0_t11_loop.trips) (arg36_r0 : BitVec 32) (v52_r0 : BitVec 32) (v89_r0 : BitVec 32) (k0_h11 : k0_cond11 k0_t11 = 1#1) (v720_r0 : BitVec 32) (v721_r0 : IVec S8x128 32) :
    LoopInvTy_k0_t12 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h8 k0_t10 k0_t11 arg36_r0 v52_r0 v89_r0 k0_h11 v720_r0 v721_r0 where
  inv := fun _ _ => iprop(any c arg8 ∗ any c arg30 ∗ any c arg32)
  step k _ := by
    unfold k0_t12_body
    iintro ⟨⟨%f8, H8⟩, ⟨%f30, H30⟩, ⟨%f32, H32⟩⟩
    sl_exec
    sl_step
    sl_close

set_option maxHeartbeats 4000000 in
/-- The even half of the first step, by tiles of a chunk. -/
@[sl_loop] def inv11 (k0_h8 : k0_cond8 i = 1#1) (k0_t10 : Fin k0_t10_loop.trips) (arg35_r0 : BitVec 32) (init : Mxu F) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ))) (g13 : Buf (Elt F) (arg13.view.loc (c : Thread nD τ))) (g16 : Buf (Elt F) (arg16.view.loc (c : Thread nD τ))) (g18 : Buf (Elt F) (arg18.view.loc (c : Thread nD τ))) (g22 : Buf (Elt F) (arg22.view.loc (c : Thread nD τ))) (g24 : Buf (Elt F) (arg24.view.loc (c : Thread nD τ))) (g26 : Buf (Elt F) (arg26.view.loc (c : Thread nD τ))) (g28 : Buf (Elt F) (arg28.view.loc (c : Thread nD τ))) :
    LoopInvTy_k0_t11 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h8 k0_t10 arg35_r0 init where
  inv := fun k s => iprop(⌜SumsAt (passes (pick (arg13.view.read (Elt F) g13)) (pick (arg16.view.read (Elt F) g16)) (pick (arg22.view.read (Elt F) g22)) (pick (arg24.view.read (Elt F) g24)) (pick (arg18.view.read (Elt F) g18)) (pick (arg26.view.read (Elt F) g26)) (pick (arg28.view.read (Elt F) g28)) 0) (passes (pick (arg13.view.read (Elt F) g13)) (pick (arg16.view.read (Elt F) g16)) (pick (arg22.view.read (Elt F) g22)) (pick (arg24.view.read (Elt F) g24)) (pick (arg18.view.read (Elt F) g18)) (pick (arg26.view.read (Elt F) g26)) (pick (arg28.view.read (Elt F) g28)) 1) 64 s (8 * k0_t10.val + k)⌝ ∗ ((arg2.view.loc (c : Thread nD τ)) ↦[arg2.view.set]{fullShare} g2) ∗ ((arg3.view.loc (c : Thread nD τ)) ↦[arg3.view.set]{fullShare} g3) ∗ ((arg6.view.loc (c : Thread nD τ)) ↦[arg6.view.set]{fullShare} g6) ∗ ((arg7.view.loc (c : Thread nD τ)) ↦[arg7.view.set]{fullShare} g7) ∗ ((arg13.view.loc (c : Thread nD τ)) ↦[arg13.view.set]{fullShare} g13) ∗ ((arg16.view.loc (c : Thread nD τ)) ↦[arg16.view.set]{fullShare} g16) ∗ ((arg18.view.loc (c : Thread nD τ)) ↦[arg18.view.set]{fullShare} g18) ∗ ((arg22.view.loc (c : Thread nD τ)) ↦[arg22.view.set]{fullShare} g22) ∗ ((arg24.view.loc (c : Thread nD τ)) ↦[arg24.view.set]{fullShare} g24) ∗ ((arg26.view.loc (c : Thread nD τ)) ↦[arg26.view.set]{fullShare} g26) ∗ ((arg28.view.loc (c : Thread nD τ)) ↦[arg28.view.set]{fullShare} g28) ∗ (∃ f : Buf (Elt F) (arg17.view.loc (c : Thread nD τ)), ⌜Words F (pick (arg2.view.read (Elt F) g2)) 512 (128 * (8 * k0_t10.val + k)) (arg17.view.read (Elt F) f)⌝ ∗ ((arg17.view.loc (c : Thread nD τ)) ↦[arg17.view.set]{fullShare} f)) ∗ (∃ f : Buf (Elt F) (arg19.view.loc (c : Thread nD τ)), ⌜Words F (pick (arg3.view.read (Elt F) g3)) 512 (128 * (8 * k0_t10.val + k)) (arg19.view.read (Elt F) f)⌝ ∗ ((arg19.view.loc (c : Thread nD τ)) ↦[arg19.view.set]{fullShare} f)) ∗ (∃ f : Buf (Elt F) (arg23.view.loc (c : Thread nD τ)), ⌜Scales termA (pick (arg6.view.read (Elt F) g6)) 512 (gateRows k0_t10.val k) (arg23.view.read (Elt F) f)⌝ ∗ ((arg23.view.loc (c : Thread nD τ)) ↦[arg23.view.set]{fullShare} f)) ∗ (∃ f : Buf (Elt F) (arg25.view.loc (c : Thread nD τ)), ⌜Scales termB (pick (arg6.view.read (Elt F) g6)) 512 (gateRows k0_t10.val k) (arg25.view.read (Elt F) f)⌝ ∗ ((arg25.view.loc (c : Thread nD τ)) ↦[arg25.view.set]{fullShare} f)) ∗ (∃ f : Buf (Elt F) (arg27.view.loc (c : Thread nD τ)), ⌜Scales termA (pick (arg7.view.read (Elt F) g7)) 512 (upRows k0_t10.val k) (arg27.view.read (Elt F) f)⌝ ∗ ((arg27.view.loc (c : Thread nD τ)) ↦[arg27.view.set]{fullShare} f)) ∗ (∃ f : Buf (Elt F) (arg29.view.loc (c : Thread nD τ)), ⌜Scales termB (pick (arg7.view.read (Elt F) g7)) 512 (upRows k0_t10.val k) (arg29.view.read (Elt F) f)⌝ ∗ ((arg29.view.loc (c : Thread nD τ)) ↦[arg29.view.set]{fullShare} f)) ∗ any c arg4 ∗ any c arg8 ∗ any c arg20 ∗ any c arg30 ∗ any c arg32)
  step k s := by
    unfold k0_t11_body
    iintro ⟨%hs, H2, H3, H6, H7, H13, H16, H18, H22, H24, H26, H28, ⟨%f17, %h17, H17⟩, ⟨%f19, %h19, H19⟩, ⟨%f23, %h23, H23⟩, ⟨%f25, %h25, H25⟩, ⟨%f27, %h27, H27⟩, ⟨%f29, %h29, H29⟩, ⟨%f4, H4⟩, ⟨%f8, H8⟩, ⟨%f20, H20⟩, ⟨%f30, H30⟩, ⟨%f32, H32⟩⟩
    have hq := SumsAt.sums hs (by decide)
    have p00 := hq.1.ok 0 0
    have p01 := hq.1.ok 0 1
    have p10 := hq.1.ok 1 0
    have p11 := hq.1.ok 1 1
    by_cases q0 : k0_cond9 k0_t10 k = 1#1
    · have q1 := no_up11 _ _ q0
      have q2 := no_down11 _ _ q0
      have e := rows_gate11 k0_t10 k q0
      sl_exec (disch := (mxu_pushok_peel <;> assumption))
      sl_step
      isplitr
      · ipureintro
        refine Sums.next (n := 8 * k0_t10.val + k.val) (Sums.gu1 (Sums.gu0 (Sums.gu1 (Sums.gu0 hq _ _ (by decide) _ _ ?_) _ _ (by decide) _ _ ?_) _ _ (by decide) _ _ ?_) _ _ (by decide) _ _ ?_)
        · exact pass_load arg13 g13 arg16 arg18 g16 g18 arg22 arg24 arg26 arg28 g22 g24 g26 g28 _ _ _ _ _ _ _ _ _ (off46_0 _ _) (off44_0 _ _) (off45_0_0 _ _) (off45_0_8 _ _) _ _ rfl rfl
        · exact pass_load arg13 g13 arg16 arg18 g16 g18 arg22 arg24 arg26 arg28 g22 g24 g26 g28 _ _ _ _ _ _ _ _ _ (off46_1 _ _) (off44_1 _ _) (off45_1_0 _ _) (off45_1_8 _ _) _ _ rfl rfl
        · exact pass_load arg13 g13 arg16 arg18 g16 g18 arg22 arg24 arg26 arg28 g22 g24 g26 g28 _ _ _ _ _ _ _ _ _ (off46_2 _ _) (off44_2 _ _) (off45_2_0 _ _) (off45_2_8 _ _) _ _ rfl rfl
        · exact pass_load arg13 g13 arg16 arg18 g16 g18 arg22 arg24 arg26 arg28 g22 g24 g26 g28 _ _ _ _ _ _ _ _ _ (off46_3 _ _) (off44_3 _ _) (off45_3_0 _ _) (off45_3_8 _ _) _ _ rfl rfl
      isplitl [H2]; · iexact H2
      isplitl [H3]; · iexact H3
      isplitl [H6]; · iexact H6
      isplitl [H7]; · iexact H7
      isplitl [H13]; · iexact H13
      isplitl [H16]; · iexact H16
      isplitl [H18]; · iexact H18
      isplitl [H22]; · iexact H22
      isplitl [H24]; · iexact H24
      isplitl [H26]; · iexact H26
      isplitl [H28]; · iexact H28
      isplitl [H17]
      · iexists _; isplitr [H17]
        swap; · iexact H17
        ipureintro; exact Words.store_load arg17 f17 arg2 g2 h17 _ _ (off36 _ _) _ _ (off35 _ _) _ rfl
      isplitl [H19]
      · iexists _; isplitr [H19]
        swap; · iexact H19
        ipureintro; exact Words.store_load arg19 f19 arg3 g3 h19 _ _ (off36 _ _) _ _ (off35 _ _) _ rfl
      isplitl [H23]
      · iexists _; isplitr [H23]
        swap; · iexact H23
        ipureintro; exact (Scales.store_load termA arg23 f23 arg6 g6 (h23.cast e.1) e.2.1 _ _ _ _ _ _ _ _ (off38_4 _) (off38_0 _) (off37 _) _ _ rfl rfl).cast e.2.2.1
      isplitl [H25]
      · iexists _; isplitr [H25]
        swap; · iexact H25
        ipureintro; exact (Scales.store_load termB arg25 f25 arg6 g6 (h25.cast e.1) e.2.1 _ _ _ _ _ _ _ _ (off38_4 _) (off38_0 _) (off37 _) _ _ rfl rfl).cast e.2.2.1
      isplitl [H27]
      · iexists _; isplitr [H27]
        swap; · iexact H27
        ipureintro; exact h27.cast e.2.2.2
      isplitl [H29]
      · iexists _; isplitr [H29]
        swap; · iexact H29
        ipureintro; exact h29.cast e.2.2.2
      sl_close
    · by_cases q1 : k0_cond10 k0_t10 k = 1#1
      · have q2 := no_down'11 _ _ q1
        have e := rows_up11 k0_t10 k q1
        sl_exec (disch := (mxu_pushok_peel <;> assumption))
        sl_step
        isplitr
        · ipureintro
          refine Sums.next (n := 8 * k0_t10.val + k.val) (Sums.gu1 (Sums.gu0 (Sums.gu1 (Sums.gu0 hq _ _ (by decide) _ _ ?_) _ _ (by decide) _ _ ?_) _ _ (by decide) _ _ ?_) _ _ (by decide) _ _ ?_)
          · exact pass_load arg13 g13 arg16 arg18 g16 g18 arg22 arg24 arg26 arg28 g22 g24 g26 g28 _ _ _ _ _ _ _ _ _ (off46_0 _ _) (off44_0 _ _) (off45_0_0 _ _) (off45_0_8 _ _) _ _ rfl rfl
          · exact pass_load arg13 g13 arg16 arg18 g16 g18 arg22 arg24 arg26 arg28 g22 g24 g26 g28 _ _ _ _ _ _ _ _ _ (off46_1 _ _) (off44_1 _ _) (off45_1_0 _ _) (off45_1_8 _ _) _ _ rfl rfl
          · exact pass_load arg13 g13 arg16 arg18 g16 g18 arg22 arg24 arg26 arg28 g22 g24 g26 g28 _ _ _ _ _ _ _ _ _ (off46_2 _ _) (off44_2 _ _) (off45_2_0 _ _) (off45_2_8 _ _) _ _ rfl rfl
          · exact pass_load arg13 g13 arg16 arg18 g16 g18 arg22 arg24 arg26 arg28 g22 g24 g26 g28 _ _ _ _ _ _ _ _ _ (off46_3 _ _) (off44_3 _ _) (off45_3_0 _ _) (off45_3_8 _ _) _ _ rfl rfl
        isplitl [H2]; · iexact H2
        isplitl [H3]; · iexact H3
        isplitl [H6]; · iexact H6
        isplitl [H7]; · iexact H7
        isplitl [H13]; · iexact H13
        isplitl [H16]; · iexact H16
        isplitl [H18]; · iexact H18
        isplitl [H22]; · iexact H22
        isplitl [H24]; · iexact H24
        isplitl [H26]; · iexact H26
        isplitl [H28]; · iexact H28
        isplitl [H17]
        · iexists _; isplitr [H17]
          swap; · iexact H17
          ipureintro; exact Words.store_load arg17 f17 arg2 g2 h17 _ _ (off36 _ _) _ _ (off35 _ _) _ rfl
        isplitl [H19]
        · iexists _; isplitr [H19]
          swap; · iexact H19
          ipureintro; exact Words.store_load arg19 f19 arg3 g3 h19 _ _ (off36 _ _) _ _ (off35 _ _) _ rfl
        isplitl [H23]
        · iexists _; isplitr [H23]
          swap; · iexact H23
          ipureintro; exact h23.cast e.2.2.2
        isplitl [H25]
        · iexists _; isplitr [H25]
          swap; · iexact H25
          ipureintro; exact h25.cast e.2.2.2
        isplitl [H27]
        · iexists _; isplitr [H27]
          swap; · iexact H27
          ipureintro; exact (Scales.store_load termA arg27 f27 arg7 g7 (h27.cast e.1) e.2.1 _ _ _ _ _ _ _ _ (off40_4 _) (off40_0 _) (off39 _) _ _ rfl rfl).cast e.2.2.1
        isplitl [H29]
        · iexists _; isplitr [H29]
          swap; · iexact H29
          ipureintro; exact (Scales.store_load termB arg29 f29 arg7 g7 (h29.cast e.1) e.2.1 _ _ _ _ _ _ _ _ (off40_4 _) (off40_0 _) (off39 _) _ _ rfl rfl).cast e.2.2.1
        sl_close
      · have e := rows_none11 k0_t10 k q0 q1
        by_cases q2 : k0_cond11 k = 1#1
        · skip
          sl_exec (disch := (mxu_pushok_peel <;> assumption))
          sl_step
          isplitr
          · ipureintro
            refine Sums.next (n := 8 * k0_t10.val + k.val) (Sums.gu1 (Sums.gu0 (Sums.gu1 (Sums.gu0 hq _ _ (by decide) _ _ ?_) _ _ (by decide) _ _ ?_) _ _ (by decide) _ _ ?_) _ _ (by decide) _ _ ?_)
            · exact pass_load arg13 g13 arg16 arg18 g16 g18 arg22 arg24 arg26 arg28 g22 g24 g26 g28 _ _ _ _ _ _ _ _ _ (off46_0 _ _) (off44_0 _ _) (off45_0_0 _ _) (off45_0_8 _ _) _ _ rfl rfl
            · exact pass_load arg13 g13 arg16 arg18 g16 g18 arg22 arg24 arg26 arg28 g22 g24 g26 g28 _ _ _ _ _ _ _ _ _ (off46_1 _ _) (off44_1 _ _) (off45_1_0 _ _) (off45_1_8 _ _) _ _ rfl rfl
            · exact pass_load arg13 g13 arg16 arg18 g16 g18 arg22 arg24 arg26 arg28 g22 g24 g26 g28 _ _ _ _ _ _ _ _ _ (off46_2 _ _) (off44_2 _ _) (off45_2_0 _ _) (off45_2_8 _ _) _ _ rfl rfl
            · exact pass_load arg13 g13 arg16 arg18 g16 g18 arg22 arg24 arg26 arg28 g22 g24 g26 g28 _ _ _ _ _ _ _ _ _ (off46_3 _ _) (off44_3 _ _) (off45_3_0 _ _) (off45_3_8 _ _) _ _ rfl rfl
          isplitl [H2]; · iexact H2
          isplitl [H3]; · iexact H3
          isplitl [H6]; · iexact H6
          isplitl [H7]; · iexact H7
          isplitl [H13]; · iexact H13
          isplitl [H16]; · iexact H16
          isplitl [H18]; · iexact H18
          isplitl [H22]; · iexact H22
          isplitl [H24]; · iexact H24
          isplitl [H26]; · iexact H26
          isplitl [H28]; · iexact H28
          isplitl [H17]
          · iexists _; isplitr [H17]
            swap; · iexact H17
            ipureintro; exact Words.store_load arg17 f17 arg2 g2 h17 _ _ (off36 _ _) _ _ (off35 _ _) _ rfl
          isplitl [H19]
          · iexists _; isplitr [H19]
            swap; · iexact H19
            ipureintro; exact Words.store_load arg19 f19 arg3 g3 h19 _ _ (off36 _ _) _ _ (off35 _ _) _ rfl
          isplitl [H23]
          · iexists _; isplitr [H23]
            swap; · iexact H23
            ipureintro; exact h23.cast e.2
          isplitl [H25]
          · iexists _; isplitr [H25]
            swap; · iexact H25
            ipureintro; exact h25.cast e.2
          isplitl [H27]
          · iexists _; isplitr [H27]
            swap; · iexact H27
            ipureintro; exact h27.cast e.1
          isplitl [H29]
          · iexists _; isplitr [H29]
            swap; · iexact H29
            ipureintro; exact h29.cast e.1
          sl_close
        · skip
          sl_exec (disch := (mxu_pushok_peel <;> assumption))
          sl_step
          isplitr
          · ipureintro
            refine Sums.next (n := 8 * k0_t10.val + k.val) (Sums.gu1 (Sums.gu0 (Sums.gu1 (Sums.gu0 hq _ _ (by decide) _ _ ?_) _ _ (by decide) _ _ ?_) _ _ (by decide) _ _ ?_) _ _ (by decide) _ _ ?_)
            · exact pass_load arg13 g13 arg16 arg18 g16 g18 arg22 arg24 arg26 arg28 g22 g24 g26 g28 _ _ _ _ _ _ _ _ _ (off46_0 _ _) (off44_0 _ _) (off45_0_0 _ _) (off45_0_8 _ _) _ _ rfl rfl
            · exact pass_load arg13 g13 arg16 arg18 g16 g18 arg22 arg24 arg26 arg28 g22 g24 g26 g28 _ _ _ _ _ _ _ _ _ (off46_1 _ _) (off44_1 _ _) (off45_1_0 _ _) (off45_1_8 _ _) _ _ rfl rfl
            · exact pass_load arg13 g13 arg16 arg18 g16 g18 arg22 arg24 arg26 arg28 g22 g24 g26 g28 _ _ _ _ _ _ _ _ _ (off46_2 _ _) (off44_2 _ _) (off45_2_0 _ _) (off45_2_8 _ _) _ _ rfl rfl
            · exact pass_load arg13 g13 arg16 arg18 g16 g18 arg22 arg24 arg26 arg28 g22 g24 g26 g28 _ _ _ _ _ _ _ _ _ (off46_3 _ _) (off44_3 _ _) (off45_3_0 _ _) (off45_3_8 _ _) _ _ rfl rfl
          isplitl [H2]; · iexact H2
          isplitl [H3]; · iexact H3
          isplitl [H6]; · iexact H6
          isplitl [H7]; · iexact H7
          isplitl [H13]; · iexact H13
          isplitl [H16]; · iexact H16
          isplitl [H18]; · iexact H18
          isplitl [H22]; · iexact H22
          isplitl [H24]; · iexact H24
          isplitl [H26]; · iexact H26
          isplitl [H28]; · iexact H28
          isplitl [H17]
          · iexists _; isplitr [H17]
            swap; · iexact H17
            ipureintro; exact Words.store_load arg17 f17 arg2 g2 h17 _ _ (off36 _ _) _ _ (off35 _ _) _ rfl
          isplitl [H19]
          · iexists _; isplitr [H19]
            swap; · iexact H19
            ipureintro; exact Words.store_load arg19 f19 arg3 g3 h19 _ _ (off36 _ _) _ _ (off35 _ _) _ rfl
          isplitl [H23]
          · iexists _; isplitr [H23]
            swap; · iexact H23
            ipureintro; exact h23.cast e.2
          isplitl [H25]
          · iexists _; isplitr [H25]
            swap; · iexact H25
            ipureintro; exact h25.cast e.2
          isplitl [H27]
          · iexists _; isplitr [H27]
            swap; · iexact H27
            ipureintro; exact h27.cast e.1
          isplitl [H29]
          · iexists _; isplitr [H29]
            swap; · iexact H29
            ipureintro; exact h29.cast e.1
          sl_close

set_option maxHeartbeats 4000000 in
/-- The even half of the first step, by chunks. -/
@[sl_loop] def inv10 (k0_h8 : k0_cond8 i = 1#1) (init : Mxu F) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ))) (g13 : Buf (Elt F) (arg13.view.loc (c : Thread nD τ))) (g16 : Buf (Elt F) (arg16.view.loc (c : Thread nD τ))) (g18 : Buf (Elt F) (arg18.view.loc (c : Thread nD τ))) (g22 : Buf (Elt F) (arg22.view.loc (c : Thread nD τ))) (g24 : Buf (Elt F) (arg24.view.loc (c : Thread nD τ))) (g26 : Buf (Elt F) (arg26.view.loc (c : Thread nD τ))) (g28 : Buf (Elt F) (arg28.view.loc (c : Thread nD τ))) :
    LoopInvTy_k0_t10 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h8 init where
  inv := fun k s => iprop(⌜SumsAt (passes (pick (arg13.view.read (Elt F) g13)) (pick (arg16.view.read (Elt F) g16)) (pick (arg22.view.read (Elt F) g22)) (pick (arg24.view.read (Elt F) g24)) (pick (arg18.view.read (Elt F) g18)) (pick (arg26.view.read (Elt F) g26)) (pick (arg28.view.read (Elt F) g28)) 0) (passes (pick (arg13.view.read (Elt F) g13)) (pick (arg16.view.read (Elt F) g16)) (pick (arg22.view.read (Elt F) g22)) (pick (arg24.view.read (Elt F) g24)) (pick (arg18.view.read (Elt F) g18)) (pick (arg26.view.read (Elt F) g26)) (pick (arg28.view.read (Elt F) g28)) 1) 64 s (8 * k)⌝ ∗ ((arg2.view.loc (c : Thread nD τ)) ↦[arg2.view.set]{fullShare} g2) ∗ ((arg3.view.loc (c : Thread nD τ)) ↦[arg3.view.set]{fullShare} g3) ∗ ((arg6.view.loc (c : Thread nD τ)) ↦[arg6.view.set]{fullShare} g6) ∗ ((arg7.view.loc (c : Thread nD τ)) ↦[arg7.view.set]{fullShare} g7) ∗ ((arg13.view.loc (c : Thread nD τ)) ↦[arg13.view.set]{fullShare} g13) ∗ ((arg16.view.loc (c : Thread nD τ)) ↦[arg16.view.set]{fullShare} g16) ∗ ((arg18.view.loc (c : Thread nD τ)) ↦[arg18.view.set]{fullShare} g18) ∗ ((arg22.view.loc (c : Thread nD τ)) ↦[arg22.view.set]{fullShare} g22) ∗ ((arg24.view.loc (c : Thread nD τ)) ↦[arg24.view.set]{fullShare} g24) ∗ ((arg26.view.loc (c : Thread nD τ)) ↦[arg26.view.set]{fullShare} g26) ∗ ((arg28.view.loc (c : Thread nD τ)) ↦[arg28.view.set]{fullShare} g28) ∗ (∃ f : Buf (Elt F) (arg17.view.loc (c : Thread nD τ)), ⌜Words F (pick (arg2.view.read (Elt F) g2)) 512 (128 * (8 * k + 0)) (arg17.view.read (Elt F) f)⌝ ∗ ((arg17.view.loc (c : Thread nD τ)) ↦[arg17.view.set]{fullShare} f)) ∗ (∃ f : Buf (Elt F) (arg19.view.loc (c : Thread nD τ)), ⌜Words F (pick (arg3.view.read (Elt F) g3)) 512 (128 * (8 * k + 0)) (arg19.view.read (Elt F) f)⌝ ∗ ((arg19.view.loc (c : Thread nD τ)) ↦[arg19.view.set]{fullShare} f)) ∗ (∃ f : Buf (Elt F) (arg23.view.loc (c : Thread nD τ)), ⌜Scales termA (pick (arg6.view.read (Elt F) g6)) 512 (gateRows k 0) (arg23.view.read (Elt F) f)⌝ ∗ ((arg23.view.loc (c : Thread nD τ)) ↦[arg23.view.set]{fullShare} f)) ∗ (∃ f : Buf (Elt F) (arg25.view.loc (c : Thread nD τ)), ⌜Scales termB (pick (arg6.view.read (Elt F) g6)) 512 (gateRows k 0) (arg25.view.read (Elt F) f)⌝ ∗ ((arg25.view.loc (c : Thread nD τ)) ↦[arg25.view.set]{fullShare} f)) ∗ (∃ f : Buf (Elt F) (arg27.view.loc (c : Thread nD τ)), ⌜Scales termA (pick (arg7.view.read (Elt F) g7)) 512 (upRows k 0) (arg27.view.read (Elt F) f)⌝ ∗ ((arg27.view.loc (c : Thread nD τ)) ↦[arg27.view.set]{fullShare} f)) ∗ (∃ f : Buf (Elt F) (arg29.view.loc (c : Thread nD τ)), ⌜Scales termB (pick (arg7.view.read (Elt F) g7)) 512 (upRows k 0) (arg29.view.read (Elt F) f)⌝ ∗ ((arg29.view.loc (c : Thread nD τ)) ↦[arg29.view.set]{fullShare} f)) ∗ any c arg4 ∗ any c arg8 ∗ any c arg20 ∗ any c arg30 ∗ any c arg32)
  step k s := by
    unfold k0_t10_body
    iintro ⟨%hs, H2, H3, H6, H7, H13, H16, H18, H22, H24, H26, H28, ⟨%f17, %h17, H17⟩, ⟨%f19, %h19, H19⟩, ⟨%f23, %h23, H23⟩, ⟨%f25, %h25, H25⟩, ⟨%f27, %h27, H27⟩, ⟨%f29, %h29, H29⟩, ⟨%f4, H4⟩, ⟨%f8, H8⟩, ⟨%f20, H20⟩, ⟨%f30, H30⟩, ⟨%f32, H32⟩⟩
    sl_exec
    sl_step
    isplitr
    · ipureintro; refine SumsAt.cast ?_ (rows_next11 k).2.2.2; assumption
    isplitl [H2]; · iexact H2
    isplitl [H3]; · iexact H3
    isplitl [H6]; · iexact H6
    isplitl [H7]; · iexact H7
    isplitl [H13]; · iexact H13
    isplitl [H16]; · iexact H16
    isplitl [H18]; · iexact H18
    isplitl [H22]; · iexact H22
    isplitl [H24]; · iexact H24
    isplitl [H26]; · iexact H26
    isplitl [H28]; · iexact H28
    isplitl [H17]
    · iexists _; isplitr [H17]
      swap; · iexact H17
      ipureintro; refine Words.cast ?_ (rows_next11 k).2.2.1; assumption
    isplitl [H19]
    · iexists _; isplitr [H19]
      swap; · iexact H19
      ipureintro; refine Words.cast ?_ (rows_next11 k).2.2.1; assumption
    isplitl [H23]
    · iexists _; isplitr [H23]
      swap; · iexact H23
      ipureintro; refine Scales.cast ?_ (rows_next11 k).1; assumption
    isplitl [H25]
    · iexists _; isplitr [H25]
      swap; · iexact H25
      ipureintro; refine Scales.cast ?_ (rows_next11 k).1; assumption
    isplitl [H27]
    · iexists _; isplitr [H27]
      swap; · iexact H27
      ipureintro; refine Scales.cast ?_ (rows_next11 k).2.1; assumption
    isplitl [H29]
    · iexists _; isplitr [H29]
      swap; · iexact H29
      ipureintro; refine Scales.cast ?_ (rows_next11 k).2.1; assumption
    sl_close

end Cert.Proof.KernelIdeal.Values
-- ==== Proof.KernelIdeal.FirstTables.lean ====
/-
The tables of the first block, made by the first step.
-/
module

public import proofs.«01_k».proof.Proof.KernelIdeal.Tables

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

theorem off6 (a : Fin k0_t3_loop.trips) (k : Fin k0_t4_loop.trips) : k0_off6 a k = ![0, 128 * (8 * a.val + k.val)] := by revert a k; decide +kernel
theorem off7 (a : Fin k0_t3_loop.trips) (k : Fin k0_t4_loop.trips) : k0_off7 a k = ![128 * (8 * a.val + k.val), 0] := by revert a k; decide +kernel
theorem off8 (k : Fin k0_t4_loop.trips) : k0_off8 k = ![0 + k.val / 2, 0] := by revert k; decide +kernel
theorem off10 (k : Fin k0_t4_loop.trips) : k0_off10 k = ![0 + k.val / 2, 0] := by revert k; decide +kernel
theorem not_both (a : Fin k0_t3_loop.trips) (k : Fin k0_t4_loop.trips) (h : k0_cond2 a k = 1#1) : ¬ k0_cond3 a k = 1#1 := by revert h; revert a k; decide +kernel
theorem rows_gate (a : Fin k0_t3_loop.trips) (k : Fin k0_t4_loop.trips) (h : k0_cond2 a k = 1#1) :
    gateRows a.val k.val = k.val / 2 ∧ k.val / 2 < 4 ∧ k.val / 2 + 1 = gateRows a.val (k.val + 1) ∧ upRows a.val k.val = upRows a.val (k.val + 1) := by
  revert h; revert a k; decide +kernel
theorem rows_up (a : Fin k0_t3_loop.trips) (k : Fin k0_t4_loop.trips) (h : k0_cond3 a k = 1#1) :
    upRows a.val k.val = k.val / 2 ∧ k.val / 2 < 4 ∧ k.val / 2 + 1 = upRows a.val (k.val + 1) ∧ gateRows a.val k.val = gateRows a.val (k.val + 1) := by
  revert h; revert a k; decide +kernel
theorem rows_none (a : Fin k0_t3_loop.trips) (k : Fin k0_t4_loop.trips) (h : ¬ k0_cond2 a k = 1#1) (h' : ¬ k0_cond3 a k = 1#1) :
    upRows a.val k.val = upRows a.val (k.val + 1) ∧ gateRows a.val k.val = gateRows a.val (k.val + 1) := by
  revert h h'; revert a k; decide +kernel
theorem rows_next (a : Fin k0_t3_loop.trips) : gateRows a.val k0_t4_loop.trips = gateRows (a.val + 1) 0 ∧ upRows a.val k0_t4_loop.trips = upRows (a.val + 1) 0
    ∧ 128 * (8 * a.val + k0_t4_loop.trips) = 128 * (8 * (a.val + 1) + 0) := by
  revert a; decide +kernel

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- The first block's tables, by tiles of a chunk. -/
@[sl_loop] def inv4 (k0_h1 : k0_cond1 i = 1#1) (k0_t3 : Fin k0_t3_loop.trips) (arg35_r0 : BitVec 32) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ))) :
    LoopInvTy_k0_t4 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h1 k0_t3 arg35_r0 where
  inv := fun k _ => iprop(((arg2.view.loc (c : Thread nD τ)) ↦[arg2.view.set]{fullShare} g2) ∗ ((arg3.view.loc (c : Thread nD τ)) ↦[arg3.view.set]{fullShare} g3) ∗ ((arg6.view.loc (c : Thread nD τ)) ↦[arg6.view.set]{fullShare} g6) ∗ ((arg7.view.loc (c : Thread nD τ)) ↦[arg7.view.set]{fullShare} g7) ∗ (∃ f : Buf (Elt F) (arg16.view.loc (c : Thread nD τ)), ⌜Words F (pick (arg2.view.read (Elt F) g2)) 0 (128 * (8 * k0_t3.val + k)) (arg16.view.read (Elt F) f)⌝ ∗ ((arg16.view.loc (c : Thread nD τ)) ↦[arg16.view.set]{fullShare} f)) ∗ (∃ f : Buf (Elt F) (arg18.view.loc (c : Thread nD τ)), ⌜Words F (pick (arg3.view.read (Elt F) g3)) 0 (128 * (8 * k0_t3.val + k)) (arg18.view.read (Elt F) f)⌝ ∗ ((arg18.view.loc (c : Thread nD τ)) ↦[arg18.view.set]{fullShare} f)) ∗ (∃ f : Buf (Elt F) (arg22.view.loc (c : Thread nD τ)), ⌜Scales termA (pick (arg6.view.read (Elt F) g6)) 0 (gateRows k0_t3.val k) (arg22.view.read (Elt F) f)⌝ ∗ ((arg22.view.loc (c : Thread nD τ)) ↦[arg22.view.set]{fullShare} f)) ∗ (∃ f : Buf (Elt F) (arg24.view.loc (c : Thread nD τ)), ⌜Scales termB (pick (arg6.view.read (Elt F) g6)) 0 (gateRows k0_t3.val k) (arg24.view.read (Elt F) f)⌝ ∗ ((arg24.view.loc (c : Thread nD τ)) ↦[arg24.view.set]{fullShare} f)) ∗ (∃ f : Buf (Elt F) (arg26.view.loc (c : Thread nD τ)), ⌜Scales termA (pick (arg7.view.read (Elt F) g7)) 0 (upRows k0_t3.val k) (arg26.view.read (Elt F) f)⌝ ∗ ((arg26.view.loc (c : Thread nD τ)) ↦[arg26.view.set]{fullShare} f)) ∗ (∃ f : Buf (Elt F) (arg28.view.loc (c : Thread nD τ)), ⌜Scales termB (pick (arg7.view.read (Elt F) g7)) 0 (upRows k0_t3.val k) (arg28.view.read (Elt F) f)⌝ ∗ ((arg28.view.loc (c : Thread nD τ)) ↦[arg28.view.set]{fullShare} f)))
  step k _ := by
    unfold k0_t4_body
    iintro ⟨H2, H3, H6, H7, ⟨%f16, %h16, H16⟩, ⟨%f18, %h18, H18⟩, ⟨%f22, %h22, H22⟩, ⟨%f24, %h24, H24⟩, ⟨%f26, %h26, H26⟩, ⟨%f28, %h28, H28⟩⟩
    by_cases q0 : k0_cond2 k0_t3 k = 1#1
    · have q1 : ¬ k0_cond3 k0_t3 k = 1#1 := not_both _ _ q0
      have e := rows_gate k0_t3 k q0
      sl_exec
      sl_step
      isplitl [H2]; · iexact H2
      isplitl [H3]; · iexact H3
      isplitl [H6]; · iexact H6
      isplitl [H7]; · iexact H7
      isplitl [H16]
      · iexists _; isplitr [H16]
        swap; · iexact H16
        ipureintro; exact Words.store_load arg16 f16 arg2 g2 h16 _ _ (off7 _ _) _ _ (off6 _ _) _ rfl
      isplitl [H18]
      · iexists _; isplitr [H18]
        swap; · iexact H18
        ipureintro; exact Words.store_load arg18 f18 arg3 g3 h18 _ _ (off7 _ _) _ _ (off6 _ _) _ rfl
      isplitl [H22]
      · iexists _; isplitr [H22]
        swap; · iexact H22
        ipureintro; exact (Scales.store_load termA arg22 f22 arg6 g6 (h22.cast e.1) e.2.1 _ _ _ _ _ _ _ _ (off9_4 _) (off9_0 _) (off8 _) _ _ rfl rfl).cast e.2.2.1
      isplitl [H24]
      · iexists _; isplitr [H24]
        swap; · iexact H24
        ipureintro; exact (Scales.store_load termB arg24 f24 arg6 g6 (h24.cast e.1) e.2.1 _ _ _ _ _ _ _ _ (off9_4 _) (off9_0 _) (off8 _) _ _ rfl rfl).cast e.2.2.1
      isplitl [H26]
      · iexists _; isplitr [H26]
        swap; · iexact H26
        ipureintro; exact h26.cast e.2.2.2
      iexists _; isplitr [H28]
      swap; · iexact H28
      ipureintro; exact h28.cast e.2.2.2
    · by_cases q1 : k0_cond3 k0_t3 k = 1#1
      · have e := rows_up k0_t3 k q1
        sl_exec
        sl_step
        isplitl [H2]; · iexact H2
        isplitl [H3]; · iexact H3
        isplitl [H6]; · iexact H6
        isplitl [H7]; · iexact H7
        isplitl [H16]
        · iexists _; isplitr [H16]
          swap; · iexact H16
          ipureintro; exact Words.store_load arg16 f16 arg2 g2 h16 _ _ (off7 _ _) _ _ (off6 _ _) _ rfl
        isplitl [H18]
        · iexists _; isplitr [H18]
          swap; · iexact H18
          ipureintro; exact Words.store_load arg18 f18 arg3 g3 h18 _ _ (off7 _ _) _ _ (off6 _ _) _ rfl
        isplitl [H22]
        · iexists _; isplitr [H22]
          swap; · iexact H22
          ipureintro; exact h22.cast e.2.2.2
        isplitl [H24]
        · iexists _; isplitr [H24]
          swap; · iexact H24
          ipureintro; exact h24.cast e.2.2.2
        isplitl [H26]
        · iexists _; isplitr [H26]
          swap; · iexact H26
          ipureintro; exact (Scales.store_load termA arg26 f26 arg7 g7 (h26.cast e.1) e.2.1 _ _ _ _ _ _ _ _ (off11_4 _) (off11_0 _) (off10 _) _ _ rfl rfl).cast e.2.2.1
        iexists _; isplitr [H28]
        swap; · iexact H28
        ipureintro; exact (Scales.store_load termB arg28 f28 arg7 g7 (h28.cast e.1) e.2.1 _ _ _ _ _ _ _ _ (off11_4 _) (off11_0 _) (off10 _) _ _ rfl rfl).cast e.2.2.1
      · have e := rows_none k0_t3 k q0 q1
        sl_exec
        sl_step
        isplitl [H2]; · iexact H2
        isplitl [H3]; · iexact H3
        isplitl [H6]; · iexact H6
        isplitl [H7]; · iexact H7
        isplitl [H16]
        · iexists _; isplitr [H16]
          swap; · iexact H16
          ipureintro; exact Words.store_load arg16 f16 arg2 g2 h16 _ _ (off7 _ _) _ _ (off6 _ _) _ rfl
        isplitl [H18]
        · iexists _; isplitr [H18]
          swap; · iexact H18
          ipureintro; exact Words.store_load arg18 f18 arg3 g3 h18 _ _ (off7 _ _) _ _ (off6 _ _) _ rfl
        isplitl [H22]
        · iexists _; isplitr [H22]
          swap; · iexact H22
          ipureintro; exact h22.cast e.2
        isplitl [H24]
        · iexists _; isplitr [H24]
          swap; · iexact H24
          ipureintro; exact h24.cast e.2
        isplitl [H26]
        · iexists _; isplitr [H26]
          swap; · iexact H26
          ipureintro; exact h26.cast e.1
        iexists _; isplitr [H28]
        swap; · iexact H28
        ipureintro; exact h28.cast e.1

/-- The first block's tables, by chunks. -/
@[sl_loop] def inv3 (k0_h1 : k0_cond1 i = 1#1) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ))) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h1 where
  inv := fun k _ => iprop(((arg2.view.loc (c : Thread nD τ)) ↦[arg2.view.set]{fullShare} g2) ∗ ((arg3.view.loc (c : Thread nD τ)) ↦[arg3.view.set]{fullShare} g3) ∗ ((arg6.view.loc (c : Thread nD τ)) ↦[arg6.view.set]{fullShare} g6) ∗ ((arg7.view.loc (c : Thread nD τ)) ↦[arg7.view.set]{fullShare} g7) ∗ (∃ f : Buf (Elt F) (arg16.view.loc (c : Thread nD τ)), ⌜Words F (pick (arg2.view.read (Elt F) g2)) 0 (128 * (8 * k + 0)) (arg16.view.read (Elt F) f)⌝ ∗ ((arg16.view.loc (c : Thread nD τ)) ↦[arg16.view.set]{fullShare} f)) ∗ (∃ f : Buf (Elt F) (arg18.view.loc (c : Thread nD τ)), ⌜Words F (pick (arg3.view.read (Elt F) g3)) 0 (128 * (8 * k + 0)) (arg18.view.read (Elt F) f)⌝ ∗ ((arg18.view.loc (c : Thread nD τ)) ↦[arg18.view.set]{fullShare} f)) ∗ (∃ f : Buf (Elt F) (arg22.view.loc (c : Thread nD τ)), ⌜Scales termA (pick (arg6.view.read (Elt F) g6)) 0 (gateRows k 0) (arg22.view.read (Elt F) f)⌝ ∗ ((arg22.view.loc (c : Thread nD τ)) ↦[arg22.view.set]{fullShare} f)) ∗ (∃ f : Buf (Elt F) (arg24.view.loc (c : Thread nD τ)), ⌜Scales termB (pick (arg6.view.read (Elt F) g6)) 0 (gateRows k 0) (arg24.view.read (Elt F) f)⌝ ∗ ((arg24.view.loc (c : Thread nD τ)) ↦[arg24.view.set]{fullShare} f)) ∗ (∃ f : Buf (Elt F) (arg26.view.loc (c : Thread nD τ)), ⌜Scales termA (pick (arg7.view.read (Elt F) g7)) 0 (upRows k 0) (arg26.view.read (Elt F) f)⌝ ∗ ((arg26.view.loc (c : Thread nD τ)) ↦[arg26.view.set]{fullShare} f)) ∗ (∃ f : Buf (Elt F) (arg28.view.loc (c : Thread nD τ)), ⌜Scales termB (pick (arg7.view.read (Elt F) g7)) 0 (upRows k 0) (arg28.view.read (Elt F) f)⌝ ∗ ((arg28.view.loc (c : Thread nD τ)) ↦[arg28.view.set]{fullShare} f)))
  step k _ := by
    unfold k0_t3_body
    iintro ⟨H2, H3, H6, H7, ⟨%f16, %h16, H16⟩, ⟨%f18, %h18, H18⟩, ⟨%f22, %h22, H22⟩, ⟨%f24, %h24, H24⟩, ⟨%f26, %h26, H26⟩, ⟨%f28, %h28, H28⟩⟩
    sl_exec
    sl_step
    isplitl [H2]; · iexact H2
    isplitl [H3]; · iexact H3
    isplitl [H6]; · iexact H6
    isplitl [H7]; · iexact H7
    isplitl [H16]
    · iexists _; isplitr [H16]
      swap; · iexact H16
      ipureintro; refine Words.cast ?_ (rows_next k).2.2; assumption
    isplitl [H18]
    · iexists _; isplitr [H18]
      swap; · iexact H18
      ipureintro; refine Words.cast ?_ (rows_next k).2.2; assumption
    isplitl [H22]
    · iexists _; isplitr [H22]
      swap; · iexact H22
      ipureintro; refine Scales.cast ?_ (rows_next k).1; assumption
    isplitl [H24]
    · iexists _; isplitr [H24]
      swap; · iexact H24
      ipureintro; refine Scales.cast ?_ (rows_next k).1; assumption
    isplitl [H26]
    · iexists _; isplitr [H26]
      swap; · iexact H26
      ipureintro; refine Scales.cast ?_ (rows_next k).2.1; assumption
    iexists _; isplitr [H28]
    swap; · iexact H28
    ipureintro; refine Scales.cast ?_ (rows_next k).2.1; assumption

end Cert.Proof.KernelIdeal.Values
-- ==== Proof.KernelIdeal.StepFirst.lean ====
/-
The body at the first step: the spread input, the tables of the second block, and the first block of columns of the hidden row.
-/
module

public import proofs.«01_k».proof.Proof.KernelIdeal.EvenFirstSums
public import proofs.«01_k».proof.Proof.KernelIdeal.FirstTables
public import proofs.«01_k».proof.Proof.KernelIdeal.Padded

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

set_option maxHeartbeats 4000000 in
/-- The first step: the spread input, and the first block of columns. -/
theorem step_first (H : ℕ → ℕ → F .bf16) (g1 : Buf (Elt F) (arg1.view.loc (c : Thread nD τ))) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ)))
    (h1 : k0_cond1 i = 1#1) (h4 : ¬ k0_cond4 i = 1#1) (h8 : k0_cond8 i = 1#1) (h12 : ¬ k0_cond12 i = 1#1) (h16 : ¬ k0_cond16 i = 1#1)
    (hH : ∀ r l, r < 12 → l < 512 → H r (0 + l) = blockOf (padded (pick (arg1.view.read (Elt F) g1))) (pick (arg2.view.read (Elt F) g2)) (pick (arg3.view.read (Elt F) g3)) (pick (arg6.view.read (Elt F) g6)) (pick (arg7.view.read (Elt F) g7)) 0 r l)
    (ho : ∀ k : Fin k0_t13_loop.trips, k0_off47 k = ![0, 0 + 128 * k.val]) :
    iprop(((arg1.view.loc (c : Thread nD τ)) ↦[arg1.view.set]{fullShare} g1) ∗ ((arg2.view.loc (c : Thread nD τ)) ↦[arg2.view.set]{fullShare} g2) ∗ ((arg3.view.loc (c : Thread nD τ)) ↦[arg3.view.set]{fullShare} g3) ∗ any c arg4 ∗ any c arg5 ∗ ((arg6.view.loc (c : Thread nD τ)) ↦[arg6.view.set]{fullShare} g6) ∗ ((arg7.view.loc (c : Thread nD τ)) ↦[arg7.view.set]{fullShare} g7) ∗ any c arg8 ∗ any c arg9 ∗ any c arg10 ∗ any c arg11 ∗ any c arg12 ∗ any c arg13 ∗ any c arg14 ∗ any c arg15 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32 ∗ any c arg33 ∗ any c arg34)
      ⊢ wp frame (wpE (defs₀ (F := F)) Variants.none (c : Thread nD τ) none) Set.univ (cc0_q4_swiglu_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => iprop(any c arg1 ∗ any c arg2 ∗ any c arg3 ∗ any c arg4 ∗ any c arg5 ∗ any c arg6 ∗ any c arg7 ∗ any c arg8 ∗ any c arg9 ∗ any c arg10 ∗ (∃ f : Buf (Elt F) (arg11.view.loc (c : Thread nD τ)), ⌜Hidden H 512 (arg11.view.read (Elt F) f)⌝ ∗ ((arg11.view.loc (c : Thread nD τ)) ↦[arg11.view.set]{fullShare} f)) ∗ any c arg12 ∗ (∃ f : Buf (Elt F) (arg13.view.loc (c : Thread nD τ)), ⌜Spread (padded (pick (arg1.view.read (Elt F) g1))) 16384 (arg13.view.read (Elt F) f)⌝ ∗ ((arg13.view.loc (c : Thread nD τ)) ↦[arg13.view.set]{fullShare} f)) ∗ any c arg14 ∗ any c arg15 ∗ any c arg16 ∗ (∃ f : Buf (Elt F) (arg17.view.loc (c : Thread nD τ)), ⌜Words F (pick (arg2.view.read (Elt F) g2)) 512 2048 (arg17.view.read (Elt F) f)⌝ ∗ ((arg17.view.loc (c : Thread nD τ)) ↦[arg17.view.set]{fullShare} f)) ∗ any c arg18 ∗ (∃ f : Buf (Elt F) (arg19.view.loc (c : Thread nD τ)), ⌜Words F (pick (arg3.view.read (Elt F) g3)) 512 2048 (arg19.view.read (Elt F) f)⌝ ∗ ((arg19.view.loc (c : Thread nD τ)) ↦[arg19.view.set]{fullShare} f)) ∗ any c arg20 ∗ any c arg21 ∗ any c arg22 ∗ (∃ f : Buf (Elt F) (arg23.view.loc (c : Thread nD τ)), ⌜Scales termA (pick (arg6.view.read (Elt F) g6)) 512 4 (arg23.view.read (Elt F) f)⌝ ∗ ((arg23.view.loc (c : Thread nD τ)) ↦[arg23.view.set]{fullShare} f)) ∗ any c arg24 ∗ (∃ f : Buf (Elt F) (arg25.view.loc (c : Thread nD τ)), ⌜Scales termB (pick (arg6.view.read (Elt F) g6)) 512 4 (arg25.view.read (Elt F) f)⌝ ∗ ((arg25.view.loc (c : Thread nD τ)) ↦[arg25.view.set]{fullShare} f)) ∗ any c arg26 ∗ (∃ f : Buf (Elt F) (arg27.view.loc (c : Thread nD τ)), ⌜Scales termA (pick (arg7.view.read (Elt F) g7)) 512 4 (arg27.view.read (Elt F) f)⌝ ∗ ((arg27.view.loc (c : Thread nD τ)) ↦[arg27.view.set]{fullShare} f)) ∗ any c arg28 ∗ (∃ f : Buf (Elt F) (arg29.view.loc (c : Thread nD τ)), ⌜Scales termB (pick (arg7.view.read (Elt F) g7)) 512 4 (arg29.view.read (Elt F) f)⌝ ∗ ((arg29.view.loc (c : Thread nD τ)) ↦[arg29.view.set]{fullShare} f)) ∗ any c arg30 ∗ any c arg31 ∗ any c arg32 ∗ any c arg33 ∗ any c arg34)) := by
  simp only [cc0_q4_swiglu_mlp_eq_skeleton]; unfold cc0_q4_swiglu_mlp_skel
  iintro ⟨H1, H2, H3, ⟨%f4, H4⟩, ⟨%f5, H5⟩, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩⟩
  have e : Parked 64 64 (Mxu.init : Mxu F) := Parked.init
  have e' : Parked 0 64 (Mxu.init : Mxu F) := Parked.init.mono (by decide) (by decide)
  have e1 : Parked 64 64 (((Mxu.init : Mxu F).pop 0 0 64 fits_0_64).pop 1 0 64 fits_0_64) := Parked.pop_lo e' _ _
  have e2 : Parked 0 64 (((Mxu.init : Mxu F).pop 0 0 64 fits_0_64).pop 1 0 64 fits_0_64) := e1.mono (by decide) (by decide)
  have z16 : Words F (pick (arg2.view.read (Elt F) g2)) 0 0 (arg16.view.read (Elt F) f16) := Words.zero _ _ _
  have z18 : Words F (pick (arg3.view.read (Elt F) g3)) 0 0 (arg18.view.read (Elt F) f18) := Words.zero _ _ _
  have z22 : Scales termA (pick (arg6.view.read (Elt F) g6)) 0 0 (arg22.view.read (Elt F) f22) := Scales.zero _ _ _ _
  have z24 : Scales termB (pick (arg6.view.read (Elt F) g6)) 0 0 (arg24.view.read (Elt F) f24) := Scales.zero _ _ _ _
  have z26 : Scales termA (pick (arg7.view.read (Elt F) g7)) 0 0 (arg26.view.read (Elt F) f26) := Scales.zero _ _ _ _
  have z28 : Scales termB (pick (arg7.view.read (Elt F) g7)) 0 0 (arg28.view.read (Elt F) f28) := Scales.zero _ _ _ _
  have z17 : Words F (pick (arg2.view.read (Elt F) g2)) 512 0 (arg17.view.read (Elt F) f17) := Words.zero _ _ _
  have z19 : Words F (pick (arg3.view.read (Elt F) g3)) 512 0 (arg19.view.read (Elt F) f19) := Words.zero _ _ _
  have z23 : Scales termA (pick (arg6.view.read (Elt F) g6)) 512 0 (arg23.view.read (Elt F) f23) := Scales.zero _ _ _ _
  have z25 : Scales termB (pick (arg6.view.read (Elt F) g6)) 512 0 (arg25.view.read (Elt F) f25) := Scales.zero _ _ _ _
  have z27 : Scales termA (pick (arg7.view.read (Elt F) g7)) 512 0 (arg27.view.read (Elt F) f27) := Scales.zero _ _ _ _
  have z29 : Scales termB (pick (arg7.view.read (Elt F) g7)) 512 0 (arg29.view.read (Elt F) f29) := Scales.zero _ _ _ _
  have z13 : Spread (pick (arg12.view.read (Elt F) (arg12.view.writes (Elt F) arg12.view.junk
      [⟨Rect.unit (s := S16x4096) ![0, 0] S12x4096.size inb_S16x4096_S12x4096_0_0, k0_pay3 (arg1.view.readAt (Elt F) (Rect.unit (s := S12x4096) ![0, 0] S12x4096.size inb_S12x4096_S12x4096_0_0).toLoadRect g1)⟩,
        ⟨Rect.unit (s := S16x4096) ![0, 0] S16x4096.size inb_S16x4096_S16x4096_0_0, k0_pay2 (F := F)⟩]))) 0 (arg13.view.read (Elt F) f13) := Spread.zero _ _
  sl_exec (disch := exact Parked.drained (Parked.pop_lo (SumsAt.parked (n := 15) (SumsAt.cast (by assumption) rfl)) _ _))
  sl_step
  have hx := pad_spread arg12 arg1 g1 (Spread.cast hL1 (n' := 16384) (by decide))
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]
  · iexists _; isplitr [H11]
    swap; · iexact H11
    ipureintro; exact Hidden.cast (Hidden.block (padded (pick (arg1.view.read (Elt F) g1))) (pick (arg2.view.read (Elt F) g2)) (pick (arg3.view.read (Elt F) g3)) (pick (arg6.view.read (Elt F) g6)) (pick (arg7.view.read (Elt F) g7)) 0 hx (Words.cast hL7 (by decide)) (Words.cast hL9 (by decide)) (Scales.cast hL11 (by decide)) (Scales.cast hL13 (by decide)) (Scales.cast hL15 (by decide)) (Scales.cast hL17 (by decide))
          (SumsAt.cast hL19 rfl) _ _ _ hH arg11 f11 (Hidden.zero _ _) rfl _ _ ho) rfl
  isplitl [H12]; · iexists _; iexact H12
  isplitl [H13]
  · iexists _; isplitr [H13]
    swap; · iexact H13
    ipureintro; exact hx
  isplitl [H14]; · iexists _; iexact H14
  isplitl [H15]; · iexists _; iexact H15
  isplitl [H16]; · iexists _; iexact H16
  isplitl [H17]
  · iexists _; isplitr [H17]
    swap; · iexact H17
    ipureintro; exact Words.cast hL31 (by decide)
  isplitl [H18]; · iexists _; iexact H18
  isplitl [H19]
  · iexists _; isplitr [H19]
    swap; · iexact H19
    ipureintro; exact Words.cast hL33 (by decide)
  isplitl [H20]; · iexists _; iexact H20
  isplitl [H21]; · iexists _; iexact H21
  isplitl [H22]; · iexists _; iexact H22
  isplitl [H23]
  · iexists _; isplitr [H23]
    swap; · iexact H23
    ipureintro; exact Scales.cast hL35 (by decide)
  isplitl [H24]; · iexists _; iexact H24
  isplitl [H25]
  · iexists _; isplitr [H25]
    swap; · iexact H25
    ipureintro; exact Scales.cast hL37 (by decide)
  isplitl [H26]; · iexists _; iexact H26
  isplitl [H27]
  · iexists _; isplitr [H27]
    swap; · iexact H27
    ipureintro; exact Scales.cast hL39 (by decide)
  isplitl [H28]; · iexists _; iexact H28
  isplitl [H29]
  · iexists _; isplitr [H29]
    swap; · iexact H29
    ipureintro; exact Scales.cast hL41 (by decide)
  isplitl [H30]; · iexists _; iexact H30
  isplitl [H31]; · iexists _; iexact H31
  isplitl [H32]; · iexists _; iexact H32
  isplitl [H33]; · iexists _; iexact H33
  iexists _; iexact H34

end Cert.Proof.KernelIdeal.Values
-- ==== Proof.KernelIdeal.EvenSums.lean ====
/-
The even half of an inner step: the next block's tables, and the sums of the even one.
-/
module

public import proofs.«01_k».proof.Proof.KernelIdeal.UnitSum

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

theorem off52 (a : Fin k0_t15_loop.trips) (k : Fin k0_t16_loop.trips) : k0_off52 a k = ![512, 128 * (8 * a.val + k.val)] := by revert a k; decide +kernel
theorem off53 (a : Fin k0_t15_loop.trips) (k : Fin k0_t16_loop.trips) : k0_off53 a k = ![128 * (8 * a.val + k.val), 0] := by revert a k; decide +kernel
theorem off54 (k : Fin k0_t16_loop.trips) : k0_off54 k = ![512 + k.val / 2, 0] := by revert k; decide +kernel
theorem off56 (k : Fin k0_t16_loop.trips) : k0_off56 k = ![512 + k.val / 2, 0] := by revert k; decide +kernel
theorem off63_0 (a : Fin k0_t15_loop.trips) (k : Fin k0_t16_loop.trips) : k0_off63 a k 0#32 = ![0, 256 * (2 * (2 * (8 * a.val + k.val)) + 0)] := by revert a k; decide +kernel
theorem off61_0 (a : Fin k0_t15_loop.trips) (k : Fin k0_t16_loop.trips) : k0_off61 a k 0#32 = ![32 * (2 * (2 * (8 * a.val + k.val)) + 0), 0] := by revert a k; decide +kernel
theorem off62_0_0 (a : Fin k0_t15_loop.trips) (k : Fin k0_t16_loop.trips) : k0_off62 a k 0#32 0#32 = ![16 * (2 * (2 * (8 * a.val + k.val)) + 0), 0] := by revert a k; decide +kernel
theorem off62_0_8 (a : Fin k0_t15_loop.trips) (k : Fin k0_t16_loop.trips) : k0_off62 a k 0#32 8#32 = ![16 * (2 * (2 * (8 * a.val + k.val)) + 0) + 8, 0] := by revert a k; decide +kernel
theorem off63_1 (a : Fin k0_t15_loop.trips) (k : Fin k0_t16_loop.trips) : k0_off63 a k 1#32 = ![0, 256 * (2 * (2 * (8 * a.val + k.val)) + 1)] := by revert a k; decide +kernel
theorem off61_1 (a : Fin k0_t15_loop.trips) (k : Fin k0_t16_loop.trips) : k0_off61 a k 1#32 = ![32 * (2 * (2 * (8 * a.val + k.val)) + 1), 0] := by revert a k; decide +kernel
theorem off62_1_0 (a : Fin k0_t15_loop.trips) (k : Fin k0_t16_loop.trips) : k0_off62 a k 1#32 0#32 = ![16 * (2 * (2 * (8 * a.val + k.val)) + 1), 0] := by revert a k; decide +kernel
theorem off62_1_8 (a : Fin k0_t15_loop.trips) (k : Fin k0_t16_loop.trips) : k0_off62 a k 1#32 8#32 = ![16 * (2 * (2 * (8 * a.val + k.val)) + 1) + 8, 0] := by revert a k; decide +kernel
theorem off63_2 (a : Fin k0_t15_loop.trips) (k : Fin k0_t16_loop.trips) : k0_off63 a k 2#32 = ![0, 256 * (2 * (2 * (8 * a.val + k.val) + 1) + 0)] := by revert a k; decide +kernel
theorem off61_2 (a : Fin k0_t15_loop.trips) (k : Fin k0_t16_loop.trips) : k0_off61 a k 2#32 = ![32 * (2 * (2 * (8 * a.val + k.val) + 1) + 0), 0] := by revert a k; decide +kernel
theorem off62_2_0 (a : Fin k0_t15_loop.trips) (k : Fin k0_t16_loop.trips) : k0_off62 a k 2#32 0#32 = ![16 * (2 * (2 * (8 * a.val + k.val) + 1) + 0), 0] := by revert a k; decide +kernel
theorem off62_2_8 (a : Fin k0_t15_loop.trips) (k : Fin k0_t16_loop.trips) : k0_off62 a k 2#32 8#32 = ![16 * (2 * (2 * (8 * a.val + k.val) + 1) + 0) + 8, 0] := by revert a k; decide +kernel
theorem off63_3 (a : Fin k0_t15_loop.trips) (k : Fin k0_t16_loop.trips) : k0_off63 a k 3#32 = ![0, 256 * (2 * (2 * (8 * a.val + k.val) + 1) + 1)] := by revert a k; decide +kernel
theorem off61_3 (a : Fin k0_t15_loop.trips) (k : Fin k0_t16_loop.trips) : k0_off61 a k 3#32 = ![32 * (2 * (2 * (8 * a.val + k.val) + 1) + 1), 0] := by revert a k; decide +kernel
theorem off62_3_0 (a : Fin k0_t15_loop.trips) (k : Fin k0_t16_loop.trips) : k0_off62 a k 3#32 0#32 = ![16 * (2 * (2 * (8 * a.val + k.val) + 1) + 1), 0] := by revert a k; decide +kernel
theorem off62_3_8 (a : Fin k0_t15_loop.trips) (k : Fin k0_t16_loop.trips) : k0_off62 a k 3#32 8#32 = ![16 * (2 * (2 * (8 * a.val + k.val) + 1) + 1) + 8, 0] := by revert a k; decide +kernel
theorem no_up16 (a : Fin k0_t15_loop.trips) (k : Fin k0_t16_loop.trips) (h : k0_cond13 a k = 1#1) : ¬ k0_cond14 a k = 1#1 := by revert h; revert a k; decide +kernel
theorem no_down16 (a : Fin k0_t15_loop.trips) (k : Fin k0_t16_loop.trips) (h : k0_cond13 a k = 1#1) : ¬ k0_cond15 k = 1#1 := by revert h; revert a k; decide +kernel
theorem no_down'16 (a : Fin k0_t15_loop.trips) (k : Fin k0_t16_loop.trips) (h : k0_cond14 a k = 1#1) : ¬ k0_cond15 k = 1#1 := by revert h; revert a k; decide +kernel
theorem rows_gate16 (a : Fin k0_t15_loop.trips) (k : Fin k0_t16_loop.trips) (h : k0_cond13 a k = 1#1) :
    gateRows a.val k.val = k.val / 2 ∧ k.val / 2 < 4 ∧ k.val / 2 + 1 = gateRows a.val (k.val + 1) ∧ upRows a.val k.val = upRows a.val (k.val + 1) := by
  revert h; revert a k; decide +kernel
theorem rows_up16 (a : Fin k0_t15_loop.trips) (k : Fin k0_t16_loop.trips) (h : k0_cond14 a k = 1#1) :
    upRows a.val k.val = k.val / 2 ∧ k.val / 2 < 4 ∧ k.val / 2 + 1 = upRows a.val (k.val + 1) ∧ gateRows a.val k.val = gateRows a.val (k.val + 1) := by
  revert h; revert a k; decide +kernel
theorem rows_none16 (a : Fin k0_t15_loop.trips) (k : Fin k0_t16_loop.trips) (h : ¬ k0_cond13 a k = 1#1) (h' : ¬ k0_cond14 a k = 1#1) : upRows a.val k.val = upRows a.val (k.val + 1) ∧ gateRows a.val k.val = gateRows a.val (k.val + 1) := by
  revert h h'; revert a k; decide +kernel
theorem rows_next16 (a : Fin k0_t15_loop.trips) : gateRows a.val k0_t16_loop.trips = gateRows (a.val + 1) 0 ∧ upRows a.val k0_t16_loop.trips = upRows (a.val + 1) 0
    ∧ 128 * (8 * a.val + k0_t16_loop.trips) = 128 * (8 * (a.val + 1) + 0) ∧ 8 * a.val + k0_t16_loop.trips = 8 * (a.val + 1) := by
  revert a; decide +kernel

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- The even half's down scales of a tile. -/
@[sl_loop] def inv17 (k0_h12 : k0_cond12 i = 1#1) (k0_t15 : Fin k0_t15_loop.trips) (k0_t16 : Fin k0_t16_loop.trips) (arg36_r0 : BitVec 32) (v75_r0 : BitVec 32) (v112_r0 : BitVec 32) (k0_h15 : k0_cond15 k0_t16 = 1#1) (v1067_r0 : BitVec 32) (v1068_r0 : IVec S8x128 32) :
    LoopInvTy_k0_t17 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h12 k0_t15 k0_t16 arg36_r0 v75_r0 v112_r0 k0_h15 v1067_r0 v1068_r0 where
  inv := fun _ _ => iprop(any c arg8 ∗ any c arg30 ∗ any c arg32)
  step k _ := by
    unfold k0_t17_body
    iintro ⟨⟨%f8, H8⟩, ⟨%f30, H30⟩, ⟨%f32, H32⟩⟩
    sl_exec
    sl_step
    sl_close

set_option maxHeartbeats 4000000 in
/-- The even half of an inner step, by tiles of a chunk. -/
@[sl_loop] def inv16 (k0_h12 : k0_cond12 i = 1#1) (k0_t15 : Fin k0_t15_loop.trips) (arg35_r0 : BitVec 32) (init : Mxu F) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ))) (g13 : Buf (Elt F) (arg13.view.loc (c : Thread nD τ))) (g16 : Buf (Elt F) (arg16.view.loc (c : Thread nD τ))) (g18 : Buf (Elt F) (arg18.view.loc (c : Thread nD τ))) (g22 : Buf (Elt F) (arg22.view.loc (c : Thread nD τ))) (g24 : Buf (Elt F) (arg24.view.loc (c : Thread nD τ))) (g26 : Buf (Elt F) (arg26.view.loc (c : Thread nD τ))) (g28 : Buf (Elt F) (arg28.view.loc (c : Thread nD τ))) :
    LoopInvTy_k0_t16 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h12 k0_t15 arg35_r0 init where
  inv := fun k s => iprop(⌜SumsAt (passes (pick (arg13.view.read (Elt F) g13)) (pick (arg16.view.read (Elt F) g16)) (pick (arg22.view.read (Elt F) g22)) (pick (arg24.view.read (Elt F) g24)) (pick (arg18.view.read (Elt F) g18)) (pick (arg26.view.read (Elt F) g26)) (pick (arg28.view.read (Elt F) g28)) 0) (passes (pick (arg13.view.read (Elt F) g13)) (pick (arg16.view.read (Elt F) g16)) (pick (arg22.view.read (Elt F) g22)) (pick (arg24.view.read (Elt F) g24)) (pick (arg18.view.read (Elt F) g18)) (pick (arg26.view.read (Elt F) g26)) (pick (arg28.view.read (Elt F) g28)) 1) 128 s (8 * k0_t15.val + k)⌝ ∗ ((arg2.view.loc (c : Thread nD τ)) ↦[arg2.view.set]{fullShare} g2) ∗ ((arg3.view.loc (c : Thread nD τ)) ↦[arg3.view.set]{fullShare} g3) ∗ ((arg6.view.loc (c : Thread nD τ)) ↦[arg6.view.set]{fullShare} g6) ∗ ((arg7.view.loc (c : Thread nD τ)) ↦[arg7.view.set]{fullShare} g7) ∗ ((arg13.view.loc (c : Thread nD τ)) ↦[arg13.view.set]{fullShare} g13) ∗ ((arg16.view.loc (c : Thread nD τ)) ↦[arg16.view.set]{fullShare} g16) ∗ ((arg18.view.loc (c : Thread nD τ)) ↦[arg18.view.set]{fullShare} g18) ∗ ((arg22.view.loc (c : Thread nD τ)) ↦[arg22.view.set]{fullShare} g22) ∗ ((arg24.view.loc (c : Thread nD τ)) ↦[arg24.view.set]{fullShare} g24) ∗ ((arg26.view.loc (c : Thread nD τ)) ↦[arg26.view.set]{fullShare} g26) ∗ ((arg28.view.loc (c : Thread nD τ)) ↦[arg28.view.set]{fullShare} g28) ∗ (∃ f : Buf (Elt F) (arg17.view.loc (c : Thread nD τ)), ⌜Words F (pick (arg2.view.read (Elt F) g2)) 512 (128 * (8 * k0_t15.val + k)) (arg17.view.read (Elt F) f)⌝ ∗ ((arg17.view.loc (c : Thread nD τ)) ↦[arg17.view.set]{fullShare} f)) ∗ (∃ f : Buf (Elt F) (arg19.view.loc (c : Thread nD τ)), ⌜Words F (pick (arg3.view.read (Elt F) g3)) 512 (128 * (8 * k0_t15.val + k)) (arg19.view.read (Elt F) f)⌝ ∗ ((arg19.view.loc (c : Thread nD τ)) ↦[arg19.view.set]{fullShare} f)) ∗ (∃ f : Buf (Elt F) (arg23.view.loc (c : Thread nD τ)), ⌜Scales termA (pick (arg6.view.read (Elt F) g6)) 512 (gateRows k0_t15.val k) (arg23.view.read (Elt F) f)⌝ ∗ ((arg23.view.loc (c : Thread nD τ)) ↦[arg23.view.set]{fullShare} f)) ∗ (∃ f : Buf (Elt F) (arg25.view.loc (c : Thread nD τ)), ⌜Scales termB (pick (arg6.view.read (Elt F) g6)) 512 (gateRows k0_t15.val k) (arg25.view.read (Elt F) f)⌝ ∗ ((arg25.view.loc (c : Thread nD τ)) ↦[arg25.view.set]{fullShare} f)) ∗ (∃ f : Buf (Elt F) (arg27.view.loc (c : Thread nD τ)), ⌜Scales termA (pick (arg7.view.read (Elt F) g7)) 512 (upRows k0_t15.val k) (arg27.view.read (Elt F) f)⌝ ∗ ((arg27.view.loc (c : Thread nD τ)) ↦[arg27.view.set]{fullShare} f)) ∗ (∃ f : Buf (Elt F) (arg29.view.loc (c : Thread nD τ)), ⌜Scales termB (pick (arg7.view.read (Elt F) g7)) 512 (upRows k0_t15.val k) (arg29.view.read (Elt F) f)⌝ ∗ ((arg29.view.loc (c : Thread nD τ)) ↦[arg29.view.set]{fullShare} f)) ∗ any c arg4 ∗ any c arg8 ∗ any c arg15 ∗ any c arg20 ∗ any c arg21 ∗ any c arg30 ∗ any c arg31 ∗ any c arg32 ∗ any c arg33)
  step k s := by
    unfold k0_t16_body
    iintro ⟨%hs, H2, H3, H6, H7, H13, H16, H18, H22, H24, H26, H28, ⟨%f17, %h17, H17⟩, ⟨%f19, %h19, H19⟩, ⟨%f23, %h23, H23⟩, ⟨%f25, %h25, H25⟩, ⟨%f27, %h27, H27⟩, ⟨%f29, %h29, H29⟩, ⟨%f4, H4⟩, ⟨%f8, H8⟩, ⟨%f15, H15⟩, ⟨%f20, H20⟩, ⟨%f21, H21⟩, ⟨%f30, H30⟩, ⟨%f31, H31⟩, ⟨%f32, H32⟩, ⟨%f33, H33⟩⟩
    have hq := SumsAt.sums hs (by decide)
    have p00 := hq.1.ok 0 0
    have p01 := hq.1.ok 0 1
    have p10 := hq.1.ok 1 0
    have p11 := hq.1.ok 1 1
    by_cases q0 : k0_cond13 k0_t15 k = 1#1
    · have q1 := no_up16 _ _ q0
      have q2 := no_down16 _ _ q0
      have e := rows_gate16 k0_t15 k q0
      sl_exec (disch := (mxu_pushok_peel <;> assumption))
      sl_step
      isplitr
      · ipureintro
        refine Sums.next (n := 8 * k0_t15.val + k.val) (Sums.down (Sums.down (Sums.gu1 (Sums.gu0 (Sums.gu1 (Sums.gu0 hq _ _ (by decide) _ _ ?_) _ _ (by decide) _ _ ?_) _ _ (by decide) _ _ ?_) _ _ (by decide) _ _ ?_) _ _ _ (by decide) _ _) _ _ _ (by decide) _ _)
        · exact pass_load arg13 g13 arg16 arg18 g16 g18 arg22 arg24 arg26 arg28 g22 g24 g26 g28 _ _ _ _ _ _ _ _ _ (off63_0 _ _) (off61_0 _ _) (off62_0_0 _ _) (off62_0_8 _ _) _ _ rfl rfl
        · exact pass_load arg13 g13 arg16 arg18 g16 g18 arg22 arg24 arg26 arg28 g22 g24 g26 g28 _ _ _ _ _ _ _ _ _ (off63_1 _ _) (off61_1 _ _) (off62_1_0 _ _) (off62_1_8 _ _) _ _ rfl rfl
        · exact pass_load arg13 g13 arg16 arg18 g16 g18 arg22 arg24 arg26 arg28 g22 g24 g26 g28 _ _ _ _ _ _ _ _ _ (off63_2 _ _) (off61_2 _ _) (off62_2_0 _ _) (off62_2_8 _ _) _ _ rfl rfl
        · exact pass_load arg13 g13 arg16 arg18 g16 g18 arg22 arg24 arg26 arg28 g22 g24 g26 g28 _ _ _ _ _ _ _ _ _ (off63_3 _ _) (off61_3 _ _) (off62_3_0 _ _) (off62_3_8 _ _) _ _ rfl rfl
      isplitl [H2]; · iexact H2
      isplitl [H3]; · iexact H3
      isplitl [H6]; · iexact H6
      isplitl [H7]; · iexact H7
      isplitl [H13]; · iexact H13
      isplitl [H16]; · iexact H16
      isplitl [H18]; · iexact H18
      isplitl [H22]; · iexact H22
      isplitl [H24]; · iexact H24
      isplitl [H26]; · iexact H26
      isplitl [H28]; · iexact H28
      isplitl [H17]
      · iexists _; isplitr [H17]
        swap; · iexact H17
        ipureintro; exact Words.store_load arg17 f17 arg2 g2 h17 _ _ (off53 _ _) _ _ (off52 _ _) _ rfl
      isplitl [H19]
      · iexists _; isplitr [H19]
        swap; · iexact H19
        ipureintro; exact Words.store_load arg19 f19 arg3 g3 h19 _ _ (off53 _ _) _ _ (off52 _ _) _ rfl
      isplitl [H23]
      · iexists _; isplitr [H23]
        swap; · iexact H23
        ipureintro; exact (Scales.store_load termA arg23 f23 arg6 g6 (h23.cast e.1) e.2.1 _ _ _ _ _ _ _ _ (off55_4 _) (off55_0 _) (off54 _) _ _ rfl rfl).cast e.2.2.1
      isplitl [H25]
      · iexists _; isplitr [H25]
        swap; · iexact H25
        ipureintro; exact (Scales.store_load termB arg25 f25 arg6 g6 (h25.cast e.1) e.2.1 _ _ _ _ _ _ _ _ (off55_4 _) (off55_0 _) (off54 _) _ _ rfl rfl).cast e.2.2.1
      isplitl [H27]
      · iexists _; isplitr [H27]
        swap; · iexact H27
        ipureintro; exact h27.cast e.2.2.2
      isplitl [H29]
      · iexists _; isplitr [H29]
        swap; · iexact H29
        ipureintro; exact h29.cast e.2.2.2
      sl_close
    · by_cases q1 : k0_cond14 k0_t15 k = 1#1
      · have q2 := no_down'16 _ _ q1
        have e := rows_up16 k0_t15 k q1
        sl_exec (disch := (mxu_pushok_peel <;> assumption))
        sl_step
        isplitr
        · ipureintro
          refine Sums.next (n := 8 * k0_t15.val + k.val) (Sums.down (Sums.down (Sums.gu1 (Sums.gu0 (Sums.gu1 (Sums.gu0 hq _ _ (by decide) _ _ ?_) _ _ (by decide) _ _ ?_) _ _ (by decide) _ _ ?_) _ _ (by decide) _ _ ?_) _ _ _ (by decide) _ _) _ _ _ (by decide) _ _)
          · exact pass_load arg13 g13 arg16 arg18 g16 g18 arg22 arg24 arg26 arg28 g22 g24 g26 g28 _ _ _ _ _ _ _ _ _ (off63_0 _ _) (off61_0 _ _) (off62_0_0 _ _) (off62_0_8 _ _) _ _ rfl rfl
          · exact pass_load arg13 g13 arg16 arg18 g16 g18 arg22 arg24 arg26 arg28 g22 g24 g26 g28 _ _ _ _ _ _ _ _ _ (off63_1 _ _) (off61_1 _ _) (off62_1_0 _ _) (off62_1_8 _ _) _ _ rfl rfl
          · exact pass_load arg13 g13 arg16 arg18 g16 g18 arg22 arg24 arg26 arg28 g22 g24 g26 g28 _ _ _ _ _ _ _ _ _ (off63_2 _ _) (off61_2 _ _) (off62_2_0 _ _) (off62_2_8 _ _) _ _ rfl rfl
          · exact pass_load arg13 g13 arg16 arg18 g16 g18 arg22 arg24 arg26 arg28 g22 g24 g26 g28 _ _ _ _ _ _ _ _ _ (off63_3 _ _) (off61_3 _ _) (off62_3_0 _ _) (off62_3_8 _ _) _ _ rfl rfl
        isplitl [H2]; · iexact H2
        isplitl [H3]; · iexact H3
        isplitl [H6]; · iexact H6
        isplitl [H7]; · iexact H7
        isplitl [H13]; · iexact H13
        isplitl [H16]; · iexact H16
        isplitl [H18]; · iexact H18
        isplitl [H22]; · iexact H22
        isplitl [H24]; · iexact H24
        isplitl [H26]; · iexact H26
        isplitl [H28]; · iexact H28
        isplitl [H17]
        · iexists _; isplitr [H17]
          swap; · iexact H17
          ipureintro; exact Words.store_load arg17 f17 arg2 g2 h17 _ _ (off53 _ _) _ _ (off52 _ _) _ rfl
        isplitl [H19]
        · iexists _; isplitr [H19]
          swap; · iexact H19
          ipureintro; exact Words.store_load arg19 f19 arg3 g3 h19 _ _ (off53 _ _) _ _ (off52 _ _) _ rfl
        isplitl [H23]
        · iexists _; isplitr [H23]
          swap; · iexact H23
          ipureintro; exact h23.cast e.2.2.2
        isplitl [H25]
        · iexists _; isplitr [H25]
          swap; · iexact H25
          ipureintro; exact h25.cast e.2.2.2
        isplitl [H27]
        · iexists _; isplitr [H27]
          swap; · iexact H27
          ipureintro; exact (Scales.store_load termA arg27 f27 arg7 g7 (h27.cast e.1) e.2.1 _ _ _ _ _ _ _ _ (off57_4 _) (off57_0 _) (off56 _) _ _ rfl rfl).cast e.2.2.1
        isplitl [H29]
        · iexists _; isplitr [H29]
          swap; · iexact H29
          ipureintro; exact (Scales.store_load termB arg29 f29 arg7 g7 (h29.cast e.1) e.2.1 _ _ _ _ _ _ _ _ (off57_4 _) (off57_0 _) (off56 _) _ _ rfl rfl).cast e.2.2.1
        sl_close
      · have e := rows_none16 k0_t15 k q0 q1
        by_cases q2 : k0_cond15 k = 1#1
        · skip
          sl_exec (disch := (mxu_pushok_peel <;> assumption))
          sl_step
          isplitr
          · ipureintro
            refine Sums.next (n := 8 * k0_t15.val + k.val) (Sums.down (Sums.down (Sums.gu1 (Sums.gu0 (Sums.gu1 (Sums.gu0 hq _ _ (by decide) _ _ ?_) _ _ (by decide) _ _ ?_) _ _ (by decide) _ _ ?_) _ _ (by decide) _ _ ?_) _ _ _ (by decide) _ _) _ _ _ (by decide) _ _)
            · exact pass_load arg13 g13 arg16 arg18 g16 g18 arg22 arg24 arg26 arg28 g22 g24 g26 g28 _ _ _ _ _ _ _ _ _ (off63_0 _ _) (off61_0 _ _) (off62_0_0 _ _) (off62_0_8 _ _) _ _ rfl rfl
            · exact pass_load arg13 g13 arg16 arg18 g16 g18 arg22 arg24 arg26 arg28 g22 g24 g26 g28 _ _ _ _ _ _ _ _ _ (off63_1 _ _) (off61_1 _ _) (off62_1_0 _ _) (off62_1_8 _ _) _ _ rfl rfl
            · exact pass_load arg13 g13 arg16 arg18 g16 g18 arg22 arg24 arg26 arg28 g22 g24 g26 g28 _ _ _ _ _ _ _ _ _ (off63_2 _ _) (off61_2 _ _) (off62_2_0 _ _) (off62_2_8 _ _) _ _ rfl rfl
            · exact pass_load arg13 g13 arg16 arg18 g16 g18 arg22 arg24 arg26 arg28 g22 g24 g26 g28 _ _ _ _ _ _ _ _ _ (off63_3 _ _) (off61_3 _ _) (off62_3_0 _ _) (off62_3_8 _ _) _ _ rfl rfl
          isplitl [H2]; · iexact H2
          isplitl [H3]; · iexact H3
          isplitl [H6]; · iexact H6
          isplitl [H7]; · iexact H7
          isplitl [H13]; · iexact H13
          isplitl [H16]; · iexact H16
          isplitl [H18]; · iexact H18
          isplitl [H22]; · iexact H22
          isplitl [H24]; · iexact H24
          isplitl [H26]; · iexact H26
          isplitl [H28]; · iexact H28
          isplitl [H17]
          · iexists _; isplitr [H17]
            swap; · iexact H17
            ipureintro; exact Words.store_load arg17 f17 arg2 g2 h17 _ _ (off53 _ _) _ _ (off52 _ _) _ rfl
          isplitl [H19]
          · iexists _; isplitr [H19]
            swap; · iexact H19
            ipureintro; exact Words.store_load arg19 f19 arg3 g3 h19 _ _ (off53 _ _) _ _ (off52 _ _) _ rfl
          isplitl [H23]
          · iexists _; isplitr [H23]
            swap; · iexact H23
            ipureintro; exact h23.cast e.2
          isplitl [H25]
          · iexists _; isplitr [H25]
            swap; · iexact H25
            ipureintro; exact h25.cast e.2
          isplitl [H27]
          · iexists _; isplitr [H27]
            swap; · iexact H27
            ipureintro; exact h27.cast e.1
          isplitl [H29]
          · iexists _; isplitr [H29]
            swap; · iexact H29
            ipureintro; exact h29.cast e.1
          sl_close
        · skip
          sl_exec (disch := (mxu_pushok_peel <;> assumption))
          sl_step
          isplitr
          · ipureintro
            refine Sums.next (n := 8 * k0_t15.val + k.val) (Sums.down (Sums.down (Sums.gu1 (Sums.gu0 (Sums.gu1 (Sums.gu0 hq _ _ (by decide) _ _ ?_) _ _ (by decide) _ _ ?_) _ _ (by decide) _ _ ?_) _ _ (by decide) _ _ ?_) _ _ _ (by decide) _ _) _ _ _ (by decide) _ _)
            · exact pass_load arg13 g13 arg16 arg18 g16 g18 arg22 arg24 arg26 arg28 g22 g24 g26 g28 _ _ _ _ _ _ _ _ _ (off63_0 _ _) (off61_0 _ _) (off62_0_0 _ _) (off62_0_8 _ _) _ _ rfl rfl
            · exact pass_load arg13 g13 arg16 arg18 g16 g18 arg22 arg24 arg26 arg28 g22 g24 g26 g28 _ _ _ _ _ _ _ _ _ (off63_1 _ _) (off61_1 _ _) (off62_1_0 _ _) (off62_1_8 _ _) _ _ rfl rfl
            · exact pass_load arg13 g13 arg16 arg18 g16 g18 arg22 arg24 arg26 arg28 g22 g24 g26 g28 _ _ _ _ _ _ _ _ _ (off63_2 _ _) (off61_2 _ _) (off62_2_0 _ _) (off62_2_8 _ _) _ _ rfl rfl
            · exact pass_load arg13 g13 arg16 arg18 g16 g18 arg22 arg24 arg26 arg28 g22 g24 g26 g28 _ _ _ _ _ _ _ _ _ (off63_3 _ _) (off61_3 _ _) (off62_3_0 _ _) (off62_3_8 _ _) _ _ rfl rfl
          isplitl [H2]; · iexact H2
          isplitl [H3]; · iexact H3
          isplitl [H6]; · iexact H6
          isplitl [H7]; · iexact H7
          isplitl [H13]; · iexact H13
          isplitl [H16]; · iexact H16
          isplitl [H18]; · iexact H18
          isplitl [H22]; · iexact H22
          isplitl [H24]; · iexact H24
          isplitl [H26]; · iexact H26
          isplitl [H28]; · iexact H28
          isplitl [H17]
          · iexists _; isplitr [H17]
            swap; · iexact H17
            ipureintro; exact Words.store_load arg17 f17 arg2 g2 h17 _ _ (off53 _ _) _ _ (off52 _ _) _ rfl
          isplitl [H19]
          · iexists _; isplitr [H19]
            swap; · iexact H19
            ipureintro; exact Words.store_load arg19 f19 arg3 g3 h19 _ _ (off53 _ _) _ _ (off52 _ _) _ rfl
          isplitl [H23]
          · iexists _; isplitr [H23]
            swap; · iexact H23
            ipureintro; exact h23.cast e.2
          isplitl [H25]
          · iexists _; isplitr [H25]
            swap; · iexact H25
            ipureintro; exact h25.cast e.2
          isplitl [H27]
          · iexists _; isplitr [H27]
            swap; · iexact H27
            ipureintro; exact h27.cast e.1
          isplitl [H29]
          · iexists _; isplitr [H29]
            swap; · iexact H29
            ipureintro; exact h29.cast e.1
          sl_close

set_option maxHeartbeats 4000000 in
/-- The even half of an inner step, by chunks. -/
@[sl_loop] def inv15 (k0_h12 : k0_cond12 i = 1#1) (init : Mxu F) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ))) (g13 : Buf (Elt F) (arg13.view.loc (c : Thread nD τ))) (g16 : Buf (Elt F) (arg16.view.loc (c : Thread nD τ))) (g18 : Buf (Elt F) (arg18.view.loc (c : Thread nD τ))) (g22 : Buf (Elt F) (arg22.view.loc (c : Thread nD τ))) (g24 : Buf (Elt F) (arg24.view.loc (c : Thread nD τ))) (g26 : Buf (Elt F) (arg26.view.loc (c : Thread nD τ))) (g28 : Buf (Elt F) (arg28.view.loc (c : Thread nD τ))) :
    LoopInvTy_k0_t15 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h12 init where
  inv := fun k s => iprop(⌜SumsAt (passes (pick (arg13.view.read (Elt F) g13)) (pick (arg16.view.read (Elt F) g16)) (pick (arg22.view.read (Elt F) g22)) (pick (arg24.view.read (Elt F) g24)) (pick (arg18.view.read (Elt F) g18)) (pick (arg26.view.read (Elt F) g26)) (pick (arg28.view.read (Elt F) g28)) 0) (passes (pick (arg13.view.read (Elt F) g13)) (pick (arg16.view.read (Elt F) g16)) (pick (arg22.view.read (Elt F) g22)) (pick (arg24.view.read (Elt F) g24)) (pick (arg18.view.read (Elt F) g18)) (pick (arg26.view.read (Elt F) g26)) (pick (arg28.view.read (Elt F) g28)) 1) 64 s (8 * k)⌝ ∗ ((arg2.view.loc (c : Thread nD τ)) ↦[arg2.view.set]{fullShare} g2) ∗ ((arg3.view.loc (c : Thread nD τ)) ↦[arg3.view.set]{fullShare} g3) ∗ ((arg6.view.loc (c : Thread nD τ)) ↦[arg6.view.set]{fullShare} g6) ∗ ((arg7.view.loc (c : Thread nD τ)) ↦[arg7.view.set]{fullShare} g7) ∗ ((arg13.view.loc (c : Thread nD τ)) ↦[arg13.view.set]{fullShare} g13) ∗ ((arg16.view.loc (c : Thread nD τ)) ↦[arg16.view.set]{fullShare} g16) ∗ ((arg18.view.loc (c : Thread nD τ)) ↦[arg18.view.set]{fullShare} g18) ∗ ((arg22.view.loc (c : Thread nD τ)) ↦[arg22.view.set]{fullShare} g22) ∗ ((arg24.view.loc (c : Thread nD τ)) ↦[arg24.view.set]{fullShare} g24) ∗ ((arg26.view.loc (c : Thread nD τ)) ↦[arg26.view.set]{fullShare} g26) ∗ ((arg28.view.loc (c : Thread nD τ)) ↦[arg28.view.set]{fullShare} g28) ∗ (∃ f : Buf (Elt F) (arg17.view.loc (c : Thread nD τ)), ⌜Words F (pick (arg2.view.read (Elt F) g2)) 512 (128 * (8 * k + 0)) (arg17.view.read (Elt F) f)⌝ ∗ ((arg17.view.loc (c : Thread nD τ)) ↦[arg17.view.set]{fullShare} f)) ∗ (∃ f : Buf (Elt F) (arg19.view.loc (c : Thread nD τ)), ⌜Words F (pick (arg3.view.read (Elt F) g3)) 512 (128 * (8 * k + 0)) (arg19.view.read (Elt F) f)⌝ ∗ ((arg19.view.loc (c : Thread nD τ)) ↦[arg19.view.set]{fullShare} f)) ∗ (∃ f : Buf (Elt F) (arg23.view.loc (c : Thread nD τ)), ⌜Scales termA (pick (arg6.view.read (Elt F) g6)) 512 (gateRows k 0) (arg23.view.read (Elt F) f)⌝ ∗ ((arg23.view.loc (c : Thread nD τ)) ↦[arg23.view.set]{fullShare} f)) ∗ (∃ f : Buf (Elt F) (arg25.view.loc (c : Thread nD τ)), ⌜Scales termB (pick (arg6.view.read (Elt F) g6)) 512 (gateRows k 0) (arg25.view.read (Elt F) f)⌝ ∗ ((arg25.view.loc (c : Thread nD τ)) ↦[arg25.view.set]{fullShare} f)) ∗ (∃ f : Buf (Elt F) (arg27.view.loc (c : Thread nD τ)), ⌜Scales termA (pick (arg7.view.read (Elt F) g7)) 512 (upRows k 0) (arg27.view.read (Elt F) f)⌝ ∗ ((arg27.view.loc (c : Thread nD τ)) ↦[arg27.view.set]{fullShare} f)) ∗ (∃ f : Buf (Elt F) (arg29.view.loc (c : Thread nD τ)), ⌜Scales termB (pick (arg7.view.read (Elt F) g7)) 512 (upRows k 0) (arg29.view.read (Elt F) f)⌝ ∗ ((arg29.view.loc (c : Thread nD τ)) ↦[arg29.view.set]{fullShare} f)) ∗ any c arg4 ∗ any c arg8 ∗ any c arg15 ∗ any c arg20 ∗ any c arg21 ∗ any c arg30 ∗ any c arg31 ∗ any c arg32 ∗ any c arg33 ∗ any c arg34)
  step k s := by
    unfold k0_t15_body
    iintro ⟨%hs, H2, H3, H6, H7, H13, H16, H18, H22, H24, H26, H28, ⟨%f17, %h17, H17⟩, ⟨%f19, %h19, H19⟩, ⟨%f23, %h23, H23⟩, ⟨%f25, %h25, H25⟩, ⟨%f27, %h27, H27⟩, ⟨%f29, %h29, H29⟩, ⟨%f4, H4⟩, ⟨%f8, H8⟩, ⟨%f15, H15⟩, ⟨%f20, H20⟩, ⟨%f21, H21⟩, ⟨%f30, H30⟩, ⟨%f31, H31⟩, ⟨%f32, H32⟩, ⟨%f33, H33⟩, ⟨%f34, H34⟩⟩
    have hw := SumsAt.widen hs
    sl_exec
    sl_step
    have hz : SumsAt (passes (pick (arg13.view.read (Elt F) g13)) (pick (arg16.view.read (Elt F) g16)) (pick (arg22.view.read (Elt F) g22)) (pick (arg24.view.read (Elt F) g24)) (pick (arg18.view.read (Elt F) g18)) (pick (arg26.view.read (Elt F) g26)) (pick (arg28.view.read (Elt F) g28)) 0) (passes (pick (arg13.view.read (Elt F) g13)) (pick (arg16.view.read (Elt F) g16)) (pick (arg22.view.read (Elt F) g22)) (pick (arg24.view.read (Elt F) g24)) (pick (arg18.view.read (Elt F) g18)) (pick (arg26.view.read (Elt F) g26)) (pick (arg28.view.read (Elt F) g28)) 1) 64 _ (8 * k.val + 7 + 1) := SumsAt.pop_hi (SumsAt.cast (by assumption) rfl) fits_16_64 fits_16_64
    isplitr
    · ipureintro; exact hz.cast (by omega)
    isplitl [H2]; · iexact H2
    isplitl [H3]; · iexact H3
    isplitl [H6]; · iexact H6
    isplitl [H7]; · iexact H7
    isplitl [H13]; · iexact H13
    isplitl [H16]; · iexact H16
    isplitl [H18]; · iexact H18
    isplitl [H22]; · iexact H22
    isplitl [H24]; · iexact H24
    isplitl [H26]; · iexact H26
    isplitl [H28]; · iexact H28
    isplitl [H17]
    · iexists _; isplitr [H17]
      swap; · iexact H17
      ipureintro; refine Words.cast ?_ (rows_next16 k).2.2.1; assumption
    isplitl [H19]
    · iexists _; isplitr [H19]
      swap; · iexact H19
      ipureintro; refine Words.cast ?_ (rows_next16 k).2.2.1; assumption
    isplitl [H23]
    · iexists _; isplitr [H23]
      swap; · iexact H23
      ipureintro; refine Scales.cast ?_ (rows_next16 k).1; assumption
    isplitl [H25]
    · iexists _; isplitr [H25]
      swap; · iexact H25
      ipureintro; refine Scales.cast ?_ (rows_next16 k).1; assumption
    isplitl [H27]
    · iexists _; isplitr [H27]
      swap; · iexact H27
      ipureintro; refine Scales.cast ?_ (rows_next16 k).2.1; assumption
    isplitl [H29]
    · iexists _; isplitr [H29]
      swap; · iexact H29
      ipureintro; refine Scales.cast ?_ (rows_next16 k).2.1; assumption
    sl_close

end Cert.Proof.KernelIdeal.Values
-- ==== Proof.KernelIdeal.OddSums.lean ====
/-
The odd half of a step: the even block's tables, and the sums of the odd one.
-/
module

public import proofs.«01_k».proof.Proof.KernelIdeal.UnitSum

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

theorem off12 (a : Fin k0_t5_loop.trips) (k : Fin k0_t6_loop.trips) : k0_off12 a k = ![0, 128 * (8 * a.val + k.val)] := by revert a k; decide +kernel
theorem off13 (a : Fin k0_t5_loop.trips) (k : Fin k0_t6_loop.trips) : k0_off13 a k = ![128 * (8 * a.val + k.val), 0] := by revert a k; decide +kernel
theorem off14 (k : Fin k0_t6_loop.trips) : k0_off14 k = ![0 + k.val / 2, 0] := by revert k; decide +kernel
theorem off16 (k : Fin k0_t6_loop.trips) : k0_off16 k = ![0 + k.val / 2, 0] := by revert k; decide +kernel
theorem off23_0 (a : Fin k0_t5_loop.trips) (k : Fin k0_t6_loop.trips) : k0_off23 a k 0#32 = ![0, 256 * (2 * (2 * (8 * a.val + k.val)) + 0)] := by revert a k; decide +kernel
theorem off21_0 (a : Fin k0_t5_loop.trips) (k : Fin k0_t6_loop.trips) : k0_off21 a k 0#32 = ![32 * (2 * (2 * (8 * a.val + k.val)) + 0), 0] := by revert a k; decide +kernel
theorem off22_0_0 (a : Fin k0_t5_loop.trips) (k : Fin k0_t6_loop.trips) : k0_off22 a k 0#32 0#32 = ![16 * (2 * (2 * (8 * a.val + k.val)) + 0), 0] := by revert a k; decide +kernel
theorem off22_0_8 (a : Fin k0_t5_loop.trips) (k : Fin k0_t6_loop.trips) : k0_off22 a k 0#32 8#32 = ![16 * (2 * (2 * (8 * a.val + k.val)) + 0) + 8, 0] := by revert a k; decide +kernel
theorem off23_1 (a : Fin k0_t5_loop.trips) (k : Fin k0_t6_loop.trips) : k0_off23 a k 1#32 = ![0, 256 * (2 * (2 * (8 * a.val + k.val)) + 1)] := by revert a k; decide +kernel
theorem off21_1 (a : Fin k0_t5_loop.trips) (k : Fin k0_t6_loop.trips) : k0_off21 a k 1#32 = ![32 * (2 * (2 * (8 * a.val + k.val)) + 1), 0] := by revert a k; decide +kernel
theorem off22_1_0 (a : Fin k0_t5_loop.trips) (k : Fin k0_t6_loop.trips) : k0_off22 a k 1#32 0#32 = ![16 * (2 * (2 * (8 * a.val + k.val)) + 1), 0] := by revert a k; decide +kernel
theorem off22_1_8 (a : Fin k0_t5_loop.trips) (k : Fin k0_t6_loop.trips) : k0_off22 a k 1#32 8#32 = ![16 * (2 * (2 * (8 * a.val + k.val)) + 1) + 8, 0] := by revert a k; decide +kernel
theorem off23_2 (a : Fin k0_t5_loop.trips) (k : Fin k0_t6_loop.trips) : k0_off23 a k 2#32 = ![0, 256 * (2 * (2 * (8 * a.val + k.val) + 1) + 0)] := by revert a k; decide +kernel
theorem off21_2 (a : Fin k0_t5_loop.trips) (k : Fin k0_t6_loop.trips) : k0_off21 a k 2#32 = ![32 * (2 * (2 * (8 * a.val + k.val) + 1) + 0), 0] := by revert a k; decide +kernel
theorem off22_2_0 (a : Fin k0_t5_loop.trips) (k : Fin k0_t6_loop.trips) : k0_off22 a k 2#32 0#32 = ![16 * (2 * (2 * (8 * a.val + k.val) + 1) + 0), 0] := by revert a k; decide +kernel
theorem off22_2_8 (a : Fin k0_t5_loop.trips) (k : Fin k0_t6_loop.trips) : k0_off22 a k 2#32 8#32 = ![16 * (2 * (2 * (8 * a.val + k.val) + 1) + 0) + 8, 0] := by revert a k; decide +kernel
theorem off23_3 (a : Fin k0_t5_loop.trips) (k : Fin k0_t6_loop.trips) : k0_off23 a k 3#32 = ![0, 256 * (2 * (2 * (8 * a.val + k.val) + 1) + 1)] := by revert a k; decide +kernel
theorem off21_3 (a : Fin k0_t5_loop.trips) (k : Fin k0_t6_loop.trips) : k0_off21 a k 3#32 = ![32 * (2 * (2 * (8 * a.val + k.val) + 1) + 1), 0] := by revert a k; decide +kernel
theorem off22_3_0 (a : Fin k0_t5_loop.trips) (k : Fin k0_t6_loop.trips) : k0_off22 a k 3#32 0#32 = ![16 * (2 * (2 * (8 * a.val + k.val) + 1) + 1), 0] := by revert a k; decide +kernel
theorem off22_3_8 (a : Fin k0_t5_loop.trips) (k : Fin k0_t6_loop.trips) : k0_off22 a k 3#32 8#32 = ![16 * (2 * (2 * (8 * a.val + k.val) + 1) + 1) + 8, 0] := by revert a k; decide +kernel
theorem no_up6 (a : Fin k0_t5_loop.trips) (k : Fin k0_t6_loop.trips) (h : k0_cond5 a k = 1#1) : ¬ k0_cond6 a k = 1#1 := by revert h; revert a k; decide +kernel
theorem no_down6 (a : Fin k0_t5_loop.trips) (k : Fin k0_t6_loop.trips) (h : k0_cond5 a k = 1#1) : ¬ k0_cond7 k = 1#1 := by revert h; revert a k; decide +kernel
theorem no_down'6 (a : Fin k0_t5_loop.trips) (k : Fin k0_t6_loop.trips) (h : k0_cond6 a k = 1#1) : ¬ k0_cond7 k = 1#1 := by revert h; revert a k; decide +kernel
theorem rows_gate6 (a : Fin k0_t5_loop.trips) (k : Fin k0_t6_loop.trips) (h : k0_cond5 a k = 1#1) :
    gateRows a.val k.val = k.val / 2 ∧ k.val / 2 < 4 ∧ k.val / 2 + 1 = gateRows a.val (k.val + 1) ∧ upRows a.val k.val = upRows a.val (k.val + 1) := by
  revert h; revert a k; decide +kernel
theorem rows_up6 (a : Fin k0_t5_loop.trips) (k : Fin k0_t6_loop.trips) (h : k0_cond6 a k = 1#1) :
    upRows a.val k.val = k.val / 2 ∧ k.val / 2 < 4 ∧ k.val / 2 + 1 = upRows a.val (k.val + 1) ∧ gateRows a.val k.val = gateRows a.val (k.val + 1) := by
  revert h; revert a k; decide +kernel
theorem rows_none6 (a : Fin k0_t5_loop.trips) (k : Fin k0_t6_loop.trips) (h : ¬ k0_cond5 a k = 1#1) (h' : ¬ k0_cond6 a k = 1#1) : upRows a.val k.val = upRows a.val (k.val + 1) ∧ gateRows a.val k.val = gateRows a.val (k.val + 1) := by
  revert h h'; revert a k; decide +kernel
theorem rows_next6 (a : Fin k0_t5_loop.trips) : gateRows a.val k0_t6_loop.trips = gateRows (a.val + 1) 0 ∧ upRows a.val k0_t6_loop.trips = upRows (a.val + 1) 0
    ∧ 128 * (8 * a.val + k0_t6_loop.trips) = 128 * (8 * (a.val + 1) + 0) ∧ 8 * a.val + k0_t6_loop.trips = 8 * (a.val + 1) := by
  revert a; decide +kernel

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

/-- The odd half's down scales of a tile. -/
@[sl_loop] def inv7 (k0_h4 : k0_cond4 i = 1#1) (k0_t5 : Fin k0_t5_loop.trips) (k0_t6 : Fin k0_t6_loop.trips) (arg36_r0 : BitVec 32) (v76_r0 : BitVec 32) (v113_r0 : BitVec 32) (k0_h7 : k0_cond7 k0_t6 = 1#1) (v1068_r0 : BitVec 32) (v1069_r0 : IVec S8x128 32) :
    LoopInvTy_k0_t7 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h4 k0_t5 k0_t6 arg36_r0 v76_r0 v113_r0 k0_h7 v1068_r0 v1069_r0 where
  inv := fun _ _ => iprop(any c arg9 ∗ any c arg31 ∗ any c arg33)
  step k _ := by
    unfold k0_t7_body
    iintro ⟨⟨%f9, H9⟩, ⟨%f31, H31⟩, ⟨%f33, H33⟩⟩
    sl_exec
    sl_step
    sl_close

set_option maxHeartbeats 4000000 in
/-- The odd half of an inner step, by tiles of a chunk. -/
@[sl_loop] def inv6 (k0_h4 : k0_cond4 i = 1#1) (k0_t5 : Fin k0_t5_loop.trips) (arg35_r0 : BitVec 32) (init : Mxu F) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ))) (g13 : Buf (Elt F) (arg13.view.loc (c : Thread nD τ))) (g17 : Buf (Elt F) (arg17.view.loc (c : Thread nD τ))) (g19 : Buf (Elt F) (arg19.view.loc (c : Thread nD τ))) (g23 : Buf (Elt F) (arg23.view.loc (c : Thread nD τ))) (g25 : Buf (Elt F) (arg25.view.loc (c : Thread nD τ))) (g27 : Buf (Elt F) (arg27.view.loc (c : Thread nD τ))) (g29 : Buf (Elt F) (arg29.view.loc (c : Thread nD τ))) :
    LoopInvTy_k0_t6 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h4 k0_t5 arg35_r0 init where
  inv := fun k s => iprop(⌜SumsAt (passes (pick (arg13.view.read (Elt F) g13)) (pick (arg17.view.read (Elt F) g17)) (pick (arg23.view.read (Elt F) g23)) (pick (arg25.view.read (Elt F) g25)) (pick (arg19.view.read (Elt F) g19)) (pick (arg27.view.read (Elt F) g27)) (pick (arg29.view.read (Elt F) g29)) 0) (passes (pick (arg13.view.read (Elt F) g13)) (pick (arg17.view.read (Elt F) g17)) (pick (arg23.view.read (Elt F) g23)) (pick (arg25.view.read (Elt F) g25)) (pick (arg19.view.read (Elt F) g19)) (pick (arg27.view.read (Elt F) g27)) (pick (arg29.view.read (Elt F) g29)) 1) 128 s (8 * k0_t5.val + k)⌝ ∗ ((arg2.view.loc (c : Thread nD τ)) ↦[arg2.view.set]{fullShare} g2) ∗ ((arg3.view.loc (c : Thread nD τ)) ↦[arg3.view.set]{fullShare} g3) ∗ ((arg6.view.loc (c : Thread nD τ)) ↦[arg6.view.set]{fullShare} g6) ∗ ((arg7.view.loc (c : Thread nD τ)) ↦[arg7.view.set]{fullShare} g7) ∗ ((arg13.view.loc (c : Thread nD τ)) ↦[arg13.view.set]{fullShare} g13) ∗ ((arg17.view.loc (c : Thread nD τ)) ↦[arg17.view.set]{fullShare} g17) ∗ ((arg19.view.loc (c : Thread nD τ)) ↦[arg19.view.set]{fullShare} g19) ∗ ((arg23.view.loc (c : Thread nD τ)) ↦[arg23.view.set]{fullShare} g23) ∗ ((arg25.view.loc (c : Thread nD τ)) ↦[arg25.view.set]{fullShare} g25) ∗ ((arg27.view.loc (c : Thread nD τ)) ↦[arg27.view.set]{fullShare} g27) ∗ ((arg29.view.loc (c : Thread nD τ)) ↦[arg29.view.set]{fullShare} g29) ∗ (∃ f : Buf (Elt F) (arg16.view.loc (c : Thread nD τ)), ⌜Words F (pick (arg2.view.read (Elt F) g2)) 0 (128 * (8 * k0_t5.val + k)) (arg16.view.read (Elt F) f)⌝ ∗ ((arg16.view.loc (c : Thread nD τ)) ↦[arg16.view.set]{fullShare} f)) ∗ (∃ f : Buf (Elt F) (arg18.view.loc (c : Thread nD τ)), ⌜Words F (pick (arg3.view.read (Elt F) g3)) 0 (128 * (8 * k0_t5.val + k)) (arg18.view.read (Elt F) f)⌝ ∗ ((arg18.view.loc (c : Thread nD τ)) ↦[arg18.view.set]{fullShare} f)) ∗ (∃ f : Buf (Elt F) (arg22.view.loc (c : Thread nD τ)), ⌜Scales termA (pick (arg6.view.read (Elt F) g6)) 0 (gateRows k0_t5.val k) (arg22.view.read (Elt F) f)⌝ ∗ ((arg22.view.loc (c : Thread nD τ)) ↦[arg22.view.set]{fullShare} f)) ∗ (∃ f : Buf (Elt F) (arg24.view.loc (c : Thread nD τ)), ⌜Scales termB (pick (arg6.view.read (Elt F) g6)) 0 (gateRows k0_t5.val k) (arg24.view.read (Elt F) f)⌝ ∗ ((arg24.view.loc (c : Thread nD τ)) ↦[arg24.view.set]{fullShare} f)) ∗ (∃ f : Buf (Elt F) (arg26.view.loc (c : Thread nD τ)), ⌜Scales termA (pick (arg7.view.read (Elt F) g7)) 0 (upRows k0_t5.val k) (arg26.view.read (Elt F) f)⌝ ∗ ((arg26.view.loc (c : Thread nD τ)) ↦[arg26.view.set]{fullShare} f)) ∗ (∃ f : Buf (Elt F) (arg28.view.loc (c : Thread nD τ)), ⌜Scales termB (pick (arg7.view.read (Elt F) g7)) 0 (upRows k0_t5.val k) (arg28.view.read (Elt F) f)⌝ ∗ ((arg28.view.loc (c : Thread nD τ)) ↦[arg28.view.set]{fullShare} f)) ∗ any c arg5 ∗ any c arg9 ∗ any c arg14 ∗ any c arg20 ∗ any c arg21 ∗ any c arg30 ∗ any c arg31 ∗ any c arg32 ∗ any c arg33)
  step k s := by
    unfold k0_t6_body
    iintro ⟨%hs, H2, H3, H6, H7, H13, H17, H19, H23, H25, H27, H29, ⟨%f16, %h16, H16⟩, ⟨%f18, %h18, H18⟩, ⟨%f22, %h22, H22⟩, ⟨%f24, %h24, H24⟩, ⟨%f26, %h26, H26⟩, ⟨%f28, %h28, H28⟩, ⟨%f5, H5⟩, ⟨%f9, H9⟩, ⟨%f14, H14⟩, ⟨%f20, H20⟩, ⟨%f21, H21⟩, ⟨%f30, H30⟩, ⟨%f31, H31⟩, ⟨%f32, H32⟩, ⟨%f33, H33⟩⟩
    have hq := SumsAt.sums hs (by decide)
    have p00 := hq.1.ok 0 0
    have p01 := hq.1.ok 0 1
    have p10 := hq.1.ok 1 0
    have p11 := hq.1.ok 1 1
    by_cases q0 : k0_cond5 k0_t5 k = 1#1
    · have q1 := no_up6 _ _ q0
      have q2 := no_down6 _ _ q0
      have e := rows_gate6 k0_t5 k q0
      sl_exec (disch := (mxu_pushok_peel <;> assumption))
      sl_step
      isplitr
      · ipureintro
        refine Sums.next (n := 8 * k0_t5.val + k.val) (Sums.down (Sums.down (Sums.gu1 (Sums.gu0 (Sums.gu1 (Sums.gu0 hq _ _ (by decide) _ _ ?_) _ _ (by decide) _ _ ?_) _ _ (by decide) _ _ ?_) _ _ (by decide) _ _ ?_) _ _ _ (by decide) _ _) _ _ _ (by decide) _ _)
        · exact pass_load arg13 g13 arg17 arg19 g17 g19 arg23 arg25 arg27 arg29 g23 g25 g27 g29 _ _ _ _ _ _ _ _ _ (off23_0 _ _) (off21_0 _ _) (off22_0_0 _ _) (off22_0_8 _ _) _ _ rfl rfl
        · exact pass_load arg13 g13 arg17 arg19 g17 g19 arg23 arg25 arg27 arg29 g23 g25 g27 g29 _ _ _ _ _ _ _ _ _ (off23_1 _ _) (off21_1 _ _) (off22_1_0 _ _) (off22_1_8 _ _) _ _ rfl rfl
        · exact pass_load arg13 g13 arg17 arg19 g17 g19 arg23 arg25 arg27 arg29 g23 g25 g27 g29 _ _ _ _ _ _ _ _ _ (off23_2 _ _) (off21_2 _ _) (off22_2_0 _ _) (off22_2_8 _ _) _ _ rfl rfl
        · exact pass_load arg13 g13 arg17 arg19 g17 g19 arg23 arg25 arg27 arg29 g23 g25 g27 g29 _ _ _ _ _ _ _ _ _ (off23_3 _ _) (off21_3 _ _) (off22_3_0 _ _) (off22_3_8 _ _) _ _ rfl rfl
      isplitl [H2]; · iexact H2
      isplitl [H3]; · iexact H3
      isplitl [H6]; · iexact H6
      isplitl [H7]; · iexact H7
      isplitl [H13]; · iexact H13
      isplitl [H17]; · iexact H17
      isplitl [H19]; · iexact H19
      isplitl [H23]; · iexact H23
      isplitl [H25]; · iexact H25
      isplitl [H27]; · iexact H27
      isplitl [H29]; · iexact H29
      isplitl [H16]
      · iexists _; isplitr [H16]
        swap; · iexact H16
        ipureintro; exact Words.store_load arg16 f16 arg2 g2 h16 _ _ (off13 _ _) _ _ (off12 _ _) _ rfl
      isplitl [H18]
      · iexists _; isplitr [H18]
        swap; · iexact H18
        ipureintro; exact Words.store_load arg18 f18 arg3 g3 h18 _ _ (off13 _ _) _ _ (off12 _ _) _ rfl
      isplitl [H22]
      · iexists _; isplitr [H22]
        swap; · iexact H22
        ipureintro; exact (Scales.store_load termA arg22 f22 arg6 g6 (h22.cast e.1) e.2.1 _ _ _ _ _ _ _ _ (off15_4 _) (off15_0 _) (off14 _) _ _ rfl rfl).cast e.2.2.1
      isplitl [H24]
      · iexists _; isplitr [H24]
        swap; · iexact H24
        ipureintro; exact (Scales.store_load termB arg24 f24 arg6 g6 (h24.cast e.1) e.2.1 _ _ _ _ _ _ _ _ (off15_4 _) (off15_0 _) (off14 _) _ _ rfl rfl).cast e.2.2.1
      isplitl [H26]
      · iexists _; isplitr [H26]
        swap; · iexact H26
        ipureintro; exact h26.cast e.2.2.2
      isplitl [H28]
      · iexists _; isplitr [H28]
        swap; · iexact H28
        ipureintro; exact h28.cast e.2.2.2
      sl_close
    · by_cases q1 : k0_cond6 k0_t5 k = 1#1
      · have q2 := no_down'6 _ _ q1
        have e := rows_up6 k0_t5 k q1
        sl_exec (disch := (mxu_pushok_peel <;> assumption))
        sl_step
        isplitr
        · ipureintro
          refine Sums.next (n := 8 * k0_t5.val + k.val) (Sums.down (Sums.down (Sums.gu1 (Sums.gu0 (Sums.gu1 (Sums.gu0 hq _ _ (by decide) _ _ ?_) _ _ (by decide) _ _ ?_) _ _ (by decide) _ _ ?_) _ _ (by decide) _ _ ?_) _ _ _ (by decide) _ _) _ _ _ (by decide) _ _)
          · exact pass_load arg13 g13 arg17 arg19 g17 g19 arg23 arg25 arg27 arg29 g23 g25 g27 g29 _ _ _ _ _ _ _ _ _ (off23_0 _ _) (off21_0 _ _) (off22_0_0 _ _) (off22_0_8 _ _) _ _ rfl rfl
          · exact pass_load arg13 g13 arg17 arg19 g17 g19 arg23 arg25 arg27 arg29 g23 g25 g27 g29 _ _ _ _ _ _ _ _ _ (off23_1 _ _) (off21_1 _ _) (off22_1_0 _ _) (off22_1_8 _ _) _ _ rfl rfl
          · exact pass_load arg13 g13 arg17 arg19 g17 g19 arg23 arg25 arg27 arg29 g23 g25 g27 g29 _ _ _ _ _ _ _ _ _ (off23_2 _ _) (off21_2 _ _) (off22_2_0 _ _) (off22_2_8 _ _) _ _ rfl rfl
          · exact pass_load arg13 g13 arg17 arg19 g17 g19 arg23 arg25 arg27 arg29 g23 g25 g27 g29 _ _ _ _ _ _ _ _ _ (off23_3 _ _) (off21_3 _ _) (off22_3_0 _ _) (off22_3_8 _ _) _ _ rfl rfl
        isplitl [H2]; · iexact H2
        isplitl [H3]; · iexact H3
        isplitl [H6]; · iexact H6
        isplitl [H7]; · iexact H7
        isplitl [H13]; · iexact H13
        isplitl [H17]; · iexact H17
        isplitl [H19]; · iexact H19
        isplitl [H23]; · iexact H23
        isplitl [H25]; · iexact H25
        isplitl [H27]; · iexact H27
        isplitl [H29]; · iexact H29
        isplitl [H16]
        · iexists _; isplitr [H16]
          swap; · iexact H16
          ipureintro; exact Words.store_load arg16 f16 arg2 g2 h16 _ _ (off13 _ _) _ _ (off12 _ _) _ rfl
        isplitl [H18]
        · iexists _; isplitr [H18]
          swap; · iexact H18
          ipureintro; exact Words.store_load arg18 f18 arg3 g3 h18 _ _ (off13 _ _) _ _ (off12 _ _) _ rfl
        isplitl [H22]
        · iexists _; isplitr [H22]
          swap; · iexact H22
          ipureintro; exact h22.cast e.2.2.2
        isplitl [H24]
        · iexists _; isplitr [H24]
          swap; · iexact H24
          ipureintro; exact h24.cast e.2.2.2
        isplitl [H26]
        · iexists _; isplitr [H26]
          swap; · iexact H26
          ipureintro; exact (Scales.store_load termA arg26 f26 arg7 g7 (h26.cast e.1) e.2.1 _ _ _ _ _ _ _ _ (off17_4 _) (off17_0 _) (off16 _) _ _ rfl rfl).cast e.2.2.1
        isplitl [H28]
        · iexists _; isplitr [H28]
          swap; · iexact H28
          ipureintro; exact (Scales.store_load termB arg28 f28 arg7 g7 (h28.cast e.1) e.2.1 _ _ _ _ _ _ _ _ (off17_4 _) (off17_0 _) (off16 _) _ _ rfl rfl).cast e.2.2.1
        sl_close
      · have e := rows_none6 k0_t5 k q0 q1
        by_cases q2 : k0_cond7 k = 1#1
        · skip
          sl_exec (disch := (mxu_pushok_peel <;> assumption))
          sl_step
          isplitr
          · ipureintro
            refine Sums.next (n := 8 * k0_t5.val + k.val) (Sums.down (Sums.down (Sums.gu1 (Sums.gu0 (Sums.gu1 (Sums.gu0 hq _ _ (by decide) _ _ ?_) _ _ (by decide) _ _ ?_) _ _ (by decide) _ _ ?_) _ _ (by decide) _ _ ?_) _ _ _ (by decide) _ _) _ _ _ (by decide) _ _)
            · exact pass_load arg13 g13 arg17 arg19 g17 g19 arg23 arg25 arg27 arg29 g23 g25 g27 g29 _ _ _ _ _ _ _ _ _ (off23_0 _ _) (off21_0 _ _) (off22_0_0 _ _) (off22_0_8 _ _) _ _ rfl rfl
            · exact pass_load arg13 g13 arg17 arg19 g17 g19 arg23 arg25 arg27 arg29 g23 g25 g27 g29 _ _ _ _ _ _ _ _ _ (off23_1 _ _) (off21_1 _ _) (off22_1_0 _ _) (off22_1_8 _ _) _ _ rfl rfl
            · exact pass_load arg13 g13 arg17 arg19 g17 g19 arg23 arg25 arg27 arg29 g23 g25 g27 g29 _ _ _ _ _ _ _ _ _ (off23_2 _ _) (off21_2 _ _) (off22_2_0 _ _) (off22_2_8 _ _) _ _ rfl rfl
            · exact pass_load arg13 g13 arg17 arg19 g17 g19 arg23 arg25 arg27 arg29 g23 g25 g27 g29 _ _ _ _ _ _ _ _ _ (off23_3 _ _) (off21_3 _ _) (off22_3_0 _ _) (off22_3_8 _ _) _ _ rfl rfl
          isplitl [H2]; · iexact H2
          isplitl [H3]; · iexact H3
          isplitl [H6]; · iexact H6
          isplitl [H7]; · iexact H7
          isplitl [H13]; · iexact H13
          isplitl [H17]; · iexact H17
          isplitl [H19]; · iexact H19
          isplitl [H23]; · iexact H23
          isplitl [H25]; · iexact H25
          isplitl [H27]; · iexact H27
          isplitl [H29]; · iexact H29
          isplitl [H16]
          · iexists _; isplitr [H16]
            swap; · iexact H16
            ipureintro; exact Words.store_load arg16 f16 arg2 g2 h16 _ _ (off13 _ _) _ _ (off12 _ _) _ rfl
          isplitl [H18]
          · iexists _; isplitr [H18]
            swap; · iexact H18
            ipureintro; exact Words.store_load arg18 f18 arg3 g3 h18 _ _ (off13 _ _) _ _ (off12 _ _) _ rfl
          isplitl [H22]
          · iexists _; isplitr [H22]
            swap; · iexact H22
            ipureintro; exact h22.cast e.2
          isplitl [H24]
          · iexists _; isplitr [H24]
            swap; · iexact H24
            ipureintro; exact h24.cast e.2
          isplitl [H26]
          · iexists _; isplitr [H26]
            swap; · iexact H26
            ipureintro; exact h26.cast e.1
          isplitl [H28]
          · iexists _; isplitr [H28]
            swap; · iexact H28
            ipureintro; exact h28.cast e.1
          sl_close
        · skip
          sl_exec (disch := (mxu_pushok_peel <;> assumption))
          sl_step
          isplitr
          · ipureintro
            refine Sums.next (n := 8 * k0_t5.val + k.val) (Sums.down (Sums.down (Sums.gu1 (Sums.gu0 (Sums.gu1 (Sums.gu0 hq _ _ (by decide) _ _ ?_) _ _ (by decide) _ _ ?_) _ _ (by decide) _ _ ?_) _ _ (by decide) _ _ ?_) _ _ _ (by decide) _ _) _ _ _ (by decide) _ _)
            · exact pass_load arg13 g13 arg17 arg19 g17 g19 arg23 arg25 arg27 arg29 g23 g25 g27 g29 _ _ _ _ _ _ _ _ _ (off23_0 _ _) (off21_0 _ _) (off22_0_0 _ _) (off22_0_8 _ _) _ _ rfl rfl
            · exact pass_load arg13 g13 arg17 arg19 g17 g19 arg23 arg25 arg27 arg29 g23 g25 g27 g29 _ _ _ _ _ _ _ _ _ (off23_1 _ _) (off21_1 _ _) (off22_1_0 _ _) (off22_1_8 _ _) _ _ rfl rfl
            · exact pass_load arg13 g13 arg17 arg19 g17 g19 arg23 arg25 arg27 arg29 g23 g25 g27 g29 _ _ _ _ _ _ _ _ _ (off23_2 _ _) (off21_2 _ _) (off22_2_0 _ _) (off22_2_8 _ _) _ _ rfl rfl
            · exact pass_load arg13 g13 arg17 arg19 g17 g19 arg23 arg25 arg27 arg29 g23 g25 g27 g29 _ _ _ _ _ _ _ _ _ (off23_3 _ _) (off21_3 _ _) (off22_3_0 _ _) (off22_3_8 _ _) _ _ rfl rfl
          isplitl [H2]; · iexact H2
          isplitl [H3]; · iexact H3
          isplitl [H6]; · iexact H6
          isplitl [H7]; · iexact H7
          isplitl [H13]; · iexact H13
          isplitl [H17]; · iexact H17
          isplitl [H19]; · iexact H19
          isplitl [H23]; · iexact H23
          isplitl [H25]; · iexact H25
          isplitl [H27]; · iexact H27
          isplitl [H29]; · iexact H29
          isplitl [H16]
          · iexists _; isplitr [H16]
            swap; · iexact H16
            ipureintro; exact Words.store_load arg16 f16 arg2 g2 h16 _ _ (off13 _ _) _ _ (off12 _ _) _ rfl
          isplitl [H18]
          · iexists _; isplitr [H18]
            swap; · iexact H18
            ipureintro; exact Words.store_load arg18 f18 arg3 g3 h18 _ _ (off13 _ _) _ _ (off12 _ _) _ rfl
          isplitl [H22]
          · iexists _; isplitr [H22]
            swap; · iexact H22
            ipureintro; exact h22.cast e.2
          isplitl [H24]
          · iexists _; isplitr [H24]
            swap; · iexact H24
            ipureintro; exact h24.cast e.2
          isplitl [H26]
          · iexists _; isplitr [H26]
            swap; · iexact H26
            ipureintro; exact h26.cast e.1
          isplitl [H28]
          · iexists _; isplitr [H28]
            swap; · iexact H28
            ipureintro; exact h28.cast e.1
          sl_close

set_option maxHeartbeats 4000000 in
/-- The odd half of an inner step, by chunks. -/
@[sl_loop] def inv5 (k0_h4 : k0_cond4 i = 1#1) (init : Mxu F) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ))) (g13 : Buf (Elt F) (arg13.view.loc (c : Thread nD τ))) (g17 : Buf (Elt F) (arg17.view.loc (c : Thread nD τ))) (g19 : Buf (Elt F) (arg19.view.loc (c : Thread nD τ))) (g23 : Buf (Elt F) (arg23.view.loc (c : Thread nD τ))) (g25 : Buf (Elt F) (arg25.view.loc (c : Thread nD τ))) (g27 : Buf (Elt F) (arg27.view.loc (c : Thread nD τ))) (g29 : Buf (Elt F) (arg29.view.loc (c : Thread nD τ))) :
    LoopInvTy_k0_t5 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 k0_h4 init where
  inv := fun k s => iprop(⌜SumsAt (passes (pick (arg13.view.read (Elt F) g13)) (pick (arg17.view.read (Elt F) g17)) (pick (arg23.view.read (Elt F) g23)) (pick (arg25.view.read (Elt F) g25)) (pick (arg19.view.read (Elt F) g19)) (pick (arg27.view.read (Elt F) g27)) (pick (arg29.view.read (Elt F) g29)) 0) (passes (pick (arg13.view.read (Elt F) g13)) (pick (arg17.view.read (Elt F) g17)) (pick (arg23.view.read (Elt F) g23)) (pick (arg25.view.read (Elt F) g25)) (pick (arg19.view.read (Elt F) g19)) (pick (arg27.view.read (Elt F) g27)) (pick (arg29.view.read (Elt F) g29)) 1) 64 s (8 * k)⌝ ∗ ⌜Parked 0 64 ((s.pop 0 0 64 fits_0_64).pop 1 0 64 fits_0_64)⌝ ∗ ⌜Parked 64 64 ((s.pop 0 0 64 fits_0_64).pop 1 0 64 fits_0_64)⌝ ∗ ((arg2.view.loc (c : Thread nD τ)) ↦[arg2.view.set]{fullShare} g2) ∗ ((arg3.view.loc (c : Thread nD τ)) ↦[arg3.view.set]{fullShare} g3) ∗ ((arg6.view.loc (c : Thread nD τ)) ↦[arg6.view.set]{fullShare} g6) ∗ ((arg7.view.loc (c : Thread nD τ)) ↦[arg7.view.set]{fullShare} g7) ∗ ((arg13.view.loc (c : Thread nD τ)) ↦[arg13.view.set]{fullShare} g13) ∗ ((arg17.view.loc (c : Thread nD τ)) ↦[arg17.view.set]{fullShare} g17) ∗ ((arg19.view.loc (c : Thread nD τ)) ↦[arg19.view.set]{fullShare} g19) ∗ ((arg23.view.loc (c : Thread nD τ)) ↦[arg23.view.set]{fullShare} g23) ∗ ((arg25.view.loc (c : Thread nD τ)) ↦[arg25.view.set]{fullShare} g25) ∗ ((arg27.view.loc (c : Thread nD τ)) ↦[arg27.view.set]{fullShare} g27) ∗ ((arg29.view.loc (c : Thread nD τ)) ↦[arg29.view.set]{fullShare} g29) ∗ (∃ f : Buf (Elt F) (arg16.view.loc (c : Thread nD τ)), ⌜Words F (pick (arg2.view.read (Elt F) g2)) 0 (128 * (8 * k + 0)) (arg16.view.read (Elt F) f)⌝ ∗ ((arg16.view.loc (c : Thread nD τ)) ↦[arg16.view.set]{fullShare} f)) ∗ (∃ f : Buf (Elt F) (arg18.view.loc (c : Thread nD τ)), ⌜Words F (pick (arg3.view.read (Elt F) g3)) 0 (128 * (8 * k + 0)) (arg18.view.read (Elt F) f)⌝ ∗ ((arg18.view.loc (c : Thread nD τ)) ↦[arg18.view.set]{fullShare} f)) ∗ (∃ f : Buf (Elt F) (arg22.view.loc (c : Thread nD τ)), ⌜Scales termA (pick (arg6.view.read (Elt F) g6)) 0 (gateRows k 0) (arg22.view.read (Elt F) f)⌝ ∗ ((arg22.view.loc (c : Thread nD τ)) ↦[arg22.view.set]{fullShare} f)) ∗ (∃ f : Buf (Elt F) (arg24.view.loc (c : Thread nD τ)), ⌜Scales termB (pick (arg6.view.read (Elt F) g6)) 0 (gateRows k 0) (arg24.view.read (Elt F) f)⌝ ∗ ((arg24.view.loc (c : Thread nD τ)) ↦[arg24.view.set]{fullShare} f)) ∗ (∃ f : Buf (Elt F) (arg26.view.loc (c : Thread nD τ)), ⌜Scales termA (pick (arg7.view.read (Elt F) g7)) 0 (upRows k 0) (arg26.view.read (Elt F) f)⌝ ∗ ((arg26.view.loc (c : Thread nD τ)) ↦[arg26.view.set]{fullShare} f)) ∗ (∃ f : Buf (Elt F) (arg28.view.loc (c : Thread nD τ)), ⌜Scales termB (pick (arg7.view.read (Elt F) g7)) 0 (upRows k 0) (arg28.view.read (Elt F) f)⌝ ∗ ((arg28.view.loc (c : Thread nD τ)) ↦[arg28.view.set]{fullShare} f)) ∗ any c arg5 ∗ any c arg9 ∗ any c arg14 ∗ any c arg20 ∗ any c arg21 ∗ any c arg30 ∗ any c arg31 ∗ any c arg32 ∗ any c arg33 ∗ any c arg34)
  step k s := by
    unfold k0_t5_body
    iintro ⟨%hs, -, -, H2, H3, H6, H7, H13, H17, H19, H23, H25, H27, H29, ⟨%f16, %h16, H16⟩, ⟨%f18, %h18, H18⟩, ⟨%f22, %h22, H22⟩, ⟨%f24, %h24, H24⟩, ⟨%f26, %h26, H26⟩, ⟨%f28, %h28, H28⟩, ⟨%f5, H5⟩, ⟨%f9, H9⟩, ⟨%f14, H14⟩, ⟨%f20, H20⟩, ⟨%f21, H21⟩, ⟨%f30, H30⟩, ⟨%f31, H31⟩, ⟨%f32, H32⟩, ⟨%f33, H33⟩, ⟨%f34, H34⟩⟩
    have hw := SumsAt.widen hs
    sl_exec
    sl_step
    have hz : SumsAt (passes (pick (arg13.view.read (Elt F) g13)) (pick (arg17.view.read (Elt F) g17)) (pick (arg23.view.read (Elt F) g23)) (pick (arg25.view.read (Elt F) g25)) (pick (arg19.view.read (Elt F) g19)) (pick (arg27.view.read (Elt F) g27)) (pick (arg29.view.read (Elt F) g29)) 0) (passes (pick (arg13.view.read (Elt F) g13)) (pick (arg17.view.read (Elt F) g17)) (pick (arg23.view.read (Elt F) g23)) (pick (arg25.view.read (Elt F) g25)) (pick (arg19.view.read (Elt F) g19)) (pick (arg27.view.read (Elt F) g27)) (pick (arg29.view.read (Elt F) g29)) 1) 64 _ (8 * k.val + 7 + 1) := SumsAt.pop_hi (SumsAt.cast (by assumption) rfl) fits_16_64 fits_16_64
    isplitr
    · ipureintro; exact hz.cast (by omega)
    isplitr
    · ipureintro; exact (Parked.pop_lo (SumsAt.parked hz) _ _).mono (by decide) (by decide)
    isplitr
    · ipureintro; exact Parked.pop_lo (SumsAt.parked hz) _ _
    isplitl [H2]; · iexact H2
    isplitl [H3]; · iexact H3
    isplitl [H6]; · iexact H6
    isplitl [H7]; · iexact H7
    isplitl [H13]; · iexact H13
    isplitl [H17]; · iexact H17
    isplitl [H19]; · iexact H19
    isplitl [H23]; · iexact H23
    isplitl [H25]; · iexact H25
    isplitl [H27]; · iexact H27
    isplitl [H29]; · iexact H29
    isplitl [H16]
    · iexists _; isplitr [H16]
      swap; · iexact H16
      ipureintro; refine Words.cast ?_ (rows_next6 k).2.2.1; assumption
    isplitl [H18]
    · iexists _; isplitr [H18]
      swap; · iexact H18
      ipureintro; refine Words.cast ?_ (rows_next6 k).2.2.1; assumption
    isplitl [H22]
    · iexists _; isplitr [H22]
      swap; · iexact H22
      ipureintro; refine Scales.cast ?_ (rows_next6 k).1; assumption
    isplitl [H24]
    · iexists _; isplitr [H24]
      swap; · iexact H24
      ipureintro; refine Scales.cast ?_ (rows_next6 k).1; assumption
    isplitl [H26]
    · iexists _; isplitr [H26]
      swap; · iexact H26
      ipureintro; refine Scales.cast ?_ (rows_next6 k).2.1; assumption
    isplitl [H28]
    · iexists _; isplitr [H28]
      swap; · iexact H28
      ipureintro; refine Scales.cast ?_ (rows_next6 k).2.1; assumption
    sl_close

end Cert.Proof.KernelIdeal.Values
-- ==== Proof.KernelIdeal.StepInner.lean ====
/-
The body at an inner step: the tables of the next block it leaves, and two blocks of columns more of the hidden row.
-/
module

public import proofs.«01_k».proof.Proof.KernelIdeal.EvenSums
public import proofs.«01_k».proof.Proof.KernelIdeal.OddSums
public import proofs.«01_k».proof.Proof.KernelIdeal.Block

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

set_option maxHeartbeats 4000000 in
/-- An inner step: two blocks of columns more. -/
theorem step_inner (X : ℕ → ℕ → F .bf16) (Q U : ℕ → ℕ → BitVec 8) (S V : ℕ → ℕ → F .f32) (H : ℕ → ℕ → F .bf16) (n : ℕ) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ)))
    (h1 : ¬ k0_cond1 i = 1#1) (h4 : k0_cond4 i = 1#1) (h8 : ¬ k0_cond8 i = 1#1) (h12 : k0_cond12 i = 1#1) (h16 : ¬ k0_cond16 i = 1#1)
    (hH1 : ∀ r l, r < 12 → l < 512 → H r (n + l) = blockOf X Q U S V 512 r l)
    (hH2 : ∀ r l, r < 12 → l < 512 → H r (n + 512 + l) = blockOf X (pick (arg2.view.read (Elt F) g2)) (pick (arg3.view.read (Elt F) g3)) (pick (arg6.view.read (Elt F) g6)) (pick (arg7.view.read (Elt F) g7)) 0 r l)
    (ho1 : ∀ k : Fin k0_t8_loop.trips, k0_off30 i k = ![0, n + 128 * k.val]) (ho2 : ∀ k : Fin k0_t18_loop.trips, k0_off70 i k = ![0, n + 512 + 128 * k.val]) :
    iprop(any c arg1 ∗ ((arg2.view.loc (c : Thread nD τ)) ↦[arg2.view.set]{fullShare} g2) ∗ ((arg3.view.loc (c : Thread nD τ)) ↦[arg3.view.set]{fullShare} g3) ∗ any c arg4 ∗ any c arg5 ∗ ((arg6.view.loc (c : Thread nD τ)) ↦[arg6.view.set]{fullShare} g6) ∗ ((arg7.view.loc (c : Thread nD τ)) ↦[arg7.view.set]{fullShare} g7) ∗ any c arg8 ∗ any c arg9 ∗ any c arg10 ∗ (∃ f : Buf (Elt F) (arg11.view.loc (c : Thread nD τ)), ⌜Hidden H n (arg11.view.read (Elt F) f)⌝ ∗ ((arg11.view.loc (c : Thread nD τ)) ↦[arg11.view.set]{fullShare} f)) ∗ any c arg12 ∗ (∃ f : Buf (Elt F) (arg13.view.loc (c : Thread nD τ)), ⌜Spread X 16384 (arg13.view.read (Elt F) f)⌝ ∗ ((arg13.view.loc (c : Thread nD τ)) ↦[arg13.view.set]{fullShare} f)) ∗ any c arg14 ∗ any c arg15 ∗ any c arg16 ∗ (∃ f : Buf (Elt F) (arg17.view.loc (c : Thread nD τ)), ⌜Words F Q 512 2048 (arg17.view.read (Elt F) f)⌝ ∗ ((arg17.view.loc (c : Thread nD τ)) ↦[arg17.view.set]{fullShare} f)) ∗ any c arg18 ∗ (∃ f : Buf (Elt F) (arg19.view.loc (c : Thread nD τ)), ⌜Words F U 512 2048 (arg19.view.read (Elt F) f)⌝ ∗ ((arg19.view.loc (c : Thread nD τ)) ↦[arg19.view.set]{fullShare} f)) ∗ any c arg20 ∗ any c arg21 ∗ any c arg22 ∗ (∃ f : Buf (Elt F) (arg23.view.loc (c : Thread nD τ)), ⌜Scales termA S 512 4 (arg23.view.read (Elt F) f)⌝ ∗ ((arg23.view.loc (c : Thread nD τ)) ↦[arg23.view.set]{fullShare} f)) ∗ any c arg24 ∗ (∃ f : Buf (Elt F) (arg25.view.loc (c : Thread nD τ)), ⌜Scales termB S 512 4 (arg25.view.read (Elt F) f)⌝ ∗ ((arg25.view.loc (c : Thread nD τ)) ↦[arg25.view.set]{fullShare} f)) ∗ any c arg26 ∗ (∃ f : Buf (Elt F) (arg27.view.loc (c : Thread nD τ)), ⌜Scales termA V 512 4 (arg27.view.read (Elt F) f)⌝ ∗ ((arg27.view.loc (c : Thread nD τ)) ↦[arg27.view.set]{fullShare} f)) ∗ any c arg28 ∗ (∃ f : Buf (Elt F) (arg29.view.loc (c : Thread nD τ)), ⌜Scales termB V 512 4 (arg29.view.read (Elt F) f)⌝ ∗ ((arg29.view.loc (c : Thread nD τ)) ↦[arg29.view.set]{fullShare} f)) ∗ any c arg30 ∗ any c arg31 ∗ any c arg32 ∗ any c arg33 ∗ any c arg34)
      ⊢ wp frame (wpE (defs₀ (F := F)) Variants.none (c : Thread nD τ) none) Set.univ (cc0_q4_swiglu_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => iprop(any c arg1 ∗ any c arg2 ∗ any c arg3 ∗ any c arg4 ∗ any c arg5 ∗ any c arg6 ∗ any c arg7 ∗ any c arg8 ∗ any c arg9 ∗ any c arg10 ∗ (∃ f : Buf (Elt F) (arg11.view.loc (c : Thread nD τ)), ⌜Hidden H (n + 1024) (arg11.view.read (Elt F) f)⌝ ∗ ((arg11.view.loc (c : Thread nD τ)) ↦[arg11.view.set]{fullShare} f)) ∗ any c arg12 ∗ (∃ f : Buf (Elt F) (arg13.view.loc (c : Thread nD τ)), ⌜Spread X 16384 (arg13.view.read (Elt F) f)⌝ ∗ ((arg13.view.loc (c : Thread nD τ)) ↦[arg13.view.set]{fullShare} f)) ∗ any c arg14 ∗ any c arg15 ∗ any c arg16 ∗ (∃ f : Buf (Elt F) (arg17.view.loc (c : Thread nD τ)), ⌜Words F (pick (arg2.view.read (Elt F) g2)) 512 2048 (arg17.view.read (Elt F) f)⌝ ∗ ((arg17.view.loc (c : Thread nD τ)) ↦[arg17.view.set]{fullShare} f)) ∗ any c arg18 ∗ (∃ f : Buf (Elt F) (arg19.view.loc (c : Thread nD τ)), ⌜Words F (pick (arg3.view.read (Elt F) g3)) 512 2048 (arg19.view.read (Elt F) f)⌝ ∗ ((arg19.view.loc (c : Thread nD τ)) ↦[arg19.view.set]{fullShare} f)) ∗ any c arg20 ∗ any c arg21 ∗ any c arg22 ∗ (∃ f : Buf (Elt F) (arg23.view.loc (c : Thread nD τ)), ⌜Scales termA (pick (arg6.view.read (Elt F) g6)) 512 4 (arg23.view.read (Elt F) f)⌝ ∗ ((arg23.view.loc (c : Thread nD τ)) ↦[arg23.view.set]{fullShare} f)) ∗ any c arg24 ∗ (∃ f : Buf (Elt F) (arg25.view.loc (c : Thread nD τ)), ⌜Scales termB (pick (arg6.view.read (Elt F) g6)) 512 4 (arg25.view.read (Elt F) f)⌝ ∗ ((arg25.view.loc (c : Thread nD τ)) ↦[arg25.view.set]{fullShare} f)) ∗ any c arg26 ∗ (∃ f : Buf (Elt F) (arg27.view.loc (c : Thread nD τ)), ⌜Scales termA (pick (arg7.view.read (Elt F) g7)) 512 4 (arg27.view.read (Elt F) f)⌝ ∗ ((arg27.view.loc (c : Thread nD τ)) ↦[arg27.view.set]{fullShare} f)) ∗ any c arg28 ∗ (∃ f : Buf (Elt F) (arg29.view.loc (c : Thread nD τ)), ⌜Scales termB (pick (arg7.view.read (Elt F) g7)) 512 4 (arg29.view.read (Elt F) f)⌝ ∗ ((arg29.view.loc (c : Thread nD τ)) ↦[arg29.view.set]{fullShare} f)) ∗ any c arg30 ∗ any c arg31 ∗ any c arg32 ∗ any c arg33 ∗ any c arg34)) := by
  simp only [cc0_q4_swiglu_mlp_eq_skeleton]; unfold cc0_q4_swiglu_mlp_skel
  iintro ⟨⟨%f1, H1⟩, H2, H3, ⟨%f4, H4⟩, ⟨%f5, H5⟩, H6, H7, ⟨%f8, H8⟩, ⟨%f9, H9⟩, ⟨%f10, H10⟩, ⟨%f11, %h11, H11⟩, ⟨%f12, H12⟩, ⟨%f13, %h13, H13⟩, ⟨%f14, H14⟩, ⟨%f15, H15⟩, ⟨%f16, H16⟩, ⟨%f17, %h17, H17⟩, ⟨%f18, H18⟩, ⟨%f19, %h19, H19⟩, ⟨%f20, H20⟩, ⟨%f21, H21⟩, ⟨%f22, H22⟩, ⟨%f23, %h23, H23⟩, ⟨%f24, H24⟩, ⟨%f25, %h25, H25⟩, ⟨%f26, H26⟩, ⟨%f27, %h27, H27⟩, ⟨%f28, H28⟩, ⟨%f29, %h29, H29⟩, ⟨%f30, H30⟩, ⟨%f31, H31⟩, ⟨%f32, H32⟩, ⟨%f33, H33⟩, ⟨%f34, H34⟩⟩
  have e : Parked 64 64 (Mxu.init : Mxu F) := Parked.init
  have e' : Parked 0 64 (Mxu.init : Mxu F) := Parked.init.mono (by decide) (by decide)
  have e1 : Parked 64 64 (((Mxu.init : Mxu F).pop 0 0 64 fits_0_64).pop 1 0 64 fits_0_64) := Parked.pop_lo e' _ _
  have e2 : Parked 0 64 (((Mxu.init : Mxu F).pop 0 0 64 fits_0_64).pop 1 0 64 fits_0_64) := e1.mono (by decide) (by decide)
  have z16 : Words F (pick (arg2.view.read (Elt F) g2)) 0 0 (arg16.view.read (Elt F) f16) := Words.zero _ _ _
  have z18 : Words F (pick (arg3.view.read (Elt F) g3)) 0 0 (arg18.view.read (Elt F) f18) := Words.zero _ _ _
  have z22 : Scales termA (pick (arg6.view.read (Elt F) g6)) 0 0 (arg22.view.read (Elt F) f22) := Scales.zero _ _ _ _
  have z24 : Scales termB (pick (arg6.view.read (Elt F) g6)) 0 0 (arg24.view.read (Elt F) f24) := Scales.zero _ _ _ _
  have z26 : Scales termA (pick (arg7.view.read (Elt F) g7)) 0 0 (arg26.view.read (Elt F) f26) := Scales.zero _ _ _ _
  have z28 : Scales termB (pick (arg7.view.read (Elt F) g7)) 0 0 (arg28.view.read (Elt F) f28) := Scales.zero _ _ _ _
  have z17 : Words F (pick (arg2.view.read (Elt F) g2)) 512 0 (arg17.view.read (Elt F) f17) := Words.zero _ _ _
  have z19 : Words F (pick (arg3.view.read (Elt F) g3)) 512 0 (arg19.view.read (Elt F) f19) := Words.zero _ _ _
  have z23 : Scales termA (pick (arg6.view.read (Elt F) g6)) 512 0 (arg23.view.read (Elt F) f23) := Scales.zero _ _ _ _
  have z25 : Scales termB (pick (arg6.view.read (Elt F) g6)) 512 0 (arg25.view.read (Elt F) f25) := Scales.zero _ _ _ _
  have z27 : Scales termA (pick (arg7.view.read (Elt F) g7)) 512 0 (arg27.view.read (Elt F) f27) := Scales.zero _ _ _ _
  have z29 : Scales termB (pick (arg7.view.read (Elt F) g7)) 512 0 (arg29.view.read (Elt F) f29) := Scales.zero _ _ _ _
  sl_exec (disch := exact Parked.drained (Parked.pop_lo (SumsAt.parked (n := 15) (SumsAt.cast (by assumption) rfl)) _ _))
  sl_step
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]
  · iexists _; isplitr [H11]
    swap; · iexact H11
    ipureintro; rw [hnext_eq]
    exact Hidden.block X (pick (arg2.view.read (Elt F) g2)) (pick (arg3.view.read (Elt F) g3)) (pick (arg6.view.read (Elt F) g6)) (pick (arg7.view.read (Elt F) g7)) 0 h13 (Words.cast hL14 (by decide)) (Words.cast hL16 (by decide)) (Scales.cast hL18 (by decide)) (Scales.cast hL20 (by decide)) (Scales.cast hL22 (by decide)) (Scales.cast hL24 (by decide))
          (SumsAt.cast hL38 rfl) _ _ _ hH2 arg11 _ (Hidden.block X Q U S V 512 h13 h17 h19 h23 h25 h27 h29 (SumsAt.cast hL0 rfl) _ _ _ hH1 arg11 f11 h11 rfl _ _ ho1) rfl _ _ ho2
  isplitl [H12]; · iexists _; iexact H12
  isplitl [H13]
  · iexists _; isplitr [H13]
    swap; · iexact H13
    ipureintro; exact h13
  isplitl [H14]; · iexists _; iexact H14
  isplitl [H15]; · iexists _; iexact H15
  isplitl [H16]; · iexists _; iexact H16
  isplitl [H17]
  · iexists _; isplitr [H17]
    swap; · iexact H17
    ipureintro; exact Words.cast hL50 (by decide)
  isplitl [H18]; · iexists _; iexact H18
  isplitl [H19]
  · iexists _; isplitr [H19]
    swap; · iexact H19
    ipureintro; exact Words.cast hL52 (by decide)
  isplitl [H20]; · iexists _; iexact H20
  isplitl [H21]; · iexists _; iexact H21
  isplitl [H22]; · iexists _; iexact H22
  isplitl [H23]
  · iexists _; isplitr [H23]
    swap; · iexact H23
    ipureintro; exact Scales.cast hL54 (by decide)
  isplitl [H24]; · iexists _; iexact H24
  isplitl [H25]
  · iexists _; isplitr [H25]
    swap; · iexact H25
    ipureintro; exact Scales.cast hL56 (by decide)
  isplitl [H26]; · iexists _; iexact H26
  isplitl [H27]
  · iexists _; isplitr [H27]
    swap; · iexact H27
    ipureintro; exact Scales.cast hL58 (by decide)
  isplitl [H28]; · iexists _; iexact H28
  isplitl [H29]
  · iexists _; isplitr [H29]
    swap; · iexact H29
    ipureintro; exact Scales.cast hL60 (by decide)
  isplitl [H30]; · iexists _; iexact H30
  isplitl [H31]; · iexists _; iexact H31
  isplitl [H32]; · iexists _; iexact H32
  isplitl [H33]; · iexists _; iexact H33
  iexists _; iexact H34

end Cert.Proof.KernelIdeal.Values
-- ==== Proof.KernelIdeal.StepLast.lean ====
/-
The body at the last step: one block of columns more of the hidden row.
-/
module

public import proofs.«01_k».proof.Proof.KernelIdeal.OddSums
public import proofs.«01_k».proof.Proof.KernelIdeal.Block
public import proofs.«01_k».proof.Proof.KernelIdeal.Last

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

set_option maxHeartbeats 4000000 in
/-- The last step: one block of columns more. -/
theorem step_last (X : ℕ → ℕ → F .bf16) (Q U : ℕ → ℕ → BitVec 8) (S V : ℕ → ℕ → F .f32) (H : ℕ → ℕ → F .bf16) (n : ℕ) (g2 : Buf (Elt F) (arg2.view.loc (c : Thread nD τ))) (g3 : Buf (Elt F) (arg3.view.loc (c : Thread nD τ))) (g6 : Buf (Elt F) (arg6.view.loc (c : Thread nD τ))) (g7 : Buf (Elt F) (arg7.view.loc (c : Thread nD τ)))
    (h1 : ¬ k0_cond1 i = 1#1) (h4 : k0_cond4 i = 1#1) (h8 : ¬ k0_cond8 i = 1#1) (h12 : ¬ k0_cond12 i = 1#1) (h16 : k0_cond16 i = 1#1)
    (hH1 : ∀ r l, r < 12 → l < 512 → H r (n + l) = blockOf X Q U S V 512 r l)
    (ho1 : ∀ k : Fin k0_t8_loop.trips, k0_off30 i k = ![0, n + 128 * k.val]) :
    iprop(any c arg1 ∗ ((arg2.view.loc (c : Thread nD τ)) ↦[arg2.view.set]{fullShare} g2) ∗ ((arg3.view.loc (c : Thread nD τ)) ↦[arg3.view.set]{fullShare} g3) ∗ any c arg4 ∗ any c arg5 ∗ ((arg6.view.loc (c : Thread nD τ)) ↦[arg6.view.set]{fullShare} g6) ∗ ((arg7.view.loc (c : Thread nD τ)) ↦[arg7.view.set]{fullShare} g7) ∗ any c arg8 ∗ any c arg9 ∗ any c arg10 ∗ (∃ f : Buf (Elt F) (arg11.view.loc (c : Thread nD τ)), ⌜Hidden H n (arg11.view.read (Elt F) f)⌝ ∗ ((arg11.view.loc (c : Thread nD τ)) ↦[arg11.view.set]{fullShare} f)) ∗ any c arg12 ∗ (∃ f : Buf (Elt F) (arg13.view.loc (c : Thread nD τ)), ⌜Spread X 16384 (arg13.view.read (Elt F) f)⌝ ∗ ((arg13.view.loc (c : Thread nD τ)) ↦[arg13.view.set]{fullShare} f)) ∗ any c arg14 ∗ any c arg15 ∗ any c arg16 ∗ (∃ f : Buf (Elt F) (arg17.view.loc (c : Thread nD τ)), ⌜Words F Q 512 2048 (arg17.view.read (Elt F) f)⌝ ∗ ((arg17.view.loc (c : Thread nD τ)) ↦[arg17.view.set]{fullShare} f)) ∗ any c arg18 ∗ (∃ f : Buf (Elt F) (arg19.view.loc (c : Thread nD τ)), ⌜Words F U 512 2048 (arg19.view.read (Elt F) f)⌝ ∗ ((arg19.view.loc (c : Thread nD τ)) ↦[arg19.view.set]{fullShare} f)) ∗ any c arg20 ∗ any c arg21 ∗ any c arg22 ∗ (∃ f : Buf (Elt F) (arg23.view.loc (c : Thread nD τ)), ⌜Scales termA S 512 4 (arg23.view.read (Elt F) f)⌝ ∗ ((arg23.view.loc (c : Thread nD τ)) ↦[arg23.view.set]{fullShare} f)) ∗ any c arg24 ∗ (∃ f : Buf (Elt F) (arg25.view.loc (c : Thread nD τ)), ⌜Scales termB S 512 4 (arg25.view.read (Elt F) f)⌝ ∗ ((arg25.view.loc (c : Thread nD τ)) ↦[arg25.view.set]{fullShare} f)) ∗ any c arg26 ∗ (∃ f : Buf (Elt F) (arg27.view.loc (c : Thread nD τ)), ⌜Scales termA V 512 4 (arg27.view.read (Elt F) f)⌝ ∗ ((arg27.view.loc (c : Thread nD τ)) ↦[arg27.view.set]{fullShare} f)) ∗ any c arg28 ∗ (∃ f : Buf (Elt F) (arg29.view.loc (c : Thread nD τ)), ⌜Scales termB V 512 4 (arg29.view.read (Elt F) f)⌝ ∗ ((arg29.view.loc (c : Thread nD τ)) ↦[arg29.view.set]{fullShare} f)) ∗ any c arg30 ∗ any c arg31 ∗ any c arg32 ∗ any c arg33 ∗ any c arg34)
      ⊢ wp frame (wpE (defs₀ (F := F)) Variants.none (c : Thread nD τ) none) Set.univ (cc0_q4_swiglu_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => iprop(any c arg1 ∗ any c arg2 ∗ any c arg3 ∗ any c arg4 ∗ any c arg5 ∗ any c arg6 ∗ any c arg7 ∗ any c arg8 ∗ any c arg9 ∗ any c arg10 ∗ (∃ f : Buf (Elt F) (arg11.view.loc (c : Thread nD τ)), ⌜Hidden H (n + 512) (arg11.view.read (Elt F) f)⌝ ∗ ((arg11.view.loc (c : Thread nD τ)) ↦[arg11.view.set]{fullShare} f)) ∗ any c arg12 ∗ any c arg13 ∗ any c arg14 ∗ any c arg15 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32 ∗ any c arg33 ∗ any c arg34)) := by
  simp only [cc0_q4_swiglu_mlp_eq_skeleton]; unfold cc0_q4_swiglu_mlp_skel
  iintro ⟨⟨%f1, H1⟩, H2, H3, ⟨%f4, H4⟩, ⟨%f5, H5⟩, H6, H7, ⟨%f8, H8⟩, ⟨%f9, H9⟩, ⟨%f10, H10⟩, ⟨%f11, %h11, H11⟩, ⟨%f12, H12⟩, ⟨%f13, %h13, H13⟩, ⟨%f14, H14⟩, ⟨%f15, H15⟩, ⟨%f16, H16⟩, ⟨%f17, %h17, H17⟩, ⟨%f18, H18⟩, ⟨%f19, %h19, H19⟩, ⟨%f20, H20⟩, ⟨%f21, H21⟩, ⟨%f22, H22⟩, ⟨%f23, %h23, H23⟩, ⟨%f24, H24⟩, ⟨%f25, %h25, H25⟩, ⟨%f26, H26⟩, ⟨%f27, %h27, H27⟩, ⟨%f28, H28⟩, ⟨%f29, %h29, H29⟩, ⟨%f30, H30⟩, ⟨%f31, H31⟩, ⟨%f32, H32⟩, ⟨%f33, H33⟩, ⟨%f34, H34⟩⟩
  have e : Parked 64 64 (Mxu.init : Mxu F) := Parked.init
  have e' : Parked 0 64 (Mxu.init : Mxu F) := Parked.init.mono (by decide) (by decide)
  have e1 : Parked 64 64 (((Mxu.init : Mxu F).pop 0 0 64 fits_0_64).pop 1 0 64 fits_0_64) := Parked.pop_lo e' _ _
  have e2 : Parked 0 64 (((Mxu.init : Mxu F).pop 0 0 64 fits_0_64).pop 1 0 64 fits_0_64) := e1.mono (by decide) (by decide)
  have z16 : Words F (pick (arg2.view.read (Elt F) g2)) 0 0 (arg16.view.read (Elt F) f16) := Words.zero _ _ _
  have z18 : Words F (pick (arg3.view.read (Elt F) g3)) 0 0 (arg18.view.read (Elt F) f18) := Words.zero _ _ _
  have z22 : Scales termA (pick (arg6.view.read (Elt F) g6)) 0 0 (arg22.view.read (Elt F) f22) := Scales.zero _ _ _ _
  have z24 : Scales termB (pick (arg6.view.read (Elt F) g6)) 0 0 (arg24.view.read (Elt F) f24) := Scales.zero _ _ _ _
  have z26 : Scales termA (pick (arg7.view.read (Elt F) g7)) 0 0 (arg26.view.read (Elt F) f26) := Scales.zero _ _ _ _
  have z28 : Scales termB (pick (arg7.view.read (Elt F) g7)) 0 0 (arg28.view.read (Elt F) f28) := Scales.zero _ _ _ _
  sl_exec (disch := exact Parked.drained (by assumption))
  sl_step
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]
  · iexists _; isplitr [H11]
    swap; · iexact H11
    ipureintro; exact Hidden.block X Q U S V 512 h13 h17 h19 h23 h25 h27 h29 (SumsAt.cast hL0 rfl) _ _ _ hH1 arg11 f11 h11 rfl _ _ ho1
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  iexists _; iexact H34

end Cert.Proof.KernelIdeal.Values
-- ==== Proof.KernelIdeal.StepOwns.lean ====
/-
The three kinds of step, the windows given by the matrices they hold.
-/
module

public import proofs.«01_k».proof.Proof.KernelIdeal.StepFirst
public import proofs.«01_k».proof.Proof.KernelIdeal.StepInner
public import proofs.«01_k».proof.Proof.KernelIdeal.StepLast

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

variable (c : Dev nD) (i : grid0.Coords)
  (arg1 : Memref sig .tc .vmem S12x4096 .bf16) (harg1 : arg1.IsWhole) (arg2 : Memref sig .tc .vmem S1024x2048 .i8) (harg2 : arg2.IsWhole)
  (arg3 : Memref sig .tc .vmem S1024x2048 .i8) (harg3 : arg3.IsWhole) (arg4 : Memref sig .tc .vmem S4096x256 .i8) (harg4 : arg4.IsWhole)
  (arg5 : Memref sig .tc .vmem S4096x256 .i8) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S16x4096 .f32) (harg8 : arg8.IsWhole)
  (arg9 : Memref sig .tc .vmem S16x4096 .f32) (harg9 : arg9.IsWhole) (arg10 : Memref sig .tc .vmem S12x4096 .bf16) (harg10 : arg10.IsWhole)
  (arg11 : Memref sig .tc .vmem S12x14336 .bf16) (harg11 : arg11.IsWhole) (arg12 : Memref sig .tc .vmem S16x4096 .bf16) (harg12 : arg12.IsWhole)
  (arg13 : Memref sig .tc .vmem S64x16384 .bf16) (harg13 : arg13.IsWhole) (arg14 : Memref sig .tc .vmem S64x2048 .bf16) (harg14 : arg14.IsWhole)
  (arg15 : Memref sig .tc .vmem S64x2048 .bf16) (harg15 : arg15.IsWhole) (arg16 : Memref sig .tc .vmem S2048x128 .i32) (harg16 : arg16.IsWhole)
  (arg17 : Memref sig .tc .vmem S2048x128 .i32) (harg17 : arg17.IsWhole) (arg18 : Memref sig .tc .vmem S2048x128 .i32) (harg18 : arg18.IsWhole)
  (arg19 : Memref sig .tc .vmem S2048x128 .i32) (harg19 : arg19.IsWhole) (arg20 : Memref sig .tc .vmem S2048x128 .i32) (harg20 : arg20.IsWhole)
  (arg21 : Memref sig .tc .vmem S2048x128 .i32) (harg21 : arg21.IsWhole) (arg22 : Memref sig .tc .vmem S1024x128 .f32) (harg22 : arg22.IsWhole)
  (arg23 : Memref sig .tc .vmem S1024x128 .f32) (harg23 : arg23.IsWhole) (arg24 : Memref sig .tc .vmem S1024x128 .f32) (harg24 : arg24.IsWhole)
  (arg25 : Memref sig .tc .vmem S1024x128 .f32) (harg25 : arg25.IsWhole) (arg26 : Memref sig .tc .vmem S1024x128 .f32) (harg26 : arg26.IsWhole)
  (arg27 : Memref sig .tc .vmem S1024x128 .f32) (harg27 : arg27.IsWhole) (arg28 : Memref sig .tc .vmem S1024x128 .f32) (harg28 : arg28.IsWhole)
  (arg29 : Memref sig .tc .vmem S1024x128 .f32) (harg29 : arg29.IsWhole) (arg30 : Memref sig .tc .vmem S1024x128 .f32) (harg30 : arg30.IsWhole)
  (arg31 : Memref sig .tc .vmem S1024x128 .f32) (harg31 : arg31.IsWhole) (arg32 : Memref sig .tc .vmem S1024x128 .f32) (harg32 : arg32.IsWhole)
  (arg33 : Memref sig .tc .vmem S1024x128 .f32) (harg33 : arg33.IsWhole) (arg34 : Memref sig .tc .vmem S4x64x256 .f32) (harg34 : arg34.IsWhole)

set_option maxHeartbeats 2000000 in
/-- The first step. -/
theorem first_owns (H : ℕ → ℕ → F .bf16) (Y1 : S12x4096.Idx → Elt F .bf16) (Y2 : S1024x2048.Idx → Elt F .i8) (Y3 : S1024x2048.Idx → Elt F .i8) (Y4 : S4096x256.Idx → Elt F .i8) (Y5 : S4096x256.Idx → Elt F .i8) (Y6 : S1024x128.Idx → Elt F .f32) (Y7 : S1024x128.Idx → Elt F .f32) (Y8 : S16x4096.Idx → Elt F .f32) (Y9 : S16x4096.Idx → Elt F .f32) (Y10 : S12x4096.Idx → Elt F .bf16) (Y11 : S12x14336.Idx → Elt F .bf16)
    (h1 : k0_cond1 i = 1#1) (h4 : ¬ k0_cond4 i = 1#1) (h8 : k0_cond8 i = 1#1) (h12 : ¬ k0_cond12 i = 1#1) (h16 : ¬ k0_cond16 i = 1#1)
    (hH : ∀ r l, r < 12 → l < 512 → H r (0 + l) = blockOf (padded (pick Y1)) (pick Y2) (pick Y3) (pick Y6) (pick Y7) 0 r l) (ho : ∀ k : Fin k0_t13_loop.trips, k0_off47 k = ![0, 0 + 128 * k.val]) :
    iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ any c arg12 ∗ any c arg13 ∗ any c arg14 ∗ any c arg15 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32 ∗ any c arg33 ∗ any c arg34)
      ⊢ wp frame (wpE (defs₀ (F := F)) Variants.none (c : Thread nD τ) none) Set.univ (cc0_q4_swiglu_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => iprop((∃ X, ⌜True⌝ ∗ owns (c : Thread nD τ) arg1 fullShare X) ∗ (∃ X, ⌜True⌝ ∗ owns (c : Thread nD τ) arg2 fullShare X) ∗ (∃ X, ⌜True⌝ ∗ owns (c : Thread nD τ) arg3 fullShare X) ∗ (∃ X, ⌜True⌝ ∗ owns (c : Thread nD τ) arg4 fullShare X) ∗ (∃ X, ⌜True⌝ ∗ owns (c : Thread nD τ) arg5 fullShare X) ∗ (∃ X, ⌜True⌝ ∗ owns (c : Thread nD τ) arg6 fullShare X) ∗ (∃ X, ⌜True⌝ ∗ owns (c : Thread nD τ) arg7 fullShare X) ∗ (∃ X, ⌜True⌝ ∗ owns (c : Thread nD τ) arg8 fullShare X) ∗ (∃ X, ⌜True⌝ ∗ owns (c : Thread nD τ) arg9 fullShare X) ∗ (∃ X, ⌜True⌝ ∗ owns (c : Thread nD τ) arg10 fullShare X) ∗ (∃ X, ⌜Hidden H 512 X⌝ ∗ owns (c : Thread nD τ) arg11 fullShare X) ∗ any c arg12 ∗ (∃ f : Buf (Elt F) (arg13.view.loc (c : Thread nD τ)), ⌜Spread (padded (pick Y1)) 16384 (arg13.view.read (Elt F) f)⌝ ∗ ((arg13.view.loc (c : Thread nD τ)) ↦[arg13.view.set]{fullShare} f)) ∗ any c arg14 ∗ any c arg15 ∗ any c arg16 ∗ (∃ f : Buf (Elt F) (arg17.view.loc (c : Thread nD τ)), ⌜Words F (pick Y2) 512 2048 (arg17.view.read (Elt F) f)⌝ ∗ ((arg17.view.loc (c : Thread nD τ)) ↦[arg17.view.set]{fullShare} f)) ∗ any c arg18 ∗ (∃ f : Buf (Elt F) (arg19.view.loc (c : Thread nD τ)), ⌜Words F (pick Y3) 512 2048 (arg19.view.read (Elt F) f)⌝ ∗ ((arg19.view.loc (c : Thread nD τ)) ↦[arg19.view.set]{fullShare} f)) ∗ any c arg20 ∗ any c arg21 ∗ any c arg22 ∗ (∃ f : Buf (Elt F) (arg23.view.loc (c : Thread nD τ)), ⌜Scales termA (pick Y6) 512 4 (arg23.view.read (Elt F) f)⌝ ∗ ((arg23.view.loc (c : Thread nD τ)) ↦[arg23.view.set]{fullShare} f)) ∗ any c arg24 ∗ (∃ f : Buf (Elt F) (arg25.view.loc (c : Thread nD τ)), ⌜Scales termB (pick Y6) 512 4 (arg25.view.read (Elt F) f)⌝ ∗ ((arg25.view.loc (c : Thread nD τ)) ↦[arg25.view.set]{fullShare} f)) ∗ any c arg26 ∗ (∃ f : Buf (Elt F) (arg27.view.loc (c : Thread nD τ)), ⌜Scales termA (pick Y7) 512 4 (arg27.view.read (Elt F) f)⌝ ∗ ((arg27.view.loc (c : Thread nD τ)) ↦[arg27.view.set]{fullShare} f)) ∗ any c arg28 ∗ (∃ f : Buf (Elt F) (arg29.view.loc (c : Thread nD τ)), ⌜Scales termB (pick Y7) 512 4 (arg29.view.read (Elt F) f)⌝ ∗ ((arg29.view.loc (c : Thread nD τ)) ↦[arg29.view.set]{fullShare} f)) ∗ any c arg30 ∗ any c arg31 ∗ any c arg32 ∗ any c arg33 ∗ any c arg34)) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, H12, H13, H14, H15, H16, H17, H18, H19, H20, H21, H22, H23, H24, H25, H26, H27, H28, H29, H30, H31, H32, H33, H34⟩
  subst e1
  subst e2
  subst e3
  subst e4
  subst e5
  subst e6
  subst e7
  subst e8
  subst e9
  subst e10
  subst e11
  iapply (wp_wand_r frame (wpE (defs₀ (F := F)) Variants.none (c : Thread nD τ) none) Set.univ)
  isplitl
  · iapply (step_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 H f1 f2 f3 f6 f7 h1 h4 h8 h12 h16 hH ho)
    isplitl [H1]
    · iexact H1
    isplitl [H2]
    · iexact H2
    isplitl [H3]
    · iexact H3
    isplitl [H4]
    · iexists _; iexact H4
    isplitl [H5]
    · iexists _; iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    isplitl [H28]
    · iexact H28
    isplitl [H29]
    · iexact H29
    isplitl [H30]
    · iexact H30
    isplitl [H31]
    · iexact H31
    isplitl [H32]
    · iexact H32
    isplitl [H33]
    · iexact H33
    iexact H34
  iintro %_ ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, %h11, H11⟩, H12, H13, H14, H15, H16, H17, H18, H19, H20, H21, H22, H23, H24, H25, H26, H27, H28, H29, H30, H31, H32, H33, H34⟩
  isplitl [H1]
  · iexists (arg1.view.read (Elt F) f1); isplitr [H1]; · ipureintro; trivial
    iexists f1; isplitr [H1]; · ipureintro; rfl
    iexact H1
  isplitl [H2]
  · iexists (arg2.view.read (Elt F) f2); isplitr [H2]; · ipureintro; trivial
    iexists f2; isplitr [H2]; · ipureintro; rfl
    iexact H2
  isplitl [H3]
  · iexists (arg3.view.read (Elt F) f3); isplitr [H3]; · ipureintro; trivial
    iexists f3; isplitr [H3]; · ipureintro; rfl
    iexact H3
  isplitl [H4]
  · iexists (arg4.view.read (Elt F) f4); isplitr [H4]; · ipureintro; trivial
    iexists f4; isplitr [H4]; · ipureintro; rfl
    iexact H4
  isplitl [H5]
  · iexists (arg5.view.read (Elt F) f5); isplitr [H5]; · ipureintro; trivial
    iexists f5; isplitr [H5]; · ipureintro; rfl
    iexact H5
  isplitl [H6]
  · iexists (arg6.view.read (Elt F) f6); isplitr [H6]; · ipureintro; trivial
    iexists f6; isplitr [H6]; · ipureintro; rfl
    iexact H6
  isplitl [H7]
  · iexists (arg7.view.read (Elt F) f7); isplitr [H7]; · ipureintro; trivial
    iexists f7; isplitr [H7]; · ipureintro; rfl
    iexact H7
  isplitl [H8]
  · iexists (arg8.view.read (Elt F) f8); isplitr [H8]; · ipureintro; trivial
    iexists f8; isplitr [H8]; · ipureintro; rfl
    iexact H8
  isplitl [H9]
  · iexists (arg9.view.read (Elt F) f9); isplitr [H9]; · ipureintro; trivial
    iexists f9; isplitr [H9]; · ipureintro; rfl
    iexact H9
  isplitl [H10]
  · iexists (arg10.view.read (Elt F) f10); isplitr [H10]; · ipureintro; trivial
    iexists f10; isplitr [H10]; · ipureintro; rfl
    iexact H10
  isplitl [H11]
  · iexists (arg11.view.read (Elt F) f11); isplitr [H11]; · ipureintro; exact h11
    iexists f11; isplitr [H11]; · ipureintro; rfl
    iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

set_option maxHeartbeats 2000000 in
/-- An inner step. -/
theorem inner_owns (X : ℕ → ℕ → F .bf16) (Q U : ℕ → ℕ → BitVec 8) (S V : ℕ → ℕ → F .f32) (H : ℕ → ℕ → F .bf16) (n : ℕ) (Y1 : S12x4096.Idx → Elt F .bf16) (Y2 : S1024x2048.Idx → Elt F .i8) (Y3 : S1024x2048.Idx → Elt F .i8) (Y4 : S4096x256.Idx → Elt F .i8) (Y5 : S4096x256.Idx → Elt F .i8) (Y6 : S1024x128.Idx → Elt F .f32) (Y7 : S1024x128.Idx → Elt F .f32) (Y8 : S16x4096.Idx → Elt F .f32) (Y9 : S16x4096.Idx → Elt F .f32) (Y10 : S12x4096.Idx → Elt F .bf16) (Y11 : S12x14336.Idx → Elt F .bf16)
    (h1 : ¬ k0_cond1 i = 1#1) (h4 : k0_cond4 i = 1#1) (h8 : ¬ k0_cond8 i = 1#1) (h12 : k0_cond12 i = 1#1) (h16 : ¬ k0_cond16 i = 1#1)
    (h11 : Hidden H n Y11) (hH1 : ∀ r l, r < 12 → l < 512 → H r (n + l) = blockOf X Q U S V 512 r l) (hH2 : ∀ r l, r < 12 → l < 512 → H r (n + 512 + l) = blockOf X (pick Y2) (pick Y3) (pick Y6) (pick Y7) 0 r l) (ho1 : ∀ k : Fin k0_t8_loop.trips, k0_off30 i k = ![0, n + 128 * k.val]) (ho2 : ∀ k : Fin k0_t18_loop.trips, k0_off70 i k = ![0, n + 512 + 128 * k.val]) :
    iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ any c arg12 ∗ (∃ f : Buf (Elt F) (arg13.view.loc (c : Thread nD τ)), ⌜Spread X 16384 (arg13.view.read (Elt F) f)⌝ ∗ ((arg13.view.loc (c : Thread nD τ)) ↦[arg13.view.set]{fullShare} f)) ∗ any c arg14 ∗ any c arg15 ∗ any c arg16 ∗ (∃ f : Buf (Elt F) (arg17.view.loc (c : Thread nD τ)), ⌜Words F Q 512 2048 (arg17.view.read (Elt F) f)⌝ ∗ ((arg17.view.loc (c : Thread nD τ)) ↦[arg17.view.set]{fullShare} f)) ∗ any c arg18 ∗ (∃ f : Buf (Elt F) (arg19.view.loc (c : Thread nD τ)), ⌜Words F U 512 2048 (arg19.view.read (Elt F) f)⌝ ∗ ((arg19.view.loc (c : Thread nD τ)) ↦[arg19.view.set]{fullShare} f)) ∗ any c arg20 ∗ any c arg21 ∗ any c arg22 ∗ (∃ f : Buf (Elt F) (arg23.view.loc (c : Thread nD τ)), ⌜Scales termA S 512 4 (arg23.view.read (Elt F) f)⌝ ∗ ((arg23.view.loc (c : Thread nD τ)) ↦[arg23.view.set]{fullShare} f)) ∗ any c arg24 ∗ (∃ f : Buf (Elt F) (arg25.view.loc (c : Thread nD τ)), ⌜Scales termB S 512 4 (arg25.view.read (Elt F) f)⌝ ∗ ((arg25.view.loc (c : Thread nD τ)) ↦[arg25.view.set]{fullShare} f)) ∗ any c arg26 ∗ (∃ f : Buf (Elt F) (arg27.view.loc (c : Thread nD τ)), ⌜Scales termA V 512 4 (arg27.view.read (Elt F) f)⌝ ∗ ((arg27.view.loc (c : Thread nD τ)) ↦[arg27.view.set]{fullShare} f)) ∗ any c arg28 ∗ (∃ f : Buf (Elt F) (arg29.view.loc (c : Thread nD τ)), ⌜Scales termB V 512 4 (arg29.view.read (Elt F) f)⌝ ∗ ((arg29.view.loc (c : Thread nD τ)) ↦[arg29.view.set]{fullShare} f)) ∗ any c arg30 ∗ any c arg31 ∗ any c arg32 ∗ any c arg33 ∗ any c arg34)
      ⊢ wp frame (wpE (defs₀ (F := F)) Variants.none (c : Thread nD τ) none) Set.univ (cc0_q4_swiglu_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => iprop((∃ X, ⌜True⌝ ∗ owns (c : Thread nD τ) arg1 fullShare X) ∗ (∃ X, ⌜True⌝ ∗ owns (c : Thread nD τ) arg2 fullShare X) ∗ (∃ X, ⌜True⌝ ∗ owns (c : Thread nD τ) arg3 fullShare X) ∗ (∃ X, ⌜True⌝ ∗ owns (c : Thread nD τ) arg4 fullShare X) ∗ (∃ X, ⌜True⌝ ∗ owns (c : Thread nD τ) arg5 fullShare X) ∗ (∃ X, ⌜True⌝ ∗ owns (c : Thread nD τ) arg6 fullShare X) ∗ (∃ X, ⌜True⌝ ∗ owns (c : Thread nD τ) arg7 fullShare X) ∗ (∃ X, ⌜True⌝ ∗ owns (c : Thread nD τ) arg8 fullShare X) ∗ (∃ X, ⌜True⌝ ∗ owns (c : Thread nD τ) arg9 fullShare X) ∗ (∃ X, ⌜True⌝ ∗ owns (c : Thread nD τ) arg10 fullShare X) ∗ (∃ X, ⌜Hidden H (n + 1024) X⌝ ∗ owns (c : Thread nD τ) arg11 fullShare X) ∗ any c arg12 ∗ (∃ f : Buf (Elt F) (arg13.view.loc (c : Thread nD τ)), ⌜Spread X 16384 (arg13.view.read (Elt F) f)⌝ ∗ ((arg13.view.loc (c : Thread nD τ)) ↦[arg13.view.set]{fullShare} f)) ∗ any c arg14 ∗ any c arg15 ∗ any c arg16 ∗ (∃ f : Buf (Elt F) (arg17.view.loc (c : Thread nD τ)), ⌜Words F (pick Y2) 512 2048 (arg17.view.read (Elt F) f)⌝ ∗ ((arg17.view.loc (c : Thread nD τ)) ↦[arg17.view.set]{fullShare} f)) ∗ any c arg18 ∗ (∃ f : Buf (Elt F) (arg19.view.loc (c : Thread nD τ)), ⌜Words F (pick Y3) 512 2048 (arg19.view.read (Elt F) f)⌝ ∗ ((arg19.view.loc (c : Thread nD τ)) ↦[arg19.view.set]{fullShare} f)) ∗ any c arg20 ∗ any c arg21 ∗ any c arg22 ∗ (∃ f : Buf (Elt F) (arg23.view.loc (c : Thread nD τ)), ⌜Scales termA (pick Y6) 512 4 (arg23.view.read (Elt F) f)⌝ ∗ ((arg23.view.loc (c : Thread nD τ)) ↦[arg23.view.set]{fullShare} f)) ∗ any c arg24 ∗ (∃ f : Buf (Elt F) (arg25.view.loc (c : Thread nD τ)), ⌜Scales termB (pick Y6) 512 4 (arg25.view.read (Elt F) f)⌝ ∗ ((arg25.view.loc (c : Thread nD τ)) ↦[arg25.view.set]{fullShare} f)) ∗ any c arg26 ∗ (∃ f : Buf (Elt F) (arg27.view.loc (c : Thread nD τ)), ⌜Scales termA (pick Y7) 512 4 (arg27.view.read (Elt F) f)⌝ ∗ ((arg27.view.loc (c : Thread nD τ)) ↦[arg27.view.set]{fullShare} f)) ∗ any c arg28 ∗ (∃ f : Buf (Elt F) (arg29.view.loc (c : Thread nD τ)), ⌜Scales termB (pick Y7) 512 4 (arg29.view.read (Elt F) f)⌝ ∗ ((arg29.view.loc (c : Thread nD τ)) ↦[arg29.view.set]{fullShare} f)) ∗ any c arg30 ∗ any c arg31 ∗ any c arg32 ∗ any c arg33 ∗ any c arg34)) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, H12, H13, H14, H15, H16, H17, H18, H19, H20, H21, H22, H23, H24, H25, H26, H27, H28, H29, H30, H31, H32, H33, H34⟩
  subst e1
  subst e2
  subst e3
  subst e4
  subst e5
  subst e6
  subst e7
  subst e8
  subst e9
  subst e10
  iapply (wp_wand_r frame (wpE (defs₀ (F := F)) Variants.none (c : Thread nD τ) none) Set.univ)
  isplitl
  · iapply (step_inner c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 X Q U S V H n f2 f3 f6 f7 h1 h4 h8 h12 h16 hH1 hH2 ho1 ho2)
    isplitl [H1]
    · iexists _; iexact H1
    isplitl [H2]
    · iexact H2
    isplitl [H3]
    · iexact H3
    isplitl [H4]
    · iexists _; iexact H4
    isplitl [H5]
    · iexists _; iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; isplitr [H11]; swap; · iexact H11
      ipureintro; rw [e11]; exact h11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    isplitl [H28]
    · iexact H28
    isplitl [H29]
    · iexact H29
    isplitl [H30]
    · iexact H30
    isplitl [H31]
    · iexact H31
    isplitl [H32]
    · iexact H32
    isplitl [H33]
    · iexact H33
    iexact H34
  iintro %_ ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, %h11, H11⟩, H12, H13, H14, H15, H16, H17, H18, H19, H20, H21, H22, H23, H24, H25, H26, H27, H28, H29, H30, H31, H32, H33, H34⟩
  isplitl [H1]
  · iexists (arg1.view.read (Elt F) f1); isplitr [H1]; · ipureintro; trivial
    iexists f1; isplitr [H1]; · ipureintro; rfl
    iexact H1
  isplitl [H2]
  · iexists (arg2.view.read (Elt F) f2); isplitr [H2]; · ipureintro; trivial
    iexists f2; isplitr [H2]; · ipureintro; rfl
    iexact H2
  isplitl [H3]
  · iexists (arg3.view.read (Elt F) f3); isplitr [H3]; · ipureintro; trivial
    iexists f3; isplitr [H3]; · ipureintro; rfl
    iexact H3
  isplitl [H4]
  · iexists (arg4.view.read (Elt F) f4); isplitr [H4]; · ipureintro; trivial
    iexists f4; isplitr [H4]; · ipureintro; rfl
    iexact H4
  isplitl [H5]
  · iexists (arg5.view.read (Elt F) f5); isplitr [H5]; · ipureintro; trivial
    iexists f5; isplitr [H5]; · ipureintro; rfl
    iexact H5
  isplitl [H6]
  · iexists (arg6.view.read (Elt F) f6); isplitr [H6]; · ipureintro; trivial
    iexists f6; isplitr [H6]; · ipureintro; rfl
    iexact H6
  isplitl [H7]
  · iexists (arg7.view.read (Elt F) f7); isplitr [H7]; · ipureintro; trivial
    iexists f7; isplitr [H7]; · ipureintro; rfl
    iexact H7
  isplitl [H8]
  · iexists (arg8.view.read (Elt F) f8); isplitr [H8]; · ipureintro; trivial
    iexists f8; isplitr [H8]; · ipureintro; rfl
    iexact H8
  isplitl [H9]
  · iexists (arg9.view.read (Elt F) f9); isplitr [H9]; · ipureintro; trivial
    iexists f9; isplitr [H9]; · ipureintro; rfl
    iexact H9
  isplitl [H10]
  · iexists (arg10.view.read (Elt F) f10); isplitr [H10]; · ipureintro; trivial
    iexists f10; isplitr [H10]; · ipureintro; rfl
    iexact H10
  isplitl [H11]
  · iexists (arg11.view.read (Elt F) f11); isplitr [H11]; · ipureintro; exact h11
    iexists f11; isplitr [H11]; · ipureintro; rfl
    iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

set_option maxHeartbeats 2000000 in
/-- The last step. -/
theorem last_owns (X : ℕ → ℕ → F .bf16) (Q U : ℕ → ℕ → BitVec 8) (S V : ℕ → ℕ → F .f32) (H : ℕ → ℕ → F .bf16) (n : ℕ) (Y1 : S12x4096.Idx → Elt F .bf16) (Y2 : S1024x2048.Idx → Elt F .i8) (Y3 : S1024x2048.Idx → Elt F .i8) (Y4 : S4096x256.Idx → Elt F .i8) (Y5 : S4096x256.Idx → Elt F .i8) (Y6 : S1024x128.Idx → Elt F .f32) (Y7 : S1024x128.Idx → Elt F .f32) (Y8 : S16x4096.Idx → Elt F .f32) (Y9 : S16x4096.Idx → Elt F .f32) (Y10 : S12x4096.Idx → Elt F .bf16) (Y11 : S12x14336.Idx → Elt F .bf16)
    (h1 : ¬ k0_cond1 i = 1#1) (h4 : k0_cond4 i = 1#1) (h8 : ¬ k0_cond8 i = 1#1) (h12 : ¬ k0_cond12 i = 1#1) (h16 : k0_cond16 i = 1#1)
    (h11 : Hidden H n Y11) (hH1 : ∀ r l, r < 12 → l < 512 → H r (n + l) = blockOf X Q U S V 512 r l) (ho1 : ∀ k : Fin k0_t8_loop.trips, k0_off30 i k = ![0, n + 128 * k.val]) :
    iprop(owns (c : Thread nD τ) arg1 fullShare Y1 ∗ owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7 ∗ owns (c : Thread nD τ) arg8 fullShare Y8 ∗ owns (c : Thread nD τ) arg9 fullShare Y9 ∗ owns (c : Thread nD τ) arg10 fullShare Y10 ∗ owns (c : Thread nD τ) arg11 fullShare Y11 ∗ any c arg12 ∗ (∃ f : Buf (Elt F) (arg13.view.loc (c : Thread nD τ)), ⌜Spread X 16384 (arg13.view.read (Elt F) f)⌝ ∗ ((arg13.view.loc (c : Thread nD τ)) ↦[arg13.view.set]{fullShare} f)) ∗ any c arg14 ∗ any c arg15 ∗ any c arg16 ∗ (∃ f : Buf (Elt F) (arg17.view.loc (c : Thread nD τ)), ⌜Words F Q 512 2048 (arg17.view.read (Elt F) f)⌝ ∗ ((arg17.view.loc (c : Thread nD τ)) ↦[arg17.view.set]{fullShare} f)) ∗ any c arg18 ∗ (∃ f : Buf (Elt F) (arg19.view.loc (c : Thread nD τ)), ⌜Words F U 512 2048 (arg19.view.read (Elt F) f)⌝ ∗ ((arg19.view.loc (c : Thread nD τ)) ↦[arg19.view.set]{fullShare} f)) ∗ any c arg20 ∗ any c arg21 ∗ any c arg22 ∗ (∃ f : Buf (Elt F) (arg23.view.loc (c : Thread nD τ)), ⌜Scales termA S 512 4 (arg23.view.read (Elt F) f)⌝ ∗ ((arg23.view.loc (c : Thread nD τ)) ↦[arg23.view.set]{fullShare} f)) ∗ any c arg24 ∗ (∃ f : Buf (Elt F) (arg25.view.loc (c : Thread nD τ)), ⌜Scales termB S 512 4 (arg25.view.read (Elt F) f)⌝ ∗ ((arg25.view.loc (c : Thread nD τ)) ↦[arg25.view.set]{fullShare} f)) ∗ any c arg26 ∗ (∃ f : Buf (Elt F) (arg27.view.loc (c : Thread nD τ)), ⌜Scales termA V 512 4 (arg27.view.read (Elt F) f)⌝ ∗ ((arg27.view.loc (c : Thread nD τ)) ↦[arg27.view.set]{fullShare} f)) ∗ any c arg28 ∗ (∃ f : Buf (Elt F) (arg29.view.loc (c : Thread nD τ)), ⌜Scales termB V 512 4 (arg29.view.read (Elt F) f)⌝ ∗ ((arg29.view.loc (c : Thread nD τ)) ↦[arg29.view.set]{fullShare} f)) ∗ any c arg30 ∗ any c arg31 ∗ any c arg32 ∗ any c arg33 ∗ any c arg34)
      ⊢ wp frame (wpE (defs₀ (F := F)) Variants.none (c : Thread nD τ) none) Set.univ (cc0_q4_swiglu_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34)
        (fun _ => iprop((∃ X, ⌜True⌝ ∗ owns (c : Thread nD τ) arg1 fullShare X) ∗ (∃ X, ⌜True⌝ ∗ owns (c : Thread nD τ) arg2 fullShare X) ∗ (∃ X, ⌜True⌝ ∗ owns (c : Thread nD τ) arg3 fullShare X) ∗ (∃ X, ⌜True⌝ ∗ owns (c : Thread nD τ) arg4 fullShare X) ∗ (∃ X, ⌜True⌝ ∗ owns (c : Thread nD τ) arg5 fullShare X) ∗ (∃ X, ⌜True⌝ ∗ owns (c : Thread nD τ) arg6 fullShare X) ∗ (∃ X, ⌜True⌝ ∗ owns (c : Thread nD τ) arg7 fullShare X) ∗ (∃ X, ⌜True⌝ ∗ owns (c : Thread nD τ) arg8 fullShare X) ∗ (∃ X, ⌜True⌝ ∗ owns (c : Thread nD τ) arg9 fullShare X) ∗ (∃ X, ⌜True⌝ ∗ owns (c : Thread nD τ) arg10 fullShare X) ∗ (∃ X, ⌜Hidden H (n + 512) X⌝ ∗ owns (c : Thread nD τ) arg11 fullShare X) ∗ any c arg12 ∗ any c arg13 ∗ any c arg14 ∗ any c arg15 ∗ any c arg16 ∗ any c arg17 ∗ any c arg18 ∗ any c arg19 ∗ any c arg20 ∗ any c arg21 ∗ any c arg22 ∗ any c arg23 ∗ any c arg24 ∗ any c arg25 ∗ any c arg26 ∗ any c arg27 ∗ any c arg28 ∗ any c arg29 ∗ any c arg30 ∗ any c arg31 ∗ any c arg32 ∗ any c arg33 ∗ any c arg34)) := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, H12, H13, H14, H15, H16, H17, H18, H19, H20, H21, H22, H23, H24, H25, H26, H27, H28, H29, H30, H31, H32, H33, H34⟩
  subst e1
  subst e2
  subst e3
  subst e4
  subst e5
  subst e6
  subst e7
  subst e8
  subst e9
  subst e10
  iapply (wp_wand_r frame (wpE (defs₀ (F := F)) Variants.none (c : Thread nD τ) none) Set.univ)
  isplitl
  · iapply (step_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 X Q U S V H n f2 f3 f6 f7 h1 h4 h8 h12 h16 hH1 ho1)
    isplitl [H1]
    · iexists _; iexact H1
    isplitl [H2]
    · iexact H2
    isplitl [H3]
    · iexact H3
    isplitl [H4]
    · iexists _; iexact H4
    isplitl [H5]
    · iexists _; iexact H5
    isplitl [H6]
    · iexact H6
    isplitl [H7]
    · iexact H7
    isplitl [H8]
    · iexists _; iexact H8
    isplitl [H9]
    · iexists _; iexact H9
    isplitl [H10]
    · iexists _; iexact H10
    isplitl [H11]
    · iexists _; isplitr [H11]; swap; · iexact H11
      ipureintro; rw [e11]; exact h11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    isplitl [H28]
    · iexact H28
    isplitl [H29]
    · iexact H29
    isplitl [H30]
    · iexact H30
    isplitl [H31]
    · iexact H31
    isplitl [H32]
    · iexact H32
    isplitl [H33]
    · iexact H33
    iexact H34
  iintro %_ ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, %h11, H11⟩, H12, H13, H14, H15, H16, H17, H18, H19, H20, H21, H22, H23, H24, H25, H26, H27, H28, H29, H30, H31, H32, H33, H34⟩
  isplitl [H1]
  · iexists (arg1.view.read (Elt F) f1); isplitr [H1]; · ipureintro; trivial
    iexists f1; isplitr [H1]; · ipureintro; rfl
    iexact H1
  isplitl [H2]
  · iexists (arg2.view.read (Elt F) f2); isplitr [H2]; · ipureintro; trivial
    iexists f2; isplitr [H2]; · ipureintro; rfl
    iexact H2
  isplitl [H3]
  · iexists (arg3.view.read (Elt F) f3); isplitr [H3]; · ipureintro; trivial
    iexists f3; isplitr [H3]; · ipureintro; rfl
    iexact H3
  isplitl [H4]
  · iexists (arg4.view.read (Elt F) f4); isplitr [H4]; · ipureintro; trivial
    iexists f4; isplitr [H4]; · ipureintro; rfl
    iexact H4
  isplitl [H5]
  · iexists (arg5.view.read (Elt F) f5); isplitr [H5]; · ipureintro; trivial
    iexists f5; isplitr [H5]; · ipureintro; rfl
    iexact H5
  isplitl [H6]
  · iexists (arg6.view.read (Elt F) f6); isplitr [H6]; · ipureintro; trivial
    iexists f6; isplitr [H6]; · ipureintro; rfl
    iexact H6
  isplitl [H7]
  · iexists (arg7.view.read (Elt F) f7); isplitr [H7]; · ipureintro; trivial
    iexists f7; isplitr [H7]; · ipureintro; rfl
    iexact H7
  isplitl [H8]
  · iexists (arg8.view.read (Elt F) f8); isplitr [H8]; · ipureintro; trivial
    iexists f8; isplitr [H8]; · ipureintro; rfl
    iexact H8
  isplitl [H9]
  · iexists (arg9.view.read (Elt F) f9); isplitr [H9]; · ipureintro; trivial
    iexists f9; isplitr [H9]; · ipureintro; rfl
    iexact H9
  isplitl [H10]
  · iexists (arg10.view.read (Elt F) f10); isplitr [H10]; · ipureintro; trivial
    iexists f10; isplitr [H10]; · ipureintro; rfl
    iexact H10
  isplitl [H11]
  · iexists (arg11.view.read (Elt F) f11); isplitr [H11]; · ipureintro; exact h11
    iexists f11; isplitr [H11]; · ipureintro; rfl
    iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

end Cert.Proof.KernelIdeal.Values
-- ==== Proof.KernelIdeal.Windows.lean ====
/-
What the windows hold at a step, and the hidden row as the kernel computes it from the arrays.
-/
module

public import proofs.«01_k».proof.Proof.KernelIdeal.Padded
public import proofs.«01_k».proof.Proof.Gen.KernelIdeal.Frame
public import proofs.«01_k».proof.Proof.Gen.KernelIdeal.Points
public import proofs.«01_k».proof.Proof.Gen.KernelIdeal.Launch
public import Idealize.ShloMosaic.Lib.Pipeline.Value

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

open Idealize.ShloMosaic.Pipeline

variable (m : (ℓ : Loc nD τ sig) → Buf (Elt F) ℓ) (c : Dev nD)

/-- The arrays of the call: the input, the gate's bytes and scales, the up projection's. -/
def arrX : S12x4096.Idx → F .bf16 := V m c main_v0
def arrQ : S14336x2048.Idx → BitVec 8 := V m c main_arg1
def arrU : S14336x2048.Idx → BitVec 8 := V m c main_arg3
def arrS : S14336x128.Idx → F .f32 := V m c main_arg2
def arrV : S14336x128.Idx → F .f32 := V m c main_arg4

/-- The 1024 rows of a matrix that step `t` works on. -/
def rowsQ (A : S14336x2048.Idx → BitVec 8) (t : ℕ) : S1024x2048.Idx → BitVec 8 := part (pick A) 1024 2048 (1024 * t) 0 1
def rowsS (A : S14336x128.Idx → F .f32) (t : ℕ) : S1024x128.Idx → F .f32 := part (pick A) 1024 128 (1024 * t) 0 1

/-- The hidden row, by blocks of 512 columns. -/
def hidden (r col : ℕ) : F .bf16 :=
  blockOf (padded (pick (arrX m c))) (pick (rowsQ (arrQ m c) (col / 1024))) (pick (rowsQ (arrU m c) (col / 1024)))
    (pick (rowsS (arrS m c) (col / 1024))) (pick (rowsS (arrV m c) (col / 1024))) (512 * (col / 512 % 2)) r (col % 512)

theorem hidden_at (t b r l n : ℕ) (hb : b < 2) (hl : l < 512) (hn : n = 1024 * t + 512 * b) : hidden m c r (n + l) =
    blockOf (padded (pick (arrX m c))) (pick (rowsQ (arrQ m c) t)) (pick (rowsQ (arrU m c) t))
      (pick (rowsS (arrS m c) t)) (pick (rowsS (arrV m c) t)) (512 * b) r l := by
  subst hn
  have e1 : (1024 * t + 512 * b + l) / 1024 = t := by omega
  have e2 : (1024 * t + 512 * b + l) / 512 % 2 = b := by omega
  have e3 : (1024 * t + 512 * b + l) % 512 = l := by omega
  rw [hidden, e1, e2, e3]

/-- The columns of the hidden row made once step `t` is done. -/
def made (t : ℕ) : ℕ := if t = 14 then 14336 else 1024 * t + 512

/-- The scratch after step `t`: the spread input, and the tables of the block that follows. -/
def tables (t : ℕ) : sProp 𝕄 := iprop(any c (Memref.whole cc0_scratch0) ∗ (∃ f : Buf (Elt F) ((Memref.whole cc0_scratch1).view.loc (c : Thread nD τ)), ⌜Spread (padded (pick (arrX m c))) 16384 ((Memref.whole cc0_scratch1).view.read (Elt F) f)⌝ ∗ (((Memref.whole cc0_scratch1).view.loc (c : Thread nD τ)) ↦[(Memref.whole cc0_scratch1).view.set]{fullShare} f)) ∗ any c (Memref.whole cc0_scratch2) ∗ any c (Memref.whole cc0_scratch3) ∗ any c (Memref.whole cc0_scratch4) ∗ (∃ f : Buf (Elt F) ((Memref.whole cc0_scratch5).view.loc (c : Thread nD τ)), ⌜Words F (pick (rowsQ (arrQ m c) t)) 512 2048 ((Memref.whole cc0_scratch5).view.read (Elt F) f)⌝ ∗ (((Memref.whole cc0_scratch5).view.loc (c : Thread nD τ)) ↦[(Memref.whole cc0_scratch5).view.set]{fullShare} f)) ∗ any c (Memref.whole cc0_scratch6) ∗ (∃ f : Buf (Elt F) ((Memref.whole cc0_scratch7).view.loc (c : Thread nD τ)), ⌜Words F (pick (rowsQ (arrU m c) t)) 512 2048 ((Memref.whole cc0_scratch7).view.read (Elt F) f)⌝ ∗ (((Memref.whole cc0_scratch7).view.loc (c : Thread nD τ)) ↦[(Memref.whole cc0_scratch7).view.set]{fullShare} f)) ∗ any c (Memref.whole cc0_scratch8) ∗ any c (Memref.whole cc0_scratch9) ∗ any c (Memref.whole cc0_scratch10) ∗ (∃ f : Buf (Elt F) ((Memref.whole cc0_scratch11).view.loc (c : Thread nD τ)), ⌜Scales termA (pick (rowsS (arrS m c) t)) 512 4 ((Memref.whole cc0_scratch11).view.read (Elt F) f)⌝ ∗ (((Memref.whole cc0_scratch11).view.loc (c : Thread nD τ)) ↦[(Memref.whole cc0_scratch11).view.set]{fullShare} f)) ∗ any c (Memref.whole cc0_scratch12) ∗ (∃ f : Buf (Elt F) ((Memref.whole cc0_scratch13).view.loc (c : Thread nD τ)), ⌜Scales termB (pick (rowsS (arrS m c) t)) 512 4 ((Memref.whole cc0_scratch13).view.read (Elt F) f)⌝ ∗ (((Memref.whole cc0_scratch13).view.loc (c : Thread nD τ)) ↦[(Memref.whole cc0_scratch13).view.set]{fullShare} f)) ∗ any c (Memref.whole cc0_scratch14) ∗ (∃ f : Buf (Elt F) ((Memref.whole cc0_scratch15).view.loc (c : Thread nD τ)), ⌜Scales termA (pick (rowsS (arrV m c) t)) 512 4 ((Memref.whole cc0_scratch15).view.read (Elt F) f)⌝ ∗ (((Memref.whole cc0_scratch15).view.loc (c : Thread nD τ)) ↦[(Memref.whole cc0_scratch15).view.set]{fullShare} f)) ∗ any c (Memref.whole cc0_scratch16) ∗ (∃ f : Buf (Elt F) ((Memref.whole cc0_scratch17).view.loc (c : Thread nD τ)), ⌜Scales termB (pick (rowsS (arrV m c) t)) 512 4 ((Memref.whole cc0_scratch17).view.read (Elt F) f)⌝ ∗ (((Memref.whole cc0_scratch17).view.loc (c : Thread nD τ)) ↦[(Memref.whole cc0_scratch17).view.set]{fullShare} f)) ∗ any c (Memref.whole cc0_scratch18) ∗ any c (Memref.whole cc0_scratch19) ∗ any c (Memref.whole cc0_scratch20) ∗ any c (Memref.whole cc0_scratch21) ∗ any c (Memref.whole cc0_scratch22))

/-- What the scratch is known to hold before step `t`. -/
def kept (t : ℕ) : sProp 𝕄 := if t = 0 ∨ t = 15 then ΦA spec0 c else iprop(tables m c (t - 1) ∗ ∃ r, prngReg c r)

/-- The proof data of the pipeline: after step `t` the window of the hidden row holds its first `made t` columns. -/
def rowData : RDat τ (Elt F) Unit ℕ (UR sig nD τ) ℕ cfg0 c where
  A w := V m c (arrRef spec0 w)
  after w t _ X := match w, X with
    | ⟨10, _⟩, X => Hidden (hidden m c) (made t.val) X
    | _, _ => True
  Φ t := kept m c t.val
  q w := shareOf spec0 w
  owed _ := 0

theorem fetch1 : ∀ t : Fin cfg0.N, t.val < 14 → (cfg0.win 1).fetch t = true :=
  (by decide +kernel : ∀ t : Fin grid0.N, t.val < 14 → win0_1.fetch t = true)
theorem index1 : ∀ t : Fin cfg0.N, t.val < 14 → (cfg0.win 1).index t = ![t.val, 0] :=
  (by decide +kernel : ∀ t : Fin grid0.N, t.val < 14 → win0_1.index t = ![t.val, 0])
/-- Window 1 at step `t`. -/
theorem found1 (t : Fin cfg0.N) (ht : t.val < 14) (Y) (h : (rowData m c).Finds 1 t Y) : Y = rowsQ (arrQ m c) t.val := by
  obtain ⟨d, rfl⟩ := ((rowData m c).finds_of_fetch (fetch1 t ht) Y).1 h
  funext y
  have hm : (cfg0.win 1).moved (cfg0.grid.coords t) y = true := ((cfg0.win 1).moved_iff _ y).mpr fun a => (y a).isLt
  unfold RDat.fetched Window.fill; rw [dif_pos hm]
  unfold RDat.blockOf; rw [View.read_apply]
  refine (cast_eq _ _).trans ?_
  have hi := index1 t ht
  refine pick_at (m := 14336) (n := 2048) (arrQ m c) _ ?_ ?_
  · refine ((cfg0.win 1).rect_emb_val t _ 0).trans ?_
    rw [hi]
    show t.val * 1024 + (y 0).val = 1024 * t.val + 1 * (y 0).val
    omega
  · refine ((cfg0.win 1).rect_emb_val t _ 1).trans ?_
    rw [hi]
    show 0 * 2048 + (y 1).val = 0 + (y 1).val
    omega

theorem fetch2 : ∀ t : Fin cfg0.N, t.val < 14 → (cfg0.win 2).fetch t = true :=
  (by decide +kernel : ∀ t : Fin grid0.N, t.val < 14 → win0_2.fetch t = true)
theorem index2 : ∀ t : Fin cfg0.N, t.val < 14 → (cfg0.win 2).index t = ![t.val, 0] :=
  (by decide +kernel : ∀ t : Fin grid0.N, t.val < 14 → win0_2.index t = ![t.val, 0])
/-- Window 2 at step `t`. -/
theorem found2 (t : Fin cfg0.N) (ht : t.val < 14) (Y) (h : (rowData m c).Finds 2 t Y) : Y = rowsQ (arrU m c) t.val := by
  obtain ⟨d, rfl⟩ := ((rowData m c).finds_of_fetch (fetch2 t ht) Y).1 h
  funext y
  have hm : (cfg0.win 2).moved (cfg0.grid.coords t) y = true := ((cfg0.win 2).moved_iff _ y).mpr fun a => (y a).isLt
  unfold RDat.fetched Window.fill; rw [dif_pos hm]
  unfold RDat.blockOf; rw [View.read_apply]
  refine (cast_eq _ _).trans ?_
  have hi := index2 t ht
  refine pick_at (m := 14336) (n := 2048) (arrU m c) _ ?_ ?_
  · refine ((cfg0.win 2).rect_emb_val t _ 0).trans ?_
    rw [hi]
    show t.val * 1024 + (y 0).val = 1024 * t.val + 1 * (y 0).val
    omega
  · refine ((cfg0.win 2).rect_emb_val t _ 1).trans ?_
    rw [hi]
    show 0 * 2048 + (y 1).val = 0 + (y 1).val
    omega

theorem fetch5 : ∀ t : Fin cfg0.N, t.val < 14 → (cfg0.win 5).fetch t = true :=
  (by decide +kernel : ∀ t : Fin grid0.N, t.val < 14 → win0_5.fetch t = true)
theorem index5 : ∀ t : Fin cfg0.N, t.val < 14 → (cfg0.win 5).index t = ![t.val, 0] :=
  (by decide +kernel : ∀ t : Fin grid0.N, t.val < 14 → win0_5.index t = ![t.val, 0])
/-- Window 5 at step `t`. -/
theorem found5 (t : Fin cfg0.N) (ht : t.val < 14) (Y) (h : (rowData m c).Finds 5 t Y) : Y = rowsS (arrS m c) t.val := by
  obtain ⟨d, rfl⟩ := ((rowData m c).finds_of_fetch (fetch5 t ht) Y).1 h
  funext y
  have hm : (cfg0.win 5).moved (cfg0.grid.coords t) y = true := ((cfg0.win 5).moved_iff _ y).mpr fun a => (y a).isLt
  unfold RDat.fetched Window.fill; rw [dif_pos hm]
  unfold RDat.blockOf; rw [View.read_apply]
  refine (cast_eq _ _).trans ?_
  have hi := index5 t ht
  refine pick_at (m := 14336) (n := 128) (arrS m c) _ ?_ ?_
  · refine ((cfg0.win 5).rect_emb_val t _ 0).trans ?_
    rw [hi]
    show t.val * 1024 + (y 0).val = 1024 * t.val + 1 * (y 0).val
    omega
  · refine ((cfg0.win 5).rect_emb_val t _ 1).trans ?_
    rw [hi]
    show 0 * 128 + (y 1).val = 0 + (y 1).val
    omega

theorem fetch6 : ∀ t : Fin cfg0.N, t.val < 14 → (cfg0.win 6).fetch t = true :=
  (by decide +kernel : ∀ t : Fin grid0.N, t.val < 14 → win0_6.fetch t = true)
theorem index6 : ∀ t : Fin cfg0.N, t.val < 14 → (cfg0.win 6).index t = ![t.val, 0] :=
  (by decide +kernel : ∀ t : Fin grid0.N, t.val < 14 → win0_6.index t = ![t.val, 0])
/-- Window 6 at step `t`. -/
theorem found6 (t : Fin cfg0.N) (ht : t.val < 14) (Y) (h : (rowData m c).Finds 6 t Y) : Y = rowsS (arrV m c) t.val := by
  obtain ⟨d, rfl⟩ := ((rowData m c).finds_of_fetch (fetch6 t ht) Y).1 h
  funext y
  have hm : (cfg0.win 6).moved (cfg0.grid.coords t) y = true := ((cfg0.win 6).moved_iff _ y).mpr fun a => (y a).isLt
  unfold RDat.fetched Window.fill; rw [dif_pos hm]
  unfold RDat.blockOf; rw [View.read_apply]
  refine (cast_eq _ _).trans ?_
  have hi := index6 t ht
  refine pick_at (m := 14336) (n := 128) (arrV m c) _ ?_ ?_
  · refine ((cfg0.win 6).rect_emb_val t _ 0).trans ?_
    rw [hi]
    show t.val * 1024 + (y 0).val = 1024 * t.val + 1 * (y 0).val
    omega
  · refine ((cfg0.win 6).rect_emb_val t _ 1).trans ?_
    rw [hi]
    show 0 * 128 + (y 1).val = 0 + (y 1).val
    omega

theorem index0 : ∀ t : Fin cfg0.N, (cfg0.win 0).index t = ![0, 0] :=
  (by decide +kernel : ∀ t : Fin grid0.N, win0_0.index t = ![0, 0])
theorem zeros : ∀ a : Fin 2, (![0, 0] : Fin 2 → ℕ) a = 0 := by decide
/-- The input's window at the first step. -/
theorem found0 (t : Fin cfg0.N) (ht : t.val = 0) (Y) (h : (rowData m c).Finds 0 t Y) : Y = arrX m c := by
  obtain ⟨d, rfl⟩ := ((rowData m c).finds_of_fetch ((fetch0_0 t).2 (by omega)) Y).1 h
  funext y
  have hm : (cfg0.win 0).moved (cfg0.grid.coords t) y = true := ((cfg0.win 0).moved_iff _ y).mpr fun a => (y a).isLt
  unfold RDat.fetched Window.fill; rw [dif_pos hm]
  unfold RDat.blockOf; rw [View.read_apply]
  refine (cast_eq _ _).trans ?_
  refine congrArg (arrX m c) (funext fun a => Fin.ext ?_)
  exact (cfg0.win 0).rect_emb_val_of_index_zero t a (by rw [index0]; exact zeros a) _

theorem fetch10 : ∀ t : Fin cfg0.N, (cfg0.win 10).fetch t = false :=
  (by decide +kernel : ∀ t : Fin grid0.N, win0_10.fetch t = false)
/-- The hidden row's window after the first step. -/
theorem found10 (t : Fin cfg0.N) (ht : t.val ≠ 0) (Y) (h : (rowData m c).Finds 10 t Y) : Hidden (hidden m c) (made (t.val - 1)) Y := by
  have hN : t.val < 15 := t.isLt
  rcases ((rowData m c).finds_of_pos (fetch10 t) ht Y).1 h with h | ⟨Y', -, h⟩
  · have := (flush0_10 _).1 h
    simp only at this
    omega
  · exact h

end Cert.Proof.KernelIdeal.Values
-- ==== Proof.KernelIdeal.Points.lean ====
/-
The branches taken at each step and where its columns are stored.
-/
module

public import proofs.«01_k».proof.Proof.KernelIdeal.StepOwns
public import proofs.«01_k».proof.Proof.KernelIdeal.Windows
public import proofs.«01_k».proof.Proof.KernelIdeal.Frame

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

open Idealize.ShloMosaic.Pipeline

variable (m : (ℓ : Loc nD τ sig) → Buf (Elt F) ℓ) (c : Dev nD)

theorem conds_first : ∀ t : Fin grid0.N, t.val = 0 → k0_cond1 (grid0.coords t) = 1#1 ∧ ¬ k0_cond4 (grid0.coords t) = 1#1
    ∧ k0_cond8 (grid0.coords t) = 1#1 ∧ ¬ k0_cond12 (grid0.coords t) = 1#1 ∧ ¬ k0_cond16 (grid0.coords t) = 1#1 := by decide +kernel
theorem conds_inner : ∀ t : Fin grid0.N, t.val ≠ 0 → t.val < 14 → ¬ k0_cond1 (grid0.coords t) = 1#1 ∧ k0_cond4 (grid0.coords t) = 1#1
    ∧ ¬ k0_cond8 (grid0.coords t) = 1#1 ∧ k0_cond12 (grid0.coords t) = 1#1 ∧ ¬ k0_cond16 (grid0.coords t) = 1#1 := by decide +kernel
theorem conds_last : ∀ t : Fin grid0.N, t.val = 14 → ¬ k0_cond1 (grid0.coords t) = 1#1 ∧ k0_cond4 (grid0.coords t) = 1#1
    ∧ ¬ k0_cond8 (grid0.coords t) = 1#1 ∧ ¬ k0_cond12 (grid0.coords t) = 1#1 ∧ k0_cond16 (grid0.coords t) = 1#1 := by decide +kernel

/-! Where the columns are stored. -/

theorem stored_first : ∀ k : Fin k0_t13_loop.trips, k0_off47 k = ![0, 0 + 128 * k.val] := by decide +kernel
theorem stored_odd : ∀ t : Fin grid0.N, t.val ≠ 0 → ∀ k : Fin k0_t8_loop.trips, k0_off30 (grid0.coords t) k = ![0, 1024 * (t.val - 1) + 512 + 128 * k.val] := by
  decide +kernel
theorem stored_even : ∀ t : Fin grid0.N, t.val ≠ 0 → t.val < 14 → ∀ k : Fin k0_t18_loop.trips,
    k0_off70 (grid0.coords t) k = ![0, 1024 * (t.val - 1) + 512 + 512 + 128 * k.val] := by decide +kernel

theorem made_of (t : ℕ) (h : t < 14) : made t = 1024 * t + 512 := by unfold made; rw [if_neg (by omega)]

end Cert.Proof.KernelIdeal.Values

end
-- ==== Proof.KernelIdeal.SoundFirst.lean ====
/-
The body at the first step: from windows and scratch as the step before left them, the hidden row is right as far as the step goes.
-/
module

public import proofs.«01_k».proof.Proof.KernelIdeal.Points

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

open Idealize.ShloMosaic.Pipeline

variable (m : (ℓ : Loc nD τ sig) → Buf (Elt F) ℓ) (c : Dev nD)

set_option maxHeartbeats 2000000 in
/-- The first step. -/
theorem sound_first (t : Fin cfg0.N) (ht : t.val = 0) (Y : (w : Fin cfg0.W) → (cfg0.win w).block.Idx → Elt F (cfg0.win w).elt)
    (hx : Y 0 = arrX m c) (hq : Y 1 = rowsQ (arrQ m c) t.val) (hu : Y 2 = rowsQ (arrU m c) t.val) (hs : Y 5 = rowsS (arrS m c) t.val) (hv : Y 6 = rowsS (arrV m c) t.val) :
    iprop(ΦA spec0 c ∗ (rowData m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
      ⊢ wp frame (wpE (defs₀ (F := F)) Variants.none (c : Thread nD τ) none) Set.univ (bodyAt0 t) (fun _ =>
        iprop((tables m c t.val ∗ ∃ r, prngReg c r) ∗ (rowData m c).owesAt () t.castSucc ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜Hidden (hidden m c) (made t.val) X⌝ ∗ owns (c : Thread nD τ) (st0_10 t) fullShare X))) := by
  obtain ⟨h1, h4, h8, h12, h16⟩ := conds_first t ht
  have e : made t.val = 512 := by rw [ht]; rfl
  rw [hx, hq, hu, hs, hv, e]
  unfold ΦA tables
  rw [scratch_eq]
  iintro ⟨⟨⟨S0, S1, S2, S3, S4, S5, S6, S7, S8, S9, S10, S11, S12, S13, S14, S15, S16, S17, S18, S19, S20, S21, S22⟩, Hr⟩, Ho, H0, H1, H2, H3, H4, H5, H6, H7, H8, H9, H10⟩
  iapply (wp_wand_r frame (wpE (defs₀ (F := F)) Variants.none (c : Thread nD τ) none) Set.univ)
  isplitr [Hr Ho]
  · iapply (first_owns c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hidden m c) _ _ _ _ _ _ _ _ _ _ _ h1 h4 h8 h12 h16 (fun r l _ hl => hidden_at m c t.val 0 r l 0 (by omega) hl (by omega)) stored_first)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    iexact S22
  iintro %_ ⟨H0, H1, H2, H3, H4, H5, H6, H7, H8, H9, H10, S0, S1, S2, S3, S4, S5, S6, S7, S8, S9, S10, S11, S12, S13, S14, S15, S16, S17, S18, S19, S20, S21, S22⟩
  isplitl [Hr S0 S1 S2 S3 S4 S5 S6 S7 S8 S9 S10 S11 S12 S13 S14 S15 S16 S17 S18 S19 S20 S21 S22]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      iexact S22
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.KernelIdeal.Values

end
-- ==== Proof.KernelIdeal.SoundInner.lean ====
/-
The body at an inner step: from windows and scratch as the step before left them, the hidden row is right as far as the step goes.
-/
module

public import proofs.«01_k».proof.Proof.KernelIdeal.Points

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

open Idealize.ShloMosaic.Pipeline

variable (m : (ℓ : Loc nD τ sig) → Buf (Elt F) ℓ) (c : Dev nD)

set_option maxHeartbeats 2000000 in
/-- An inner step. -/
theorem sound_inner (t : Fin cfg0.N) (h0 : t.val ≠ 0) (ht : t.val < 14) (Y : (w : Fin cfg0.W) → (cfg0.win w).block.Idx → Elt F (cfg0.win w).elt)
    (hq : Y 1 = rowsQ (arrQ m c) t.val) (hu : Y 2 = rowsQ (arrU m c) t.val) (hs : Y 5 = rowsS (arrS m c) t.val) (hv : Y 6 = rowsS (arrV m c) t.val) (hh : Hidden (hidden m c) (made (t.val - 1)) (Y 10)) :
    iprop((tables m c (t.val - 1) ∗ ∃ r, prngReg c r) ∗ (rowData m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
      ⊢ wp frame (wpE (defs₀ (F := F)) Variants.none (c : Thread nD τ) none) Set.univ (bodyAt0 t) (fun _ =>
        iprop((tables m c t.val ∗ ∃ r, prngReg c r) ∗ (rowData m c).owesAt () t.castSucc ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜Hidden (hidden m c) (made t.val) X⌝ ∗ owns (c : Thread nD τ) (st0_10 t) fullShare X))) := by
  obtain ⟨h1, h4, h8, h12, h16⟩ := conds_inner t h0 ht
  rw [made_of _ (by omega)] at hh
  have e : made t.val = 1024 * (t.val - 1) + 512 + 1024 := by rw [made_of _ ht]; omega
  rw [hq, hu, hs, hv, e]
  unfold tables
  iintro ⟨⟨⟨S0, S1, S2, S3, S4, S5, S6, S7, S8, S9, S10, S11, S12, S13, S14, S15, S16, S17, S18, S19, S20, S21, S22⟩, Hr⟩, Ho, H0, H1, H2, H3, H4, H5, H6, H7, H8, H9, H10⟩
  iapply (wp_wand_r frame (wpE (defs₀ (F := F)) Variants.none (c : Thread nD τ) none) Set.univ)
  isplitr [Hr Ho]
  · iapply (inner_owns c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hidden m c) (1024 * (t.val - 1) + 512) _ _ _ _ _ _ _ _ _ _ _ h1 h4 h8 h12 h16 hh
      (fun r l _ hl => hidden_at m c (t.val - 1) 1 r l _ (by omega) hl (by omega)) (fun r l _ hl => hidden_at m c t.val 0 r l _ (by omega) hl (by omega))
      (stored_odd t h0) (stored_even t h0 ht))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    iexact S22
  iintro %_ ⟨H0, H1, H2, H3, H4, H5, H6, H7, H8, H9, H10, S0, S1, S2, S3, S4, S5, S6, S7, S8, S9, S10, S11, S12, S13, S14, S15, S16, S17, S18, S19, S20, S21, S22⟩
  isplitl [Hr S0 S1 S2 S3 S4 S5 S6 S7 S8 S9 S10 S11 S12 S13 S14 S15 S16 S17 S18 S19 S20 S21 S22]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      iexact S22
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.KernelIdeal.Values

end
-- ==== Proof.KernelIdeal.SoundLast.lean ====
/-
The body at the last step: from windows and scratch as the step before left them, the hidden row is right as far as the step goes.
-/
module

public import proofs.«01_k».proof.Proof.KernelIdeal.Points

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

open Idealize.ShloMosaic.Pipeline

variable (m : (ℓ : Loc nD τ sig) → Buf (Elt F) ℓ) (c : Dev nD)

set_option maxHeartbeats 2000000 in
/-- The last step. -/
theorem sound_last (t : Fin cfg0.N) (ht : t.val = 14) (Y : (w : Fin cfg0.W) → (cfg0.win w).block.Idx → Elt F (cfg0.win w).elt)
    (hh : Hidden (hidden m c) (made (t.val - 1)) (Y 10)) :
    iprop((tables m c (t.val - 1) ∗ ∃ r, prngReg c r) ∗ (rowData m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10))
      ⊢ wp frame (wpE (defs₀ (F := F)) Variants.none (c : Thread nD τ) none) Set.univ (bodyAt0 t) (fun _ =>
        iprop(ΦA spec0 c ∗ (rowData m c).owesAt () t.castSucc ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜Hidden (hidden m c) (made t.val) X⌝ ∗ owns (c : Thread nD τ) (st0_10 t) fullShare X))) := by
  obtain ⟨h1, h4, h8, h12, h16⟩ := conds_last t ht
  rw [made_of _ (by omega)] at hh
  have e : made t.val = 1024 * (t.val - 1) + 512 + 512 := by rw [ht]; rfl
  rw [e]
  unfold ΦA tables
  rw [scratch_eq]
  iintro ⟨⟨⟨S0, S1, S2, S3, S4, S5, S6, S7, S8, S9, S10, S11, S12, S13, S14, S15, S16, S17, S18, S19, S20, S21, S22⟩, Hr⟩, Ho, H0, H1, H2, H3, H4, H5, H6, H7, H8, H9, H10⟩
  iapply (wp_wand_r frame (wpE (defs₀ (F := F)) Variants.none (c : Thread nD τ) none) Set.univ)
  isplitr [Hr Ho]
  · iapply (last_owns c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (hidden m c) (1024 * (t.val - 1) + 512) _ _ _ _ _ _ _ _ _ _ _ h1 h4 h8 h12 h16 hh
      (fun r l _ hl => hidden_at m c (t.val - 1) 1 r l _ (by omega) hl (by omega)) (stored_odd t (by omega)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    iexact S22
  iintro %_ ⟨H0, H1, H2, H3, H4, H5, H6, H7, H8, H9, H10, S0, S1, S2, S3, S4, S5, S6, S7, S8, S9, S10, S11, S12, S13, S14, S15, S16, S17, S18, S19, S20, S21, S22⟩
  isplitl [Hr S0 S1 S2 S3 S4 S5 S6 S7 S8 S9 S10 S11 S12 S13 S14 S15 S16 S17 S18 S19 S20 S21 S22]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      iexact S22
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Proof.KernelIdeal.Values

end
-- ==== Proof.KernelIdeal.RowRun.lean ====
/-
The whole call: the pipeline runs the body at every point, the hidden row is written back once, and every
column of it is what its step computed.
-/
module

public import proofs.«01_k».proof.Proof.KernelIdeal.SoundFirst
public import proofs.«01_k».proof.Proof.KernelIdeal.SoundInner
public import proofs.«01_k».proof.Proof.KernelIdeal.SoundLast

@[expose] public section

set_option maxRecDepth 16384
set_option warn.classDefReducibility false

noncomputable section

namespace Cert.Proof.KernelIdeal.Values

open Cert.Proof.KernelIdeal.Frames Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

open Idealize.ShloMosaic.Pipeline

variable (m : (ℓ : Loc nD τ sig) → Buf (Elt F) ℓ) (ρ : Dev nD → PrngReg)

theorem kept_first (c : Dev nD) : kept m c 0 = ΦA spec0 c := by unfold kept; rw [if_pos (.inl rfl)]
theorem kept_after (c : Dev nD) (t : ℕ) (h : t < 14) : kept m c (t + 1) = iprop(tables m c t ∗ ∃ r, prngReg c r) := by
  unfold kept; rw [if_neg (by omega), Nat.add_sub_cancel]
theorem kept_before (c : Dev nD) (t : ℕ) (h : t ≠ 0) (h' : t < 15) : kept m c t = iprop(tables m c (t - 1) ∗ ∃ r, prngReg c r) := by
  unfold kept; rw [if_neg (by omega)]
theorem kept_last (c : Dev nD) : kept m c 15 = ΦA spec0 c := by unfold kept; rw [if_pos (.inr rfl)]

/-- The body obligation, at every point. -/
theorem row_obligation (c : Dev nD) : (rowData (F := F) m c).BodyObligation (defs₀ (F := F)) Variants.none () Set.univ := fun t Y hY => by
  have hN : t.val < 15 := t.isLt
  rw [bigSep_W0, bigSep_W0, defs₀_row]
  by_cases h0 : t.val = 0
  · have e : (rowData m c).Φ t.castSucc = ΦA spec0 c := by show kept m c t.val = _; rw [h0, kept_first]
    have e' : (rowData m c).Φ t.succ = iprop(tables m c t.val ∗ ∃ r, prngReg c r) := kept_after m c t.val (by omega)
    rw [e, e']
    exact triple_restated (sound_first m c t h0 Y (found0 m c t h0 _ (hY 0)) (found1 m c t (by omega) _ (hY 1)) (found2 m c t (by omega) _ (hY 2))
      (found5 m c t (by omega) _ (hY 5)) (found6 m c t (by omega) _ (hY 6))) rfl .rfl fun _ => .rfl
  · have hh := found10 m c t h0 _ (hY 10)
    have e : (rowData m c).Φ t.castSucc = iprop(tables m c (t.val - 1) ∗ ∃ r, prngReg c r) := kept_before m c t.val h0 hN
    by_cases h14 : t.val < 14
    · have e' : (rowData m c).Φ t.succ = iprop(tables m c t.val ∗ ∃ r, prngReg c r) := kept_after m c t.val h14
      rw [e, e']
      exact triple_restated (sound_inner m c t h0 h14 Y (found1 m c t h14 _ (hY 1)) (found2 m c t h14 _ (hY 2))
        (found5 m c t h14 _ (hY 5)) (found6 m c t h14 _ (hY 6)) hh) rfl .rfl fun _ => .rfl
    · have ht : t.val = 14 := by omega
      have e' : (rowData m c).Φ t.succ = ΦA spec0 c := by show kept m c (t.val + 1) = _; rw [ht]; exact kept_last m c
      rw [e, e']
      exact triple_restated (sound_last m c t ht Y hh) rfl .rfl fun _ => .rfl

set_option backward.isDefEq.respectTransparency.types false in
/-- The run: every array at what the pipeline leaves, the other buffers as they were. -/
theorem run_row : θ_run defs (onTc (τ := τ) (main (F := F))) (s₀ m ρ)
    (fun r => RDat.FramePost cfg0 (rowData m) (V m) r ∧ r.2.sem = fun _ => 0) :=
  RDat.θ_run_frame_track_shared (Q' := _) cfgs (0 : Fin 1) launch₀0 defs₀ Variants.none (rowData m) m ρ main
    (hbody := row_obligation m) (hq := fun _ _ _ => rfl) (howed := fun _ _ => rfl) (V := V m)
    (hmain := hmain m Variants.none) (hA := fun _ _ => rfl)
    (hin := fun c => .of_eq (kept_first m c).symm) (hout := fun c => .of_eq (kept_last m c))

theorem index10 : ∀ t : Fin cfg0.N, (cfg0.win 10).index t = ![0, 0] :=
  (by decide +kernel : ∀ t : Fin grid0.N, win0_10.index t = ![0, 0])
/-- What the call leaves in the hidden row's array. -/
theorem row_left (c : Dev nD) (G : S12x14336.Idx → F .bf16) (h : (rowData m c).ArrAt 10 cfg0.N G) (r : Fin 12) (f : Fin 14336) :
    G (ix2 r f) = hidden m c r.val f.val := by
  have hf : (cfg0.win 10).flush ⟨14, by decide⟩ = true := (flush0_10 _).2 rfl
  have h' : (rowData m c).ArrStep 10 ⟨14, by decide⟩ ((rowData m c).ArrAt 10 14) G := by
    have h1 : (if hh : 14 < cfg0.N then if (cfg0.win 10).flush ⟨14, hh⟩ then (rowData m c).ArrStep 10 ⟨14, hh⟩ ((rowData m c).ArrAt 10 14) else (rowData m c).ArrAt 10 14
      else (rowData m c).ArrAt 10 14) G := h
    rw [dif_pos (by decide : 14 < cfg0.N), if_pos hf] at h1
    exact h1
  obtain ⟨G₀, X, -, ⟨Y, -, hX⟩, e⟩ := h'
  have hX' : Hidden (hidden m c) 14336 X := hX
  have h2 := congrFun (congrArg (((cfg0.win 10).blk ⟨14, by decide⟩).view.read (Elt F)) e) (ix2 r f)
  rw [View.read_write_univ] at h2
  have h3 : ((cfg0.win 10).blk ⟨14, by decide⟩).view.read (Elt F) G (ix2 r f) = G (ix2 r f) := by
    rw [View.read_apply]
    refine (cast_eq _ _).trans ?_
    refine congrArg G (funext fun a => Fin.ext ?_)
    exact (cfg0.win 10).rect_emb_val_of_index_zero _ a (by rw [index10]; exact zeros a) _
  rw [h3] at h2
  rw [h2]
  refine Eq.trans ?_ (hX' r.val f.val r.isLt f.isLt f.isLt)
  exact pick_at (m := 12) (n := 14336) X (ix2 r f) rfl rfl

/-- The hidden row's array at the end, and the argument arrays as they were. -/
theorem row_run : θ_run defs (onTc (τ := τ) (main (F := F))) ⟨m, fun _ => 0, ρ⟩ (fun r => ∀ c : Dev nD,
      (∀ (a : Fin 12) (f : Fin 14336), (r.2.mem ((c.tc : Thread nD τ).loc main_v3_1) : S12x14336.Idx → F .bf16) (ix2 a f) = hidden m c a.val f.val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨row_left m c _ ((h.1 c).1 10),
      ((h.1 c).2 main_arg0 (mem_restRefs_of main_arg0 (by decide) (by decide))).trans (V_main_arg0 m c),
      (h.1.arr_in c 1 rfl).trans (V_main_arg1 m c), (h.1.arr_in c 5 rfl).trans (V_main_arg2 m c),
      (h.1.arr_in c 2 rfl).trans (V_main_arg3 m c), (h.1.arr_in c 6 rfl).trans (V_main_arg4 m c),
      (h.1.arr_in c 4 rfl).trans (V_main_arg5 m c),
      ((h.1 c).2 main_arg6 (mem_restRefs_of main_arg6 (by decide) (by decide))).trans (V_main_arg6 m c)⟩) (run_row m ρ)

end Cert.Proof.KernelIdeal.Values

end
-- ==== Proof.Algebraic.lean ====
/-
The value claim: the hidden row the kernel leaves is the reference's, when the scales are finite.
-/
module

public import proofs.«01_k».proof.Defs
public import proofs.«01_k».proof.Proof.Reference
public import proofs.«01_k».proof.Proof.KernelIdeal.RowRun

@[expose] public section

set_option maxRecDepth 16384

noncomputable section

namespace Cert.Proof.Algebraic

open Cert.Proof.KernelIdeal.Frames Cert.Proof.KernelIdeal.Values Cert.KernelIdeal Cert.KernelIdeal.Gen
open Cert.Proof.ReferenceIdeal (input res_at)
open Idealize.ShloMosaic Idealize.ShloMosaic.TcCoe Idealize.ShloMosaic.Tactic Idealize.SL.Sem

/-- The side condition of the precondition. -/
theorem pre_facts : Cert.Pre_finite_scales.Facts := ⟨by decide⟩

/-- The bound the precondition compares with is infinity. -/
theorem top_bits : Ideal.ofBits .f32 2139095040#32 = (⊤ : EReal) := by
  show Ideal.ieee 8 23 2139095040#32 = _
  unfold Ideal.ieee
  simp only
  rw [if_pos (by decide), if_pos (by decide), if_neg (by decide)]

/-- A scale below infinity in absolute value is a real number. -/
theorem finite_of_lt (s : EReal) (h : FloatOps.cmpf (F := Ideal) (φ := .f32) .olt (max s (-s)) (Ideal.ofBits .f32 2139095040#32) = 1#1) : ∃ x : ℝ, s = x := by
  rw [top_bits] at h
  have h' : max s (-s) < (⊤ : EReal) := (Ideal.cmp_olt_eq_one _ _).1 h
  induction s with
  | bot => exact absurd h' (by simp)
  | top => exact absurd h' (by simp)
  | coe x => exact ⟨x, rfl⟩

/-- The array of the input as the call reads it: the argument without its middle axis. -/
theorem V_main_v0 (m : (ℓ : Loc nD τ sig) → Buf (Elt Ideal) ℓ) (c : Dev nD) :
    (V m c main_v0 : S12x4096.Idx → EReal) = shapeCast S12x4096 (m ((c : Thread nD τ).loc main_arg0) : FVec Ideal S12x1x4096 .bf16) shapeCasts_S12x1x4096_S12x4096 := by
  show StableHlo.after hostOps0 _ _ = _
  after_results_simp; rfl

/-- Its entries. -/
theorem reshaped (x : FVec Ideal S12x1x4096 .bf16) (h : S12x1x4096.ShapeCasts S12x4096) (r : Fin 12) (col : Fin 4096) :
    shapeCast S12x4096 x h (ix2 r col) = input x r.val col.val := by
  have e : shapeCast S12x4096 x h (ix2 r col) = x (ix3 r 0 col) := by pointwise []
  exact e.trans (Cert.Proof.ReferenceIdeal.input_at x r col.val _ col.isLt rfl)

/-- The padded input has the argument's rows. -/
theorem input_eq (m : (ℓ : Loc nD τ sig) → Buf (Elt Ideal) ℓ) (c : Dev nD) (r col : ℕ) (hr : r < 12) (hc : col < 4096) :
    padded (F := Ideal) (pick (arrX m c)) r col = input (m ((c.tc : Thread nD τ).loc main_arg0)) r col := by
  rw [padded_at _ _ _ hr hc, pick_ix (m := 12) (n := 4096) _ hr hc]
  exact (congrFun (V_main_v0 m c) _).trans (reshaped _ _ ⟨r, hr⟩ ⟨col, hc⟩)

/-- Scales that are all real numbers. -/
def Finite (s : S14336x128.Idx → EReal) : Prop := ∀ y, ∃ x : ℝ, s y = x

/-- The rows a step works on, in the whole matrix. -/
theorem rowsQ_at (A : S14336x2048.Idx → BitVec 8) (f R : ℕ) (hR : R < 2048) :
    pick (rowsQ A (f / 1024)) (512 * (f / 512 % 2) + f % 512) R = pick A f R := by
  rw [pick_ix (m := 1024) (n := 2048) _ (by omega) hR]
  show pick A (1024 * (f / 1024) + 1 * (512 * (f / 512 % 2) + f % 512)) (0 + R) = _
  congr 1 <;> omega

theorem rowsS_at (A : S14336x128.Idx → EReal) (f R : ℕ) (hR : R < 128) :
    pick (rowsS (F := Ideal) A (f / 1024)) (512 * (f / 512 % 2) + f % 512) R = pick A f R := by
  rw [pick_ix (m := 1024) (n := 128) _ (by omega) hR]
  show pick A (1024 * (f / 1024) + 1 * (512 * (f / 512 % 2) + f % 512)) (0 + R) = _
  congr 1 <;> omega

/-- The kernel's hidden row, entry by entry. -/
theorem hidden_eq (m : (ℓ : Loc nD τ sig) → Buf (Elt Ideal) ℓ) (c : Dev nD)
    (hS : Finite (m ((c.tc : Thread nD τ).loc main_arg2)))
    (hV : Finite (m ((c.tc : Thread nD τ).loc main_arg4))) (r : Fin 12) (f : Fin 14336) :
    Cert.Proof.KernelIdeal.Values.hidden m c r.val f.val =
      act (rowDot (input (m ((c.tc : Thread nD τ).loc main_arg0))) (pick (m := 14336) (n := 2048) (m ((c.tc : Thread nD τ).loc main_arg1))) (pick (m := 14336) (n := 128) (m ((c.tc : Thread nD τ).loc main_arg2))) f.val r.val)
        (rowDot (input (m ((c.tc : Thread nD τ).loc main_arg0))) (pick (m := 14336) (n := 2048) (m ((c.tc : Thread nD τ).loc main_arg3))) (pick (m := 14336) (n := 128) (m ((c.tc : Thread nD τ).loc main_arg4))) f.val r.val) := by
  have eQ : arrQ m c = m ((c.tc : Thread nD τ).loc main_arg1) := V_main_arg1 m c
  have eU : arrU m c = m ((c.tc : Thread nD τ).loc main_arg3) := V_main_arg3 m c
  have eS : arrS m c = m ((c.tc : Thread nD τ).loc main_arg2) := V_main_arg2 m c
  have eV : arrV m c = m ((c.tc : Thread nD τ).loc main_arg4) := V_main_arg4 m c
  unfold Cert.Proof.KernelIdeal.Values.hidden
  rw [block_at _ _ _ _ _ (fun a b => ?_) (fun a b => ?_) _ _ _ r.isLt (Nat.mod_lt _ (by decide)), eQ, eU, eS, eV]
  · exact congrArg₂ act
      (rowDot_congr (fun col h => input_eq m c _ _ r.isLt h) (fun R h => rowsQ_at _ _ _ h) (fun R h => rowsS_at _ _ _ h))
      (rowDot_congr (fun col h => input_eq m c _ _ r.isLt h) (fun R h => rowsQ_at _ _ _ h) (fun R h => rowsS_at _ _ _ h))
  · rw [eS]; exact hS _
  · rw [eV]; exact hV _

/-- The precondition says so of both. -/
theorem scales_finite {m : (ℓ : Loc nD τ sig) → Buf (Elt Ideal) ℓ} (h : @Cert.Pre_KernelIdeal_finite_scales pre_facts m) (c : Dev nD) :
    Finite (m ((c.tc : Thread nD τ).loc main_arg2)) ∧ Finite (m ((c.tc : Thread nD τ).loc main_arg4)) :=
  ⟨fun y => finite_of_lt _ (congrFun (h c).1 y), fun y => finite_of_lt _ (congrFun (h c).2 y)⟩

/-- An array that holds the kernel's hidden row holds the reference's. -/
theorem row_eq (m : (ℓ : Loc nD τ sig) → Buf (Elt Ideal) ℓ) (m' : (ℓ : Loc Cert.ReferenceIdeal.nD Cert.ReferenceIdeal.τ Cert.ReferenceIdeal.sig) → Buf (Elt Ideal) ℓ)
    (c : Dev nD) (hS : Finite (m ((c.tc : Thread nD τ).loc main_arg2))) (hV : Finite (m ((c.tc : Thread nD τ).loc main_arg4)))
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (G : S12x14336.Idx → EReal) (hG : ∀ (a : Fin 12) (f : Fin 14336), G (ix2 a f) = Cert.Proof.KernelIdeal.Values.hidden m c a.val f.val) :
    G = Cert.ReferenceIdeal.Value.res_main_v67 (F := Ideal) m' c := by
  refine funext fun (y : S12x14336.Idx) => ?_
  have key : ∀ (a : Fin 12) (f : Fin 14336), G (ix2 a f) = Cert.ReferenceIdeal.Value.res_main_v67 (F := Ideal) m' c (ix2 a f) := fun a f => by
    rw [hG, hidden_eq m c hS hV]
    refine Eq.trans ?_ (res_at m' c _ _).symm
    rw [h0, h1, h2, h3, h4]
  have e : y = ix2 (y 0 : Fin 12) (y 1 : Fin 14336) := eq_ix2 y
  exact (congrArg G e).trans ((key _ _).trans (congrArg (Cert.ReferenceIdeal.Value.res_main_v67 (F := Ideal) m' c) e.symm))

/-- The kernel's hidden row is the reference's. -/
theorem algebraic : @Cert.algebraic_KernelIdeal_ReferenceIdeal_pre_finite_scales Cert.KernelIdeal.Gen.facts Cert.ReferenceIdeal.Gen.facts pre_facts := by
  intro m g m' g' hpre harg
  refine ⟨fun c => Cert.ReferenceIdeal.Value.res_main_v67 (F := Ideal) m' c, ?_, Cert.ReferenceIdeal.Value.run (F := Ideal) m' g'⟩
  refine (θ_run Cert.KernelIdeal.defs _ _).mono (fun r h c => ⟨?_, (h c).2⟩) (row_run m g)
  obtain ⟨h0, h1, h2, h3, h4, -⟩ := harg c
  exact row_eq m m' c (scales_finite hpre c).1 (scales_finite hpre c).2 h0 h1 h2 h3 h4 _ (h c).1

end Cert.Proof.Algebraic

end
-- ==== Proof.lean ====
/-
The proof of `Cert.Claim`: the kernel's frame at its compiled and its ideal reading (`KernelFrame`, `KernelIdeal.Frame`), the
reference's frame from its run, an idealization that rewrites nothing, and the value of the hidden row (`Algebraic`).
-/
module

public import proofs.«01_k».proof.Defs
public import proofs.«01_k».proof.Proof.KernelFrame
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem

/-- The kernel as compiled. -/
theorem frame_kernel : Cert.quiescent_Kernel := fun m g _ => KernelFrame.framed (F := Bits) m g

/-- The kernel over the extended reals. -/
theorem frame_ideal : Cert.quiescent_KernelIdeal := fun m g _ => KernelIdeal.Frames.framed (F := Ideal) m g

/-- The reference over the extended reals. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, Algebraic.pre_facts,
  frame_kernel, frame_ideal, fun m g _ => frame_ideal m g trivial, frame_reference, fun m g _ => frame_reference m g trivial,
  trivial, Algebraic.algebraic⟩

end Cert.Proof

end
